-- ==== Defs.lean ====
def Pre_Kernel [hPre_offsets_drawn : Cert.Pre_offsets_drawn.Facts] (m : (ℓ : Loc Cert.Kernel.nD Cert.Kernel.τ Cert.Kernel.sig) → Buf (Elt Bits) ℓ) : Prop :=
  ∀ c : Dev Cert.Kernel.nD,
    (Cert.Pre_offsets_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_offsets_drawn : Cert.Pre_offsets_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_drawn [hPre_offsets_drawn : Cert.Pre_offsets_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_offsets_drawn : Cert.Pre_offsets_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_offsets_drawn : Cert.Pre_offsets_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_offsets_drawn [hReferenceIdeal : Cert.ReferenceIdeal.Facts] [hPre_offsets_drawn : Cert.Pre_offsets_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_offsets_drawn : Cert.Pre_offsets_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_offsets_drawn : Cert.Pre_offsets_drawn.Facts),
    quiescent_Kernel (hKernel := hKernel) (hPre_offsets_drawn := hPre_offsets_drawn)
    ∧ quiescent_KernelIdeal (hKernelIdeal := hKernelIdeal) (hPre_offsets_drawn := hPre_offsets_drawn)
    ∧ quiescent_ReferenceIdeal (hReferenceIdeal := hReferenceIdeal)
    ∧ quiescent_ReferenceIdeal_pre_offsets_drawn (hReferenceIdeal := hReferenceIdeal) (hPre_offsets_drawn := hPre_offsets_drawn)
    ∧ preserves_Kernel_KernelIdeal
    ∧ algebraic_KernelIdeal_ReferenceIdeal (hKernelIdeal := hKernelIdeal) (hReferenceIdeal := hReferenceIdeal) (hPre_offsets_drawn := hPre_offsets_drawn)
-- ==== Pre_offsets_drawn.lean ====
abbrev S4x96x384x384 : Shape := ⟨4, ![4, 96, 384, 384]⟩
abbrev S4x1x384x384 : Shape := ⟨4, ![4, 1, 384, 384]⟩
abbrev S_ : Shape := ⟨0, ![]⟩

class Facts : Prop where
  bcast_S_S4x1x384x384 : S_.BroadcastsInDim S4x1x384x384 (![] : Fin 0 → Fin S4x1x384x384.rank)

variable [Facts]

def fn {F : FTy → Type} [FloatOps F] (main_arg0 : FVec F S4x96x384x384 .f32) (main_arg1 : IVec S4x1x384x384 32) (main_arg2 : IVec S4x1x384x384 32) : IVec S4x1x384x384 1 :=
  let main_c : IVec S_ 32 := constantI S_ 32 4294967295#32
  let main_v0 : IVec S4x1x384x384 32 := broadcastInDim S4x1x384x384 ![] bcast_S_S4x1x384x384 main_c
  let main_v1 : IVec S4x1x384x384 1 := cmpi .sge main_arg1 main_v0
  let main_c_0 : IVec S_ 32 := constantI S_ 32 1#32
  let main_v2 : IVec S4x1x384x384 32 := broadcastInDim S4x1x384x384 ![] bcast_S_S4x1x384x384 main_c_0
  let main_v3 : IVec S4x1x384x384 1 := cmpi .sle main_arg1 main_v2
  let main_v4 : IVec S4x1x384x384 1 := andi main_v1 main_v3
  let main_c_1 : IVec S_ 32 := constantI S_ 32 4294967295#32
  let main_v5 : IVec S4x1x384x384 32 := broadcastInDim S4x1x384x384 ![] bcast_S_S4x1x384x384 main_c_1
  let main_v6 : IVec S4x1x384x384 1 := cmpi .sge main_arg2 main_v5
  let main_v7 : IVec S4x1x384x384 1 := andi main_v4 main_v6
  let main_c_2 : IVec S_ 32 := constantI S_ 32 1#32
  let main_v8 : IVec S4x1x384x384 32 := broadcastInDim S4x1x384x384 ![] bcast_S_S4x1x384x384 main_c_2
  let main_v9 : IVec S4x1x384x384 1 := cmpi .sle main_arg2 main_v8
  let main_v10 : IVec S4x1x384x384 1 := andi main_v7 main_v9
  main_v10
-- ==== Kernel.lean ====
abbrev S4x96x384x384 : Shape := ⟨4, ![4, 96, 384, 384]⟩
abbrev S4x1x384x384 : Shape := ⟨4, ![4, 1, 384, 384]⟩
abbrev S384 : Shape := ⟨1, ![384]⟩
abbrev S1x1x384x1 : Shape := ⟨4, ![1, 1, 384, 1]⟩
abbrev S1x1x1x384 : Shape := ⟨4, ![1, 1, 1, 384]⟩
abbrev S_ : Shape := ⟨0, ![]⟩
abbrev S1536x384 : Shape := ⟨2, ![1536, 384]⟩
abbrev S24576 : Shape := ⟨1, ![24576]⟩
abbrev S147456x384 : Shape := ⟨2, ![147456, 384]⟩
abbrev S48x384 : Shape := ⟨2, ![48, 384]⟩
abbrev S4 : Shape := ⟨1, ![4]⟩
abbrev S1x384 : Shape := ⟨2, ![1, 384]⟩
abbrev S1 : Shape := ⟨1, ![1]⟩
abbrev S16 : Shape := ⟨1, ![16]⟩
abbrev S1x16 : Shape := ⟨2, ![1, 16]⟩

abbrev nBuf : Table → Nat
  | .hbm => 68
  | .local .scVector .vmem => 5
  | _ => 0

abbrev bufTy : (tb : Table) → Fin (nBuf tb) → BufTy
  | .hbm, ⟨0, _⟩ => ⟨S4x96x384x384, .f32⟩
  | .hbm, ⟨1, _⟩ => ⟨S4x1x384x384, .i32⟩
  | .hbm, ⟨2, _⟩ => ⟨S4x1x384x384, .i32⟩
  | .hbm, ⟨3, _⟩ => ⟨S384, .i32⟩
  | .hbm, ⟨4, _⟩ => ⟨S1x1x384x1, .i32⟩
  | .hbm, ⟨5, _⟩ => ⟨S4x1x384x384, .i32⟩
  | .hbm, ⟨6, _⟩ => ⟨S4x1x384x384, .i32⟩
  | .hbm, ⟨7, _⟩ => ⟨S384, .i32⟩
  | .hbm, ⟨8, _⟩ => ⟨S1x1x1x384, .i32⟩
  | .hbm, ⟨9, _⟩ => ⟨S4x1x384x384, .i32⟩
  | .hbm, ⟨10, _⟩ => ⟨S4x1x384x384, .i32⟩
  | .hbm, ⟨11, _⟩ => ⟨S4x1x384x384, .i32⟩
  | .hbm, ⟨12, _⟩ => ⟨S_, .i32⟩
  | .hbm, ⟨13, _⟩ => ⟨S4x1x384x384, .i32⟩
  | .hbm, ⟨14, _⟩ => ⟨S4x1x384x384, .i32⟩
  | .hbm, ⟨15, _⟩ => ⟨S4x1x384x384, .i32⟩
  | .hbm, ⟨16, _⟩ => ⟨S_, .i32⟩
  | .hbm, ⟨17, _⟩ => ⟨S4x1x384x384, .i32⟩
  | .hbm, ⟨18, _⟩ => ⟨S4x1x384x384, .i32⟩
  | .hbm, ⟨19, _⟩ => ⟨S4x1x384x384, .i32⟩
  | .hbm, ⟨20, _⟩ => ⟨S_, .i32⟩
  | .hbm, ⟨21, _⟩ => ⟨S4x1x384x384, .i32⟩
  | .hbm, ⟨22, _⟩ => ⟨S4x1x384x384, .i32⟩
  | .hbm, ⟨23, _⟩ => ⟨S4x1x384x384, .i32⟩
  | .hbm, ⟨24, _⟩ => ⟨S_, .i32⟩
  | .hbm, ⟨25, _⟩ => ⟨S4x1x384x384, .i32⟩
  | .hbm, ⟨26, _⟩ => ⟨S4x1x384x384, .i32⟩
  | .hbm, ⟨27, _⟩ => ⟨S384, .i32⟩
  | .hbm, ⟨28, _⟩ => ⟨S_, .i32⟩
  | .hbm, ⟨29, _⟩ => ⟨S_, .i32⟩
  | .hbm, ⟨30, _⟩ => ⟨S384, .i32⟩
  | .hbm, ⟨31, _⟩ => ⟨S384, .i32⟩
  | .hbm, ⟨32, _⟩ => ⟨S384, .i32⟩
  | .hbm, ⟨33, _⟩ => ⟨S_, .i32⟩
  | .hbm, ⟨34, _⟩ => ⟨S384, .i32⟩
  | .hbm, ⟨35, _⟩ => ⟨S384, .i1⟩
  | .hbm, ⟨36, _⟩ => ⟨S384, .i32⟩
  | .hbm, ⟨37, _⟩ => ⟨S384, .i32⟩
  | .hbm, ⟨38, _⟩ => ⟨S_, .i32⟩
  | .hbm, ⟨39, _⟩ => ⟨S384, .i32⟩
  | .hbm, ⟨40, _⟩ => ⟨S384, .i1⟩
  | .hbm, ⟨41, _⟩ => ⟨S384, .i1⟩
  | .hbm, ⟨42, _⟩ => ⟨S_, .i32⟩
  | .hbm, ⟨43, _⟩ => ⟨S384, .i32⟩
  | .hbm, ⟨44, _⟩ => ⟨S384, .i32⟩
  | .hbm, ⟨45, _⟩ => ⟨S384, .i32⟩
  | .hbm, ⟨46, _⟩ => ⟨S_, .i32⟩
  | .hbm, ⟨47, _⟩ => ⟨S384, .i32⟩
  | .hbm, ⟨48, _⟩ => ⟨S384, .i32⟩
  | .hbm, ⟨49, _⟩ => ⟨S_, .i32⟩
  | .hbm, ⟨50, _⟩ => ⟨S384, .i32⟩
  | .hbm, ⟨51, _⟩ => ⟨S384, .i32⟩
  | .hbm, ⟨52, _⟩ => ⟨S_, .i32⟩
  | .hbm, ⟨53, _⟩ => ⟨S384, .i32⟩
  | .hbm, ⟨54, _⟩ => ⟨S384, .i32⟩
  | .hbm, ⟨55, _⟩ => ⟨S1x1x384x1, .i32⟩
  | .hbm, ⟨56, _⟩ => ⟨S4x1x384x384, .i32⟩
  | .hbm, ⟨57, _⟩ => ⟨S4x1x384x384, .i32⟩
  | .hbm, ⟨58, _⟩ => ⟨S_, .i32⟩
  | .hbm, ⟨59, _⟩ => ⟨S4x1x384x384, .i32⟩
  | .hbm, ⟨60, _⟩ => ⟨S4x1x384x384, .i32⟩
  | .hbm, ⟨61, _⟩ => ⟨S4x1x384x384, .i32⟩
  | .hbm, ⟨62, _⟩ => ⟨S1536x384, .i32⟩
  | .hbm, ⟨63, _⟩ => ⟨S_, .f32⟩
  | .hbm, ⟨64, _⟩ => ⟨S24576, .f32⟩
  | .hbm, ⟨65, _⟩ => ⟨S147456x384, .f32⟩
  | .hbm, ⟨66, _⟩ => ⟨S147456x384, .f32⟩
  | .hbm, ⟨67, _⟩ => ⟨S4x96x384x384, .f32⟩
  | .local .scVector .vmem, ⟨0, _⟩ => ⟨S48x384, .i32⟩
  | .local .scVector .vmem, ⟨1, _⟩ => ⟨S24576, .f32⟩
  | .local .scVector .vmem, ⟨2, _⟩ => ⟨S24576, .f32⟩
  | .local .scVector .vmem, ⟨3, _⟩ => ⟨S48x384, .f32⟩
  | .local .scVector .vmem, ⟨4, _⟩ => ⟨S48x384, .f32⟩
  | _, _ => ⟨S4x96x384x384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v36_scv : Ref sig .scVector := ⟨.hbm, 65, rfl⟩
abbrev main_v34_scv : Ref sig .scVector := ⟨.hbm, 62, rfl⟩
abbrev main_v35_scv : Ref sig .scVector := ⟨.hbm, 64, rfl⟩
abbrev main_v37_scv : Ref sig .scVector := ⟨.hbm, 66, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c56_i32 : BitVec 32 := 56#32
  let v35 : BitVec 32 := Scalar.addi c0_i32_13 c56_i32
  let c1_i32_14 : BitVec 32 := 1#32
  ⟨c0_i32_13, v35, c1_i32_14⟩
def k0_off1 (k0_t1 : Fin k0_t1_loop.trips) : Fin 1 → Nat :=
  let c0_i32_13 : BitVec 32 := 0#32
  let c1_i32_14 : BitVec 32 := 1#32
  let arg12 : BitVec 32 := Scf.iv c0_i32_13 c1_i32_14 k0_t1
  let c384_i32_2785 : BitVec 32 := 384#32
  let v2063 : BitVec 32 := Scalar.muli arg12 c384_i32_2785
  ![v2063.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32 : BitVec 32 := 96#32
  let v30 : BitVec 32 := Scalar.muli v18 c96_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_10 : BitVec 32 := 0#32
  let v31 : BitVec 32 := Scalar.addi v29 c0_i32_10
  let v32 : BitVec 32 := Scalar.addi v30 v31
  let c384_i32 : BitVec 32 := 384#32
  let v33 : BitVec 32 := Scalar.muli v32 c384_i32
  let c0_i32_11 : BitVec 32 := 0#32
  let v34 : BitVec 32 := Scalar.addi v33 c0_i32_11
  let c0_i32_13 : BitVec 32 := 0#32
  let c1_i32_14 : BitVec 32 := 1#32
  let arg12 : BitVec 32 := Scf.iv c0_i32_13 c1_i32_14 k0_t1
  let v2062 : BitVec 32 := Scalar.addi v34 arg12
  let c0_i32_2787 : BitVec 32 := 0#32
  ![v2062.toNat, 0]
def k0_off3 (i : grid0.Coords) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c384_i32_16 : BitVec 32 := 384#32
  let v36 : BitVec 32 := Scalar.muli v18 c384_i32_16
  let v37 : BitVec 32 := Scalar.addi v36 c0_i32_17
  let c0_i32_2785_r0 : BitVec 32 := 0#32
  ![v37.toNat, 0]
@[reducible] def k0_t2_loop : Scf.Loop 32 :=
  let c0_i32_23 : BitVec 32 := 0#32
  let c56_i32_24 : BitVec 32 := 56#32
  let v43 : BitVec 32 := Scalar.addi c0_i32_23 c56_i32_24
  let c1_i32_25 : BitVec 32 := 1#32
  ⟨c0_i32_23, v43, c1_i32_25⟩
def k0_off4 (k0_t2 : Fin k0_t2_loop.trips) : Fin 1 → Nat :=
  let c0_i32_23 : BitVec 32 := 0#32
  let c1_i32_25 : BitVec 32 := 1#32
  let arg12 : BitVec 32 := Scf.iv c0_i32_23 c1_i32_25 k0_t2
  let c384_i32_2785 : BitVec 32 := 384#32
  let v2063 : BitVec 32 := Scalar.muli arg12 c384_i32_2785
  ![v2063.toNat]
def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_18 : BitVec 32 := 96#32
  let v38 : BitVec 32 := Scalar.muli v18 c96_i32_18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_19 : BitVec 32 := 1#32
  let v39 : BitVec 32 := Scalar.addi v29 c1_i32_19
  let v40 : BitVec 32 := Scalar.addi v38 v39
  let c384_i32_20 : BitVec 32 := 384#32
  let v41 : BitVec 32 := Scalar.muli v40 c384_i32_20
  let c0_i32_21 : BitVec 32 := 0#32
  let v42 : BitVec 32 := Scalar.addi v41 c0_i32_21
  let c0_i32_23 : BitVec 32 := 0#32
  let c1_i32_25 : BitVec 32 := 1#32
  let arg12 : BitVec 32 := Scf.iv c0_i32_23 c1_i32_25 k0_t2
  let v2062 : BitVec 32 := Scalar.addi v42 arg12
  let c0_i32_2787 : BitVec 32 := 0#32
  ![v2062.toNat, 0]
@[reducible] def k0_t3_loop : Scf.Loop 32 :=
  let c0_i32_28 : BitVec 32 := 0#32
  let c56_i32_29 : BitVec 32 := 56#32
  let v44 : BitVec 32 := Scalar.addi c0_i32_28 c56_i32_29
  let c1_i32_30 : BitVec 32 := 1#32
  ⟨c0_i32_28, v44, c1_i32_30⟩
def k0_off6 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c384_i32_2785 : BitVec 32 := 384#32
  let v2062 : BitVec 32 := Scalar.muli arg12 c384_i32_2785
  ![v2062.toNat]
@[reducible] def k0_t4_loop : Scf.Loop 32 :=
  let c0_i32_33 : BitVec 32 := 0#32
  let c48_i32 : BitVec 32 := 48#32
  let v45 : BitVec 32 := Scalar.addi c0_i32_33 c48_i32
  let c1_i32_34 : BitVec 32 := 1#32
  ⟨c0_i32_33, v45, c1_i32_34⟩
@[reducible] def k0_t5_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off7 (k0_t4 : Fin k0_t4_loop.trips) (k0_t5 : Fin k0_t5_loop.trips) : Fin 2 → Nat :=
  let c0_i32_33 : BitVec 32 := 0#32
  let c1_i32_34 : BitVec 32 := 1#32
  let arg12 : BitVec 32 := Scf.iv c0_i32_33 c1_i32_34 k0_t4
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t5
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk1 (v2067 : IVec S16 32) : Prop :=
  (∀ a x, ((![v2067] : Fin 1 → IVec S16 32) a x).toNat < S24576.size a)
theorem k0_idx1_inb : ∀ (v2067 : IVec S16 32) (k0_hw1 : k0_chk1 v2067), ∀ a x, ((![v2067] : Fin 1 → IVec S16 32) a x).toNat < S24576.size a := fun v2067 k0_hw1 => k0_hw1
def k0_off8 (k0_t4 : Fin k0_t4_loop.trips) (k0_t5 : Fin k0_t5_loop.trips) : Fin 2 → Nat :=
  let c0_i32_33 : BitVec 32 := 0#32
  let c1_i32_34 : BitVec 32 := 1#32
  let arg12 : BitVec 32 := Scf.iv c0_i32_33 c1_i32_34 k0_t4
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t5
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
def k0_off9 (i : grid0.Coords) (c0_i32_37 : BitVec 32) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_36 : BitVec 32 := 96#32
  let v46 : BitVec 32 := Scalar.muli v18 c96_i32_36
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let v47 : BitVec 32 := Scalar.addi v29 c0_i32_37
  let v48 : BitVec 32 := Scalar.addi v46 v47
  let c384_i32_38 : BitVec 32 := 384#32
  let v49 : BitVec 32 := Scalar.muli v48 c384_i32_38
  let v50 : BitVec 32 := Scalar.addi v49 c0_i32_39
  let c0_i32_41 : BitVec 32 := 0#32
  ![v50.toNat, 0]
@[reducible] def k0_t6_loop : Scf.Loop 32 :=
  let c0_i32_48 : BitVec 32 := 0#32
  let c56_i32_49 : BitVec 32 := 56#32
  let v60 : BitVec 32 := Scalar.addi c0_i32_48 c56_i32_49
  let c1_i32_50 : BitVec 32 := 1#32
  ⟨c0_i32_48, v60, c1_i32_50⟩
def k0_off10 (k0_t6 : Fin k0_t6_loop.trips) : Fin 1 → Nat :=
  let c0_i32_48 : BitVec 32 := 0#32
  let c1_i32_50 : BitVec 32 := 1#32
  let arg12 : BitVec 32 := Scf.iv c0_i32_48 c1_i32_50 k0_t6
  let c384_i32_2785 : BitVec 32 := 384#32
  let v2063 : BitVec 32 := Scalar.muli arg12 c384_i32_2785
  ![v2063.toNat]
def k0_off11 (i : grid0.Coords) (k0_t6 : Fin k0_t6_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_43 : BitVec 32 := 96#32
  let v55 : BitVec 32 := Scalar.muli v18 c96_i32_43
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_44 : BitVec 32 := 2#32
  let v56 : BitVec 32 := Scalar.addi v29 c2_i32_44
  let v57 : BitVec 32 := Scalar.addi v55 v56
  let c384_i32_45 : BitVec 32 := 384#32
  let v58 : BitVec 32 := Scalar.muli v57 c384_i32_45
  let c0_i32_46 : BitVec 32 := 0#32
  let v59 : BitVec 32 := Scalar.addi v58 c0_i32_46
  let c0_i32_48 : BitVec 32 := 0#32
  let c1_i32_50 : BitVec 32 := 1#32
  let arg12 : BitVec 32 := Scf.iv c0_i32_48 c1_i32_50 k0_t6
  let v2062 : BitVec 32 := Scalar.addi v59 arg12
  let c0_i32_2787 : BitVec 32 := 0#32
  ![v2062.toNat, 0]
@[reducible] def k0_t7_loop : Scf.Loop 32 :=
  let c0_i32_53 : BitVec 32 := 0#32
  let c56_i32_54 : BitVec 32 := 56#32
  let v61 : BitVec 32 := Scalar.addi c0_i32_53 c56_i32_54
  let c1_i32_55 : BitVec 32 := 1#32
  ⟨c0_i32_53, v61, c1_i32_55⟩
def k0_off12 (k0_t7 : Fin k0_t7_loop.trips) : Fin 1 → Nat :=
  let c0_i32_53 : BitVec 32 := 0#32
  let c1_i32_55 : BitVec 32 := 1#32
  let arg12 : BitVec 32 := Scf.iv c0_i32_53 c1_i32_55 k0_t7
  let c384_i32_2785 : BitVec 32 := 384#32
  let v2062 : BitVec 32 := Scalar.muli arg12 c384_i32_2785
  ![v2062.toNat]
@[reducible] def k0_t8_loop : Scf.Loop 32 :=
  let c0_i32_58 : BitVec 32 := 0#32
  let c48_i32_59 : BitVec 32 := 48#32
  let v62 : BitVec 32 := Scalar.addi c0_i32_58 c48_i32_59
  let c1_i32_60 : BitVec 32 := 1#32
  ⟨c0_i32_58, v62, c1_i32_60⟩
@[reducible] def k0_t9_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off13 (k0_t8 : Fin k0_t8_loop.trips) (k0_t9 : Fin k0_t9_loop.trips) : Fin 2 → Nat :=
  let c0_i32_58 : BitVec 32 := 0#32
  let c1_i32_60 : BitVec 32 := 1#32
  let arg12 : BitVec 32 := Scf.iv c0_i32_58 c1_i32_60 k0_t8
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t9
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk2 (v2067 : IVec S16 32) : Prop :=
  (∀ a x, ((![v2067] : Fin 1 → IVec S16 32) a x).toNat < S24576.size a)
theorem k0_idx2_inb : ∀ (v2067 : IVec S16 32) (k0_hw2 : k0_chk2 v2067), ∀ a x, ((![v2067] : Fin 1 → IVec S16 32) a x).toNat < S24576.size a := fun v2067 k0_hw2 => k0_hw2
def k0_off14 (k0_t8 : Fin k0_t8_loop.trips) (k0_t9 : Fin k0_t9_loop.trips) : Fin 2 → Nat :=
  let c0_i32_58 : BitVec 32 := 0#32
  let c1_i32_60 : BitVec 32 := 1#32
  let arg12 : BitVec 32 := Scf.iv c0_i32_58 c1_i32_60 k0_t8
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t9
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t10_loop : Scf.Loop 32 :=
  let c0_i32_73 : BitVec 32 := 0#32
  let c56_i32_74 : BitVec 32 := 56#32
  let v77 : BitVec 32 := Scalar.addi c0_i32_73 c56_i32_74
  let c1_i32_75 : BitVec 32 := 1#32
  ⟨c0_i32_73, v77, c1_i32_75⟩
def k0_off15 (k0_t10 : Fin k0_t10_loop.trips) : Fin 1 → Nat :=
  let c0_i32_73 : BitVec 32 := 0#32
  let c1_i32_75 : BitVec 32 := 1#32
  let arg12 : BitVec 32 := Scf.iv c0_i32_73 c1_i32_75 k0_t10
  let c384_i32_2785 : BitVec 32 := 384#32
  let v2063 : BitVec 32 := Scalar.muli arg12 c384_i32_2785
  ![v2063.toNat]
def k0_off16 (i : grid0.Coords) (k0_t10 : Fin k0_t10_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_68 : BitVec 32 := 96#32
  let v72 : BitVec 32 := Scalar.muli v18 c96_i32_68
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_69 : BitVec 32 := 3#32
  let v73 : BitVec 32 := Scalar.addi v29 c3_i32_69
  let v74 : BitVec 32 := Scalar.addi v72 v73
  let c384_i32_70 : BitVec 32 := 384#32
  let v75 : BitVec 32 := Scalar.muli v74 c384_i32_70
  let c0_i32_71 : BitVec 32 := 0#32
  let v76 : BitVec 32 := Scalar.addi v75 c0_i32_71
  let c0_i32_73 : BitVec 32 := 0#32
  let c1_i32_75 : BitVec 32 := 1#32
  let arg12 : BitVec 32 := Scf.iv c0_i32_73 c1_i32_75 k0_t10
  let v2062 : BitVec 32 := Scalar.addi v76 arg12
  let c0_i32_2787 : BitVec 32 := 0#32
  ![v2062.toNat, 0]
@[reducible] def k0_t11_loop : Scf.Loop 32 :=
  let c0_i32_78 : BitVec 32 := 0#32
  let c56_i32_79 : BitVec 32 := 56#32
  let v78 : BitVec 32 := Scalar.addi c0_i32_78 c56_i32_79
  let c1_i32_80 : BitVec 32 := 1#32
  ⟨c0_i32_78, v78, c1_i32_80⟩
def k0_off17 (k0_t11 : Fin k0_t11_loop.trips) : Fin 1 → Nat :=
  let c0_i32_78 : BitVec 32 := 0#32
  let c1_i32_80 : BitVec 32 := 1#32
  let arg12 : BitVec 32 := Scf.iv c0_i32_78 c1_i32_80 k0_t11
  let c384_i32_2785 : BitVec 32 := 384#32
  let v2062 : BitVec 32 := Scalar.muli arg12 c384_i32_2785
  ![v2062.toNat]
@[reducible] def k0_t12_loop : Scf.Loop 32 :=
  let c0_i32_86 : BitVec 32 := 0#32
  let c48_i32_87 : BitVec 32 := 48#32
  let v83 : BitVec 32 := Scalar.addi c0_i32_86 c48_i32_87
  let c1_i32_88 : BitVec 32 := 1#32
  ⟨c0_i32_86, v83, c1_i32_88⟩
@[reducible] def k0_t13_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off18 (k0_t12 : Fin k0_t12_loop.trips) (k0_t13 : Fin k0_t13_loop.trips) : Fin 2 → Nat :=
  let c0_i32_86 : BitVec 32 := 0#32
  let c1_i32_88 : BitVec 32 := 1#32
  let arg12 : BitVec 32 := Scf.iv c0_i32_86 c1_i32_88 k0_t12
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t13
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk3 (v2067 : IVec S16 32) : Prop :=
  (∀ a x, ((![v2067] : Fin 1 → IVec S16 32) a x).toNat < S24576.size a)
theorem k0_idx3_inb : ∀ (v2067 : IVec S16 32) (k0_hw3 : k0_chk3 v2067), ∀ a x, ((![v2067] : Fin 1 → IVec S16 32) a x).toNat < S24576.size a := fun v2067 k0_hw3 => k0_hw3
def k0_off19 (k0_t12 : Fin k0_t12_loop.trips) (k0_t13 : Fin k0_t13_loop.trips) : Fin 2 → Nat :=
  let c0_i32_86 : BitVec 32 := 0#32
  let c1_i32_88 : BitVec 32 := 1#32
  let arg12 : BitVec 32 := Scf.iv c0_i32_86 c1_i32_88 k0_t12
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t13
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t14_loop : Scf.Loop 32 :=
  let c0_i32_101 : BitVec 32 := 0#32
  let c56_i32_102 : BitVec 32 := 56#32
  let v98 : BitVec 32 := Scalar.addi c0_i32_101 c56_i32_102
  let c1_i32_103 : BitVec 32 := 1#32
  ⟨c0_i32_101, v98, c1_i32_103⟩
def k0_off20 (k0_t14 : Fin k0_t14_loop.trips) : Fin 1 → Nat :=
  let c0_i32_101 : BitVec 32 := 0#32
  let c1_i32_103 : BitVec 32 := 1#32
  let arg12 : BitVec 32 := Scf.iv c0_i32_101 c1_i32_103 k0_t14
  let c384_i32_2785 : BitVec 32 := 384#32
  let v2063 : BitVec 32 := Scalar.muli arg12 c384_i32_2785
  ![v2063.toNat]
def k0_off21 (i : grid0.Coords) (k0_t14 : Fin k0_t14_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_97 : BitVec 32 := 96#32
  let v93 : BitVec 32 := Scalar.muli v18 c96_i32_97
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32 : BitVec 32 := 4#32
  let v94 : BitVec 32 := Scalar.addi v29 c4_i32
  let v95 : BitVec 32 := Scalar.addi v93 v94
  let c384_i32_98 : BitVec 32 := 384#32
  let v96 : BitVec 32 := Scalar.muli v95 c384_i32_98
  let c0_i32_99 : BitVec 32 := 0#32
  let v97 : BitVec 32 := Scalar.addi v96 c0_i32_99
  let c0_i32_101 : BitVec 32 := 0#32
  let c1_i32_103 : BitVec 32 := 1#32
  let arg12 : BitVec 32 := Scf.iv c0_i32_101 c1_i32_103 k0_t14
  let v2062 : BitVec 32 := Scalar.addi v97 arg12
  let c0_i32_2787 : BitVec 32 := 0#32
  ![v2062.toNat, 0]
@[reducible] def k0_t15_loop : Scf.Loop 32 :=
  let c0_i32_106 : BitVec 32 := 0#32
  let c56_i32_107 : BitVec 32 := 56#32
  let v99 : BitVec 32 := Scalar.addi c0_i32_106 c56_i32_107
  let c1_i32_108 : BitVec 32 := 1#32
  ⟨c0_i32_106, v99, c1_i32_108⟩
def k0_off22 (k0_t15 : Fin k0_t15_loop.trips) : Fin 1 → Nat :=
  let c0_i32_106 : BitVec 32 := 0#32
  let c1_i32_108 : BitVec 32 := 1#32
  let arg12 : BitVec 32 := Scf.iv c0_i32_106 c1_i32_108 k0_t15
  let c384_i32_2785 : BitVec 32 := 384#32
  let v2062 : BitVec 32 := Scalar.muli arg12 c384_i32_2785
  ![v2062.toNat]
@[reducible] def k0_t16_loop : Scf.Loop 32 :=
  let c0_i32_114 : BitVec 32 := 0#32
  let c48_i32_115 : BitVec 32 := 48#32
  let v104 : BitVec 32 := Scalar.addi c0_i32_114 c48_i32_115
  let c1_i32_116 : BitVec 32 := 1#32
  ⟨c0_i32_114, v104, c1_i32_116⟩
@[reducible] def k0_t17_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off23 (k0_t16 : Fin k0_t16_loop.trips) (k0_t17 : Fin k0_t17_loop.trips) : Fin 2 → Nat :=
  let c0_i32_114 : BitVec 32 := 0#32
  let c1_i32_116 : BitVec 32 := 1#32
  let arg12 : BitVec 32 := Scf.iv c0_i32_114 c1_i32_116 k0_t16
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t17
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk4 (v2067 : IVec S16 32) : Prop :=
  (∀ a x, ((![v2067] : Fin 1 → IVec S16 32) a x).toNat < S24576.size a)
theorem k0_idx4_inb : ∀ (v2067 : IVec S16 32) (k0_hw4 : k0_chk4 v2067), ∀ a x, ((![v2067] : Fin 1 → IVec S16 32) a x).toNat < S24576.size a := fun v2067 k0_hw4 => k0_hw4
def k0_off24 (k0_t16 : Fin k0_t16_loop.trips) (k0_t17 : Fin k0_t17_loop.trips) : Fin 2 → Nat :=
  let c0_i32_114 : BitVec 32 := 0#32
  let c1_i32_116 : BitVec 32 := 1#32
  let arg12 : BitVec 32 := Scf.iv c0_i32_114 c1_i32_116 k0_t16
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t17
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t18_loop : Scf.Loop 32 :=
  let c0_i32_129 : BitVec 32 := 0#32
  let c56_i32_130 : BitVec 32 := 56#32
  let v119 : BitVec 32 := Scalar.addi c0_i32_129 c56_i32_130
  let c1_i32_131 : BitVec 32 := 1#32
  ⟨c0_i32_129, v119, c1_i32_131⟩
def k0_off25 (k0_t18 : Fin k0_t18_loop.trips) : Fin 1 → Nat :=
  let c0_i32_129 : BitVec 32 := 0#32
  let c1_i32_131 : BitVec 32 := 1#32
  let arg12 : BitVec 32 := Scf.iv c0_i32_129 c1_i32_131 k0_t18
  let c384_i32_2785 : BitVec 32 := 384#32
  let v2063 : BitVec 32 := Scalar.muli arg12 c384_i32_2785
  ![v2063.toNat]
def k0_off26 (i : grid0.Coords) (k0_t18 : Fin k0_t18_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_125 : BitVec 32 := 96#32
  let v114 : BitVec 32 := Scalar.muli v18 c96_i32_125
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32 : BitVec 32 := 5#32
  let v115 : BitVec 32 := Scalar.addi v29 c5_i32
  let v116 : BitVec 32 := Scalar.addi v114 v115
  let c384_i32_126 : BitVec 32 := 384#32
  let v117 : BitVec 32 := Scalar.muli v116 c384_i32_126
  let c0_i32_127 : BitVec 32 := 0#32
  let v118 : BitVec 32 := Scalar.addi v117 c0_i32_127
  let c0_i32_129 : BitVec 32 := 0#32
  let c1_i32_131 : BitVec 32 := 1#32
  let arg12 : BitVec 32 := Scf.iv c0_i32_129 c1_i32_131 k0_t18
  let v2062 : BitVec 32 := Scalar.addi v118 arg12
  let c0_i32_2787 : BitVec 32 := 0#32
  ![v2062.toNat, 0]
@[reducible] def k0_t19_loop : Scf.Loop 32 :=
  let c0_i32_134 : BitVec 32 := 0#32
  let c56_i32_135 : BitVec 32 := 56#32
  let v120 : BitVec 32 := Scalar.addi c0_i32_134 c56_i32_135
  let c1_i32_136 : BitVec 32 := 1#32
  ⟨c0_i32_134, v120, c1_i32_136⟩
def k0_off27 (k0_t19 : Fin k0_t19_loop.trips) : Fin 1 → Nat :=
  let c0_i32_134 : BitVec 32 := 0#32
  let c1_i32_136 : BitVec 32 := 1#32
  let arg12 : BitVec 32 := Scf.iv c0_i32_134 c1_i32_136 k0_t19
  let c384_i32_2785 : BitVec 32 := 384#32
  let v2062 : BitVec 32 := Scalar.muli arg12 c384_i32_2785
  ![v2062.toNat]
@[reducible] def k0_t20_loop : Scf.Loop 32 :=
  let c0_i32_142 : BitVec 32 := 0#32
  let c48_i32_143 : BitVec 32 := 48#32
  let v125 : BitVec 32 := Scalar.addi c0_i32_142 c48_i32_143
  let c1_i32_144 : BitVec 32 := 1#32
  ⟨c0_i32_142, v125, c1_i32_144⟩
@[reducible] def k0_t21_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off28 (k0_t20 : Fin k0_t20_loop.trips) (k0_t21 : Fin k0_t21_loop.trips) : Fin 2 → Nat :=
  let c0_i32_142 : BitVec 32 := 0#32
  let c1_i32_144 : BitVec 32 := 1#32
  let arg12 : BitVec 32 := Scf.iv c0_i32_142 c1_i32_144 k0_t20
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t21
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk5 (v2067 : IVec S16 32) : Prop :=
  (∀ a x, ((![v2067] : Fin 1 → IVec S16 32) a x).toNat < S24576.size a)
theorem k0_idx5_inb : ∀ (v2067 : IVec S16 32) (k0_hw5 : k0_chk5 v2067), ∀ a x, ((![v2067] : Fin 1 → IVec S16 32) a x).toNat < S24576.size a := fun v2067 k0_hw5 => k0_hw5
def k0_off29 (k0_t20 : Fin k0_t20_loop.trips) (k0_t21 : Fin k0_t21_loop.trips) : Fin 2 → Nat :=
  let c0_i32_142 : BitVec 32 := 0#32
  let c1_i32_144 : BitVec 32 := 1#32
  let arg12 : BitVec 32 := Scf.iv c0_i32_142 c1_i32_144 k0_t20
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t21
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t22_loop : Scf.Loop 32 :=
  let c0_i32_157 : BitVec 32 := 0#32
  let c56_i32_158 : BitVec 32 := 56#32
  let v140 : BitVec 32 := Scalar.addi c0_i32_157 c56_i32_158
  let c1_i32_159 : BitVec 32 := 1#32
  ⟨c0_i32_157, v140, c1_i32_159⟩
def k0_off30 (k0_t22 : Fin k0_t22_loop.trips) : Fin 1 → Nat :=
  let c0_i32_157 : BitVec 32 := 0#32
  let c1_i32_159 : BitVec 32 := 1#32
  let arg12 : BitVec 32 := Scf.iv c0_i32_157 c1_i32_159 k0_t22
  let c384_i32_2785 : BitVec 32 := 384#32
  let v2063 : BitVec 32 := Scalar.muli arg12 c384_i32_2785
  ![v2063.toNat]
def k0_off31 (i : grid0.Coords) (k0_t22 : Fin k0_t22_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_153 : BitVec 32 := 96#32
  let v135 : BitVec 32 := Scalar.muli v18 c96_i32_153
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32 : BitVec 32 := 6#32
  let v136 : BitVec 32 := Scalar.addi v29 c6_i32
  let v137 : BitVec 32 := Scalar.addi v135 v136
  let c384_i32_154 : BitVec 32 := 384#32
  let v138 : BitVec 32 := Scalar.muli v137 c384_i32_154
  let c0_i32_155 : BitVec 32 := 0#32
  let v139 : BitVec 32 := Scalar.addi v138 c0_i32_155
  let c0_i32_157 : BitVec 32 := 0#32
  let c1_i32_159 : BitVec 32 := 1#32
  let arg12 : BitVec 32 := Scf.iv c0_i32_157 c1_i32_159 k0_t22
  let v2062 : BitVec 32 := Scalar.addi v139 arg12
  let c0_i32_2787 : BitVec 32 := 0#32
  ![v2062.toNat, 0]
@[reducible] def k0_t23_loop : Scf.Loop 32 :=
  let c0_i32_162 : BitVec 32 := 0#32
  let c56_i32_163 : BitVec 32 := 56#32
  let v141 : BitVec 32 := Scalar.addi c0_i32_162 c56_i32_163
  let c1_i32_164 : BitVec 32 := 1#32
  ⟨c0_i32_162, v141, c1_i32_164⟩
def k0_off32 (k0_t23 : Fin k0_t23_loop.trips) : Fin 1 → Nat :=
  let c0_i32_162 : BitVec 32 := 0#32
  let c1_i32_164 : BitVec 32 := 1#32
  let arg12 : BitVec 32 := Scf.iv c0_i32_162 c1_i32_164 k0_t23
  let c384_i32_2785 : BitVec 32 := 384#32
  let v2062 : BitVec 32 := Scalar.muli arg12 c384_i32_2785
  ![v2062.toNat]
@[reducible] def k0_t24_loop : Scf.Loop 32 :=
  let c0_i32_170 : BitVec 32 := 0#32
  let c48_i32_171 : BitVec 32 := 48#32
  let v146 : BitVec 32 := Scalar.addi c0_i32_170 c48_i32_171
  let c1_i32_172 : BitVec 32 := 1#32
  ⟨c0_i32_170, v146, c1_i32_172⟩
@[reducible] def k0_t25_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off33 (k0_t24 : Fin k0_t24_loop.trips) (k0_t25 : Fin k0_t25_loop.trips) : Fin 2 → Nat :=
  let c0_i32_170 : BitVec 32 := 0#32
  let c1_i32_172 : BitVec 32 := 1#32
  let arg12 : BitVec 32 := Scf.iv c0_i32_170 c1_i32_172 k0_t24
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t25
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk6 (v2067 : IVec S16 32) : Prop :=
  (∀ a x, ((![v2067] : Fin 1 → IVec S16 32) a x).toNat < S24576.size a)
theorem k0_idx6_inb : ∀ (v2067 : IVec S16 32) (k0_hw6 : k0_chk6 v2067), ∀ a x, ((![v2067] : Fin 1 → IVec S16 32) a x).toNat < S24576.size a := fun v2067 k0_hw6 => k0_hw6
def k0_off34 (k0_t24 : Fin k0_t24_loop.trips) (k0_t25 : Fin k0_t25_loop.trips) : Fin 2 → Nat :=
  let c0_i32_170 : BitVec 32 := 0#32
  let c1_i32_172 : BitVec 32 := 1#32
  let arg12 : BitVec 32 := Scf.iv c0_i32_170 c1_i32_172 k0_t24
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t25
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t26_loop : Scf.Loop 32 :=
  let c0_i32_185 : BitVec 32 := 0#32
  let c56_i32_186 : BitVec 32 := 56#32
  let v161 : BitVec 32 := Scalar.addi c0_i32_185 c56_i32_186
  let c1_i32_187 : BitVec 32 := 1#32
  ⟨c0_i32_185, v161, c1_i32_187⟩
def k0_off35 (k0_t26 : Fin k0_t26_loop.trips) : Fin 1 → Nat :=
  let c0_i32_185 : BitVec 32 := 0#32
  let c1_i32_187 : BitVec 32 := 1#32
  let arg12 : BitVec 32 := Scf.iv c0_i32_185 c1_i32_187 k0_t26
  let c384_i32_2785 : BitVec 32 := 384#32
  let v2063 : BitVec 32 := Scalar.muli arg12 c384_i32_2785
  ![v2063.toNat]
def k0_off36 (i : grid0.Coords) (k0_t26 : Fin k0_t26_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_181 : BitVec 32 := 96#32
  let v156 : BitVec 32 := Scalar.muli v18 c96_i32_181
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32 : BitVec 32 := 7#32
  let v157 : BitVec 32 := Scalar.addi v29 c7_i32
  let v158 : BitVec 32 := Scalar.addi v156 v157
  let c384_i32_182 : BitVec 32 := 384#32
  let v159 : BitVec 32 := Scalar.muli v158 c384_i32_182
  let c0_i32_183 : BitVec 32 := 0#32
  let v160 : BitVec 32 := Scalar.addi v159 c0_i32_183
  let c0_i32_185 : BitVec 32 := 0#32
  let c1_i32_187 : BitVec 32 := 1#32
  let arg12 : BitVec 32 := Scf.iv c0_i32_185 c1_i32_187 k0_t26
  let v2062 : BitVec 32 := Scalar.addi v160 arg12
  let c0_i32_2787 : BitVec 32 := 0#32
  ![v2062.toNat, 0]
@[reducible] def k0_t27_loop : Scf.Loop 32 :=
  let c0_i32_190 : BitVec 32 := 0#32
  let c56_i32_191 : BitVec 32 := 56#32
  let v162 : BitVec 32 := Scalar.addi c0_i32_190 c56_i32_191
  let c1_i32_192 : BitVec 32 := 1#32
  ⟨c0_i32_190, v162, c1_i32_192⟩
def k0_off37 (k0_t27 : Fin k0_t27_loop.trips) : Fin 1 → Nat :=
  let c0_i32_190 : BitVec 32 := 0#32
  let c1_i32_192 : BitVec 32 := 1#32
  let arg12 : BitVec 32 := Scf.iv c0_i32_190 c1_i32_192 k0_t27
  let c384_i32_2785 : BitVec 32 := 384#32
  let v2062 : BitVec 32 := Scalar.muli arg12 c384_i32_2785
  ![v2062.toNat]
@[reducible] def k0_t28_loop : Scf.Loop 32 :=
  let c0_i32_198 : BitVec 32 := 0#32
  let c48_i32_199 : BitVec 32 := 48#32
  let v167 : BitVec 32 := Scalar.addi c0_i32_198 c48_i32_199
  let c1_i32_200 : BitVec 32 := 1#32
  ⟨c0_i32_198, v167, c1_i32_200⟩
@[reducible] def k0_t29_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off38 (k0_t28 : Fin k0_t28_loop.trips) (k0_t29 : Fin k0_t29_loop.trips) : Fin 2 → Nat :=
  let c0_i32_198 : BitVec 32 := 0#32
  let c1_i32_200 : BitVec 32 := 1#32
  let arg12 : BitVec 32 := Scf.iv c0_i32_198 c1_i32_200 k0_t28
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t29
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk7 (v2067 : IVec S16 32) : Prop :=
  (∀ a x, ((![v2067] : Fin 1 → IVec S16 32) a x).toNat < S24576.size a)
theorem k0_idx7_inb : ∀ (v2067 : IVec S16 32) (k0_hw7 : k0_chk7 v2067), ∀ a x, ((![v2067] : Fin 1 → IVec S16 32) a x).toNat < S24576.size a := fun v2067 k0_hw7 => k0_hw7
def k0_off39 (k0_t28 : Fin k0_t28_loop.trips) (k0_t29 : Fin k0_t29_loop.trips) : Fin 2 → Nat :=
  let c0_i32_198 : BitVec 32 := 0#32
  let c1_i32_200 : BitVec 32 := 1#32
  let arg12 : BitVec 32 := Scf.iv c0_i32_198 c1_i32_200 k0_t28
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t29
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t30_loop : Scf.Loop 32 :=
  let c0_i32_214 : BitVec 32 := 0#32
  let c56_i32_215 : BitVec 32 := 56#32
  let v182 : BitVec 32 := Scalar.addi c0_i32_214 c56_i32_215
  let c1_i32_216 : BitVec 32 := 1#32
  ⟨c0_i32_214, v182, c1_i32_216⟩
def k0_off40 (k0_t30 : Fin k0_t30_loop.trips) : Fin 1 → Nat :=
  let c0_i32_214 : BitVec 32 := 0#32
  let c1_i32_216 : BitVec 32 := 1#32
  let arg12 : BitVec 32 := Scf.iv c0_i32_214 c1_i32_216 k0_t30
  let c384_i32_2785 : BitVec 32 := 384#32
  let v2063 : BitVec 32 := Scalar.muli arg12 c384_i32_2785
  ![v2063.toNat]
def k0_off41 (i : grid0.Coords) (k0_t30 : Fin k0_t30_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_209 : BitVec 32 := 96#32
  let v177 : BitVec 32 := Scalar.muli v18 c96_i32_209
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_210 : BitVec 32 := 8#32
  let v178 : BitVec 32 := Scalar.addi v29 c8_i32_210
  let v179 : BitVec 32 := Scalar.addi v177 v178
  let c384_i32_211 : BitVec 32 := 384#32
  let v180 : BitVec 32 := Scalar.muli v179 c384_i32_211
  let c0_i32_212 : BitVec 32 := 0#32
  let v181 : BitVec 32 := Scalar.addi v180 c0_i32_212
  let c0_i32_214 : BitVec 32 := 0#32
  let c1_i32_216 : BitVec 32 := 1#32
  let arg12 : BitVec 32 := Scf.iv c0_i32_214 c1_i32_216 k0_t30
  let v2062 : BitVec 32 := Scalar.addi v181 arg12
  let c0_i32_2787 : BitVec 32 := 0#32
  ![v2062.toNat, 0]
@[reducible] def k0_t31_loop : Scf.Loop 32 :=
  let c0_i32_219 : BitVec 32 := 0#32
  let c56_i32_220 : BitVec 32 := 56#32
  let v183 : BitVec 32 := Scalar.addi c0_i32_219 c56_i32_220
  let c1_i32_221 : BitVec 32 := 1#32
  ⟨c0_i32_219, v183, c1_i32_221⟩
def k0_off42 (k0_t31 : Fin k0_t31_loop.trips) : Fin 1 → Nat :=
  let c0_i32_219 : BitVec 32 := 0#32
  let c1_i32_221 : BitVec 32 := 1#32
  let arg12 : BitVec 32 := Scf.iv c0_i32_219 c1_i32_221 k0_t31
  let c384_i32_2785 : BitVec 32 := 384#32
  let v2062 : BitVec 32 := Scalar.muli arg12 c384_i32_2785
  ![v2062.toNat]
@[reducible] def k0_t32_loop : Scf.Loop 32 :=
  let c0_i32_227 : BitVec 32 := 0#32
  let c48_i32_228 : BitVec 32 := 48#32
  let v188 : BitVec 32 := Scalar.addi c0_i32_227 c48_i32_228
  let c1_i32_229 : BitVec 32 := 1#32
  ⟨c0_i32_227, v188, c1_i32_229⟩
@[reducible] def k0_t33_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off43 (k0_t32 : Fin k0_t32_loop.trips) (k0_t33 : Fin k0_t33_loop.trips) : Fin 2 → Nat :=
  let c0_i32_227 : BitVec 32 := 0#32
  let c1_i32_229 : BitVec 32 := 1#32
  let arg12 : BitVec 32 := Scf.iv c0_i32_227 c1_i32_229 k0_t32
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t33
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk8 (v2067 : IVec S16 32) : Prop :=
  (∀ a x, ((![v2067] : Fin 1 → IVec S16 32) a x).toNat < S24576.size a)
theorem k0_idx8_inb : ∀ (v2067 : IVec S16 32) (k0_hw8 : k0_chk8 v2067), ∀ a x, ((![v2067] : Fin 1 → IVec S16 32) a x).toNat < S24576.size a := fun v2067 k0_hw8 => k0_hw8
def k0_off44 (k0_t32 : Fin k0_t32_loop.trips) (k0_t33 : Fin k0_t33_loop.trips) : Fin 2 → Nat :=
  let c0_i32_227 : BitVec 32 := 0#32
  let c1_i32_229 : BitVec 32 := 1#32
  let arg12 : BitVec 32 := Scf.iv c0_i32_227 c1_i32_229 k0_t32
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t33
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t34_loop : Scf.Loop 32 :=
  let c0_i32_242 : BitVec 32 := 0#32
  let c56_i32_243 : BitVec 32 := 56#32
  let v203 : BitVec 32 := Scalar.addi c0_i32_242 c56_i32_243
  let c1_i32_244 : BitVec 32 := 1#32
  ⟨c0_i32_242, v203, c1_i32_244⟩
def k0_off45 (k0_t34 : Fin k0_t34_loop.trips) : Fin 1 → Nat :=
  let c0_i32_242 : BitVec 32 := 0#32
  let c1_i32_244 : BitVec 32 := 1#32
  let arg12 : BitVec 32 := Scf.iv c0_i32_242 c1_i32_244 k0_t34
  let c384_i32_2785 : BitVec 32 := 384#32
  let v2063 : BitVec 32 := Scalar.muli arg12 c384_i32_2785
  ![v2063.toNat]
def k0_off46 (i : grid0.Coords) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_238 : BitVec 32 := 96#32
  let v198 : BitVec 32 := Scalar.muli v18 c96_i32_238
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32 : BitVec 32 := 9#32
  let v199 : BitVec 32 := Scalar.addi v29 c9_i32
  let v200 : BitVec 32 := Scalar.addi v198 v199
  let c384_i32_239 : BitVec 32 := 384#32
  let v201 : BitVec 32 := Scalar.muli v200 c384_i32_239
  let c0_i32_240 : BitVec 32 := 0#32
  let v202 : BitVec 32 := Scalar.addi v201 c0_i32_240
  let c0_i32_242 : BitVec 32 := 0#32
  let c1_i32_244 : BitVec 32 := 1#32
  let arg12 : BitVec 32 := Scf.iv c0_i32_242 c1_i32_244 k0_t34
  let v2062 : BitVec 32 := Scalar.addi v202 arg12
  let c0_i32_2787 : BitVec 32 := 0#32
  ![v2062.toNat, 0]
@[reducible] def k0_t35_loop : Scf.Loop 32 :=
  let c0_i32_247 : BitVec 32 := 0#32
  let c56_i32_248 : BitVec 32 := 56#32
  let v204 : BitVec 32 := Scalar.addi c0_i32_247 c56_i32_248
  let c1_i32_249 : BitVec 32 := 1#32
  ⟨c0_i32_247, v204, c1_i32_249⟩
def k0_off47 (k0_t35 : Fin k0_t35_loop.trips) : Fin 1 → Nat :=
  let c0_i32_247 : BitVec 32 := 0#32
  let c1_i32_249 : BitVec 32 := 1#32
  let arg12 : BitVec 32 := Scf.iv c0_i32_247 c1_i32_249 k0_t35
  let c384_i32_2785 : BitVec 32 := 384#32
  let v2062 : BitVec 32 := Scalar.muli arg12 c384_i32_2785
  ![v2062.toNat]
@[reducible] def k0_t36_loop : Scf.Loop 32 :=
  let c0_i32_255 : BitVec 32 := 0#32
  let c48_i32_256 : BitVec 32 := 48#32
  let v209 : BitVec 32 := Scalar.addi c0_i32_255 c48_i32_256
  let c1_i32_257 : BitVec 32 := 1#32
  ⟨c0_i32_255, v209, c1_i32_257⟩
@[reducible] def k0_t37_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off48 (k0_t36 : Fin k0_t36_loop.trips) (k0_t37 : Fin k0_t37_loop.trips) : Fin 2 → Nat :=
  let c0_i32_255 : BitVec 32 := 0#32
  let c1_i32_257 : BitVec 32 := 1#32
  let arg12 : BitVec 32 := Scf.iv c0_i32_255 c1_i32_257 k0_t36
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t37
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk9 (v2067 : IVec S16 32) : Prop :=
  (∀ a x, ((![v2067] : Fin 1 → IVec S16 32) a x).toNat < S24576.size a)
theorem k0_idx9_inb : ∀ (v2067 : IVec S16 32) (k0_hw9 : k0_chk9 v2067), ∀ a x, ((![v2067] : Fin 1 → IVec S16 32) a x).toNat < S24576.size a := fun v2067 k0_hw9 => k0_hw9
def k0_off49 (k0_t36 : Fin k0_t36_loop.trips) (k0_t37 : Fin k0_t37_loop.trips) : Fin 2 → Nat :=
  let c0_i32_255 : BitVec 32 := 0#32
  let c1_i32_257 : BitVec 32 := 1#32
  let arg12 : BitVec 32 := Scf.iv c0_i32_255 c1_i32_257 k0_t36
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t37
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t38_loop : Scf.Loop 32 :=
  let c0_i32_270 : BitVec 32 := 0#32
  let c56_i32_271 : BitVec 32 := 56#32
  let v224 : BitVec 32 := Scalar.addi c0_i32_270 c56_i32_271
  let c1_i32_272 : BitVec 32 := 1#32
  ⟨c0_i32_270, v224, c1_i32_272⟩
def k0_off50 (k0_t38 : Fin k0_t38_loop.trips) : Fin 1 → Nat :=
  let c0_i32_270 : BitVec 32 := 0#32
  let c1_i32_272 : BitVec 32 := 1#32
  let arg12 : BitVec 32 := Scf.iv c0_i32_270 c1_i32_272 k0_t38
  let c384_i32_2785 : BitVec 32 := 384#32
  let v2063 : BitVec 32 := Scalar.muli arg12 c384_i32_2785
  ![v2063.toNat]
def k0_off51 (i : grid0.Coords) (k0_t38 : Fin k0_t38_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_266 : BitVec 32 := 96#32
  let v219 : BitVec 32 := Scalar.muli v18 c96_i32_266
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32 : BitVec 32 := 10#32
  let v220 : BitVec 32 := Scalar.addi v29 c10_i32
  let v221 : BitVec 32 := Scalar.addi v219 v220
  let c384_i32_267 : BitVec 32 := 384#32
  let v222 : BitVec 32 := Scalar.muli v221 c384_i32_267
  let c0_i32_268 : BitVec 32 := 0#32
  let v223 : BitVec 32 := Scalar.addi v222 c0_i32_268
  let c0_i32_270 : BitVec 32 := 0#32
  let c1_i32_272 : BitVec 32 := 1#32
  let arg12 : BitVec 32 := Scf.iv c0_i32_270 c1_i32_272 k0_t38
  let v2062 : BitVec 32 := Scalar.addi v223 arg12
  let c0_i32_2787 : BitVec 32 := 0#32
  ![v2062.toNat, 0]
@[reducible] def k0_t39_loop : Scf.Loop 32 :=
  let c0_i32_275 : BitVec 32 := 0#32
  let c56_i32_276 : BitVec 32 := 56#32
  let v225 : BitVec 32 := Scalar.addi c0_i32_275 c56_i32_276
  let c1_i32_277 : BitVec 32 := 1#32
  ⟨c0_i32_275, v225, c1_i32_277⟩
def k0_off52 (k0_t39 : Fin k0_t39_loop.trips) : Fin 1 → Nat :=
  let c0_i32_275 : BitVec 32 := 0#32
  let c1_i32_277 : BitVec 32 := 1#32
  let arg12 : BitVec 32 := Scf.iv c0_i32_275 c1_i32_277 k0_t39
  let c384_i32_2785 : BitVec 32 := 384#32
  let v2062 : BitVec 32 := Scalar.muli arg12 c384_i32_2785
  ![v2062.toNat]
@[reducible] def k0_t40_loop : Scf.Loop 32 :=
  let c0_i32_283 : BitVec 32 := 0#32
  let c48_i32_284 : BitVec 32 := 48#32
  let v230 : BitVec 32 := Scalar.addi c0_i32_283 c48_i32_284
  let c1_i32_285 : BitVec 32 := 1#32
  ⟨c0_i32_283, v230, c1_i32_285⟩
@[reducible] def k0_t41_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off53 (k0_t40 : Fin k0_t40_loop.trips) (k0_t41 : Fin k0_t41_loop.trips) : Fin 2 → Nat :=
  let c0_i32_283 : BitVec 32 := 0#32
  let c1_i32_285 : BitVec 32 := 1#32
  let arg12 : BitVec 32 := Scf.iv c0_i32_283 c1_i32_285 k0_t40
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t41
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk10 (v2067 : IVec S16 32) : Prop :=
  (∀ a x, ((![v2067] : Fin 1 → IVec S16 32) a x).toNat < S24576.size a)
theorem k0_idx10_inb : ∀ (v2067 : IVec S16 32) (k0_hw10 : k0_chk10 v2067), ∀ a x, ((![v2067] : Fin 1 → IVec S16 32) a x).toNat < S24576.size a := fun v2067 k0_hw10 => k0_hw10
def k0_off54 (k0_t40 : Fin k0_t40_loop.trips) (k0_t41 : Fin k0_t41_loop.trips) : Fin 2 → Nat :=
  let c0_i32_283 : BitVec 32 := 0#32
  let c1_i32_285 : BitVec 32 := 1#32
  let arg12 : BitVec 32 := Scf.iv c0_i32_283 c1_i32_285 k0_t40
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t41
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t42_loop : Scf.Loop 32 :=
  let c0_i32_298 : BitVec 32 := 0#32
  let c56_i32_299 : BitVec 32 := 56#32
  let v245 : BitVec 32 := Scalar.addi c0_i32_298 c56_i32_299
  let c1_i32_300 : BitVec 32 := 1#32
  ⟨c0_i32_298, v245, c1_i32_300⟩
def k0_off55 (k0_t42 : Fin k0_t42_loop.trips) : Fin 1 → Nat :=
  let c0_i32_298 : BitVec 32 := 0#32
  let c1_i32_300 : BitVec 32 := 1#32
  let arg12 : BitVec 32 := Scf.iv c0_i32_298 c1_i32_300 k0_t42
  let c384_i32_2785 : BitVec 32 := 384#32
  let v2063 : BitVec 32 := Scalar.muli arg12 c384_i32_2785
  ![v2063.toNat]
def k0_off56 (i : grid0.Coords) (k0_t42 : Fin k0_t42_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_294 : BitVec 32 := 96#32
  let v240 : BitVec 32 := Scalar.muli v18 c96_i32_294
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32 : BitVec 32 := 11#32
  let v241 : BitVec 32 := Scalar.addi v29 c11_i32
  let v242 : BitVec 32 := Scalar.addi v240 v241
  let c384_i32_295 : BitVec 32 := 384#32
  let v243 : BitVec 32 := Scalar.muli v242 c384_i32_295
  let c0_i32_296 : BitVec 32 := 0#32
  let v244 : BitVec 32 := Scalar.addi v243 c0_i32_296
  let c0_i32_298 : BitVec 32 := 0#32
  let c1_i32_300 : BitVec 32 := 1#32
  let arg12 : BitVec 32 := Scf.iv c0_i32_298 c1_i32_300 k0_t42
  let v2062 : BitVec 32 := Scalar.addi v244 arg12
  let c0_i32_2787 : BitVec 32 := 0#32
  ![v2062.toNat, 0]
@[reducible] def k0_t43_loop : Scf.Loop 32 :=
  let c0_i32_303 : BitVec 32 := 0#32
  let c56_i32_304 : BitVec 32 := 56#32
  let v246 : BitVec 32 := Scalar.addi c0_i32_303 c56_i32_304
  let c1_i32_305 : BitVec 32 := 1#32
  ⟨c0_i32_303, v246, c1_i32_305⟩
def k0_off57 (k0_t43 : Fin k0_t43_loop.trips) : Fin 1 → Nat :=
  let c0_i32_303 : BitVec 32 := 0#32
  let c1_i32_305 : BitVec 32 := 1#32
  let arg12 : BitVec 32 := Scf.iv c0_i32_303 c1_i32_305 k0_t43
  let c384_i32_2785 : BitVec 32 := 384#32
  let v2062 : BitVec 32 := Scalar.muli arg12 c384_i32_2785
  ![v2062.toNat]
@[reducible] def k0_t44_loop : Scf.Loop 32 :=
  let c0_i32_311 : BitVec 32 := 0#32
  let c48_i32_312 : BitVec 32 := 48#32
  let v251 : BitVec 32 := Scalar.addi c0_i32_311 c48_i32_312
  let c1_i32_313 : BitVec 32 := 1#32
  ⟨c0_i32_311, v251, c1_i32_313⟩
@[reducible] def k0_t45_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off58 (k0_t44 : Fin k0_t44_loop.trips) (k0_t45 : Fin k0_t45_loop.trips) : Fin 2 → Nat :=
  let c0_i32_311 : BitVec 32 := 0#32
  let c1_i32_313 : BitVec 32 := 1#32
  let arg12 : BitVec 32 := Scf.iv c0_i32_311 c1_i32_313 k0_t44
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t45
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk11 (v2067 : IVec S16 32) : Prop :=
  (∀ a x, ((![v2067] : Fin 1 → IVec S16 32) a x).toNat < S24576.size a)
theorem k0_idx11_inb : ∀ (v2067 : IVec S16 32) (k0_hw11 : k0_chk11 v2067), ∀ a x, ((![v2067] : Fin 1 → IVec S16 32) a x).toNat < S24576.size a := fun v2067 k0_hw11 => k0_hw11
def k0_off59 (k0_t44 : Fin k0_t44_loop.trips) (k0_t45 : Fin k0_t45_loop.trips) : Fin 2 → Nat :=
  let c0_i32_311 : BitVec 32 := 0#32
  let c1_i32_313 : BitVec 32 := 1#32
  let arg12 : BitVec 32 := Scf.iv c0_i32_311 c1_i32_313 k0_t44
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t45
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t46_loop : Scf.Loop 32 :=
  let c0_i32_323 : BitVec 32 := 0#32
  let c56_i32_324 : BitVec 32 := 56#32
  let v261 : BitVec 32 := Scalar.addi c0_i32_323 c56_i32_324
  let c1_i32_325 : BitVec 32 := 1#32
  ⟨c0_i32_323, v261, c1_i32_325⟩
def k0_off60 (k0_t46 : Fin k0_t46_loop.trips) : Fin 1 → Nat :=
  let c0_i32_323 : BitVec 32 := 0#32
  let c1_i32_325 : BitVec 32 := 1#32
  let arg12 : BitVec 32 := Scf.iv c0_i32_323 c1_i32_325 k0_t46
  let c384_i32_2785 : BitVec 32 := 384#32
  let v2062 : BitVec 32 := Scalar.muli arg12 c384_i32_2785
  ![v2062.toNat]
@[reducible] def k0_t47_loop : Scf.Loop 32 :=
  let c0_i32_331 : BitVec 32 := 0#32
  let c48_i32_332 : BitVec 32 := 48#32
  let v266 : BitVec 32 := Scalar.addi c0_i32_331 c48_i32_332
  let c1_i32_333 : BitVec 32 := 1#32
  ⟨c0_i32_331, v266, c1_i32_333⟩
@[reducible] def k0_t48_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off61 (k0_t47 : Fin k0_t47_loop.trips) (k0_t48 : Fin k0_t48_loop.trips) : Fin 2 → Nat :=
  let c0_i32_331 : BitVec 32 := 0#32
  let c1_i32_333 : BitVec 32 := 1#32
  let arg12 : BitVec 32 := Scf.iv c0_i32_331 c1_i32_333 k0_t47
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t48
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk12 (v2067 : IVec S16 32) : Prop :=
  (∀ a x, ((![v2067] : Fin 1 → IVec S16 32) a x).toNat < S24576.size a)
theorem k0_idx12_inb : ∀ (v2067 : IVec S16 32) (k0_hw12 : k0_chk12 v2067), ∀ a x, ((![v2067] : Fin 1 → IVec S16 32) a x).toNat < S24576.size a := fun v2067 k0_hw12 => k0_hw12
def k0_off62 (k0_t47 : Fin k0_t47_loop.trips) (k0_t48 : Fin k0_t48_loop.trips) : Fin 2 → Nat :=
  let c0_i32_331 : BitVec 32 := 0#32
  let c1_i32_333 : BitVec 32 := 1#32
  let arg12 : BitVec 32 := Scf.iv c0_i32_331 c1_i32_333 k0_t47
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t48
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t49_loop : Scf.Loop 32 :=
  let c0_i32_346 : BitVec 32 := 0#32
  let c64_i32 : BitVec 32 := 64#32
  let v281 : BitVec 32 := Scalar.addi c0_i32_346 c64_i32
  let c1_i32_347 : BitVec 32 := 1#32
  ⟨c0_i32_346, v281, c1_i32_347⟩
def k0_off63 (k0_t49 : Fin k0_t49_loop.trips) : Fin 1 → Nat :=
  let c0_i32_346 : BitVec 32 := 0#32
  let c1_i32_347 : BitVec 32 := 1#32
  let arg12 : BitVec 32 := Scf.iv c0_i32_346 c1_i32_347 k0_t49
  let c384_i32_2785 : BitVec 32 := 384#32
  let v2063 : BitVec 32 := Scalar.muli arg12 c384_i32_2785
  ![v2063.toNat]
def k0_off64 (i : grid0.Coords) (k0_t49 : Fin k0_t49_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_342 : BitVec 32 := 96#32
  let v276 : BitVec 32 := Scalar.muli v18 c96_i32_342
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_343 : BitVec 32 := 0#32
  let v277 : BitVec 32 := Scalar.addi v29 c0_i32_343
  let v278 : BitVec 32 := Scalar.addi v276 v277
  let c384_i32_344 : BitVec 32 := 384#32
  let v279 : BitVec 32 := Scalar.muli v278 c384_i32_344
  let c40_i32 : BitVec 32 := 40#32
  let v280 : BitVec 32 := Scalar.addi v279 c40_i32
  let c0_i32_346 : BitVec 32 := 0#32
  let c1_i32_347 : BitVec 32 := 1#32
  let arg12 : BitVec 32 := Scf.iv c0_i32_346 c1_i32_347 k0_t49
  let v2062 : BitVec 32 := Scalar.addi v280 arg12
  let c0_i32_2787 : BitVec 32 := 0#32
  ![v2062.toNat, 0]
@[reducible] def k0_t50_loop : Scf.Loop 32 :=
  let c0_i32_356 : BitVec 32 := 0#32
  let c64_i32_357 : BitVec 32 := 64#32
  let v289 : BitVec 32 := Scalar.addi c0_i32_356 c64_i32_357
  let c1_i32_358 : BitVec 32 := 1#32
  ⟨c0_i32_356, v289, c1_i32_358⟩
def k0_off65 (k0_t50 : Fin k0_t50_loop.trips) : Fin 1 → Nat :=
  let c0_i32_356 : BitVec 32 := 0#32
  let c1_i32_358 : BitVec 32 := 1#32
  let arg12 : BitVec 32 := Scf.iv c0_i32_356 c1_i32_358 k0_t50
  let c384_i32_2785 : BitVec 32 := 384#32
  let v2063 : BitVec 32 := Scalar.muli arg12 c384_i32_2785
  ![v2063.toNat]
def k0_off66 (i : grid0.Coords) (k0_t50 : Fin k0_t50_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_351 : BitVec 32 := 96#32
  let v284 : BitVec 32 := Scalar.muli v18 c96_i32_351
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_352 : BitVec 32 := 1#32
  let v285 : BitVec 32 := Scalar.addi v29 c1_i32_352
  let v286 : BitVec 32 := Scalar.addi v284 v285
  let c384_i32_353 : BitVec 32 := 384#32
  let v287 : BitVec 32 := Scalar.muli v286 c384_i32_353
  let c40_i32_354 : BitVec 32 := 40#32
  let v288 : BitVec 32 := Scalar.addi v287 c40_i32_354
  let c0_i32_356 : BitVec 32 := 0#32
  let c1_i32_358 : BitVec 32 := 1#32
  let arg12 : BitVec 32 := Scf.iv c0_i32_356 c1_i32_358 k0_t50
  let v2062 : BitVec 32 := Scalar.addi v288 arg12
  let c0_i32_2787 : BitVec 32 := 0#32
  ![v2062.toNat, 0]
@[reducible] def k0_t51_loop : Scf.Loop 32 :=
  let c0_i32_361 : BitVec 32 := 0#32
  let c64_i32_362 : BitVec 32 := 64#32
  let v290 : BitVec 32 := Scalar.addi c0_i32_361 c64_i32_362
  let c1_i32_363 : BitVec 32 := 1#32
  ⟨c0_i32_361, v290, c1_i32_363⟩
def k0_off67 (k0_t51 : Fin k0_t51_loop.trips) : Fin 1 → Nat :=
  let c0_i32_361 : BitVec 32 := 0#32
  let c1_i32_363 : BitVec 32 := 1#32
  let arg12 : BitVec 32 := Scf.iv c0_i32_361 c1_i32_363 k0_t51
  let c384_i32_2785 : BitVec 32 := 384#32
  let v2062 : BitVec 32 := Scalar.muli arg12 c384_i32_2785
  ![v2062.toNat]
@[reducible] def k0_t52_loop : Scf.Loop 32 :=
  let c0_i32_369 : BitVec 32 := 0#32
  let c48_i32_370 : BitVec 32 := 48#32
  let v295 : BitVec 32 := Scalar.addi c0_i32_369 c48_i32_370
  let c1_i32_371 : BitVec 32 := 1#32
  ⟨c0_i32_369, v295, c1_i32_371⟩
@[reducible] def k0_t53_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off68 (k0_t52 : Fin k0_t52_loop.trips) (k0_t53 : Fin k0_t53_loop.trips) : Fin 2 → Nat :=
  let c0_i32_369 : BitVec 32 := 0#32
  let c1_i32_371 : BitVec 32 := 1#32
  let arg12 : BitVec 32 := Scf.iv c0_i32_369 c1_i32_371 k0_t52
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t53
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk13 (v2067 : IVec S16 32) : Prop :=
  (∀ a x, ((![v2067] : Fin 1 → IVec S16 32) a x).toNat < S24576.size a)
theorem k0_idx13_inb : ∀ (v2067 : IVec S16 32) (k0_hw13 : k0_chk13 v2067), ∀ a x, ((![v2067] : Fin 1 → IVec S16 32) a x).toNat < S24576.size a := fun v2067 k0_hw13 => k0_hw13
def k0_off69 (k0_t52 : Fin k0_t52_loop.trips) (k0_t53 : Fin k0_t53_loop.trips) : Fin 2 → Nat :=
  let c0_i32_369 : BitVec 32 := 0#32
  let c1_i32_371 : BitVec 32 := 1#32
  let arg12 : BitVec 32 := Scf.iv c0_i32_369 c1_i32_371 k0_t52
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t53
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t54_loop : Scf.Loop 32 :=
  let c0_i32_385 : BitVec 32 := 0#32
  let c64_i32_386 : BitVec 32 := 64#32
  let v310 : BitVec 32 := Scalar.addi c0_i32_385 c64_i32_386
  let c1_i32_387 : BitVec 32 := 1#32
  ⟨c0_i32_385, v310, c1_i32_387⟩
def k0_off70 (k0_t54 : Fin k0_t54_loop.trips) : Fin 1 → Nat :=
  let c0_i32_385 : BitVec 32 := 0#32
  let c1_i32_387 : BitVec 32 := 1#32
  let arg12 : BitVec 32 := Scf.iv c0_i32_385 c1_i32_387 k0_t54
  let c384_i32_2785 : BitVec 32 := 384#32
  let v2063 : BitVec 32 := Scalar.muli arg12 c384_i32_2785
  ![v2063.toNat]
def k0_off71 (i : grid0.Coords) (k0_t54 : Fin k0_t54_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_380 : BitVec 32 := 96#32
  let v305 : BitVec 32 := Scalar.muli v18 c96_i32_380
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_381 : BitVec 32 := 2#32
  let v306 : BitVec 32 := Scalar.addi v29 c2_i32_381
  let v307 : BitVec 32 := Scalar.addi v305 v306
  let c384_i32_382 : BitVec 32 := 384#32
  let v308 : BitVec 32 := Scalar.muli v307 c384_i32_382
  let c40_i32_383 : BitVec 32 := 40#32
  let v309 : BitVec 32 := Scalar.addi v308 c40_i32_383
  let c0_i32_385 : BitVec 32 := 0#32
  let c1_i32_387 : BitVec 32 := 1#32
  let arg12 : BitVec 32 := Scf.iv c0_i32_385 c1_i32_387 k0_t54
  let v2062 : BitVec 32 := Scalar.addi v309 arg12
  let c0_i32_2787 : BitVec 32 := 0#32
  ![v2062.toNat, 0]
@[reducible] def k0_t55_loop : Scf.Loop 32 :=
  let c0_i32_390 : BitVec 32 := 0#32
  let c64_i32_391 : BitVec 32 := 64#32
  let v311 : BitVec 32 := Scalar.addi c0_i32_390 c64_i32_391
  let c1_i32_392 : BitVec 32 := 1#32
  ⟨c0_i32_390, v311, c1_i32_392⟩
def k0_off72 (k0_t55 : Fin k0_t55_loop.trips) : Fin 1 → Nat :=
  let c0_i32_390 : BitVec 32 := 0#32
  let c1_i32_392 : BitVec 32 := 1#32
  let arg12 : BitVec 32 := Scf.iv c0_i32_390 c1_i32_392 k0_t55
  let c384_i32_2785 : BitVec 32 := 384#32
  let v2062 : BitVec 32 := Scalar.muli arg12 c384_i32_2785
  ![v2062.toNat]
@[reducible] def k0_t56_loop : Scf.Loop 32 :=
  let c0_i32_398 : BitVec 32 := 0#32
  let c48_i32_399 : BitVec 32 := 48#32
  let v316 : BitVec 32 := Scalar.addi c0_i32_398 c48_i32_399
  let c1_i32_400 : BitVec 32 := 1#32
  ⟨c0_i32_398, v316, c1_i32_400⟩
@[reducible] def k0_t57_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off73 (k0_t56 : Fin k0_t56_loop.trips) (k0_t57 : Fin k0_t57_loop.trips) : Fin 2 → Nat :=
  let c0_i32_398 : BitVec 32 := 0#32
  let c1_i32_400 : BitVec 32 := 1#32
  let arg12 : BitVec 32 := Scf.iv c0_i32_398 c1_i32_400 k0_t56
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t57
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk14 (v2067 : IVec S16 32) : Prop :=
  (∀ a x, ((![v2067] : Fin 1 → IVec S16 32) a x).toNat < S24576.size a)
theorem k0_idx14_inb : ∀ (v2067 : IVec S16 32) (k0_hw14 : k0_chk14 v2067), ∀ a x, ((![v2067] : Fin 1 → IVec S16 32) a x).toNat < S24576.size a := fun v2067 k0_hw14 => k0_hw14
def k0_off74 (k0_t56 : Fin k0_t56_loop.trips) (k0_t57 : Fin k0_t57_loop.trips) : Fin 2 → Nat :=
  let c0_i32_398 : BitVec 32 := 0#32
  let c1_i32_400 : BitVec 32 := 1#32
  let arg12 : BitVec 32 := Scf.iv c0_i32_398 c1_i32_400 k0_t56
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t57
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t58_loop : Scf.Loop 32 :=
  let c0_i32_414 : BitVec 32 := 0#32
  let c64_i32_415 : BitVec 32 := 64#32
  let v331 : BitVec 32 := Scalar.addi c0_i32_414 c64_i32_415
  let c1_i32_416 : BitVec 32 := 1#32
  ⟨c0_i32_414, v331, c1_i32_416⟩
def k0_off75 (k0_t58 : Fin k0_t58_loop.trips) : Fin 1 → Nat :=
  let c0_i32_414 : BitVec 32 := 0#32
  let c1_i32_416 : BitVec 32 := 1#32
  let arg12 : BitVec 32 := Scf.iv c0_i32_414 c1_i32_416 k0_t58
  let c384_i32_2785 : BitVec 32 := 384#32
  let v2063 : BitVec 32 := Scalar.muli arg12 c384_i32_2785
  ![v2063.toNat]
def k0_off76 (i : grid0.Coords) (k0_t58 : Fin k0_t58_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_409 : BitVec 32 := 96#32
  let v326 : BitVec 32 := Scalar.muli v18 c96_i32_409
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_410 : BitVec 32 := 3#32
  let v327 : BitVec 32 := Scalar.addi v29 c3_i32_410
  let v328 : BitVec 32 := Scalar.addi v326 v327
  let c384_i32_411 : BitVec 32 := 384#32
  let v329 : BitVec 32 := Scalar.muli v328 c384_i32_411
  let c40_i32_412 : BitVec 32 := 40#32
  let v330 : BitVec 32 := Scalar.addi v329 c40_i32_412
  let c0_i32_414 : BitVec 32 := 0#32
  let c1_i32_416 : BitVec 32 := 1#32
  let arg12 : BitVec 32 := Scf.iv c0_i32_414 c1_i32_416 k0_t58
  let v2062 : BitVec 32 := Scalar.addi v330 arg12
  let c0_i32_2787 : BitVec 32 := 0#32
  ![v2062.toNat, 0]
@[reducible] def k0_t59_loop : Scf.Loop 32 :=
  let c0_i32_419 : BitVec 32 := 0#32
  let c64_i32_420 : BitVec 32 := 64#32
  let v332 : BitVec 32 := Scalar.addi c0_i32_419 c64_i32_420
  let c1_i32_421 : BitVec 32 := 1#32
  ⟨c0_i32_419, v332, c1_i32_421⟩
def k0_off77 (k0_t59 : Fin k0_t59_loop.trips) : Fin 1 → Nat :=
  let c0_i32_419 : BitVec 32 := 0#32
  let c1_i32_421 : BitVec 32 := 1#32
  let arg12 : BitVec 32 := Scf.iv c0_i32_419 c1_i32_421 k0_t59
  let c384_i32_2785 : BitVec 32 := 384#32
  let v2062 : BitVec 32 := Scalar.muli arg12 c384_i32_2785
  ![v2062.toNat]
@[reducible] def k0_t60_loop : Scf.Loop 32 :=
  let c0_i32_427 : BitVec 32 := 0#32
  let c48_i32_428 : BitVec 32 := 48#32
  let v337 : BitVec 32 := Scalar.addi c0_i32_427 c48_i32_428
  let c1_i32_429 : BitVec 32 := 1#32
  ⟨c0_i32_427, v337, c1_i32_429⟩
@[reducible] def k0_t61_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off78 (k0_t60 : Fin k0_t60_loop.trips) (k0_t61 : Fin k0_t61_loop.trips) : Fin 2 → Nat :=
  let c0_i32_427 : BitVec 32 := 0#32
  let c1_i32_429 : BitVec 32 := 1#32
  let arg12 : BitVec 32 := Scf.iv c0_i32_427 c1_i32_429 k0_t60
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t61
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk15 (v2067 : IVec S16 32) : Prop :=
  (∀ a x, ((![v2067] : Fin 1 → IVec S16 32) a x).toNat < S24576.size a)
theorem k0_idx15_inb : ∀ (v2067 : IVec S16 32) (k0_hw15 : k0_chk15 v2067), ∀ a x, ((![v2067] : Fin 1 → IVec S16 32) a x).toNat < S24576.size a := fun v2067 k0_hw15 => k0_hw15
def k0_off79 (k0_t60 : Fin k0_t60_loop.trips) (k0_t61 : Fin k0_t61_loop.trips) : Fin 2 → Nat :=
  let c0_i32_427 : BitVec 32 := 0#32
  let c1_i32_429 : BitVec 32 := 1#32
  let arg12 : BitVec 32 := Scf.iv c0_i32_427 c1_i32_429 k0_t60
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t61
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t62_loop : Scf.Loop 32 :=
  let c0_i32_443 : BitVec 32 := 0#32
  let c64_i32_444 : BitVec 32 := 64#32
  let v352 : BitVec 32 := Scalar.addi c0_i32_443 c64_i32_444
  let c1_i32_445 : BitVec 32 := 1#32
  ⟨c0_i32_443, v352, c1_i32_445⟩
def k0_off80 (k0_t62 : Fin k0_t62_loop.trips) : Fin 1 → Nat :=
  let c0_i32_443 : BitVec 32 := 0#32
  let c1_i32_445 : BitVec 32 := 1#32
  let arg12 : BitVec 32 := Scf.iv c0_i32_443 c1_i32_445 k0_t62
  let c384_i32_2785 : BitVec 32 := 384#32
  let v2063 : BitVec 32 := Scalar.muli arg12 c384_i32_2785
  ![v2063.toNat]
def k0_off81 (i : grid0.Coords) (k0_t62 : Fin k0_t62_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_438 : BitVec 32 := 96#32
  let v347 : BitVec 32 := Scalar.muli v18 c96_i32_438
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_439 : BitVec 32 := 4#32
  let v348 : BitVec 32 := Scalar.addi v29 c4_i32_439
  let v349 : BitVec 32 := Scalar.addi v347 v348
  let c384_i32_440 : BitVec 32 := 384#32
  let v350 : BitVec 32 := Scalar.muli v349 c384_i32_440
  let c40_i32_441 : BitVec 32 := 40#32
  let v351 : BitVec 32 := Scalar.addi v350 c40_i32_441
  let c0_i32_443 : BitVec 32 := 0#32
  let c1_i32_445 : BitVec 32 := 1#32
  let arg12 : BitVec 32 := Scf.iv c0_i32_443 c1_i32_445 k0_t62
  let v2062 : BitVec 32 := Scalar.addi v351 arg12
  let c0_i32_2787 : BitVec 32 := 0#32
  ![v2062.toNat, 0]
@[reducible] def k0_t63_loop : Scf.Loop 32 :=
  let c0_i32_448 : BitVec 32 := 0#32
  let c64_i32_449 : BitVec 32 := 64#32
  let v353 : BitVec 32 := Scalar.addi c0_i32_448 c64_i32_449
  let c1_i32_450 : BitVec 32 := 1#32
  ⟨c0_i32_448, v353, c1_i32_450⟩
def k0_off82 (k0_t63 : Fin k0_t63_loop.trips) : Fin 1 → Nat :=
  let c0_i32_448 : BitVec 32 := 0#32
  let c1_i32_450 : BitVec 32 := 1#32
  let arg12 : BitVec 32 := Scf.iv c0_i32_448 c1_i32_450 k0_t63
  let c384_i32_2785 : BitVec 32 := 384#32
  let v2062 : BitVec 32 := Scalar.muli arg12 c384_i32_2785
  ![v2062.toNat]
@[reducible] def k0_t64_loop : Scf.Loop 32 :=
  let c0_i32_456 : BitVec 32 := 0#32
  let c48_i32_457 : BitVec 32 := 48#32
  let v358 : BitVec 32 := Scalar.addi c0_i32_456 c48_i32_457
  let c1_i32_458 : BitVec 32 := 1#32
  ⟨c0_i32_456, v358, c1_i32_458⟩
@[reducible] def k0_t65_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off83 (k0_t64 : Fin k0_t64_loop.trips) (k0_t65 : Fin k0_t65_loop.trips) : Fin 2 → Nat :=
  let c0_i32_456 : BitVec 32 := 0#32
  let c1_i32_458 : BitVec 32 := 1#32
  let arg12 : BitVec 32 := Scf.iv c0_i32_456 c1_i32_458 k0_t64
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t65
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk16 (v2067 : IVec S16 32) : Prop :=
  (∀ a x, ((![v2067] : Fin 1 → IVec S16 32) a x).toNat < S24576.size a)
theorem k0_idx16_inb : ∀ (v2067 : IVec S16 32) (k0_hw16 : k0_chk16 v2067), ∀ a x, ((![v2067] : Fin 1 → IVec S16 32) a x).toNat < S24576.size a := fun v2067 k0_hw16 => k0_hw16
def k0_off84 (k0_t64 : Fin k0_t64_loop.trips) (k0_t65 : Fin k0_t65_loop.trips) : Fin 2 → Nat :=
  let c0_i32_456 : BitVec 32 := 0#32
  let c1_i32_458 : BitVec 32 := 1#32
  let arg12 : BitVec 32 := Scf.iv c0_i32_456 c1_i32_458 k0_t64
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t65
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t66_loop : Scf.Loop 32 :=
  let c0_i32_472 : BitVec 32 := 0#32
  let c64_i32_473 : BitVec 32 := 64#32
  let v373 : BitVec 32 := Scalar.addi c0_i32_472 c64_i32_473
  let c1_i32_474 : BitVec 32 := 1#32
  ⟨c0_i32_472, v373, c1_i32_474⟩
def k0_off85 (k0_t66 : Fin k0_t66_loop.trips) : Fin 1 → Nat :=
  let c0_i32_472 : BitVec 32 := 0#32
  let c1_i32_474 : BitVec 32 := 1#32
  let arg12 : BitVec 32 := Scf.iv c0_i32_472 c1_i32_474 k0_t66
  let c384_i32_2785 : BitVec 32 := 384#32
  let v2063 : BitVec 32 := Scalar.muli arg12 c384_i32_2785
  ![v2063.toNat]
def k0_off86 (i : grid0.Coords) (k0_t66 : Fin k0_t66_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_467 : BitVec 32 := 96#32
  let v368 : BitVec 32 := Scalar.muli v18 c96_i32_467
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_468 : BitVec 32 := 5#32
  let v369 : BitVec 32 := Scalar.addi v29 c5_i32_468
  let v370 : BitVec 32 := Scalar.addi v368 v369
  let c384_i32_469 : BitVec 32 := 384#32
  let v371 : BitVec 32 := Scalar.muli v370 c384_i32_469
  let c40_i32_470 : BitVec 32 := 40#32
  let v372 : BitVec 32 := Scalar.addi v371 c40_i32_470
  let c0_i32_472 : BitVec 32 := 0#32
  let c1_i32_474 : BitVec 32 := 1#32
  let arg12 : BitVec 32 := Scf.iv c0_i32_472 c1_i32_474 k0_t66
  let v2062 : BitVec 32 := Scalar.addi v372 arg12
  let c0_i32_2787 : BitVec 32 := 0#32
  ![v2062.toNat, 0]
@[reducible] def k0_t67_loop : Scf.Loop 32 :=
  let c0_i32_477 : BitVec 32 := 0#32
  let c64_i32_478 : BitVec 32 := 64#32
  let v374 : BitVec 32 := Scalar.addi c0_i32_477 c64_i32_478
  let c1_i32_479 : BitVec 32 := 1#32
  ⟨c0_i32_477, v374, c1_i32_479⟩
def k0_off87 (k0_t67 : Fin k0_t67_loop.trips) : Fin 1 → Nat :=
  let c0_i32_477 : BitVec 32 := 0#32
  let c1_i32_479 : BitVec 32 := 1#32
  let arg12 : BitVec 32 := Scf.iv c0_i32_477 c1_i32_479 k0_t67
  let c384_i32_2785 : BitVec 32 := 384#32
  let v2062 : BitVec 32 := Scalar.muli arg12 c384_i32_2785
  ![v2062.toNat]
@[reducible] def k0_t68_loop : Scf.Loop 32 :=
  let c0_i32_485 : BitVec 32 := 0#32
  let c48_i32_486 : BitVec 32 := 48#32
  let v379 : BitVec 32 := Scalar.addi c0_i32_485 c48_i32_486
  let c1_i32_487 : BitVec 32 := 1#32
  ⟨c0_i32_485, v379, c1_i32_487⟩
@[reducible] def k0_t69_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off88 (k0_t68 : Fin k0_t68_loop.trips) (k0_t69 : Fin k0_t69_loop.trips) : Fin 2 → Nat :=
  let c0_i32_485 : BitVec 32 := 0#32
  let c1_i32_487 : BitVec 32 := 1#32
  let arg12 : BitVec 32 := Scf.iv c0_i32_485 c1_i32_487 k0_t68
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t69
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk17 (v2067 : IVec S16 32) : Prop :=
  (∀ a x, ((![v2067] : Fin 1 → IVec S16 32) a x).toNat < S24576.size a)
theorem k0_idx17_inb : ∀ (v2067 : IVec S16 32) (k0_hw17 : k0_chk17 v2067), ∀ a x, ((![v2067] : Fin 1 → IVec S16 32) a x).toNat < S24576.size a := fun v2067 k0_hw17 => k0_hw17
def k0_off89 (k0_t68 : Fin k0_t68_loop.trips) (k0_t69 : Fin k0_t69_loop.trips) : Fin 2 → Nat :=
  let c0_i32_485 : BitVec 32 := 0#32
  let c1_i32_487 : BitVec 32 := 1#32
  let arg12 : BitVec 32 := Scf.iv c0_i32_485 c1_i32_487 k0_t68
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t69
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t70_loop : Scf.Loop 32 :=
  let c0_i32_501 : BitVec 32 := 0#32
  let c64_i32_502 : BitVec 32 := 64#32
  let v394 : BitVec 32 := Scalar.addi c0_i32_501 c64_i32_502
  let c1_i32_503 : BitVec 32 := 1#32
  ⟨c0_i32_501, v394, c1_i32_503⟩
def k0_off90 (k0_t70 : Fin k0_t70_loop.trips) : Fin 1 → Nat :=
  let c0_i32_501 : BitVec 32 := 0#32
  let c1_i32_503 : BitVec 32 := 1#32
  let arg12 : BitVec 32 := Scf.iv c0_i32_501 c1_i32_503 k0_t70
  let c384_i32_2785 : BitVec 32 := 384#32
  let v2063 : BitVec 32 := Scalar.muli arg12 c384_i32_2785
  ![v2063.toNat]
def k0_off91 (i : grid0.Coords) (k0_t70 : Fin k0_t70_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_496 : BitVec 32 := 96#32
  let v389 : BitVec 32 := Scalar.muli v18 c96_i32_496
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_497 : BitVec 32 := 6#32
  let v390 : BitVec 32 := Scalar.addi v29 c6_i32_497
  let v391 : BitVec 32 := Scalar.addi v389 v390
  let c384_i32_498 : BitVec 32 := 384#32
  let v392 : BitVec 32 := Scalar.muli v391 c384_i32_498
  let c40_i32_499 : BitVec 32 := 40#32
  let v393 : BitVec 32 := Scalar.addi v392 c40_i32_499
  let c0_i32_501 : BitVec 32 := 0#32
  let c1_i32_503 : BitVec 32 := 1#32
  let arg12 : BitVec 32 := Scf.iv c0_i32_501 c1_i32_503 k0_t70
  let v2062 : BitVec 32 := Scalar.addi v393 arg12
  let c0_i32_2787 : BitVec 32 := 0#32
  ![v2062.toNat, 0]
@[reducible] def k0_t71_loop : Scf.Loop 32 :=
  let c0_i32_506 : BitVec 32 := 0#32
  let c64_i32_507 : BitVec 32 := 64#32
  let v395 : BitVec 32 := Scalar.addi c0_i32_506 c64_i32_507
  let c1_i32_508 : BitVec 32 := 1#32
  ⟨c0_i32_506, v395, c1_i32_508⟩
def k0_off92 (k0_t71 : Fin k0_t71_loop.trips) : Fin 1 → Nat :=
  let c0_i32_506 : BitVec 32 := 0#32
  let c1_i32_508 : BitVec 32 := 1#32
  let arg12 : BitVec 32 := Scf.iv c0_i32_506 c1_i32_508 k0_t71
  let c384_i32_2785 : BitVec 32 := 384#32
  let v2062 : BitVec 32 := Scalar.muli arg12 c384_i32_2785
  ![v2062.toNat]
@[reducible] def k0_t72_loop : Scf.Loop 32 :=
  let c0_i32_514 : BitVec 32 := 0#32
  let c48_i32_515 : BitVec 32 := 48#32
  let v400 : BitVec 32 := Scalar.addi c0_i32_514 c48_i32_515
  let c1_i32_516 : BitVec 32 := 1#32
  ⟨c0_i32_514, v400, c1_i32_516⟩
@[reducible] def k0_t73_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off93 (k0_t72 : Fin k0_t72_loop.trips) (k0_t73 : Fin k0_t73_loop.trips) : Fin 2 → Nat :=
  let c0_i32_514 : BitVec 32 := 0#32
  let c1_i32_516 : BitVec 32 := 1#32
  let arg12 : BitVec 32 := Scf.iv c0_i32_514 c1_i32_516 k0_t72
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t73
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk18 (v2067 : IVec S16 32) : Prop :=
  (∀ a x, ((![v2067] : Fin 1 → IVec S16 32) a x).toNat < S24576.size a)
theorem k0_idx18_inb : ∀ (v2067 : IVec S16 32) (k0_hw18 : k0_chk18 v2067), ∀ a x, ((![v2067] : Fin 1 → IVec S16 32) a x).toNat < S24576.size a := fun v2067 k0_hw18 => k0_hw18
def k0_off94 (k0_t72 : Fin k0_t72_loop.trips) (k0_t73 : Fin k0_t73_loop.trips) : Fin 2 → Nat :=
  let c0_i32_514 : BitVec 32 := 0#32
  let c1_i32_516 : BitVec 32 := 1#32
  let arg12 : BitVec 32 := Scf.iv c0_i32_514 c1_i32_516 k0_t72
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t73
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t74_loop : Scf.Loop 32 :=
  let c0_i32_530 : BitVec 32 := 0#32
  let c64_i32_531 : BitVec 32 := 64#32
  let v415 : BitVec 32 := Scalar.addi c0_i32_530 c64_i32_531
  let c1_i32_532 : BitVec 32 := 1#32
  ⟨c0_i32_530, v415, c1_i32_532⟩
def k0_off95 (k0_t74 : Fin k0_t74_loop.trips) : Fin 1 → Nat :=
  let c0_i32_530 : BitVec 32 := 0#32
  let c1_i32_532 : BitVec 32 := 1#32
  let arg12 : BitVec 32 := Scf.iv c0_i32_530 c1_i32_532 k0_t74
  let c384_i32_2785 : BitVec 32 := 384#32
  let v2063 : BitVec 32 := Scalar.muli arg12 c384_i32_2785
  ![v2063.toNat]
def k0_off96 (i : grid0.Coords) (k0_t74 : Fin k0_t74_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_525 : BitVec 32 := 96#32
  let v410 : BitVec 32 := Scalar.muli v18 c96_i32_525
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_526 : BitVec 32 := 7#32
  let v411 : BitVec 32 := Scalar.addi v29 c7_i32_526
  let v412 : BitVec 32 := Scalar.addi v410 v411
  let c384_i32_527 : BitVec 32 := 384#32
  let v413 : BitVec 32 := Scalar.muli v412 c384_i32_527
  let c40_i32_528 : BitVec 32 := 40#32
  let v414 : BitVec 32 := Scalar.addi v413 c40_i32_528
  let c0_i32_530 : BitVec 32 := 0#32
  let c1_i32_532 : BitVec 32 := 1#32
  let arg12 : BitVec 32 := Scf.iv c0_i32_530 c1_i32_532 k0_t74
  let v2062 : BitVec 32 := Scalar.addi v414 arg12
  let c0_i32_2787 : BitVec 32 := 0#32
  ![v2062.toNat, 0]
@[reducible] def k0_t75_loop : Scf.Loop 32 :=
  let c0_i32_535 : BitVec 32 := 0#32
  let c64_i32_536 : BitVec 32 := 64#32
  let v416 : BitVec 32 := Scalar.addi c0_i32_535 c64_i32_536
  let c1_i32_537 : BitVec 32 := 1#32
  ⟨c0_i32_535, v416, c1_i32_537⟩
def k0_off97 (k0_t75 : Fin k0_t75_loop.trips) : Fin 1 → Nat :=
  let c0_i32_535 : BitVec 32 := 0#32
  let c1_i32_537 : BitVec 32 := 1#32
  let arg12 : BitVec 32 := Scf.iv c0_i32_535 c1_i32_537 k0_t75
  let c384_i32_2785 : BitVec 32 := 384#32
  let v2062 : BitVec 32 := Scalar.muli arg12 c384_i32_2785
  ![v2062.toNat]
@[reducible] def k0_t76_loop : Scf.Loop 32 :=
  let c0_i32_543 : BitVec 32 := 0#32
  let c48_i32_544 : BitVec 32 := 48#32
  let v421 : BitVec 32 := Scalar.addi c0_i32_543 c48_i32_544
  let c1_i32_545 : BitVec 32 := 1#32
  ⟨c0_i32_543, v421, c1_i32_545⟩
@[reducible] def k0_t77_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off98 (k0_t76 : Fin k0_t76_loop.trips) (k0_t77 : Fin k0_t77_loop.trips) : Fin 2 → Nat :=
  let c0_i32_543 : BitVec 32 := 0#32
  let c1_i32_545 : BitVec 32 := 1#32
  let arg12 : BitVec 32 := Scf.iv c0_i32_543 c1_i32_545 k0_t76
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t77
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk19 (v2067 : IVec S16 32) : Prop :=
  (∀ a x, ((![v2067] : Fin 1 → IVec S16 32) a x).toNat < S24576.size a)
theorem k0_idx19_inb : ∀ (v2067 : IVec S16 32) (k0_hw19 : k0_chk19 v2067), ∀ a x, ((![v2067] : Fin 1 → IVec S16 32) a x).toNat < S24576.size a := fun v2067 k0_hw19 => k0_hw19
def k0_off99 (k0_t76 : Fin k0_t76_loop.trips) (k0_t77 : Fin k0_t77_loop.trips) : Fin 2 → Nat :=
  let c0_i32_543 : BitVec 32 := 0#32
  let c1_i32_545 : BitVec 32 := 1#32
  let arg12 : BitVec 32 := Scf.iv c0_i32_543 c1_i32_545 k0_t76
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t77
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t78_loop : Scf.Loop 32 :=
  let c0_i32_559 : BitVec 32 := 0#32
  let c64_i32_560 : BitVec 32 := 64#32
  let v436 : BitVec 32 := Scalar.addi c0_i32_559 c64_i32_560
  let c1_i32_561 : BitVec 32 := 1#32
  ⟨c0_i32_559, v436, c1_i32_561⟩
def k0_off100 (k0_t78 : Fin k0_t78_loop.trips) : Fin 1 → Nat :=
  let c0_i32_559 : BitVec 32 := 0#32
  let c1_i32_561 : BitVec 32 := 1#32
  let arg12 : BitVec 32 := Scf.iv c0_i32_559 c1_i32_561 k0_t78
  let c384_i32_2785 : BitVec 32 := 384#32
  let v2063 : BitVec 32 := Scalar.muli arg12 c384_i32_2785
  ![v2063.toNat]
def k0_off101 (i : grid0.Coords) (k0_t78 : Fin k0_t78_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_554 : BitVec 32 := 96#32
  let v431 : BitVec 32 := Scalar.muli v18 c96_i32_554
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_555 : BitVec 32 := 8#32
  let v432 : BitVec 32 := Scalar.addi v29 c8_i32_555
  let v433 : BitVec 32 := Scalar.addi v431 v432
  let c384_i32_556 : BitVec 32 := 384#32
  let v434 : BitVec 32 := Scalar.muli v433 c384_i32_556
  let c40_i32_557 : BitVec 32 := 40#32
  let v435 : BitVec 32 := Scalar.addi v434 c40_i32_557
  let c0_i32_559 : BitVec 32 := 0#32
  let c1_i32_561 : BitVec 32 := 1#32
  let arg12 : BitVec 32 := Scf.iv c0_i32_559 c1_i32_561 k0_t78
  let v2062 : BitVec 32 := Scalar.addi v435 arg12
  let c0_i32_2787 : BitVec 32 := 0#32
  ![v2062.toNat, 0]
@[reducible] def k0_t79_loop : Scf.Loop 32 :=
  let c0_i32_564 : BitVec 32 := 0#32
  let c64_i32_565 : BitVec 32 := 64#32
  let v437 : BitVec 32 := Scalar.addi c0_i32_564 c64_i32_565
  let c1_i32_566 : BitVec 32 := 1#32
  ⟨c0_i32_564, v437, c1_i32_566⟩
def k0_off102 (k0_t79 : Fin k0_t79_loop.trips) : Fin 1 → Nat :=
  let c0_i32_564 : BitVec 32 := 0#32
  let c1_i32_566 : BitVec 32 := 1#32
  let arg12 : BitVec 32 := Scf.iv c0_i32_564 c1_i32_566 k0_t79
  let c384_i32_2785 : BitVec 32 := 384#32
  let v2062 : BitVec 32 := Scalar.muli arg12 c384_i32_2785
  ![v2062.toNat]
@[reducible] def k0_t80_loop : Scf.Loop 32 :=
  let c0_i32_572 : BitVec 32 := 0#32
  let c48_i32_573 : BitVec 32 := 48#32
  let v442 : BitVec 32 := Scalar.addi c0_i32_572 c48_i32_573
  let c1_i32_574 : BitVec 32 := 1#32
  ⟨c0_i32_572, v442, c1_i32_574⟩
@[reducible] def k0_t81_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off103 (k0_t80 : Fin k0_t80_loop.trips) (k0_t81 : Fin k0_t81_loop.trips) : Fin 2 → Nat :=
  let c0_i32_572 : BitVec 32 := 0#32
  let c1_i32_574 : BitVec 32 := 1#32
  let arg12 : BitVec 32 := Scf.iv c0_i32_572 c1_i32_574 k0_t80
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t81
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk20 (v2067 : IVec S16 32) : Prop :=
  (∀ a x, ((![v2067] : Fin 1 → IVec S16 32) a x).toNat < S24576.size a)
theorem k0_idx20_inb : ∀ (v2067 : IVec S16 32) (k0_hw20 : k0_chk20 v2067), ∀ a x, ((![v2067] : Fin 1 → IVec S16 32) a x).toNat < S24576.size a := fun v2067 k0_hw20 => k0_hw20
def k0_off104 (k0_t80 : Fin k0_t80_loop.trips) (k0_t81 : Fin k0_t81_loop.trips) : Fin 2 → Nat :=
  let c0_i32_572 : BitVec 32 := 0#32
  let c1_i32_574 : BitVec 32 := 1#32
  let arg12 : BitVec 32 := Scf.iv c0_i32_572 c1_i32_574 k0_t80
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t81
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t82_loop : Scf.Loop 32 :=
  let c0_i32_588 : BitVec 32 := 0#32
  let c64_i32_589 : BitVec 32 := 64#32
  let v457 : BitVec 32 := Scalar.addi c0_i32_588 c64_i32_589
  let c1_i32_590 : BitVec 32 := 1#32
  ⟨c0_i32_588, v457, c1_i32_590⟩
def k0_off105 (k0_t82 : Fin k0_t82_loop.trips) : Fin 1 → Nat :=
  let c0_i32_588 : BitVec 32 := 0#32
  let c1_i32_590 : BitVec 32 := 1#32
  let arg12 : BitVec 32 := Scf.iv c0_i32_588 c1_i32_590 k0_t82
  let c384_i32_2785 : BitVec 32 := 384#32
  let v2063 : BitVec 32 := Scalar.muli arg12 c384_i32_2785
  ![v2063.toNat]
def k0_off106 (i : grid0.Coords) (k0_t82 : Fin k0_t82_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_583 : BitVec 32 := 96#32
  let v452 : BitVec 32 := Scalar.muli v18 c96_i32_583
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_584 : BitVec 32 := 9#32
  let v453 : BitVec 32 := Scalar.addi v29 c9_i32_584
  let v454 : BitVec 32 := Scalar.addi v452 v453
  let c384_i32_585 : BitVec 32 := 384#32
  let v455 : BitVec 32 := Scalar.muli v454 c384_i32_585
  let c40_i32_586 : BitVec 32 := 40#32
  let v456 : BitVec 32 := Scalar.addi v455 c40_i32_586
  let c0_i32_588 : BitVec 32 := 0#32
  let c1_i32_590 : BitVec 32 := 1#32
  let arg12 : BitVec 32 := Scf.iv c0_i32_588 c1_i32_590 k0_t82
  let v2062 : BitVec 32 := Scalar.addi v456 arg12
  let c0_i32_2787 : BitVec 32 := 0#32
  ![v2062.toNat, 0]
@[reducible] def k0_t83_loop : Scf.Loop 32 :=
  let c0_i32_593 : BitVec 32 := 0#32
  let c64_i32_594 : BitVec 32 := 64#32
  let v458 : BitVec 32 := Scalar.addi c0_i32_593 c64_i32_594
  let c1_i32_595 : BitVec 32 := 1#32
  ⟨c0_i32_593, v458, c1_i32_595⟩
def k0_off107 (k0_t83 : Fin k0_t83_loop.trips) : Fin 1 → Nat :=
  let c0_i32_593 : BitVec 32 := 0#32
  let c1_i32_595 : BitVec 32 := 1#32
  let arg12 : BitVec 32 := Scf.iv c0_i32_593 c1_i32_595 k0_t83
  let c384_i32_2785 : BitVec 32 := 384#32
  let v2062 : BitVec 32 := Scalar.muli arg12 c384_i32_2785
  ![v2062.toNat]
@[reducible] def k0_t84_loop : Scf.Loop 32 :=
  let c0_i32_601 : BitVec 32 := 0#32
  let c48_i32_602 : BitVec 32 := 48#32
  let v463 : BitVec 32 := Scalar.addi c0_i32_601 c48_i32_602
  let c1_i32_603 : BitVec 32 := 1#32
  ⟨c0_i32_601, v463, c1_i32_603⟩
@[reducible] def k0_t85_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off108 (k0_t84 : Fin k0_t84_loop.trips) (k0_t85 : Fin k0_t85_loop.trips) : Fin 2 → Nat :=
  let c0_i32_601 : BitVec 32 := 0#32
  let c1_i32_603 : BitVec 32 := 1#32
  let arg12 : BitVec 32 := Scf.iv c0_i32_601 c1_i32_603 k0_t84
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t85
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk21 (v2067 : IVec S16 32) : Prop :=
  (∀ a x, ((![v2067] : Fin 1 → IVec S16 32) a x).toNat < S24576.size a)
theorem k0_idx21_inb : ∀ (v2067 : IVec S16 32) (k0_hw21 : k0_chk21 v2067), ∀ a x, ((![v2067] : Fin 1 → IVec S16 32) a x).toNat < S24576.size a := fun v2067 k0_hw21 => k0_hw21
def k0_off109 (k0_t84 : Fin k0_t84_loop.trips) (k0_t85 : Fin k0_t85_loop.trips) : Fin 2 → Nat :=
  let c0_i32_601 : BitVec 32 := 0#32
  let c1_i32_603 : BitVec 32 := 1#32
  let arg12 : BitVec 32 := Scf.iv c0_i32_601 c1_i32_603 k0_t84
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t85
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t86_loop : Scf.Loop 32 :=
  let c0_i32_617 : BitVec 32 := 0#32
  let c64_i32_618 : BitVec 32 := 64#32
  let v478 : BitVec 32 := Scalar.addi c0_i32_617 c64_i32_618
  let c1_i32_619 : BitVec 32 := 1#32
  ⟨c0_i32_617, v478, c1_i32_619⟩
def k0_off110 (k0_t86 : Fin k0_t86_loop.trips) : Fin 1 → Nat :=
  let c0_i32_617 : BitVec 32 := 0#32
  let c1_i32_619 : BitVec 32 := 1#32
  let arg12 : BitVec 32 := Scf.iv c0_i32_617 c1_i32_619 k0_t86
  let c384_i32_2785 : BitVec 32 := 384#32
  let v2063 : BitVec 32 := Scalar.muli arg12 c384_i32_2785
  ![v2063.toNat]
def k0_off111 (i : grid0.Coords) (k0_t86 : Fin k0_t86_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_612 : BitVec 32 := 96#32
  let v473 : BitVec 32 := Scalar.muli v18 c96_i32_612
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_613 : BitVec 32 := 10#32
  let v474 : BitVec 32 := Scalar.addi v29 c10_i32_613
  let v475 : BitVec 32 := Scalar.addi v473 v474
  let c384_i32_614 : BitVec 32 := 384#32
  let v476 : BitVec 32 := Scalar.muli v475 c384_i32_614
  let c40_i32_615 : BitVec 32 := 40#32
  let v477 : BitVec 32 := Scalar.addi v476 c40_i32_615
  let c0_i32_617 : BitVec 32 := 0#32
  let c1_i32_619 : BitVec 32 := 1#32
  let arg12 : BitVec 32 := Scf.iv c0_i32_617 c1_i32_619 k0_t86
  let v2062 : BitVec 32 := Scalar.addi v477 arg12
  let c0_i32_2787 : BitVec 32 := 0#32
  ![v2062.toNat, 0]
@[reducible] def k0_t87_loop : Scf.Loop 32 :=
  let c0_i32_622 : BitVec 32 := 0#32
  let c64_i32_623 : BitVec 32 := 64#32
  let v479 : BitVec 32 := Scalar.addi c0_i32_622 c64_i32_623
  let c1_i32_624 : BitVec 32 := 1#32
  ⟨c0_i32_622, v479, c1_i32_624⟩
def k0_off112 (k0_t87 : Fin k0_t87_loop.trips) : Fin 1 → Nat :=
  let c0_i32_622 : BitVec 32 := 0#32
  let c1_i32_624 : BitVec 32 := 1#32
  let arg12 : BitVec 32 := Scf.iv c0_i32_622 c1_i32_624 k0_t87
  let c384_i32_2785 : BitVec 32 := 384#32
  let v2062 : BitVec 32 := Scalar.muli arg12 c384_i32_2785
  ![v2062.toNat]
@[reducible] def k0_t88_loop : Scf.Loop 32 :=
  let c0_i32_630 : BitVec 32 := 0#32
  let c48_i32_631 : BitVec 32 := 48#32
  let v484 : BitVec 32 := Scalar.addi c0_i32_630 c48_i32_631
  let c1_i32_632 : BitVec 32 := 1#32
  ⟨c0_i32_630, v484, c1_i32_632⟩
@[reducible] def k0_t89_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off113 (k0_t88 : Fin k0_t88_loop.trips) (k0_t89 : Fin k0_t89_loop.trips) : Fin 2 → Nat :=
  let c0_i32_630 : BitVec 32 := 0#32
  let c1_i32_632 : BitVec 32 := 1#32
  let arg12 : BitVec 32 := Scf.iv c0_i32_630 c1_i32_632 k0_t88
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t89
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk22 (v2067 : IVec S16 32) : Prop :=
  (∀ a x, ((![v2067] : Fin 1 → IVec S16 32) a x).toNat < S24576.size a)
theorem k0_idx22_inb : ∀ (v2067 : IVec S16 32) (k0_hw22 : k0_chk22 v2067), ∀ a x, ((![v2067] : Fin 1 → IVec S16 32) a x).toNat < S24576.size a := fun v2067 k0_hw22 => k0_hw22
def k0_off114 (k0_t88 : Fin k0_t88_loop.trips) (k0_t89 : Fin k0_t89_loop.trips) : Fin 2 → Nat :=
  let c0_i32_630 : BitVec 32 := 0#32
  let c1_i32_632 : BitVec 32 := 1#32
  let arg12 : BitVec 32 := Scf.iv c0_i32_630 c1_i32_632 k0_t88
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t89
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t90_loop : Scf.Loop 32 :=
  let c0_i32_646 : BitVec 32 := 0#32
  let c64_i32_647 : BitVec 32 := 64#32
  let v499 : BitVec 32 := Scalar.addi c0_i32_646 c64_i32_647
  let c1_i32_648 : BitVec 32 := 1#32
  ⟨c0_i32_646, v499, c1_i32_648⟩
def k0_off115 (k0_t90 : Fin k0_t90_loop.trips) : Fin 1 → Nat :=
  let c0_i32_646 : BitVec 32 := 0#32
  let c1_i32_648 : BitVec 32 := 1#32
  let arg12 : BitVec 32 := Scf.iv c0_i32_646 c1_i32_648 k0_t90
  let c384_i32_2785 : BitVec 32 := 384#32
  let v2063 : BitVec 32 := Scalar.muli arg12 c384_i32_2785
  ![v2063.toNat]
def k0_off116 (i : grid0.Coords) (k0_t90 : Fin k0_t90_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_641 : BitVec 32 := 96#32
  let v494 : BitVec 32 := Scalar.muli v18 c96_i32_641
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_642 : BitVec 32 := 11#32
  let v495 : BitVec 32 := Scalar.addi v29 c11_i32_642
  let v496 : BitVec 32 := Scalar.addi v494 v495
  let c384_i32_643 : BitVec 32 := 384#32
  let v497 : BitVec 32 := Scalar.muli v496 c384_i32_643
  let c40_i32_644 : BitVec 32 := 40#32
  let v498 : BitVec 32 := Scalar.addi v497 c40_i32_644
  let c0_i32_646 : BitVec 32 := 0#32
  let c1_i32_648 : BitVec 32 := 1#32
  let arg12 : BitVec 32 := Scf.iv c0_i32_646 c1_i32_648 k0_t90
  let v2062 : BitVec 32 := Scalar.addi v498 arg12
  let c0_i32_2787 : BitVec 32 := 0#32
  ![v2062.toNat, 0]
@[reducible] def k0_t91_loop : Scf.Loop 32 :=
  let c0_i32_651 : BitVec 32 := 0#32
  let c64_i32_652 : BitVec 32 := 64#32
  let v500 : BitVec 32 := Scalar.addi c0_i32_651 c64_i32_652
  let c1_i32_653 : BitVec 32 := 1#32
  ⟨c0_i32_651, v500, c1_i32_653⟩
def k0_off117 (k0_t91 : Fin k0_t91_loop.trips) : Fin 1 → Nat :=
  let c0_i32_651 : BitVec 32 := 0#32
  let c1_i32_653 : BitVec 32 := 1#32
  let arg12 : BitVec 32 := Scf.iv c0_i32_651 c1_i32_653 k0_t91
  let c384_i32_2785 : BitVec 32 := 384#32
  let v2062 : BitVec 32 := Scalar.muli arg12 c384_i32_2785
  ![v2062.toNat]
@[reducible] def k0_t92_loop : Scf.Loop 32 :=
  let c0_i32_659 : BitVec 32 := 0#32
  let c48_i32_660 : BitVec 32 := 48#32
  let v505 : BitVec 32 := Scalar.addi c0_i32_659 c48_i32_660
  let c1_i32_661 : BitVec 32 := 1#32
  ⟨c0_i32_659, v505, c1_i32_661⟩
@[reducible] def k0_t93_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off118 (k0_t92 : Fin k0_t92_loop.trips) (k0_t93 : Fin k0_t93_loop.trips) : Fin 2 → Nat :=
  let c0_i32_659 : BitVec 32 := 0#32
  let c1_i32_661 : BitVec 32 := 1#32
  let arg12 : BitVec 32 := Scf.iv c0_i32_659 c1_i32_661 k0_t92
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t93
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk23 (v2067 : IVec S16 32) : Prop :=
  (∀ a x, ((![v2067] : Fin 1 → IVec S16 32) a x).toNat < S24576.size a)
theorem k0_idx23_inb : ∀ (v2067 : IVec S16 32) (k0_hw23 : k0_chk23 v2067), ∀ a x, ((![v2067] : Fin 1 → IVec S16 32) a x).toNat < S24576.size a := fun v2067 k0_hw23 => k0_hw23
def k0_off119 (k0_t92 : Fin k0_t92_loop.trips) (k0_t93 : Fin k0_t93_loop.trips) : Fin 2 → Nat :=
  let c0_i32_659 : BitVec 32 := 0#32
  let c1_i32_661 : BitVec 32 := 1#32
  let arg12 : BitVec 32 := Scf.iv c0_i32_659 c1_i32_661 k0_t92
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t93
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t94_loop : Scf.Loop 32 :=
  let c0_i32_671 : BitVec 32 := 0#32
  let c64_i32_672 : BitVec 32 := 64#32
  let v515 : BitVec 32 := Scalar.addi c0_i32_671 c64_i32_672
  let c1_i32_673 : BitVec 32 := 1#32
  ⟨c0_i32_671, v515, c1_i32_673⟩
def k0_off120 (k0_t94 : Fin k0_t94_loop.trips) : Fin 1 → Nat :=
  let c0_i32_671 : BitVec 32 := 0#32
  let c1_i32_673 : BitVec 32 := 1#32
  let arg12 : BitVec 32 := Scf.iv c0_i32_671 c1_i32_673 k0_t94
  let c384_i32_2785 : BitVec 32 := 384#32
  let v2062 : BitVec 32 := Scalar.muli arg12 c384_i32_2785
  ![v2062.toNat]
@[reducible] def k0_t95_loop : Scf.Loop 32 :=
  let c0_i32_679 : BitVec 32 := 0#32
  let c48_i32_680 : BitVec 32 := 48#32
  let v520 : BitVec 32 := Scalar.addi c0_i32_679 c48_i32_680
  let c1_i32_681 : BitVec 32 := 1#32
  ⟨c0_i32_679, v520, c1_i32_681⟩
@[reducible] def k0_t96_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off121 (k0_t95 : Fin k0_t95_loop.trips) (k0_t96 : Fin k0_t96_loop.trips) : Fin 2 → Nat :=
  let c0_i32_679 : BitVec 32 := 0#32
  let c1_i32_681 : BitVec 32 := 1#32
  let arg12 : BitVec 32 := Scf.iv c0_i32_679 c1_i32_681 k0_t95
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t96
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk24 (v2067 : IVec S16 32) : Prop :=
  (∀ a x, ((![v2067] : Fin 1 → IVec S16 32) a x).toNat < S24576.size a)
theorem k0_idx24_inb : ∀ (v2067 : IVec S16 32) (k0_hw24 : k0_chk24 v2067), ∀ a x, ((![v2067] : Fin 1 → IVec S16 32) a x).toNat < S24576.size a := fun v2067 k0_hw24 => k0_hw24
def k0_off122 (k0_t95 : Fin k0_t95_loop.trips) (k0_t96 : Fin k0_t96_loop.trips) : Fin 2 → Nat :=
  let c0_i32_679 : BitVec 32 := 0#32
  let c1_i32_681 : BitVec 32 := 1#32
  let arg12 : BitVec 32 := Scf.iv c0_i32_679 c1_i32_681 k0_t95
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t96
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t97_loop : Scf.Loop 32 :=
  let c0_i32_694 : BitVec 32 := 0#32
  let c64_i32_695 : BitVec 32 := 64#32
  let v535 : BitVec 32 := Scalar.addi c0_i32_694 c64_i32_695
  let c1_i32_696 : BitVec 32 := 1#32
  ⟨c0_i32_694, v535, c1_i32_696⟩
def k0_off123 (k0_t97 : Fin k0_t97_loop.trips) : Fin 1 → Nat :=
  let c0_i32_694 : BitVec 32 := 0#32
  let c1_i32_696 : BitVec 32 := 1#32
  let arg12 : BitVec 32 := Scf.iv c0_i32_694 c1_i32_696 k0_t97
  let c384_i32_2785 : BitVec 32 := 384#32
  let v2063 : BitVec 32 := Scalar.muli arg12 c384_i32_2785
  ![v2063.toNat]
def k0_off124 (i : grid0.Coords) (k0_t97 : Fin k0_t97_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_690 : BitVec 32 := 96#32
  let v530 : BitVec 32 := Scalar.muli v18 c96_i32_690
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_691 : BitVec 32 := 0#32
  let v531 : BitVec 32 := Scalar.addi v29 c0_i32_691
  let v532 : BitVec 32 := Scalar.addi v530 v531
  let c384_i32_692 : BitVec 32 := 384#32
  let v533 : BitVec 32 := Scalar.muli v532 c384_i32_692
  let c88_i32 : BitVec 32 := 88#32
  let v534 : BitVec 32 := Scalar.addi v533 c88_i32
  let c0_i32_694 : BitVec 32 := 0#32
  let c1_i32_696 : BitVec 32 := 1#32
  let arg12 : BitVec 32 := Scf.iv c0_i32_694 c1_i32_696 k0_t97
  let v2062 : BitVec 32 := Scalar.addi v534 arg12
  let c0_i32_2787 : BitVec 32 := 0#32
  ![v2062.toNat, 0]
@[reducible] def k0_t98_loop : Scf.Loop 32 :=
  let c0_i32_705 : BitVec 32 := 0#32
  let c64_i32_706 : BitVec 32 := 64#32
  let v543 : BitVec 32 := Scalar.addi c0_i32_705 c64_i32_706
  let c1_i32_707 : BitVec 32 := 1#32
  ⟨c0_i32_705, v543, c1_i32_707⟩
def k0_off125 (k0_t98 : Fin k0_t98_loop.trips) : Fin 1 → Nat :=
  let c0_i32_705 : BitVec 32 := 0#32
  let c1_i32_707 : BitVec 32 := 1#32
  let arg12 : BitVec 32 := Scf.iv c0_i32_705 c1_i32_707 k0_t98
  let c384_i32_2785 : BitVec 32 := 384#32
  let v2063 : BitVec 32 := Scalar.muli arg12 c384_i32_2785
  ![v2063.toNat]
def k0_off126 (i : grid0.Coords) (k0_t98 : Fin k0_t98_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_700 : BitVec 32 := 96#32
  let v538 : BitVec 32 := Scalar.muli v18 c96_i32_700
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_701 : BitVec 32 := 1#32
  let v539 : BitVec 32 := Scalar.addi v29 c1_i32_701
  let v540 : BitVec 32 := Scalar.addi v538 v539
  let c384_i32_702 : BitVec 32 := 384#32
  let v541 : BitVec 32 := Scalar.muli v540 c384_i32_702
  let c88_i32_703 : BitVec 32 := 88#32
  let v542 : BitVec 32 := Scalar.addi v541 c88_i32_703
  let c0_i32_705 : BitVec 32 := 0#32
  let c1_i32_707 : BitVec 32 := 1#32
  let arg12 : BitVec 32 := Scf.iv c0_i32_705 c1_i32_707 k0_t98
  let v2062 : BitVec 32 := Scalar.addi v542 arg12
  let c0_i32_2787 : BitVec 32 := 0#32
  ![v2062.toNat, 0]
@[reducible] def k0_t99_loop : Scf.Loop 32 :=
  let c0_i32_710 : BitVec 32 := 0#32
  let c64_i32_711 : BitVec 32 := 64#32
  let v544 : BitVec 32 := Scalar.addi c0_i32_710 c64_i32_711
  let c1_i32_712 : BitVec 32 := 1#32
  ⟨c0_i32_710, v544, c1_i32_712⟩
def k0_off127 (k0_t99 : Fin k0_t99_loop.trips) : Fin 1 → Nat :=
  let c0_i32_710 : BitVec 32 := 0#32
  let c1_i32_712 : BitVec 32 := 1#32
  let arg12 : BitVec 32 := Scf.iv c0_i32_710 c1_i32_712 k0_t99
  let c384_i32_2785 : BitVec 32 := 384#32
  let v2062 : BitVec 32 := Scalar.muli arg12 c384_i32_2785
  ![v2062.toNat]
@[reducible] def k0_t100_loop : Scf.Loop 32 :=
  let c0_i32_718 : BitVec 32 := 0#32
  let c48_i32_719 : BitVec 32 := 48#32
  let v549 : BitVec 32 := Scalar.addi c0_i32_718 c48_i32_719
  let c1_i32_720 : BitVec 32 := 1#32
  ⟨c0_i32_718, v549, c1_i32_720⟩
@[reducible] def k0_t101_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off128 (k0_t100 : Fin k0_t100_loop.trips) (k0_t101 : Fin k0_t101_loop.trips) : Fin 2 → Nat :=
  let c0_i32_718 : BitVec 32 := 0#32
  let c1_i32_720 : BitVec 32 := 1#32
  let arg12 : BitVec 32 := Scf.iv c0_i32_718 c1_i32_720 k0_t100
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t101
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk25 (v2067 : IVec S16 32) : Prop :=
  (∀ a x, ((![v2067] : Fin 1 → IVec S16 32) a x).toNat < S24576.size a)
theorem k0_idx25_inb : ∀ (v2067 : IVec S16 32) (k0_hw25 : k0_chk25 v2067), ∀ a x, ((![v2067] : Fin 1 → IVec S16 32) a x).toNat < S24576.size a := fun v2067 k0_hw25 => k0_hw25
def k0_off129 (k0_t100 : Fin k0_t100_loop.trips) (k0_t101 : Fin k0_t101_loop.trips) : Fin 2 → Nat :=
  let c0_i32_718 : BitVec 32 := 0#32
  let c1_i32_720 : BitVec 32 := 1#32
  let arg12 : BitVec 32 := Scf.iv c0_i32_718 c1_i32_720 k0_t100
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t101
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t102_loop : Scf.Loop 32 :=
  let c0_i32_734 : BitVec 32 := 0#32
  let c64_i32_735 : BitVec 32 := 64#32
  let v564 : BitVec 32 := Scalar.addi c0_i32_734 c64_i32_735
  let c1_i32_736 : BitVec 32 := 1#32
  ⟨c0_i32_734, v564, c1_i32_736⟩
def k0_off130 (k0_t102 : Fin k0_t102_loop.trips) : Fin 1 → Nat :=
  let c0_i32_734 : BitVec 32 := 0#32
  let c1_i32_736 : BitVec 32 := 1#32
  let arg12 : BitVec 32 := Scf.iv c0_i32_734 c1_i32_736 k0_t102
  let c384_i32_2785 : BitVec 32 := 384#32
  let v2063 : BitVec 32 := Scalar.muli arg12 c384_i32_2785
  ![v2063.toNat]
def k0_off131 (i : grid0.Coords) (k0_t102 : Fin k0_t102_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_729 : BitVec 32 := 96#32
  let v559 : BitVec 32 := Scalar.muli v18 c96_i32_729
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_730 : BitVec 32 := 2#32
  let v560 : BitVec 32 := Scalar.addi v29 c2_i32_730
  let v561 : BitVec 32 := Scalar.addi v559 v560
  let c384_i32_731 : BitVec 32 := 384#32
  let v562 : BitVec 32 := Scalar.muli v561 c384_i32_731
  let c88_i32_732 : BitVec 32 := 88#32
  let v563 : BitVec 32 := Scalar.addi v562 c88_i32_732
  let c0_i32_734 : BitVec 32 := 0#32
  let c1_i32_736 : BitVec 32 := 1#32
  let arg12 : BitVec 32 := Scf.iv c0_i32_734 c1_i32_736 k0_t102
  let v2062 : BitVec 32 := Scalar.addi v563 arg12
  let c0_i32_2787 : BitVec 32 := 0#32
  ![v2062.toNat, 0]
@[reducible] def k0_t103_loop : Scf.Loop 32 :=
  let c0_i32_739 : BitVec 32 := 0#32
  let c64_i32_740 : BitVec 32 := 64#32
  let v565 : BitVec 32 := Scalar.addi c0_i32_739 c64_i32_740
  let c1_i32_741 : BitVec 32 := 1#32
  ⟨c0_i32_739, v565, c1_i32_741⟩
def k0_off132 (k0_t103 : Fin k0_t103_loop.trips) : Fin 1 → Nat :=
  let c0_i32_739 : BitVec 32 := 0#32
  let c1_i32_741 : BitVec 32 := 1#32
  let arg12 : BitVec 32 := Scf.iv c0_i32_739 c1_i32_741 k0_t103
  let c384_i32_2785 : BitVec 32 := 384#32
  let v2062 : BitVec 32 := Scalar.muli arg12 c384_i32_2785
  ![v2062.toNat]
@[reducible] def k0_t104_loop : Scf.Loop 32 :=
  let c0_i32_747 : BitVec 32 := 0#32
  let c48_i32_748 : BitVec 32 := 48#32
  let v570 : BitVec 32 := Scalar.addi c0_i32_747 c48_i32_748
  let c1_i32_749 : BitVec 32 := 1#32
  ⟨c0_i32_747, v570, c1_i32_749⟩
@[reducible] def k0_t105_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off133 (k0_t104 : Fin k0_t104_loop.trips) (k0_t105 : Fin k0_t105_loop.trips) : Fin 2 → Nat :=
  let c0_i32_747 : BitVec 32 := 0#32
  let c1_i32_749 : BitVec 32 := 1#32
  let arg12 : BitVec 32 := Scf.iv c0_i32_747 c1_i32_749 k0_t104
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t105
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk26 (v2067 : IVec S16 32) : Prop :=
  (∀ a x, ((![v2067] : Fin 1 → IVec S16 32) a x).toNat < S24576.size a)
theorem k0_idx26_inb : ∀ (v2067 : IVec S16 32) (k0_hw26 : k0_chk26 v2067), ∀ a x, ((![v2067] : Fin 1 → IVec S16 32) a x).toNat < S24576.size a := fun v2067 k0_hw26 => k0_hw26
def k0_off134 (k0_t104 : Fin k0_t104_loop.trips) (k0_t105 : Fin k0_t105_loop.trips) : Fin 2 → Nat :=
  let c0_i32_747 : BitVec 32 := 0#32
  let c1_i32_749 : BitVec 32 := 1#32
  let arg12 : BitVec 32 := Scf.iv c0_i32_747 c1_i32_749 k0_t104
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t105
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t106_loop : Scf.Loop 32 :=
  let c0_i32_763 : BitVec 32 := 0#32
  let c64_i32_764 : BitVec 32 := 64#32
  let v585 : BitVec 32 := Scalar.addi c0_i32_763 c64_i32_764
  let c1_i32_765 : BitVec 32 := 1#32
  ⟨c0_i32_763, v585, c1_i32_765⟩
def k0_off135 (k0_t106 : Fin k0_t106_loop.trips) : Fin 1 → Nat :=
  let c0_i32_763 : BitVec 32 := 0#32
  let c1_i32_765 : BitVec 32 := 1#32
  let arg12 : BitVec 32 := Scf.iv c0_i32_763 c1_i32_765 k0_t106
  let c384_i32_2785 : BitVec 32 := 384#32
  let v2063 : BitVec 32 := Scalar.muli arg12 c384_i32_2785
  ![v2063.toNat]
def k0_off136 (i : grid0.Coords) (k0_t106 : Fin k0_t106_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_758 : BitVec 32 := 96#32
  let v580 : BitVec 32 := Scalar.muli v18 c96_i32_758
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_759 : BitVec 32 := 3#32
  let v581 : BitVec 32 := Scalar.addi v29 c3_i32_759
  let v582 : BitVec 32 := Scalar.addi v580 v581
  let c384_i32_760 : BitVec 32 := 384#32
  let v583 : BitVec 32 := Scalar.muli v582 c384_i32_760
  let c88_i32_761 : BitVec 32 := 88#32
  let v584 : BitVec 32 := Scalar.addi v583 c88_i32_761
  let c0_i32_763 : BitVec 32 := 0#32
  let c1_i32_765 : BitVec 32 := 1#32
  let arg12 : BitVec 32 := Scf.iv c0_i32_763 c1_i32_765 k0_t106
  let v2062 : BitVec 32 := Scalar.addi v584 arg12
  let c0_i32_2787 : BitVec 32 := 0#32
  ![v2062.toNat, 0]
@[reducible] def k0_t107_loop : Scf.Loop 32 :=
  let c0_i32_768 : BitVec 32 := 0#32
  let c64_i32_769 : BitVec 32 := 64#32
  let v586 : BitVec 32 := Scalar.addi c0_i32_768 c64_i32_769
  let c1_i32_770 : BitVec 32 := 1#32
  ⟨c0_i32_768, v586, c1_i32_770⟩
def k0_off137 (k0_t107 : Fin k0_t107_loop.trips) : Fin 1 → Nat :=
  let c0_i32_768 : BitVec 32 := 0#32
  let c1_i32_770 : BitVec 32 := 1#32
  let arg12 : BitVec 32 := Scf.iv c0_i32_768 c1_i32_770 k0_t107
  let c384_i32_2785 : BitVec 32 := 384#32
  let v2062 : BitVec 32 := Scalar.muli arg12 c384_i32_2785
  ![v2062.toNat]
@[reducible] def k0_t108_loop : Scf.Loop 32 :=
  let c0_i32_776 : BitVec 32 := 0#32
  let c48_i32_777 : BitVec 32 := 48#32
  let v591 : BitVec 32 := Scalar.addi c0_i32_776 c48_i32_777
  let c1_i32_778 : BitVec 32 := 1#32
  ⟨c0_i32_776, v591, c1_i32_778⟩
@[reducible] def k0_t109_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off138 (k0_t108 : Fin k0_t108_loop.trips) (k0_t109 : Fin k0_t109_loop.trips) : Fin 2 → Nat :=
  let c0_i32_776 : BitVec 32 := 0#32
  let c1_i32_778 : BitVec 32 := 1#32
  let arg12 : BitVec 32 := Scf.iv c0_i32_776 c1_i32_778 k0_t108
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t109
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk27 (v2067 : IVec S16 32) : Prop :=
  (∀ a x, ((![v2067] : Fin 1 → IVec S16 32) a x).toNat < S24576.size a)
theorem k0_idx27_inb : ∀ (v2067 : IVec S16 32) (k0_hw27 : k0_chk27 v2067), ∀ a x, ((![v2067] : Fin 1 → IVec S16 32) a x).toNat < S24576.size a := fun v2067 k0_hw27 => k0_hw27
def k0_off139 (k0_t108 : Fin k0_t108_loop.trips) (k0_t109 : Fin k0_t109_loop.trips) : Fin 2 → Nat :=
  let c0_i32_776 : BitVec 32 := 0#32
  let c1_i32_778 : BitVec 32 := 1#32
  let arg12 : BitVec 32 := Scf.iv c0_i32_776 c1_i32_778 k0_t108
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t109
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t110_loop : Scf.Loop 32 :=
  let c0_i32_792 : BitVec 32 := 0#32
  let c64_i32_793 : BitVec 32 := 64#32
  let v606 : BitVec 32 := Scalar.addi c0_i32_792 c64_i32_793
  let c1_i32_794 : BitVec 32 := 1#32
  ⟨c0_i32_792, v606, c1_i32_794⟩
def k0_off140 (k0_t110 : Fin k0_t110_loop.trips) : Fin 1 → Nat :=
  let c0_i32_792 : BitVec 32 := 0#32
  let c1_i32_794 : BitVec 32 := 1#32
  let arg12 : BitVec 32 := Scf.iv c0_i32_792 c1_i32_794 k0_t110
  let c384_i32_2785 : BitVec 32 := 384#32
  let v2063 : BitVec 32 := Scalar.muli arg12 c384_i32_2785
  ![v2063.toNat]
def k0_off141 (i : grid0.Coords) (k0_t110 : Fin k0_t110_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_787 : BitVec 32 := 96#32
  let v601 : BitVec 32 := Scalar.muli v18 c96_i32_787
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_788 : BitVec 32 := 4#32
  let v602 : BitVec 32 := Scalar.addi v29 c4_i32_788
  let v603 : BitVec 32 := Scalar.addi v601 v602
  let c384_i32_789 : BitVec 32 := 384#32
  let v604 : BitVec 32 := Scalar.muli v603 c384_i32_789
  let c88_i32_790 : BitVec 32 := 88#32
  let v605 : BitVec 32 := Scalar.addi v604 c88_i32_790
  let c0_i32_792 : BitVec 32 := 0#32
  let c1_i32_794 : BitVec 32 := 1#32
  let arg12 : BitVec 32 := Scf.iv c0_i32_792 c1_i32_794 k0_t110
  let v2062 : BitVec 32 := Scalar.addi v605 arg12
  let c0_i32_2787 : BitVec 32 := 0#32
  ![v2062.toNat, 0]
@[reducible] def k0_t111_loop : Scf.Loop 32 :=
  let c0_i32_797 : BitVec 32 := 0#32
  let c64_i32_798 : BitVec 32 := 64#32
  let v607 : BitVec 32 := Scalar.addi c0_i32_797 c64_i32_798
  let c1_i32_799 : BitVec 32 := 1#32
  ⟨c0_i32_797, v607, c1_i32_799⟩
def k0_off142 (k0_t111 : Fin k0_t111_loop.trips) : Fin 1 → Nat :=
  let c0_i32_797 : BitVec 32 := 0#32
  let c1_i32_799 : BitVec 32 := 1#32
  let arg12 : BitVec 32 := Scf.iv c0_i32_797 c1_i32_799 k0_t111
  let c384_i32_2785 : BitVec 32 := 384#32
  let v2062 : BitVec 32 := Scalar.muli arg12 c384_i32_2785
  ![v2062.toNat]
@[reducible] def k0_t112_loop : Scf.Loop 32 :=
  let c0_i32_805 : BitVec 32 := 0#32
  let c48_i32_806 : BitVec 32 := 48#32
  let v612 : BitVec 32 := Scalar.addi c0_i32_805 c48_i32_806
  let c1_i32_807 : BitVec 32 := 1#32
  ⟨c0_i32_805, v612, c1_i32_807⟩
@[reducible] def k0_t113_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off143 (k0_t112 : Fin k0_t112_loop.trips) (k0_t113 : Fin k0_t113_loop.trips) : Fin 2 → Nat :=
  let c0_i32_805 : BitVec 32 := 0#32
  let c1_i32_807 : BitVec 32 := 1#32
  let arg12 : BitVec 32 := Scf.iv c0_i32_805 c1_i32_807 k0_t112
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t113
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk28 (v2067 : IVec S16 32) : Prop :=
  (∀ a x, ((![v2067] : Fin 1 → IVec S16 32) a x).toNat < S24576.size a)
theorem k0_idx28_inb : ∀ (v2067 : IVec S16 32) (k0_hw28 : k0_chk28 v2067), ∀ a x, ((![v2067] : Fin 1 → IVec S16 32) a x).toNat < S24576.size a := fun v2067 k0_hw28 => k0_hw28
def k0_off144 (k0_t112 : Fin k0_t112_loop.trips) (k0_t113 : Fin k0_t113_loop.trips) : Fin 2 → Nat :=
  let c0_i32_805 : BitVec 32 := 0#32
  let c1_i32_807 : BitVec 32 := 1#32
  let arg12 : BitVec 32 := Scf.iv c0_i32_805 c1_i32_807 k0_t112
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t113
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t114_loop : Scf.Loop 32 :=
  let c0_i32_821 : BitVec 32 := 0#32
  let c64_i32_822 : BitVec 32 := 64#32
  let v627 : BitVec 32 := Scalar.addi c0_i32_821 c64_i32_822
  let c1_i32_823 : BitVec 32 := 1#32
  ⟨c0_i32_821, v627, c1_i32_823⟩
def k0_off145 (k0_t114 : Fin k0_t114_loop.trips) : Fin 1 → Nat :=
  let c0_i32_821 : BitVec 32 := 0#32
  let c1_i32_823 : BitVec 32 := 1#32
  let arg12 : BitVec 32 := Scf.iv c0_i32_821 c1_i32_823 k0_t114
  let c384_i32_2785 : BitVec 32 := 384#32
  let v2063 : BitVec 32 := Scalar.muli arg12 c384_i32_2785
  ![v2063.toNat]
def k0_off146 (i : grid0.Coords) (k0_t114 : Fin k0_t114_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_816 : BitVec 32 := 96#32
  let v622 : BitVec 32 := Scalar.muli v18 c96_i32_816
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_817 : BitVec 32 := 5#32
  let v623 : BitVec 32 := Scalar.addi v29 c5_i32_817
  let v624 : BitVec 32 := Scalar.addi v622 v623
  let c384_i32_818 : BitVec 32 := 384#32
  let v625 : BitVec 32 := Scalar.muli v624 c384_i32_818
  let c88_i32_819 : BitVec 32 := 88#32
  let v626 : BitVec 32 := Scalar.addi v625 c88_i32_819
  let c0_i32_821 : BitVec 32 := 0#32
  let c1_i32_823 : BitVec 32 := 1#32
  let arg12 : BitVec 32 := Scf.iv c0_i32_821 c1_i32_823 k0_t114
  let v2062 : BitVec 32 := Scalar.addi v626 arg12
  let c0_i32_2787 : BitVec 32 := 0#32
  ![v2062.toNat, 0]
@[reducible] def k0_t115_loop : Scf.Loop 32 :=
  let c0_i32_826 : BitVec 32 := 0#32
  let c64_i32_827 : BitVec 32 := 64#32
  let v628 : BitVec 32 := Scalar.addi c0_i32_826 c64_i32_827
  let c1_i32_828 : BitVec 32 := 1#32
  ⟨c0_i32_826, v628, c1_i32_828⟩
def k0_off147 (k0_t115 : Fin k0_t115_loop.trips) : Fin 1 → Nat :=
  let c0_i32_826 : BitVec 32 := 0#32
  let c1_i32_828 : BitVec 32 := 1#32
  let arg12 : BitVec 32 := Scf.iv c0_i32_826 c1_i32_828 k0_t115
  let c384_i32_2785 : BitVec 32 := 384#32
  let v2062 : BitVec 32 := Scalar.muli arg12 c384_i32_2785
  ![v2062.toNat]
@[reducible] def k0_t116_loop : Scf.Loop 32 :=
  let c0_i32_834 : BitVec 32 := 0#32
  let c48_i32_835 : BitVec 32 := 48#32
  let v633 : BitVec 32 := Scalar.addi c0_i32_834 c48_i32_835
  let c1_i32_836 : BitVec 32 := 1#32
  ⟨c0_i32_834, v633, c1_i32_836⟩
@[reducible] def k0_t117_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off148 (k0_t116 : Fin k0_t116_loop.trips) (k0_t117 : Fin k0_t117_loop.trips) : Fin 2 → Nat :=
  let c0_i32_834 : BitVec 32 := 0#32
  let c1_i32_836 : BitVec 32 := 1#32
  let arg12 : BitVec 32 := Scf.iv c0_i32_834 c1_i32_836 k0_t116
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t117
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk29 (v2067 : IVec S16 32) : Prop :=
  (∀ a x, ((![v2067] : Fin 1 → IVec S16 32) a x).toNat < S24576.size a)
theorem k0_idx29_inb : ∀ (v2067 : IVec S16 32) (k0_hw29 : k0_chk29 v2067), ∀ a x, ((![v2067] : Fin 1 → IVec S16 32) a x).toNat < S24576.size a := fun v2067 k0_hw29 => k0_hw29
def k0_off149 (k0_t116 : Fin k0_t116_loop.trips) (k0_t117 : Fin k0_t117_loop.trips) : Fin 2 → Nat :=
  let c0_i32_834 : BitVec 32 := 0#32
  let c1_i32_836 : BitVec 32 := 1#32
  let arg12 : BitVec 32 := Scf.iv c0_i32_834 c1_i32_836 k0_t116
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t117
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t118_loop : Scf.Loop 32 :=
  let c0_i32_850 : BitVec 32 := 0#32
  let c64_i32_851 : BitVec 32 := 64#32
  let v648 : BitVec 32 := Scalar.addi c0_i32_850 c64_i32_851
  let c1_i32_852 : BitVec 32 := 1#32
  ⟨c0_i32_850, v648, c1_i32_852⟩
def k0_off150 (k0_t118 : Fin k0_t118_loop.trips) : Fin 1 → Nat :=
  let c0_i32_850 : BitVec 32 := 0#32
  let c1_i32_852 : BitVec 32 := 1#32
  let arg12 : BitVec 32 := Scf.iv c0_i32_850 c1_i32_852 k0_t118
  let c384_i32_2785 : BitVec 32 := 384#32
  let v2063 : BitVec 32 := Scalar.muli arg12 c384_i32_2785
  ![v2063.toNat]
def k0_off151 (i : grid0.Coords) (k0_t118 : Fin k0_t118_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_845 : BitVec 32 := 96#32
  let v643 : BitVec 32 := Scalar.muli v18 c96_i32_845
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_846 : BitVec 32 := 6#32
  let v644 : BitVec 32 := Scalar.addi v29 c6_i32_846
  let v645 : BitVec 32 := Scalar.addi v643 v644
  let c384_i32_847 : BitVec 32 := 384#32
  let v646 : BitVec 32 := Scalar.muli v645 c384_i32_847
  let c88_i32_848 : BitVec 32 := 88#32
  let v647 : BitVec 32 := Scalar.addi v646 c88_i32_848
  let c0_i32_850 : BitVec 32 := 0#32
  let c1_i32_852 : BitVec 32 := 1#32
  let arg12 : BitVec 32 := Scf.iv c0_i32_850 c1_i32_852 k0_t118
  let v2062 : BitVec 32 := Scalar.addi v647 arg12
  let c0_i32_2787 : BitVec 32 := 0#32
  ![v2062.toNat, 0]
@[reducible] def k0_t119_loop : Scf.Loop 32 :=
  let c0_i32_855 : BitVec 32 := 0#32
  let c64_i32_856 : BitVec 32 := 64#32
  let v649 : BitVec 32 := Scalar.addi c0_i32_855 c64_i32_856
  let c1_i32_857 : BitVec 32 := 1#32
  ⟨c0_i32_855, v649, c1_i32_857⟩
def k0_off152 (k0_t119 : Fin k0_t119_loop.trips) : Fin 1 → Nat :=
  let c0_i32_855 : BitVec 32 := 0#32
  let c1_i32_857 : BitVec 32 := 1#32
  let arg12 : BitVec 32 := Scf.iv c0_i32_855 c1_i32_857 k0_t119
  let c384_i32_2785 : BitVec 32 := 384#32
  let v2062 : BitVec 32 := Scalar.muli arg12 c384_i32_2785
  ![v2062.toNat]
@[reducible] def k0_t120_loop : Scf.Loop 32 :=
  let c0_i32_863 : BitVec 32 := 0#32
  let c48_i32_864 : BitVec 32 := 48#32
  let v654 : BitVec 32 := Scalar.addi c0_i32_863 c48_i32_864
  let c1_i32_865 : BitVec 32 := 1#32
  ⟨c0_i32_863, v654, c1_i32_865⟩
@[reducible] def k0_t121_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off153 (k0_t120 : Fin k0_t120_loop.trips) (k0_t121 : Fin k0_t121_loop.trips) : Fin 2 → Nat :=
  let c0_i32_863 : BitVec 32 := 0#32
  let c1_i32_865 : BitVec 32 := 1#32
  let arg12 : BitVec 32 := Scf.iv c0_i32_863 c1_i32_865 k0_t120
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t121
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk30 (v2067 : IVec S16 32) : Prop :=
  (∀ a x, ((![v2067] : Fin 1 → IVec S16 32) a x).toNat < S24576.size a)
theorem k0_idx30_inb : ∀ (v2067 : IVec S16 32) (k0_hw30 : k0_chk30 v2067), ∀ a x, ((![v2067] : Fin 1 → IVec S16 32) a x).toNat < S24576.size a := fun v2067 k0_hw30 => k0_hw30
def k0_off154 (k0_t120 : Fin k0_t120_loop.trips) (k0_t121 : Fin k0_t121_loop.trips) : Fin 2 → Nat :=
  let c0_i32_863 : BitVec 32 := 0#32
  let c1_i32_865 : BitVec 32 := 1#32
  let arg12 : BitVec 32 := Scf.iv c0_i32_863 c1_i32_865 k0_t120
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t121
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t122_loop : Scf.Loop 32 :=
  let c0_i32_879 : BitVec 32 := 0#32
  let c64_i32_880 : BitVec 32 := 64#32
  let v669 : BitVec 32 := Scalar.addi c0_i32_879 c64_i32_880
  let c1_i32_881 : BitVec 32 := 1#32
  ⟨c0_i32_879, v669, c1_i32_881⟩
def k0_off155 (k0_t122 : Fin k0_t122_loop.trips) : Fin 1 → Nat :=
  let c0_i32_879 : BitVec 32 := 0#32
  let c1_i32_881 : BitVec 32 := 1#32
  let arg12 : BitVec 32 := Scf.iv c0_i32_879 c1_i32_881 k0_t122
  let c384_i32_2785 : BitVec 32 := 384#32
  let v2063 : BitVec 32 := Scalar.muli arg12 c384_i32_2785
  ![v2063.toNat]
def k0_off156 (i : grid0.Coords) (k0_t122 : Fin k0_t122_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_874 : BitVec 32 := 96#32
  let v664 : BitVec 32 := Scalar.muli v18 c96_i32_874
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_875 : BitVec 32 := 7#32
  let v665 : BitVec 32 := Scalar.addi v29 c7_i32_875
  let v666 : BitVec 32 := Scalar.addi v664 v665
  let c384_i32_876 : BitVec 32 := 384#32
  let v667 : BitVec 32 := Scalar.muli v666 c384_i32_876
  let c88_i32_877 : BitVec 32 := 88#32
  let v668 : BitVec 32 := Scalar.addi v667 c88_i32_877
  let c0_i32_879 : BitVec 32 := 0#32
  let c1_i32_881 : BitVec 32 := 1#32
  let arg12 : BitVec 32 := Scf.iv c0_i32_879 c1_i32_881 k0_t122
  let v2062 : BitVec 32 := Scalar.addi v668 arg12
  let c0_i32_2787 : BitVec 32 := 0#32
  ![v2062.toNat, 0]
@[reducible] def k0_t123_loop : Scf.Loop 32 :=
  let c0_i32_884 : BitVec 32 := 0#32
  let c64_i32_885 : BitVec 32 := 64#32
  let v670 : BitVec 32 := Scalar.addi c0_i32_884 c64_i32_885
  let c1_i32_886 : BitVec 32 := 1#32
  ⟨c0_i32_884, v670, c1_i32_886⟩
def k0_off157 (k0_t123 : Fin k0_t123_loop.trips) : Fin 1 → Nat :=
  let c0_i32_884 : BitVec 32 := 0#32
  let c1_i32_886 : BitVec 32 := 1#32
  let arg12 : BitVec 32 := Scf.iv c0_i32_884 c1_i32_886 k0_t123
  let c384_i32_2785 : BitVec 32 := 384#32
  let v2062 : BitVec 32 := Scalar.muli arg12 c384_i32_2785
  ![v2062.toNat]
@[reducible] def k0_t124_loop : Scf.Loop 32 :=
  let c0_i32_892 : BitVec 32 := 0#32
  let c48_i32_893 : BitVec 32 := 48#32
  let v675 : BitVec 32 := Scalar.addi c0_i32_892 c48_i32_893
  let c1_i32_894 : BitVec 32 := 1#32
  ⟨c0_i32_892, v675, c1_i32_894⟩
@[reducible] def k0_t125_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off158 (k0_t124 : Fin k0_t124_loop.trips) (k0_t125 : Fin k0_t125_loop.trips) : Fin 2 → Nat :=
  let c0_i32_892 : BitVec 32 := 0#32
  let c1_i32_894 : BitVec 32 := 1#32
  let arg12 : BitVec 32 := Scf.iv c0_i32_892 c1_i32_894 k0_t124
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t125
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk31 (v2067 : IVec S16 32) : Prop :=
  (∀ a x, ((![v2067] : Fin 1 → IVec S16 32) a x).toNat < S24576.size a)
theorem k0_idx31_inb : ∀ (v2067 : IVec S16 32) (k0_hw31 : k0_chk31 v2067), ∀ a x, ((![v2067] : Fin 1 → IVec S16 32) a x).toNat < S24576.size a := fun v2067 k0_hw31 => k0_hw31
def k0_off159 (k0_t124 : Fin k0_t124_loop.trips) (k0_t125 : Fin k0_t125_loop.trips) : Fin 2 → Nat :=
  let c0_i32_892 : BitVec 32 := 0#32
  let c1_i32_894 : BitVec 32 := 1#32
  let arg12 : BitVec 32 := Scf.iv c0_i32_892 c1_i32_894 k0_t124
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t125
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t126_loop : Scf.Loop 32 :=
  let c0_i32_908 : BitVec 32 := 0#32
  let c64_i32_909 : BitVec 32 := 64#32
  let v690 : BitVec 32 := Scalar.addi c0_i32_908 c64_i32_909
  let c1_i32_910 : BitVec 32 := 1#32
  ⟨c0_i32_908, v690, c1_i32_910⟩
def k0_off160 (k0_t126 : Fin k0_t126_loop.trips) : Fin 1 → Nat :=
  let c0_i32_908 : BitVec 32 := 0#32
  let c1_i32_910 : BitVec 32 := 1#32
  let arg12 : BitVec 32 := Scf.iv c0_i32_908 c1_i32_910 k0_t126
  let c384_i32_2785 : BitVec 32 := 384#32
  let v2063 : BitVec 32 := Scalar.muli arg12 c384_i32_2785
  ![v2063.toNat]
def k0_off161 (i : grid0.Coords) (k0_t126 : Fin k0_t126_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_903 : BitVec 32 := 96#32
  let v685 : BitVec 32 := Scalar.muli v18 c96_i32_903
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_904 : BitVec 32 := 8#32
  let v686 : BitVec 32 := Scalar.addi v29 c8_i32_904
  let v687 : BitVec 32 := Scalar.addi v685 v686
  let c384_i32_905 : BitVec 32 := 384#32
  let v688 : BitVec 32 := Scalar.muli v687 c384_i32_905
  let c88_i32_906 : BitVec 32 := 88#32
  let v689 : BitVec 32 := Scalar.addi v688 c88_i32_906
  let c0_i32_908 : BitVec 32 := 0#32
  let c1_i32_910 : BitVec 32 := 1#32
  let arg12 : BitVec 32 := Scf.iv c0_i32_908 c1_i32_910 k0_t126
  let v2062 : BitVec 32 := Scalar.addi v689 arg12
  let c0_i32_2787 : BitVec 32 := 0#32
  ![v2062.toNat, 0]
@[reducible] def k0_t127_loop : Scf.Loop 32 :=
  let c0_i32_913 : BitVec 32 := 0#32
  let c64_i32_914 : BitVec 32 := 64#32
  let v691 : BitVec 32 := Scalar.addi c0_i32_913 c64_i32_914
  let c1_i32_915 : BitVec 32 := 1#32
  ⟨c0_i32_913, v691, c1_i32_915⟩
def k0_off162 (k0_t127 : Fin k0_t127_loop.trips) : Fin 1 → Nat :=
  let c0_i32_913 : BitVec 32 := 0#32
  let c1_i32_915 : BitVec 32 := 1#32
  let arg12 : BitVec 32 := Scf.iv c0_i32_913 c1_i32_915 k0_t127
  let c384_i32_2785 : BitVec 32 := 384#32
  let v2062 : BitVec 32 := Scalar.muli arg12 c384_i32_2785
  ![v2062.toNat]
@[reducible] def k0_t128_loop : Scf.Loop 32 :=
  let c0_i32_921 : BitVec 32 := 0#32
  let c48_i32_922 : BitVec 32 := 48#32
  let v696 : BitVec 32 := Scalar.addi c0_i32_921 c48_i32_922
  let c1_i32_923 : BitVec 32 := 1#32
  ⟨c0_i32_921, v696, c1_i32_923⟩
@[reducible] def k0_t129_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off163 (k0_t128 : Fin k0_t128_loop.trips) (k0_t129 : Fin k0_t129_loop.trips) : Fin 2 → Nat :=
  let c0_i32_921 : BitVec 32 := 0#32
  let c1_i32_923 : BitVec 32 := 1#32
  let arg12 : BitVec 32 := Scf.iv c0_i32_921 c1_i32_923 k0_t128
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t129
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk32 (v2067 : IVec S16 32) : Prop :=
  (∀ a x, ((![v2067] : Fin 1 → IVec S16 32) a x).toNat < S24576.size a)
theorem k0_idx32_inb : ∀ (v2067 : IVec S16 32) (k0_hw32 : k0_chk32 v2067), ∀ a x, ((![v2067] : Fin 1 → IVec S16 32) a x).toNat < S24576.size a := fun v2067 k0_hw32 => k0_hw32
def k0_off164 (k0_t128 : Fin k0_t128_loop.trips) (k0_t129 : Fin k0_t129_loop.trips) : Fin 2 → Nat :=
  let c0_i32_921 : BitVec 32 := 0#32
  let c1_i32_923 : BitVec 32 := 1#32
  let arg12 : BitVec 32 := Scf.iv c0_i32_921 c1_i32_923 k0_t128
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t129
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t130_loop : Scf.Loop 32 :=
  let c0_i32_937 : BitVec 32 := 0#32
  let c64_i32_938 : BitVec 32 := 64#32
  let v711 : BitVec 32 := Scalar.addi c0_i32_937 c64_i32_938
  let c1_i32_939 : BitVec 32 := 1#32
  ⟨c0_i32_937, v711, c1_i32_939⟩
def k0_off165 (k0_t130 : Fin k0_t130_loop.trips) : Fin 1 → Nat :=
  let c0_i32_937 : BitVec 32 := 0#32
  let c1_i32_939 : BitVec 32 := 1#32
  let arg12 : BitVec 32 := Scf.iv c0_i32_937 c1_i32_939 k0_t130
  let c384_i32_2785 : BitVec 32 := 384#32
  let v2063 : BitVec 32 := Scalar.muli arg12 c384_i32_2785
  ![v2063.toNat]
def k0_off166 (i : grid0.Coords) (k0_t130 : Fin k0_t130_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_932 : BitVec 32 := 96#32
  let v706 : BitVec 32 := Scalar.muli v18 c96_i32_932
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_933 : BitVec 32 := 9#32
  let v707 : BitVec 32 := Scalar.addi v29 c9_i32_933
  let v708 : BitVec 32 := Scalar.addi v706 v707
  let c384_i32_934 : BitVec 32 := 384#32
  let v709 : BitVec 32 := Scalar.muli v708 c384_i32_934
  let c88_i32_935 : BitVec 32 := 88#32
  let v710 : BitVec 32 := Scalar.addi v709 c88_i32_935
  let c0_i32_937 : BitVec 32 := 0#32
  let c1_i32_939 : BitVec 32 := 1#32
  let arg12 : BitVec 32 := Scf.iv c0_i32_937 c1_i32_939 k0_t130
  let v2062 : BitVec 32 := Scalar.addi v710 arg12
  let c0_i32_2787 : BitVec 32 := 0#32
  ![v2062.toNat, 0]
@[reducible] def k0_t131_loop : Scf.Loop 32 :=
  let c0_i32_942 : BitVec 32 := 0#32
  let c64_i32_943 : BitVec 32 := 64#32
  let v712 : BitVec 32 := Scalar.addi c0_i32_942 c64_i32_943
  let c1_i32_944 : BitVec 32 := 1#32
  ⟨c0_i32_942, v712, c1_i32_944⟩
def k0_off167 (k0_t131 : Fin k0_t131_loop.trips) : Fin 1 → Nat :=
  let c0_i32_942 : BitVec 32 := 0#32
  let c1_i32_944 : BitVec 32 := 1#32
  let arg12 : BitVec 32 := Scf.iv c0_i32_942 c1_i32_944 k0_t131
  let c384_i32_2785 : BitVec 32 := 384#32
  let v2062 : BitVec 32 := Scalar.muli arg12 c384_i32_2785
  ![v2062.toNat]
@[reducible] def k0_t132_loop : Scf.Loop 32 :=
  let c0_i32_950 : BitVec 32 := 0#32
  let c48_i32_951 : BitVec 32 := 48#32
  let v717 : BitVec 32 := Scalar.addi c0_i32_950 c48_i32_951
  let c1_i32_952 : BitVec 32 := 1#32
  ⟨c0_i32_950, v717, c1_i32_952⟩
@[reducible] def k0_t133_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off168 (k0_t132 : Fin k0_t132_loop.trips) (k0_t133 : Fin k0_t133_loop.trips) : Fin 2 → Nat :=
  let c0_i32_950 : BitVec 32 := 0#32
  let c1_i32_952 : BitVec 32 := 1#32
  let arg12 : BitVec 32 := Scf.iv c0_i32_950 c1_i32_952 k0_t132
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t133
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk33 (v2067 : IVec S16 32) : Prop :=
  (∀ a x, ((![v2067] : Fin 1 → IVec S16 32) a x).toNat < S24576.size a)
theorem k0_idx33_inb : ∀ (v2067 : IVec S16 32) (k0_hw33 : k0_chk33 v2067), ∀ a x, ((![v2067] : Fin 1 → IVec S16 32) a x).toNat < S24576.size a := fun v2067 k0_hw33 => k0_hw33
def k0_off169 (k0_t132 : Fin k0_t132_loop.trips) (k0_t133 : Fin k0_t133_loop.trips) : Fin 2 → Nat :=
  let c0_i32_950 : BitVec 32 := 0#32
  let c1_i32_952 : BitVec 32 := 1#32
  let arg12 : BitVec 32 := Scf.iv c0_i32_950 c1_i32_952 k0_t132
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t133
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t134_loop : Scf.Loop 32 :=
  let c0_i32_966 : BitVec 32 := 0#32
  let c64_i32_967 : BitVec 32 := 64#32
  let v732 : BitVec 32 := Scalar.addi c0_i32_966 c64_i32_967
  let c1_i32_968 : BitVec 32 := 1#32
  ⟨c0_i32_966, v732, c1_i32_968⟩
def k0_off170 (k0_t134 : Fin k0_t134_loop.trips) : Fin 1 → Nat :=
  let c0_i32_966 : BitVec 32 := 0#32
  let c1_i32_968 : BitVec 32 := 1#32
  let arg12 : BitVec 32 := Scf.iv c0_i32_966 c1_i32_968 k0_t134
  let c384_i32_2785 : BitVec 32 := 384#32
  let v2063 : BitVec 32 := Scalar.muli arg12 c384_i32_2785
  ![v2063.toNat]
def k0_off171 (i : grid0.Coords) (k0_t134 : Fin k0_t134_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_961 : BitVec 32 := 96#32
  let v727 : BitVec 32 := Scalar.muli v18 c96_i32_961
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_962 : BitVec 32 := 10#32
  let v728 : BitVec 32 := Scalar.addi v29 c10_i32_962
  let v729 : BitVec 32 := Scalar.addi v727 v728
  let c384_i32_963 : BitVec 32 := 384#32
  let v730 : BitVec 32 := Scalar.muli v729 c384_i32_963
  let c88_i32_964 : BitVec 32 := 88#32
  let v731 : BitVec 32 := Scalar.addi v730 c88_i32_964
  let c0_i32_966 : BitVec 32 := 0#32
  let c1_i32_968 : BitVec 32 := 1#32
  let arg12 : BitVec 32 := Scf.iv c0_i32_966 c1_i32_968 k0_t134
  let v2062 : BitVec 32 := Scalar.addi v731 arg12
  let c0_i32_2787 : BitVec 32 := 0#32
  ![v2062.toNat, 0]
@[reducible] def k0_t135_loop : Scf.Loop 32 :=
  let c0_i32_971 : BitVec 32 := 0#32
  let c64_i32_972 : BitVec 32 := 64#32
  let v733 : BitVec 32 := Scalar.addi c0_i32_971 c64_i32_972
  let c1_i32_973 : BitVec 32 := 1#32
  ⟨c0_i32_971, v733, c1_i32_973⟩
def k0_off172 (k0_t135 : Fin k0_t135_loop.trips) : Fin 1 → Nat :=
  let c0_i32_971 : BitVec 32 := 0#32
  let c1_i32_973 : BitVec 32 := 1#32
  let arg12 : BitVec 32 := Scf.iv c0_i32_971 c1_i32_973 k0_t135
  let c384_i32_2785 : BitVec 32 := 384#32
  let v2062 : BitVec 32 := Scalar.muli arg12 c384_i32_2785
  ![v2062.toNat]
@[reducible] def k0_t136_loop : Scf.Loop 32 :=
  let c0_i32_979 : BitVec 32 := 0#32
  let c48_i32_980 : BitVec 32 := 48#32
  let v738 : BitVec 32 := Scalar.addi c0_i32_979 c48_i32_980
  let c1_i32_981 : BitVec 32 := 1#32
  ⟨c0_i32_979, v738, c1_i32_981⟩
@[reducible] def k0_t137_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off173 (k0_t136 : Fin k0_t136_loop.trips) (k0_t137 : Fin k0_t137_loop.trips) : Fin 2 → Nat :=
  let c0_i32_979 : BitVec 32 := 0#32
  let c1_i32_981 : BitVec 32 := 1#32
  let arg12 : BitVec 32 := Scf.iv c0_i32_979 c1_i32_981 k0_t136
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t137
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk34 (v2067 : IVec S16 32) : Prop :=
  (∀ a x, ((![v2067] : Fin 1 → IVec S16 32) a x).toNat < S24576.size a)
theorem k0_idx34_inb : ∀ (v2067 : IVec S16 32) (k0_hw34 : k0_chk34 v2067), ∀ a x, ((![v2067] : Fin 1 → IVec S16 32) a x).toNat < S24576.size a := fun v2067 k0_hw34 => k0_hw34
def k0_off174 (k0_t136 : Fin k0_t136_loop.trips) (k0_t137 : Fin k0_t137_loop.trips) : Fin 2 → Nat :=
  let c0_i32_979 : BitVec 32 := 0#32
  let c1_i32_981 : BitVec 32 := 1#32
  let arg12 : BitVec 32 := Scf.iv c0_i32_979 c1_i32_981 k0_t136
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t137
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t138_loop : Scf.Loop 32 :=
  let c0_i32_995 : BitVec 32 := 0#32
  let c64_i32_996 : BitVec 32 := 64#32
  let v753 : BitVec 32 := Scalar.addi c0_i32_995 c64_i32_996
  let c1_i32_997 : BitVec 32 := 1#32
  ⟨c0_i32_995, v753, c1_i32_997⟩
def k0_off175 (k0_t138 : Fin k0_t138_loop.trips) : Fin 1 → Nat :=
  let c0_i32_995 : BitVec 32 := 0#32
  let c1_i32_997 : BitVec 32 := 1#32
  let arg12 : BitVec 32 := Scf.iv c0_i32_995 c1_i32_997 k0_t138
  let c384_i32_2785 : BitVec 32 := 384#32
  let v2063 : BitVec 32 := Scalar.muli arg12 c384_i32_2785
  ![v2063.toNat]
def k0_off176 (i : grid0.Coords) (k0_t138 : Fin k0_t138_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_990 : BitVec 32 := 96#32
  let v748 : BitVec 32 := Scalar.muli v18 c96_i32_990
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_991 : BitVec 32 := 11#32
  let v749 : BitVec 32 := Scalar.addi v29 c11_i32_991
  let v750 : BitVec 32 := Scalar.addi v748 v749
  let c384_i32_992 : BitVec 32 := 384#32
  let v751 : BitVec 32 := Scalar.muli v750 c384_i32_992
  let c88_i32_993 : BitVec 32 := 88#32
  let v752 : BitVec 32 := Scalar.addi v751 c88_i32_993
  let c0_i32_995 : BitVec 32 := 0#32
  let c1_i32_997 : BitVec 32 := 1#32
  let arg12 : BitVec 32 := Scf.iv c0_i32_995 c1_i32_997 k0_t138
  let v2062 : BitVec 32 := Scalar.addi v752 arg12
  let c0_i32_2787 : BitVec 32 := 0#32
  ![v2062.toNat, 0]
@[reducible] def k0_t139_loop : Scf.Loop 32 :=
  let c0_i32_1000 : BitVec 32 := 0#32
  let c64_i32_1001 : BitVec 32 := 64#32
  let v754 : BitVec 32 := Scalar.addi c0_i32_1000 c64_i32_1001
  let c1_i32_1002 : BitVec 32 := 1#32
  ⟨c0_i32_1000, v754, c1_i32_1002⟩
def k0_off177 (k0_t139 : Fin k0_t139_loop.trips) : Fin 1 → Nat :=
  let c0_i32_1000 : BitVec 32 := 0#32
  let c1_i32_1002 : BitVec 32 := 1#32
  let arg12 : BitVec 32 := Scf.iv c0_i32_1000 c1_i32_1002 k0_t139
  let c384_i32_2785 : BitVec 32 := 384#32
  let v2062 : BitVec 32 := Scalar.muli arg12 c384_i32_2785
  ![v2062.toNat]
@[reducible] def k0_t140_loop : Scf.Loop 32 :=
  let c0_i32_1008 : BitVec 32 := 0#32
  let c48_i32_1009 : BitVec 32 := 48#32
  let v759 : BitVec 32 := Scalar.addi c0_i32_1008 c48_i32_1009
  let c1_i32_1010 : BitVec 32 := 1#32
  ⟨c0_i32_1008, v759, c1_i32_1010⟩
@[reducible] def k0_t141_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off178 (k0_t140 : Fin k0_t140_loop.trips) (k0_t141 : Fin k0_t141_loop.trips) : Fin 2 → Nat :=
  let c0_i32_1008 : BitVec 32 := 0#32
  let c1_i32_1010 : BitVec 32 := 1#32
  let arg12 : BitVec 32 := Scf.iv c0_i32_1008 c1_i32_1010 k0_t140
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t141
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk35 (v2067 : IVec S16 32) : Prop :=
  (∀ a x, ((![v2067] : Fin 1 → IVec S16 32) a x).toNat < S24576.size a)
theorem k0_idx35_inb : ∀ (v2067 : IVec S16 32) (k0_hw35 : k0_chk35 v2067), ∀ a x, ((![v2067] : Fin 1 → IVec S16 32) a x).toNat < S24576.size a := fun v2067 k0_hw35 => k0_hw35
def k0_off179 (k0_t140 : Fin k0_t140_loop.trips) (k0_t141 : Fin k0_t141_loop.trips) : Fin 2 → Nat :=
  let c0_i32_1008 : BitVec 32 := 0#32
  let c1_i32_1010 : BitVec 32 := 1#32
  let arg12 : BitVec 32 := Scf.iv c0_i32_1008 c1_i32_1010 k0_t140
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t141
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t142_loop : Scf.Loop 32 :=
  let c0_i32_1020 : BitVec 32 := 0#32
  let c64_i32_1021 : BitVec 32 := 64#32
  let v769 : BitVec 32 := Scalar.addi c0_i32_1020 c64_i32_1021
  let c1_i32_1022 : BitVec 32 := 1#32
  ⟨c0_i32_1020, v769, c1_i32_1022⟩
def k0_off180 (k0_t142 : Fin k0_t142_loop.trips) : Fin 1 → Nat :=
  let c0_i32_1020 : BitVec 32 := 0#32
  let c1_i32_1022 : BitVec 32 := 1#32
  let arg12 : BitVec 32 := Scf.iv c0_i32_1020 c1_i32_1022 k0_t142
  let c384_i32_2785 : BitVec 32 := 384#32
  let v2062 : BitVec 32 := Scalar.muli arg12 c384_i32_2785
  ![v2062.toNat]
@[reducible] def k0_t143_loop : Scf.Loop 32 :=
  let c0_i32_1028 : BitVec 32 := 0#32
  let c48_i32_1029 : BitVec 32 := 48#32
  let v774 : BitVec 32 := Scalar.addi c0_i32_1028 c48_i32_1029
  let c1_i32_1030 : BitVec 32 := 1#32
  ⟨c0_i32_1028, v774, c1_i32_1030⟩
@[reducible] def k0_t144_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off181 (k0_t143 : Fin k0_t143_loop.trips) (k0_t144 : Fin k0_t144_loop.trips) : Fin 2 → Nat :=
  let c0_i32_1028 : BitVec 32 := 0#32
  let c1_i32_1030 : BitVec 32 := 1#32
  let arg12 : BitVec 32 := Scf.iv c0_i32_1028 c1_i32_1030 k0_t143
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t144
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk36 (v2067 : IVec S16 32) : Prop :=
  (∀ a x, ((![v2067] : Fin 1 → IVec S16 32) a x).toNat < S24576.size a)
theorem k0_idx36_inb : ∀ (v2067 : IVec S16 32) (k0_hw36 : k0_chk36 v2067), ∀ a x, ((![v2067] : Fin 1 → IVec S16 32) a x).toNat < S24576.size a := fun v2067 k0_hw36 => k0_hw36
def k0_off182 (k0_t143 : Fin k0_t143_loop.trips) (k0_t144 : Fin k0_t144_loop.trips) : Fin 2 → Nat :=
  let c0_i32_1028 : BitVec 32 := 0#32
  let c1_i32_1030 : BitVec 32 := 1#32
  let arg12 : BitVec 32 := Scf.iv c0_i32_1028 c1_i32_1030 k0_t143
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t144
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t145_loop : Scf.Loop 32 :=
  let c0_i32_1043 : BitVec 32 := 0#32
  let c64_i32_1044 : BitVec 32 := 64#32
  let v789 : BitVec 32 := Scalar.addi c0_i32_1043 c64_i32_1044
  let c1_i32_1045 : BitVec 32 := 1#32
  ⟨c0_i32_1043, v789, c1_i32_1045⟩
def k0_off183 (k0_t145 : Fin k0_t145_loop.trips) : Fin 1 → Nat :=
  let c0_i32_1043 : BitVec 32 := 0#32
  let c1_i32_1045 : BitVec 32 := 1#32
  let arg12 : BitVec 32 := Scf.iv c0_i32_1043 c1_i32_1045 k0_t145
  let c384_i32_2785 : BitVec 32 := 384#32
  let v2063 : BitVec 32 := Scalar.muli arg12 c384_i32_2785
  ![v2063.toNat]
def k0_off184 (i : grid0.Coords) (k0_t145 : Fin k0_t145_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1039 : BitVec 32 := 96#32
  let v784 : BitVec 32 := Scalar.muli v18 c96_i32_1039
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_1040 : BitVec 32 := 0#32
  let v785 : BitVec 32 := Scalar.addi v29 c0_i32_1040
  let v786 : BitVec 32 := Scalar.addi v784 v785
  let c384_i32_1041 : BitVec 32 := 384#32
  let v787 : BitVec 32 := Scalar.muli v786 c384_i32_1041
  let c136_i32 : BitVec 32 := 136#32
  let v788 : BitVec 32 := Scalar.addi v787 c136_i32
  let c0_i32_1043 : BitVec 32 := 0#32
  let c1_i32_1045 : BitVec 32 := 1#32
  let arg12 : BitVec 32 := Scf.iv c0_i32_1043 c1_i32_1045 k0_t145
  let v2062 : BitVec 32 := Scalar.addi v788 arg12
  let c0_i32_2787 : BitVec 32 := 0#32
  ![v2062.toNat, 0]
@[reducible] def k0_t146_loop : Scf.Loop 32 :=
  let c0_i32_1053 : BitVec 32 := 0#32
  let c64_i32_1054 : BitVec 32 := 64#32
  let v797 : BitVec 32 := Scalar.addi c0_i32_1053 c64_i32_1054
  let c1_i32_1055 : BitVec 32 := 1#32
  ⟨c0_i32_1053, v797, c1_i32_1055⟩
def k0_off185 (k0_t146 : Fin k0_t146_loop.trips) : Fin 1 → Nat :=
  let c0_i32_1053 : BitVec 32 := 0#32
  let c1_i32_1055 : BitVec 32 := 1#32
  let arg12 : BitVec 32 := Scf.iv c0_i32_1053 c1_i32_1055 k0_t146
  let c384_i32_2785 : BitVec 32 := 384#32
  let v2063 : BitVec 32 := Scalar.muli arg12 c384_i32_2785
  ![v2063.toNat]
def k0_off186 (i : grid0.Coords) (k0_t146 : Fin k0_t146_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1048 : BitVec 32 := 96#32
  let v792 : BitVec 32 := Scalar.muli v18 c96_i32_1048
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_1049 : BitVec 32 := 1#32
  let v793 : BitVec 32 := Scalar.addi v29 c1_i32_1049
  let v794 : BitVec 32 := Scalar.addi v792 v793
  let c384_i32_1050 : BitVec 32 := 384#32
  let v795 : BitVec 32 := Scalar.muli v794 c384_i32_1050
  let c136_i32_1051 : BitVec 32 := 136#32
  let v796 : BitVec 32 := Scalar.addi v795 c136_i32_1051
  let c0_i32_1053 : BitVec 32 := 0#32
  let c1_i32_1055 : BitVec 32 := 1#32
  let arg12 : BitVec 32 := Scf.iv c0_i32_1053 c1_i32_1055 k0_t146
  let v2062 : BitVec 32 := Scalar.addi v796 arg12
  let c0_i32_2787 : BitVec 32 := 0#32
  ![v2062.toNat, 0]
@[reducible] def k0_t147_loop : Scf.Loop 32 :=
  let c0_i32_1058 : BitVec 32 := 0#32
  let c64_i32_1059 : BitVec 32 := 64#32
  let v798 : BitVec 32 := Scalar.addi c0_i32_1058 c64_i32_1059
  let c1_i32_1060 : BitVec 32 := 1#32
  ⟨c0_i32_1058, v798, c1_i32_1060⟩
def k0_off187 (k0_t147 : Fin k0_t147_loop.trips) : Fin 1 → Nat :=
  let c0_i32_1058 : BitVec 32 := 0#32
  let c1_i32_1060 : BitVec 32 := 1#32
  let arg12 : BitVec 32 := Scf.iv c0_i32_1058 c1_i32_1060 k0_t147
  let c384_i32_2785 : BitVec 32 := 384#32
  let v2062 : BitVec 32 := Scalar.muli arg12 c384_i32_2785
  ![v2062.toNat]
@[reducible] def k0_t148_loop : Scf.Loop 32 :=
  let c0_i32_1066 : BitVec 32 := 0#32
  let c48_i32_1067 : BitVec 32 := 48#32
  let v803 : BitVec 32 := Scalar.addi c0_i32_1066 c48_i32_1067
  let c1_i32_1068 : BitVec 32 := 1#32
  ⟨c0_i32_1066, v803, c1_i32_1068⟩
@[reducible] def k0_t149_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off188 (k0_t148 : Fin k0_t148_loop.trips) (k0_t149 : Fin k0_t149_loop.trips) : Fin 2 → Nat :=
  let c0_i32_1066 : BitVec 32 := 0#32
  let c1_i32_1068 : BitVec 32 := 1#32
  let arg12 : BitVec 32 := Scf.iv c0_i32_1066 c1_i32_1068 k0_t148
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t149
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk37 (v2067 : IVec S16 32) : Prop :=
  (∀ a x, ((![v2067] : Fin 1 → IVec S16 32) a x).toNat < S24576.size a)
theorem k0_idx37_inb : ∀ (v2067 : IVec S16 32) (k0_hw37 : k0_chk37 v2067), ∀ a x, ((![v2067] : Fin 1 → IVec S16 32) a x).toNat < S24576.size a := fun v2067 k0_hw37 => k0_hw37
def k0_off189 (k0_t148 : Fin k0_t148_loop.trips) (k0_t149 : Fin k0_t149_loop.trips) : Fin 2 → Nat :=
  let c0_i32_1066 : BitVec 32 := 0#32
  let c1_i32_1068 : BitVec 32 := 1#32
  let arg12 : BitVec 32 := Scf.iv c0_i32_1066 c1_i32_1068 k0_t148
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t149
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t150_loop : Scf.Loop 32 :=
  let c0_i32_1082 : BitVec 32 := 0#32
  let c64_i32_1083 : BitVec 32 := 64#32
  let v818 : BitVec 32 := Scalar.addi c0_i32_1082 c64_i32_1083
  let c1_i32_1084 : BitVec 32 := 1#32
  ⟨c0_i32_1082, v818, c1_i32_1084⟩
def k0_off190 (k0_t150 : Fin k0_t150_loop.trips) : Fin 1 → Nat :=
  let c0_i32_1082 : BitVec 32 := 0#32
  let c1_i32_1084 : BitVec 32 := 1#32
  let arg12 : BitVec 32 := Scf.iv c0_i32_1082 c1_i32_1084 k0_t150
  let c384_i32_2785 : BitVec 32 := 384#32
  let v2063 : BitVec 32 := Scalar.muli arg12 c384_i32_2785
  ![v2063.toNat]
def k0_off191 (i : grid0.Coords) (k0_t150 : Fin k0_t150_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1077 : BitVec 32 := 96#32
  let v813 : BitVec 32 := Scalar.muli v18 c96_i32_1077
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_1078 : BitVec 32 := 2#32
  let v814 : BitVec 32 := Scalar.addi v29 c2_i32_1078
  let v815 : BitVec 32 := Scalar.addi v813 v814
  let c384_i32_1079 : BitVec 32 := 384#32
  let v816 : BitVec 32 := Scalar.muli v815 c384_i32_1079
  let c136_i32_1080 : BitVec 32 := 136#32
  let v817 : BitVec 32 := Scalar.addi v816 c136_i32_1080
  let c0_i32_1082 : BitVec 32 := 0#32
  let c1_i32_1084 : BitVec 32 := 1#32
  let arg12 : BitVec 32 := Scf.iv c0_i32_1082 c1_i32_1084 k0_t150
  let v2062 : BitVec 32 := Scalar.addi v817 arg12
  let c0_i32_2787 : BitVec 32 := 0#32
  ![v2062.toNat, 0]
@[reducible] def k0_t151_loop : Scf.Loop 32 :=
  let c0_i32_1087 : BitVec 32 := 0#32
  let c64_i32_1088 : BitVec 32 := 64#32
  let v819 : BitVec 32 := Scalar.addi c0_i32_1087 c64_i32_1088
  let c1_i32_1089 : BitVec 32 := 1#32
  ⟨c0_i32_1087, v819, c1_i32_1089⟩
def k0_off192 (k0_t151 : Fin k0_t151_loop.trips) : Fin 1 → Nat :=
  let c0_i32_1087 : BitVec 32 := 0#32
  let c1_i32_1089 : BitVec 32 := 1#32
  let arg12 : BitVec 32 := Scf.iv c0_i32_1087 c1_i32_1089 k0_t151
  let c384_i32_2785 : BitVec 32 := 384#32
  let v2062 : BitVec 32 := Scalar.muli arg12 c384_i32_2785
  ![v2062.toNat]
@[reducible] def k0_t152_loop : Scf.Loop 32 :=
  let c0_i32_1095 : BitVec 32 := 0#32
  let c48_i32_1096 : BitVec 32 := 48#32
  let v824 : BitVec 32 := Scalar.addi c0_i32_1095 c48_i32_1096
  let c1_i32_1097 : BitVec 32 := 1#32
  ⟨c0_i32_1095, v824, c1_i32_1097⟩
@[reducible] def k0_t153_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off193 (k0_t152 : Fin k0_t152_loop.trips) (k0_t153 : Fin k0_t153_loop.trips) : Fin 2 → Nat :=
  let c0_i32_1095 : BitVec 32 := 0#32
  let c1_i32_1097 : BitVec 32 := 1#32
  let arg12 : BitVec 32 := Scf.iv c0_i32_1095 c1_i32_1097 k0_t152
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t153
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk38 (v2067 : IVec S16 32) : Prop :=
  (∀ a x, ((![v2067] : Fin 1 → IVec S16 32) a x).toNat < S24576.size a)
theorem k0_idx38_inb : ∀ (v2067 : IVec S16 32) (k0_hw38 : k0_chk38 v2067), ∀ a x, ((![v2067] : Fin 1 → IVec S16 32) a x).toNat < S24576.size a := fun v2067 k0_hw38 => k0_hw38
def k0_off194 (k0_t152 : Fin k0_t152_loop.trips) (k0_t153 : Fin k0_t153_loop.trips) : Fin 2 → Nat :=
  let c0_i32_1095 : BitVec 32 := 0#32
  let c1_i32_1097 : BitVec 32 := 1#32
  let arg12 : BitVec 32 := Scf.iv c0_i32_1095 c1_i32_1097 k0_t152
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t153
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t154_loop : Scf.Loop 32 :=
  let c0_i32_1111 : BitVec 32 := 0#32
  let c64_i32_1112 : BitVec 32 := 64#32
  let v839 : BitVec 32 := Scalar.addi c0_i32_1111 c64_i32_1112
  let c1_i32_1113 : BitVec 32 := 1#32
  ⟨c0_i32_1111, v839, c1_i32_1113⟩
def k0_off195 (k0_t154 : Fin k0_t154_loop.trips) : Fin 1 → Nat :=
  let c0_i32_1111 : BitVec 32 := 0#32
  let c1_i32_1113 : BitVec 32 := 1#32
  let arg12 : BitVec 32 := Scf.iv c0_i32_1111 c1_i32_1113 k0_t154
  let c384_i32_2785 : BitVec 32 := 384#32
  let v2063 : BitVec 32 := Scalar.muli arg12 c384_i32_2785
  ![v2063.toNat]
def k0_off196 (i : grid0.Coords) (k0_t154 : Fin k0_t154_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1106 : BitVec 32 := 96#32
  let v834 : BitVec 32 := Scalar.muli v18 c96_i32_1106
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_1107 : BitVec 32 := 3#32
  let v835 : BitVec 32 := Scalar.addi v29 c3_i32_1107
  let v836 : BitVec 32 := Scalar.addi v834 v835
  let c384_i32_1108 : BitVec 32 := 384#32
  let v837 : BitVec 32 := Scalar.muli v836 c384_i32_1108
  let c136_i32_1109 : BitVec 32 := 136#32
  let v838 : BitVec 32 := Scalar.addi v837 c136_i32_1109
  let c0_i32_1111 : BitVec 32 := 0#32
  let c1_i32_1113 : BitVec 32 := 1#32
  let arg12 : BitVec 32 := Scf.iv c0_i32_1111 c1_i32_1113 k0_t154
  let v2062 : BitVec 32 := Scalar.addi v838 arg12
  let c0_i32_2787 : BitVec 32 := 0#32
  ![v2062.toNat, 0]
@[reducible] def k0_t155_loop : Scf.Loop 32 :=
  let c0_i32_1116 : BitVec 32 := 0#32
  let c64_i32_1117 : BitVec 32 := 64#32
  let v840 : BitVec 32 := Scalar.addi c0_i32_1116 c64_i32_1117
  let c1_i32_1118 : BitVec 32 := 1#32
  ⟨c0_i32_1116, v840, c1_i32_1118⟩
def k0_off197 (k0_t155 : Fin k0_t155_loop.trips) : Fin 1 → Nat :=
  let c0_i32_1116 : BitVec 32 := 0#32
  let c1_i32_1118 : BitVec 32 := 1#32
  let arg12 : BitVec 32 := Scf.iv c0_i32_1116 c1_i32_1118 k0_t155
  let c384_i32_2785 : BitVec 32 := 384#32
  let v2062 : BitVec 32 := Scalar.muli arg12 c384_i32_2785
  ![v2062.toNat]
@[reducible] def k0_t156_loop : Scf.Loop 32 :=
  let c0_i32_1124 : BitVec 32 := 0#32
  let c48_i32_1125 : BitVec 32 := 48#32
  let v845 : BitVec 32 := Scalar.addi c0_i32_1124 c48_i32_1125
  let c1_i32_1126 : BitVec 32 := 1#32
  ⟨c0_i32_1124, v845, c1_i32_1126⟩
@[reducible] def k0_t157_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off198 (k0_t156 : Fin k0_t156_loop.trips) (k0_t157 : Fin k0_t157_loop.trips) : Fin 2 → Nat :=
  let c0_i32_1124 : BitVec 32 := 0#32
  let c1_i32_1126 : BitVec 32 := 1#32
  let arg12 : BitVec 32 := Scf.iv c0_i32_1124 c1_i32_1126 k0_t156
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t157
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk39 (v2067 : IVec S16 32) : Prop :=
  (∀ a x, ((![v2067] : Fin 1 → IVec S16 32) a x).toNat < S24576.size a)
theorem k0_idx39_inb : ∀ (v2067 : IVec S16 32) (k0_hw39 : k0_chk39 v2067), ∀ a x, ((![v2067] : Fin 1 → IVec S16 32) a x).toNat < S24576.size a := fun v2067 k0_hw39 => k0_hw39
def k0_off199 (k0_t156 : Fin k0_t156_loop.trips) (k0_t157 : Fin k0_t157_loop.trips) : Fin 2 → Nat :=
  let c0_i32_1124 : BitVec 32 := 0#32
  let c1_i32_1126 : BitVec 32 := 1#32
  let arg12 : BitVec 32 := Scf.iv c0_i32_1124 c1_i32_1126 k0_t156
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t157
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t158_loop : Scf.Loop 32 :=
  let c0_i32_1140 : BitVec 32 := 0#32
  let c64_i32_1141 : BitVec 32 := 64#32
  let v860 : BitVec 32 := Scalar.addi c0_i32_1140 c64_i32_1141
  let c1_i32_1142 : BitVec 32 := 1#32
  ⟨c0_i32_1140, v860, c1_i32_1142⟩
def k0_off200 (k0_t158 : Fin k0_t158_loop.trips) : Fin 1 → Nat :=
  let c0_i32_1140 : BitVec 32 := 0#32
  let c1_i32_1142 : BitVec 32 := 1#32
  let arg12 : BitVec 32 := Scf.iv c0_i32_1140 c1_i32_1142 k0_t158
  let c384_i32_2785 : BitVec 32 := 384#32
  let v2063 : BitVec 32 := Scalar.muli arg12 c384_i32_2785
  ![v2063.toNat]
def k0_off201 (i : grid0.Coords) (k0_t158 : Fin k0_t158_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1135 : BitVec 32 := 96#32
  let v855 : BitVec 32 := Scalar.muli v18 c96_i32_1135
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_1136 : BitVec 32 := 4#32
  let v856 : BitVec 32 := Scalar.addi v29 c4_i32_1136
  let v857 : BitVec 32 := Scalar.addi v855 v856
  let c384_i32_1137 : BitVec 32 := 384#32
  let v858 : BitVec 32 := Scalar.muli v857 c384_i32_1137
  let c136_i32_1138 : BitVec 32 := 136#32
  let v859 : BitVec 32 := Scalar.addi v858 c136_i32_1138
  let c0_i32_1140 : BitVec 32 := 0#32
  let c1_i32_1142 : BitVec 32 := 1#32
  let arg12 : BitVec 32 := Scf.iv c0_i32_1140 c1_i32_1142 k0_t158
  let v2062 : BitVec 32 := Scalar.addi v859 arg12
  let c0_i32_2787 : BitVec 32 := 0#32
  ![v2062.toNat, 0]
@[reducible] def k0_t159_loop : Scf.Loop 32 :=
  let c0_i32_1145 : BitVec 32 := 0#32
  let c64_i32_1146 : BitVec 32 := 64#32
  let v861 : BitVec 32 := Scalar.addi c0_i32_1145 c64_i32_1146
  let c1_i32_1147 : BitVec 32 := 1#32
  ⟨c0_i32_1145, v861, c1_i32_1147⟩
def k0_off202 (k0_t159 : Fin k0_t159_loop.trips) : Fin 1 → Nat :=
  let c0_i32_1145 : BitVec 32 := 0#32
  let c1_i32_1147 : BitVec 32 := 1#32
  let arg12 : BitVec 32 := Scf.iv c0_i32_1145 c1_i32_1147 k0_t159
  let c384_i32_2785 : BitVec 32 := 384#32
  let v2062 : BitVec 32 := Scalar.muli arg12 c384_i32_2785
  ![v2062.toNat]
@[reducible] def k0_t160_loop : Scf.Loop 32 :=
  let c0_i32_1153 : BitVec 32 := 0#32
  let c48_i32_1154 : BitVec 32 := 48#32
  let v866 : BitVec 32 := Scalar.addi c0_i32_1153 c48_i32_1154
  let c1_i32_1155 : BitVec 32 := 1#32
  ⟨c0_i32_1153, v866, c1_i32_1155⟩
@[reducible] def k0_t161_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off203 (k0_t160 : Fin k0_t160_loop.trips) (k0_t161 : Fin k0_t161_loop.trips) : Fin 2 → Nat :=
  let c0_i32_1153 : BitVec 32 := 0#32
  let c1_i32_1155 : BitVec 32 := 1#32
  let arg12 : BitVec 32 := Scf.iv c0_i32_1153 c1_i32_1155 k0_t160
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t161
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk40 (v2067 : IVec S16 32) : Prop :=
  (∀ a x, ((![v2067] : Fin 1 → IVec S16 32) a x).toNat < S24576.size a)
theorem k0_idx40_inb : ∀ (v2067 : IVec S16 32) (k0_hw40 : k0_chk40 v2067), ∀ a x, ((![v2067] : Fin 1 → IVec S16 32) a x).toNat < S24576.size a := fun v2067 k0_hw40 => k0_hw40
def k0_off204 (k0_t160 : Fin k0_t160_loop.trips) (k0_t161 : Fin k0_t161_loop.trips) : Fin 2 → Nat :=
  let c0_i32_1153 : BitVec 32 := 0#32
  let c1_i32_1155 : BitVec 32 := 1#32
  let arg12 : BitVec 32 := Scf.iv c0_i32_1153 c1_i32_1155 k0_t160
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t161
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t162_loop : Scf.Loop 32 :=
  let c0_i32_1169 : BitVec 32 := 0#32
  let c64_i32_1170 : BitVec 32 := 64#32
  let v881 : BitVec 32 := Scalar.addi c0_i32_1169 c64_i32_1170
  let c1_i32_1171 : BitVec 32 := 1#32
  ⟨c0_i32_1169, v881, c1_i32_1171⟩
def k0_off205 (k0_t162 : Fin k0_t162_loop.trips) : Fin 1 → Nat :=
  let c0_i32_1169 : BitVec 32 := 0#32
  let c1_i32_1171 : BitVec 32 := 1#32
  let arg12 : BitVec 32 := Scf.iv c0_i32_1169 c1_i32_1171 k0_t162
  let c384_i32_2785 : BitVec 32 := 384#32
  let v2063 : BitVec 32 := Scalar.muli arg12 c384_i32_2785
  ![v2063.toNat]
def k0_off206 (i : grid0.Coords) (k0_t162 : Fin k0_t162_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1164 : BitVec 32 := 96#32
  let v876 : BitVec 32 := Scalar.muli v18 c96_i32_1164
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_1165 : BitVec 32 := 5#32
  let v877 : BitVec 32 := Scalar.addi v29 c5_i32_1165
  let v878 : BitVec 32 := Scalar.addi v876 v877
  let c384_i32_1166 : BitVec 32 := 384#32
  let v879 : BitVec 32 := Scalar.muli v878 c384_i32_1166
  let c136_i32_1167 : BitVec 32 := 136#32
  let v880 : BitVec 32 := Scalar.addi v879 c136_i32_1167
  let c0_i32_1169 : BitVec 32 := 0#32
  let c1_i32_1171 : BitVec 32 := 1#32
  let arg12 : BitVec 32 := Scf.iv c0_i32_1169 c1_i32_1171 k0_t162
  let v2062 : BitVec 32 := Scalar.addi v880 arg12
  let c0_i32_2787 : BitVec 32 := 0#32
  ![v2062.toNat, 0]
@[reducible] def k0_t163_loop : Scf.Loop 32 :=
  let c0_i32_1174 : BitVec 32 := 0#32
  let c64_i32_1175 : BitVec 32 := 64#32
  let v882 : BitVec 32 := Scalar.addi c0_i32_1174 c64_i32_1175
  let c1_i32_1176 : BitVec 32 := 1#32
  ⟨c0_i32_1174, v882, c1_i32_1176⟩
def k0_off207 (k0_t163 : Fin k0_t163_loop.trips) : Fin 1 → Nat :=
  let c0_i32_1174 : BitVec 32 := 0#32
  let c1_i32_1176 : BitVec 32 := 1#32
  let arg12 : BitVec 32 := Scf.iv c0_i32_1174 c1_i32_1176 k0_t163
  let c384_i32_2785 : BitVec 32 := 384#32
  let v2062 : BitVec 32 := Scalar.muli arg12 c384_i32_2785
  ![v2062.toNat]
@[reducible] def k0_t164_loop : Scf.Loop 32 :=
  let c0_i32_1182 : BitVec 32 := 0#32
  let c48_i32_1183 : BitVec 32 := 48#32
  let v887 : BitVec 32 := Scalar.addi c0_i32_1182 c48_i32_1183
  let c1_i32_1184 : BitVec 32 := 1#32
  ⟨c0_i32_1182, v887, c1_i32_1184⟩
@[reducible] def k0_t165_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off208 (k0_t164 : Fin k0_t164_loop.trips) (k0_t165 : Fin k0_t165_loop.trips) : Fin 2 → Nat :=
  let c0_i32_1182 : BitVec 32 := 0#32
  let c1_i32_1184 : BitVec 32 := 1#32
  let arg12 : BitVec 32 := Scf.iv c0_i32_1182 c1_i32_1184 k0_t164
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t165
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk41 (v2067 : IVec S16 32) : Prop :=
  (∀ a x, ((![v2067] : Fin 1 → IVec S16 32) a x).toNat < S24576.size a)
theorem k0_idx41_inb : ∀ (v2067 : IVec S16 32) (k0_hw41 : k0_chk41 v2067), ∀ a x, ((![v2067] : Fin 1 → IVec S16 32) a x).toNat < S24576.size a := fun v2067 k0_hw41 => k0_hw41
def k0_off209 (k0_t164 : Fin k0_t164_loop.trips) (k0_t165 : Fin k0_t165_loop.trips) : Fin 2 → Nat :=
  let c0_i32_1182 : BitVec 32 := 0#32
  let c1_i32_1184 : BitVec 32 := 1#32
  let arg12 : BitVec 32 := Scf.iv c0_i32_1182 c1_i32_1184 k0_t164
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t165
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t166_loop : Scf.Loop 32 :=
  let c0_i32_1198 : BitVec 32 := 0#32
  let c64_i32_1199 : BitVec 32 := 64#32
  let v902 : BitVec 32 := Scalar.addi c0_i32_1198 c64_i32_1199
  let c1_i32_1200 : BitVec 32 := 1#32
  ⟨c0_i32_1198, v902, c1_i32_1200⟩
def k0_off210 (k0_t166 : Fin k0_t166_loop.trips) : Fin 1 → Nat :=
  let c0_i32_1198 : BitVec 32 := 0#32
  let c1_i32_1200 : BitVec 32 := 1#32
  let arg12 : BitVec 32 := Scf.iv c0_i32_1198 c1_i32_1200 k0_t166
  let c384_i32_2785 : BitVec 32 := 384#32
  let v2063 : BitVec 32 := Scalar.muli arg12 c384_i32_2785
  ![v2063.toNat]
def k0_off211 (i : grid0.Coords) (k0_t166 : Fin k0_t166_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1193 : BitVec 32 := 96#32
  let v897 : BitVec 32 := Scalar.muli v18 c96_i32_1193
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_1194 : BitVec 32 := 6#32
  let v898 : BitVec 32 := Scalar.addi v29 c6_i32_1194
  let v899 : BitVec 32 := Scalar.addi v897 v898
  let c384_i32_1195 : BitVec 32 := 384#32
  let v900 : BitVec 32 := Scalar.muli v899 c384_i32_1195
  let c136_i32_1196 : BitVec 32 := 136#32
  let v901 : BitVec 32 := Scalar.addi v900 c136_i32_1196
  let c0_i32_1198 : BitVec 32 := 0#32
  let c1_i32_1200 : BitVec 32 := 1#32
  let arg12 : BitVec 32 := Scf.iv c0_i32_1198 c1_i32_1200 k0_t166
  let v2062 : BitVec 32 := Scalar.addi v901 arg12
  let c0_i32_2787 : BitVec 32 := 0#32
  ![v2062.toNat, 0]
@[reducible] def k0_t167_loop : Scf.Loop 32 :=
  let c0_i32_1203 : BitVec 32 := 0#32
  let c64_i32_1204 : BitVec 32 := 64#32
  let v903 : BitVec 32 := Scalar.addi c0_i32_1203 c64_i32_1204
  let c1_i32_1205 : BitVec 32 := 1#32
  ⟨c0_i32_1203, v903, c1_i32_1205⟩
def k0_off212 (k0_t167 : Fin k0_t167_loop.trips) : Fin 1 → Nat :=
  let c0_i32_1203 : BitVec 32 := 0#32
  let c1_i32_1205 : BitVec 32 := 1#32
  let arg12 : BitVec 32 := Scf.iv c0_i32_1203 c1_i32_1205 k0_t167
  let c384_i32_2785 : BitVec 32 := 384#32
  let v2062 : BitVec 32 := Scalar.muli arg12 c384_i32_2785
  ![v2062.toNat]
@[reducible] def k0_t168_loop : Scf.Loop 32 :=
  let c0_i32_1211 : BitVec 32 := 0#32
  let c48_i32_1212 : BitVec 32 := 48#32
  let v908 : BitVec 32 := Scalar.addi c0_i32_1211 c48_i32_1212
  let c1_i32_1213 : BitVec 32 := 1#32
  ⟨c0_i32_1211, v908, c1_i32_1213⟩
@[reducible] def k0_t169_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off213 (k0_t168 : Fin k0_t168_loop.trips) (k0_t169 : Fin k0_t169_loop.trips) : Fin 2 → Nat :=
  let c0_i32_1211 : BitVec 32 := 0#32
  let c1_i32_1213 : BitVec 32 := 1#32
  let arg12 : BitVec 32 := Scf.iv c0_i32_1211 c1_i32_1213 k0_t168
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t169
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk42 (v2067 : IVec S16 32) : Prop :=
  (∀ a x, ((![v2067] : Fin 1 → IVec S16 32) a x).toNat < S24576.size a)
theorem k0_idx42_inb : ∀ (v2067 : IVec S16 32) (k0_hw42 : k0_chk42 v2067), ∀ a x, ((![v2067] : Fin 1 → IVec S16 32) a x).toNat < S24576.size a := fun v2067 k0_hw42 => k0_hw42
def k0_off214 (k0_t168 : Fin k0_t168_loop.trips) (k0_t169 : Fin k0_t169_loop.trips) : Fin 2 → Nat :=
  let c0_i32_1211 : BitVec 32 := 0#32
  let c1_i32_1213 : BitVec 32 := 1#32
  let arg12 : BitVec 32 := Scf.iv c0_i32_1211 c1_i32_1213 k0_t168
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t169
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t170_loop : Scf.Loop 32 :=
  let c0_i32_1227 : BitVec 32 := 0#32
  let c64_i32_1228 : BitVec 32 := 64#32
  let v923 : BitVec 32 := Scalar.addi c0_i32_1227 c64_i32_1228
  let c1_i32_1229 : BitVec 32 := 1#32
  ⟨c0_i32_1227, v923, c1_i32_1229⟩
def k0_off215 (k0_t170 : Fin k0_t170_loop.trips) : Fin 1 → Nat :=
  let c0_i32_1227 : BitVec 32 := 0#32
  let c1_i32_1229 : BitVec 32 := 1#32
  let arg12 : BitVec 32 := Scf.iv c0_i32_1227 c1_i32_1229 k0_t170
  let c384_i32_2785 : BitVec 32 := 384#32
  let v2063 : BitVec 32 := Scalar.muli arg12 c384_i32_2785
  ![v2063.toNat]
def k0_off216 (i : grid0.Coords) (k0_t170 : Fin k0_t170_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1222 : BitVec 32 := 96#32
  let v918 : BitVec 32 := Scalar.muli v18 c96_i32_1222
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_1223 : BitVec 32 := 7#32
  let v919 : BitVec 32 := Scalar.addi v29 c7_i32_1223
  let v920 : BitVec 32 := Scalar.addi v918 v919
  let c384_i32_1224 : BitVec 32 := 384#32
  let v921 : BitVec 32 := Scalar.muli v920 c384_i32_1224
  let c136_i32_1225 : BitVec 32 := 136#32
  let v922 : BitVec 32 := Scalar.addi v921 c136_i32_1225
  let c0_i32_1227 : BitVec 32 := 0#32
  let c1_i32_1229 : BitVec 32 := 1#32
  let arg12 : BitVec 32 := Scf.iv c0_i32_1227 c1_i32_1229 k0_t170
  let v2062 : BitVec 32 := Scalar.addi v922 arg12
  let c0_i32_2787 : BitVec 32 := 0#32
  ![v2062.toNat, 0]
@[reducible] def k0_t171_loop : Scf.Loop 32 :=
  let c0_i32_1232 : BitVec 32 := 0#32
  let c64_i32_1233 : BitVec 32 := 64#32
  let v924 : BitVec 32 := Scalar.addi c0_i32_1232 c64_i32_1233
  let c1_i32_1234 : BitVec 32 := 1#32
  ⟨c0_i32_1232, v924, c1_i32_1234⟩
def k0_off217 (k0_t171 : Fin k0_t171_loop.trips) : Fin 1 → Nat :=
  let c0_i32_1232 : BitVec 32 := 0#32
  let c1_i32_1234 : BitVec 32 := 1#32
  let arg12 : BitVec 32 := Scf.iv c0_i32_1232 c1_i32_1234 k0_t171
  let c384_i32_2785 : BitVec 32 := 384#32
  let v2062 : BitVec 32 := Scalar.muli arg12 c384_i32_2785
  ![v2062.toNat]
@[reducible] def k0_t172_loop : Scf.Loop 32 :=
  let c0_i32_1240 : BitVec 32 := 0#32
  let c48_i32_1241 : BitVec 32 := 48#32
  let v929 : BitVec 32 := Scalar.addi c0_i32_1240 c48_i32_1241
  let c1_i32_1242 : BitVec 32 := 1#32
  ⟨c0_i32_1240, v929, c1_i32_1242⟩
@[reducible] def k0_t173_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off218 (k0_t172 : Fin k0_t172_loop.trips) (k0_t173 : Fin k0_t173_loop.trips) : Fin 2 → Nat :=
  let c0_i32_1240 : BitVec 32 := 0#32
  let c1_i32_1242 : BitVec 32 := 1#32
  let arg12 : BitVec 32 := Scf.iv c0_i32_1240 c1_i32_1242 k0_t172
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t173
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk43 (v2067 : IVec S16 32) : Prop :=
  (∀ a x, ((![v2067] : Fin 1 → IVec S16 32) a x).toNat < S24576.size a)
theorem k0_idx43_inb : ∀ (v2067 : IVec S16 32) (k0_hw43 : k0_chk43 v2067), ∀ a x, ((![v2067] : Fin 1 → IVec S16 32) a x).toNat < S24576.size a := fun v2067 k0_hw43 => k0_hw43
def k0_off219 (k0_t172 : Fin k0_t172_loop.trips) (k0_t173 : Fin k0_t173_loop.trips) : Fin 2 → Nat :=
  let c0_i32_1240 : BitVec 32 := 0#32
  let c1_i32_1242 : BitVec 32 := 1#32
  let arg12 : BitVec 32 := Scf.iv c0_i32_1240 c1_i32_1242 k0_t172
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t173
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t174_loop : Scf.Loop 32 :=
  let c0_i32_1256 : BitVec 32 := 0#32
  let c64_i32_1257 : BitVec 32 := 64#32
  let v944 : BitVec 32 := Scalar.addi c0_i32_1256 c64_i32_1257
  let c1_i32_1258 : BitVec 32 := 1#32
  ⟨c0_i32_1256, v944, c1_i32_1258⟩
def k0_off220 (k0_t174 : Fin k0_t174_loop.trips) : Fin 1 → Nat :=
  let c0_i32_1256 : BitVec 32 := 0#32
  let c1_i32_1258 : BitVec 32 := 1#32
  let arg12 : BitVec 32 := Scf.iv c0_i32_1256 c1_i32_1258 k0_t174
  let c384_i32_2785 : BitVec 32 := 384#32
  let v2063 : BitVec 32 := Scalar.muli arg12 c384_i32_2785
  ![v2063.toNat]
def k0_off221 (i : grid0.Coords) (k0_t174 : Fin k0_t174_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1251 : BitVec 32 := 96#32
  let v939 : BitVec 32 := Scalar.muli v18 c96_i32_1251
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_1252 : BitVec 32 := 8#32
  let v940 : BitVec 32 := Scalar.addi v29 c8_i32_1252
  let v941 : BitVec 32 := Scalar.addi v939 v940
  let c384_i32_1253 : BitVec 32 := 384#32
  let v942 : BitVec 32 := Scalar.muli v941 c384_i32_1253
  let c136_i32_1254 : BitVec 32 := 136#32
  let v943 : BitVec 32 := Scalar.addi v942 c136_i32_1254
  let c0_i32_1256 : BitVec 32 := 0#32
  let c1_i32_1258 : BitVec 32 := 1#32
  let arg12 : BitVec 32 := Scf.iv c0_i32_1256 c1_i32_1258 k0_t174
  let v2062 : BitVec 32 := Scalar.addi v943 arg12
  let c0_i32_2787 : BitVec 32 := 0#32
  ![v2062.toNat, 0]
@[reducible] def k0_t175_loop : Scf.Loop 32 :=
  let c0_i32_1261 : BitVec 32 := 0#32
  let c64_i32_1262 : BitVec 32 := 64#32
  let v945 : BitVec 32 := Scalar.addi c0_i32_1261 c64_i32_1262
  let c1_i32_1263 : BitVec 32 := 1#32
  ⟨c0_i32_1261, v945, c1_i32_1263⟩
def k0_off222 (k0_t175 : Fin k0_t175_loop.trips) : Fin 1 → Nat :=
  let c0_i32_1261 : BitVec 32 := 0#32
  let c1_i32_1263 : BitVec 32 := 1#32
  let arg12 : BitVec 32 := Scf.iv c0_i32_1261 c1_i32_1263 k0_t175
  let c384_i32_2785 : BitVec 32 := 384#32
  let v2062 : BitVec 32 := Scalar.muli arg12 c384_i32_2785
  ![v2062.toNat]
@[reducible] def k0_t176_loop : Scf.Loop 32 :=
  let c0_i32_1269 : BitVec 32 := 0#32
  let c48_i32_1270 : BitVec 32 := 48#32
  let v950 : BitVec 32 := Scalar.addi c0_i32_1269 c48_i32_1270
  let c1_i32_1271 : BitVec 32 := 1#32
  ⟨c0_i32_1269, v950, c1_i32_1271⟩
@[reducible] def k0_t177_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off223 (k0_t176 : Fin k0_t176_loop.trips) (k0_t177 : Fin k0_t177_loop.trips) : Fin 2 → Nat :=
  let c0_i32_1269 : BitVec 32 := 0#32
  let c1_i32_1271 : BitVec 32 := 1#32
  let arg12 : BitVec 32 := Scf.iv c0_i32_1269 c1_i32_1271 k0_t176
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t177
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk44 (v2067 : IVec S16 32) : Prop :=
  (∀ a x, ((![v2067] : Fin 1 → IVec S16 32) a x).toNat < S24576.size a)
theorem k0_idx44_inb : ∀ (v2067 : IVec S16 32) (k0_hw44 : k0_chk44 v2067), ∀ a x, ((![v2067] : Fin 1 → IVec S16 32) a x).toNat < S24576.size a := fun v2067 k0_hw44 => k0_hw44
def k0_off224 (k0_t176 : Fin k0_t176_loop.trips) (k0_t177 : Fin k0_t177_loop.trips) : Fin 2 → Nat :=
  let c0_i32_1269 : BitVec 32 := 0#32
  let c1_i32_1271 : BitVec 32 := 1#32
  let arg12 : BitVec 32 := Scf.iv c0_i32_1269 c1_i32_1271 k0_t176
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t177
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t178_loop : Scf.Loop 32 :=
  let c0_i32_1285 : BitVec 32 := 0#32
  let c64_i32_1286 : BitVec 32 := 64#32
  let v965 : BitVec 32 := Scalar.addi c0_i32_1285 c64_i32_1286
  let c1_i32_1287 : BitVec 32 := 1#32
  ⟨c0_i32_1285, v965, c1_i32_1287⟩
def k0_off225 (k0_t178 : Fin k0_t178_loop.trips) : Fin 1 → Nat :=
  let c0_i32_1285 : BitVec 32 := 0#32
  let c1_i32_1287 : BitVec 32 := 1#32
  let arg12 : BitVec 32 := Scf.iv c0_i32_1285 c1_i32_1287 k0_t178
  let c384_i32_2785 : BitVec 32 := 384#32
  let v2063 : BitVec 32 := Scalar.muli arg12 c384_i32_2785
  ![v2063.toNat]
def k0_off226 (i : grid0.Coords) (k0_t178 : Fin k0_t178_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1280 : BitVec 32 := 96#32
  let v960 : BitVec 32 := Scalar.muli v18 c96_i32_1280
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_1281 : BitVec 32 := 9#32
  let v961 : BitVec 32 := Scalar.addi v29 c9_i32_1281
  let v962 : BitVec 32 := Scalar.addi v960 v961
  let c384_i32_1282 : BitVec 32 := 384#32
  let v963 : BitVec 32 := Scalar.muli v962 c384_i32_1282
  let c136_i32_1283 : BitVec 32 := 136#32
  let v964 : BitVec 32 := Scalar.addi v963 c136_i32_1283
  let c0_i32_1285 : BitVec 32 := 0#32
  let c1_i32_1287 : BitVec 32 := 1#32
  let arg12 : BitVec 32 := Scf.iv c0_i32_1285 c1_i32_1287 k0_t178
  let v2062 : BitVec 32 := Scalar.addi v964 arg12
  let c0_i32_2787 : BitVec 32 := 0#32
  ![v2062.toNat, 0]
@[reducible] def k0_t179_loop : Scf.Loop 32 :=
  let c0_i32_1290 : BitVec 32 := 0#32
  let c64_i32_1291 : BitVec 32 := 64#32
  let v966 : BitVec 32 := Scalar.addi c0_i32_1290 c64_i32_1291
  let c1_i32_1292 : BitVec 32 := 1#32
  ⟨c0_i32_1290, v966, c1_i32_1292⟩
def k0_off227 (k0_t179 : Fin k0_t179_loop.trips) : Fin 1 → Nat :=
  let c0_i32_1290 : BitVec 32 := 0#32
  let c1_i32_1292 : BitVec 32 := 1#32
  let arg12 : BitVec 32 := Scf.iv c0_i32_1290 c1_i32_1292 k0_t179
  let c384_i32_2785 : BitVec 32 := 384#32
  let v2062 : BitVec 32 := Scalar.muli arg12 c384_i32_2785
  ![v2062.toNat]
@[reducible] def k0_t180_loop : Scf.Loop 32 :=
  let c0_i32_1298 : BitVec 32 := 0#32
  let c48_i32_1299 : BitVec 32 := 48#32
  let v971 : BitVec 32 := Scalar.addi c0_i32_1298 c48_i32_1299
  let c1_i32_1300 : BitVec 32 := 1#32
  ⟨c0_i32_1298, v971, c1_i32_1300⟩
@[reducible] def k0_t181_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off228 (k0_t180 : Fin k0_t180_loop.trips) (k0_t181 : Fin k0_t181_loop.trips) : Fin 2 → Nat :=
  let c0_i32_1298 : BitVec 32 := 0#32
  let c1_i32_1300 : BitVec 32 := 1#32
  let arg12 : BitVec 32 := Scf.iv c0_i32_1298 c1_i32_1300 k0_t180
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t181
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk45 (v2067 : IVec S16 32) : Prop :=
  (∀ a x, ((![v2067] : Fin 1 → IVec S16 32) a x).toNat < S24576.size a)
theorem k0_idx45_inb : ∀ (v2067 : IVec S16 32) (k0_hw45 : k0_chk45 v2067), ∀ a x, ((![v2067] : Fin 1 → IVec S16 32) a x).toNat < S24576.size a := fun v2067 k0_hw45 => k0_hw45
def k0_off229 (k0_t180 : Fin k0_t180_loop.trips) (k0_t181 : Fin k0_t181_loop.trips) : Fin 2 → Nat :=
  let c0_i32_1298 : BitVec 32 := 0#32
  let c1_i32_1300 : BitVec 32 := 1#32
  let arg12 : BitVec 32 := Scf.iv c0_i32_1298 c1_i32_1300 k0_t180
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t181
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t182_loop : Scf.Loop 32 :=
  let c0_i32_1314 : BitVec 32 := 0#32
  let c64_i32_1315 : BitVec 32 := 64#32
  let v986 : BitVec 32 := Scalar.addi c0_i32_1314 c64_i32_1315
  let c1_i32_1316 : BitVec 32 := 1#32
  ⟨c0_i32_1314, v986, c1_i32_1316⟩
def k0_off230 (k0_t182 : Fin k0_t182_loop.trips) : Fin 1 → Nat :=
  let c0_i32_1314 : BitVec 32 := 0#32
  let c1_i32_1316 : BitVec 32 := 1#32
  let arg12 : BitVec 32 := Scf.iv c0_i32_1314 c1_i32_1316 k0_t182
  let c384_i32_2785 : BitVec 32 := 384#32
  let v2063 : BitVec 32 := Scalar.muli arg12 c384_i32_2785
  ![v2063.toNat]
def k0_off231 (i : grid0.Coords) (k0_t182 : Fin k0_t182_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1309 : BitVec 32 := 96#32
  let v981 : BitVec 32 := Scalar.muli v18 c96_i32_1309
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_1310 : BitVec 32 := 10#32
  let v982 : BitVec 32 := Scalar.addi v29 c10_i32_1310
  let v983 : BitVec 32 := Scalar.addi v981 v982
  let c384_i32_1311 : BitVec 32 := 384#32
  let v984 : BitVec 32 := Scalar.muli v983 c384_i32_1311
  let c136_i32_1312 : BitVec 32 := 136#32
  let v985 : BitVec 32 := Scalar.addi v984 c136_i32_1312
  let c0_i32_1314 : BitVec 32 := 0#32
  let c1_i32_1316 : BitVec 32 := 1#32
  let arg12 : BitVec 32 := Scf.iv c0_i32_1314 c1_i32_1316 k0_t182
  let v2062 : BitVec 32 := Scalar.addi v985 arg12
  let c0_i32_2787 : BitVec 32 := 0#32
  ![v2062.toNat, 0]
@[reducible] def k0_t183_loop : Scf.Loop 32 :=
  let c0_i32_1319 : BitVec 32 := 0#32
  let c64_i32_1320 : BitVec 32 := 64#32
  let v987 : BitVec 32 := Scalar.addi c0_i32_1319 c64_i32_1320
  let c1_i32_1321 : BitVec 32 := 1#32
  ⟨c0_i32_1319, v987, c1_i32_1321⟩
def k0_off232 (k0_t183 : Fin k0_t183_loop.trips) : Fin 1 → Nat :=
  let c0_i32_1319 : BitVec 32 := 0#32
  let c1_i32_1321 : BitVec 32 := 1#32
  let arg12 : BitVec 32 := Scf.iv c0_i32_1319 c1_i32_1321 k0_t183
  let c384_i32_2785 : BitVec 32 := 384#32
  let v2062 : BitVec 32 := Scalar.muli arg12 c384_i32_2785
  ![v2062.toNat]
@[reducible] def k0_t184_loop : Scf.Loop 32 :=
  let c0_i32_1327 : BitVec 32 := 0#32
  let c48_i32_1328 : BitVec 32 := 48#32
  let v992 : BitVec 32 := Scalar.addi c0_i32_1327 c48_i32_1328
  let c1_i32_1329 : BitVec 32 := 1#32
  ⟨c0_i32_1327, v992, c1_i32_1329⟩
@[reducible] def k0_t185_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off233 (k0_t184 : Fin k0_t184_loop.trips) (k0_t185 : Fin k0_t185_loop.trips) : Fin 2 → Nat :=
  let c0_i32_1327 : BitVec 32 := 0#32
  let c1_i32_1329 : BitVec 32 := 1#32
  let arg12 : BitVec 32 := Scf.iv c0_i32_1327 c1_i32_1329 k0_t184
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t185
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk46 (v2067 : IVec S16 32) : Prop :=
  (∀ a x, ((![v2067] : Fin 1 → IVec S16 32) a x).toNat < S24576.size a)
theorem k0_idx46_inb : ∀ (v2067 : IVec S16 32) (k0_hw46 : k0_chk46 v2067), ∀ a x, ((![v2067] : Fin 1 → IVec S16 32) a x).toNat < S24576.size a := fun v2067 k0_hw46 => k0_hw46
def k0_off234 (k0_t184 : Fin k0_t184_loop.trips) (k0_t185 : Fin k0_t185_loop.trips) : Fin 2 → Nat :=
  let c0_i32_1327 : BitVec 32 := 0#32
  let c1_i32_1329 : BitVec 32 := 1#32
  let arg12 : BitVec 32 := Scf.iv c0_i32_1327 c1_i32_1329 k0_t184
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t185
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t186_loop : Scf.Loop 32 :=
  let c0_i32_1343 : BitVec 32 := 0#32
  let c64_i32_1344 : BitVec 32 := 64#32
  let v1007 : BitVec 32 := Scalar.addi c0_i32_1343 c64_i32_1344
  let c1_i32_1345 : BitVec 32 := 1#32
  ⟨c0_i32_1343, v1007, c1_i32_1345⟩
def k0_off235 (k0_t186 : Fin k0_t186_loop.trips) : Fin 1 → Nat :=
  let c0_i32_1343 : BitVec 32 := 0#32
  let c1_i32_1345 : BitVec 32 := 1#32
  let arg12 : BitVec 32 := Scf.iv c0_i32_1343 c1_i32_1345 k0_t186
  let c384_i32_2785 : BitVec 32 := 384#32
  let v2063 : BitVec 32 := Scalar.muli arg12 c384_i32_2785
  ![v2063.toNat]
def k0_off236 (i : grid0.Coords) (k0_t186 : Fin k0_t186_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1338 : BitVec 32 := 96#32
  let v1002 : BitVec 32 := Scalar.muli v18 c96_i32_1338
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_1339 : BitVec 32 := 11#32
  let v1003 : BitVec 32 := Scalar.addi v29 c11_i32_1339
  let v1004 : BitVec 32 := Scalar.addi v1002 v1003
  let c384_i32_1340 : BitVec 32 := 384#32
  let v1005 : BitVec 32 := Scalar.muli v1004 c384_i32_1340
  let c136_i32_1341 : BitVec 32 := 136#32
  let v1006 : BitVec 32 := Scalar.addi v1005 c136_i32_1341
  let c0_i32_1343 : BitVec 32 := 0#32
  let c1_i32_1345 : BitVec 32 := 1#32
  let arg12 : BitVec 32 := Scf.iv c0_i32_1343 c1_i32_1345 k0_t186
  let v2062 : BitVec 32 := Scalar.addi v1006 arg12
  let c0_i32_2787 : BitVec 32 := 0#32
  ![v2062.toNat, 0]
@[reducible] def k0_t187_loop : Scf.Loop 32 :=
  let c0_i32_1348 : BitVec 32 := 0#32
  let c64_i32_1349 : BitVec 32 := 64#32
  let v1008 : BitVec 32 := Scalar.addi c0_i32_1348 c64_i32_1349
  let c1_i32_1350 : BitVec 32 := 1#32
  ⟨c0_i32_1348, v1008, c1_i32_1350⟩
def k0_off237 (k0_t187 : Fin k0_t187_loop.trips) : Fin 1 → Nat :=
  let c0_i32_1348 : BitVec 32 := 0#32
  let c1_i32_1350 : BitVec 32 := 1#32
  let arg12 : BitVec 32 := Scf.iv c0_i32_1348 c1_i32_1350 k0_t187
  let c384_i32_2785 : BitVec 32 := 384#32
  let v2062 : BitVec 32 := Scalar.muli arg12 c384_i32_2785
  ![v2062.toNat]
@[reducible] def k0_t188_loop : Scf.Loop 32 :=
  let c0_i32_1356 : BitVec 32 := 0#32
  let c48_i32_1357 : BitVec 32 := 48#32
  let v1013 : BitVec 32 := Scalar.addi c0_i32_1356 c48_i32_1357
  let c1_i32_1358 : BitVec 32 := 1#32
  ⟨c0_i32_1356, v1013, c1_i32_1358⟩
@[reducible] def k0_t189_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off238 (k0_t188 : Fin k0_t188_loop.trips) (k0_t189 : Fin k0_t189_loop.trips) : Fin 2 → Nat :=
  let c0_i32_1356 : BitVec 32 := 0#32
  let c1_i32_1358 : BitVec 32 := 1#32
  let arg12 : BitVec 32 := Scf.iv c0_i32_1356 c1_i32_1358 k0_t188
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t189
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk47 (v2067 : IVec S16 32) : Prop :=
  (∀ a x, ((![v2067] : Fin 1 → IVec S16 32) a x).toNat < S24576.size a)
theorem k0_idx47_inb : ∀ (v2067 : IVec S16 32) (k0_hw47 : k0_chk47 v2067), ∀ a x, ((![v2067] : Fin 1 → IVec S16 32) a x).toNat < S24576.size a := fun v2067 k0_hw47 => k0_hw47
def k0_off239 (k0_t188 : Fin k0_t188_loop.trips) (k0_t189 : Fin k0_t189_loop.trips) : Fin 2 → Nat :=
  let c0_i32_1356 : BitVec 32 := 0#32
  let c1_i32_1358 : BitVec 32 := 1#32
  let arg12 : BitVec 32 := Scf.iv c0_i32_1356 c1_i32_1358 k0_t188
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t189
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t190_loop : Scf.Loop 32 :=
  let c0_i32_1368 : BitVec 32 := 0#32
  let c64_i32_1369 : BitVec 32 := 64#32
  let v1023 : BitVec 32 := Scalar.addi c0_i32_1368 c64_i32_1369
  let c1_i32_1370 : BitVec 32 := 1#32
  ⟨c0_i32_1368, v1023, c1_i32_1370⟩
def k0_off240 (k0_t190 : Fin k0_t190_loop.trips) : Fin 1 → Nat :=
  let c0_i32_1368 : BitVec 32 := 0#32
  let c1_i32_1370 : BitVec 32 := 1#32
  let arg12 : BitVec 32 := Scf.iv c0_i32_1368 c1_i32_1370 k0_t190
  let c384_i32_2785 : BitVec 32 := 384#32
  let v2062 : BitVec 32 := Scalar.muli arg12 c384_i32_2785
  ![v2062.toNat]
@[reducible] def k0_t191_loop : Scf.Loop 32 :=
  let c0_i32_1376 : BitVec 32 := 0#32
  let c48_i32_1377 : BitVec 32 := 48#32
  let v1028 : BitVec 32 := Scalar.addi c0_i32_1376 c48_i32_1377
  let c1_i32_1378 : BitVec 32 := 1#32
  ⟨c0_i32_1376, v1028, c1_i32_1378⟩
@[reducible] def k0_t192_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off241 (k0_t191 : Fin k0_t191_loop.trips) (k0_t192 : Fin k0_t192_loop.trips) : Fin 2 → Nat :=
  let c0_i32_1376 : BitVec 32 := 0#32
  let c1_i32_1378 : BitVec 32 := 1#32
  let arg12 : BitVec 32 := Scf.iv c0_i32_1376 c1_i32_1378 k0_t191
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t192
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk48 (v2067 : IVec S16 32) : Prop :=
  (∀ a x, ((![v2067] : Fin 1 → IVec S16 32) a x).toNat < S24576.size a)
theorem k0_idx48_inb : ∀ (v2067 : IVec S16 32) (k0_hw48 : k0_chk48 v2067), ∀ a x, ((![v2067] : Fin 1 → IVec S16 32) a x).toNat < S24576.size a := fun v2067 k0_hw48 => k0_hw48
def k0_off242 (k0_t191 : Fin k0_t191_loop.trips) (k0_t192 : Fin k0_t192_loop.trips) : Fin 2 → Nat :=
  let c0_i32_1376 : BitVec 32 := 0#32
  let c1_i32_1378 : BitVec 32 := 1#32
  let arg12 : BitVec 32 := Scf.iv c0_i32_1376 c1_i32_1378 k0_t191
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t192
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t193_loop : Scf.Loop 32 :=
  let c0_i32_1391 : BitVec 32 := 0#32
  let c64_i32_1392 : BitVec 32 := 64#32
  let v1043 : BitVec 32 := Scalar.addi c0_i32_1391 c64_i32_1392
  let c1_i32_1393 : BitVec 32 := 1#32
  ⟨c0_i32_1391, v1043, c1_i32_1393⟩
def k0_off243 (k0_t193 : Fin k0_t193_loop.trips) : Fin 1 → Nat :=
  let c0_i32_1391 : BitVec 32 := 0#32
  let c1_i32_1393 : BitVec 32 := 1#32
  let arg12 : BitVec 32 := Scf.iv c0_i32_1391 c1_i32_1393 k0_t193
  let c384_i32_2785 : BitVec 32 := 384#32
  let v2063 : BitVec 32 := Scalar.muli arg12 c384_i32_2785
  ![v2063.toNat]
def k0_off244 (i : grid0.Coords) (k0_t193 : Fin k0_t193_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1387 : BitVec 32 := 96#32
  let v1038 : BitVec 32 := Scalar.muli v18 c96_i32_1387
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_1388 : BitVec 32 := 0#32
  let v1039 : BitVec 32 := Scalar.addi v29 c0_i32_1388
  let v1040 : BitVec 32 := Scalar.addi v1038 v1039
  let c384_i32_1389 : BitVec 32 := 384#32
  let v1041 : BitVec 32 := Scalar.muli v1040 c384_i32_1389
  let c184_i32 : BitVec 32 := 184#32
  let v1042 : BitVec 32 := Scalar.addi v1041 c184_i32
  let c0_i32_1391 : BitVec 32 := 0#32
  let c1_i32_1393 : BitVec 32 := 1#32
  let arg12 : BitVec 32 := Scf.iv c0_i32_1391 c1_i32_1393 k0_t193
  let v2062 : BitVec 32 := Scalar.addi v1042 arg12
  let c0_i32_2787 : BitVec 32 := 0#32
  ![v2062.toNat, 0]
@[reducible] def k0_t194_loop : Scf.Loop 32 :=
  let c0_i32_1401 : BitVec 32 := 0#32
  let c64_i32_1402 : BitVec 32 := 64#32
  let v1051 : BitVec 32 := Scalar.addi c0_i32_1401 c64_i32_1402
  let c1_i32_1403 : BitVec 32 := 1#32
  ⟨c0_i32_1401, v1051, c1_i32_1403⟩
def k0_off245 (k0_t194 : Fin k0_t194_loop.trips) : Fin 1 → Nat :=
  let c0_i32_1401 : BitVec 32 := 0#32
  let c1_i32_1403 : BitVec 32 := 1#32
  let arg12 : BitVec 32 := Scf.iv c0_i32_1401 c1_i32_1403 k0_t194
  let c384_i32_2785 : BitVec 32 := 384#32
  let v2063 : BitVec 32 := Scalar.muli arg12 c384_i32_2785
  ![v2063.toNat]
def k0_off246 (i : grid0.Coords) (k0_t194 : Fin k0_t194_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1396 : BitVec 32 := 96#32
  let v1046 : BitVec 32 := Scalar.muli v18 c96_i32_1396
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_1397 : BitVec 32 := 1#32
  let v1047 : BitVec 32 := Scalar.addi v29 c1_i32_1397
  let v1048 : BitVec 32 := Scalar.addi v1046 v1047
  let c384_i32_1398 : BitVec 32 := 384#32
  let v1049 : BitVec 32 := Scalar.muli v1048 c384_i32_1398
  let c184_i32_1399 : BitVec 32 := 184#32
  let v1050 : BitVec 32 := Scalar.addi v1049 c184_i32_1399
  let c0_i32_1401 : BitVec 32 := 0#32
  let c1_i32_1403 : BitVec 32 := 1#32
  let arg12 : BitVec 32 := Scf.iv c0_i32_1401 c1_i32_1403 k0_t194
  let v2062 : BitVec 32 := Scalar.addi v1050 arg12
  let c0_i32_2787 : BitVec 32 := 0#32
  ![v2062.toNat, 0]
@[reducible] def k0_t195_loop : Scf.Loop 32 :=
  let c0_i32_1406 : BitVec 32 := 0#32
  let c64_i32_1407 : BitVec 32 := 64#32
  let v1052 : BitVec 32 := Scalar.addi c0_i32_1406 c64_i32_1407
  let c1_i32_1408 : BitVec 32 := 1#32
  ⟨c0_i32_1406, v1052, c1_i32_1408⟩
def k0_off247 (k0_t195 : Fin k0_t195_loop.trips) : Fin 1 → Nat :=
  let c0_i32_1406 : BitVec 32 := 0#32
  let c1_i32_1408 : BitVec 32 := 1#32
  let arg12 : BitVec 32 := Scf.iv c0_i32_1406 c1_i32_1408 k0_t195
  let c384_i32_2785 : BitVec 32 := 384#32
  let v2062 : BitVec 32 := Scalar.muli arg12 c384_i32_2785
  ![v2062.toNat]
@[reducible] def k0_t196_loop : Scf.Loop 32 :=
  let c0_i32_1414 : BitVec 32 := 0#32
  let c48_i32_1415 : BitVec 32 := 48#32
  let v1057 : BitVec 32 := Scalar.addi c0_i32_1414 c48_i32_1415
  let c1_i32_1416 : BitVec 32 := 1#32
  ⟨c0_i32_1414, v1057, c1_i32_1416⟩
@[reducible] def k0_t197_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off248 (k0_t196 : Fin k0_t196_loop.trips) (k0_t197 : Fin k0_t197_loop.trips) : Fin 2 → Nat :=
  let c0_i32_1414 : BitVec 32 := 0#32
  let c1_i32_1416 : BitVec 32 := 1#32
  let arg12 : BitVec 32 := Scf.iv c0_i32_1414 c1_i32_1416 k0_t196
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t197
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk49 (v2067 : IVec S16 32) : Prop :=
  (∀ a x, ((![v2067] : Fin 1 → IVec S16 32) a x).toNat < S24576.size a)
theorem k0_idx49_inb : ∀ (v2067 : IVec S16 32) (k0_hw49 : k0_chk49 v2067), ∀ a x, ((![v2067] : Fin 1 → IVec S16 32) a x).toNat < S24576.size a := fun v2067 k0_hw49 => k0_hw49
def k0_off249 (k0_t196 : Fin k0_t196_loop.trips) (k0_t197 : Fin k0_t197_loop.trips) : Fin 2 → Nat :=
  let c0_i32_1414 : BitVec 32 := 0#32
  let c1_i32_1416 : BitVec 32 := 1#32
  let arg12 : BitVec 32 := Scf.iv c0_i32_1414 c1_i32_1416 k0_t196
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t197
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t198_loop : Scf.Loop 32 :=
  let c0_i32_1430 : BitVec 32 := 0#32
  let c64_i32_1431 : BitVec 32 := 64#32
  let v1072 : BitVec 32 := Scalar.addi c0_i32_1430 c64_i32_1431
  let c1_i32_1432 : BitVec 32 := 1#32
  ⟨c0_i32_1430, v1072, c1_i32_1432⟩
def k0_off250 (k0_t198 : Fin k0_t198_loop.trips) : Fin 1 → Nat :=
  let c0_i32_1430 : BitVec 32 := 0#32
  let c1_i32_1432 : BitVec 32 := 1#32
  let arg12 : BitVec 32 := Scf.iv c0_i32_1430 c1_i32_1432 k0_t198
  let c384_i32_2785 : BitVec 32 := 384#32
  let v2063 : BitVec 32 := Scalar.muli arg12 c384_i32_2785
  ![v2063.toNat]
def k0_off251 (i : grid0.Coords) (k0_t198 : Fin k0_t198_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1425 : BitVec 32 := 96#32
  let v1067 : BitVec 32 := Scalar.muli v18 c96_i32_1425
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_1426 : BitVec 32 := 2#32
  let v1068 : BitVec 32 := Scalar.addi v29 c2_i32_1426
  let v1069 : BitVec 32 := Scalar.addi v1067 v1068
  let c384_i32_1427 : BitVec 32 := 384#32
  let v1070 : BitVec 32 := Scalar.muli v1069 c384_i32_1427
  let c184_i32_1428 : BitVec 32 := 184#32
  let v1071 : BitVec 32 := Scalar.addi v1070 c184_i32_1428
  let c0_i32_1430 : BitVec 32 := 0#32
  let c1_i32_1432 : BitVec 32 := 1#32
  let arg12 : BitVec 32 := Scf.iv c0_i32_1430 c1_i32_1432 k0_t198
  let v2062 : BitVec 32 := Scalar.addi v1071 arg12
  let c0_i32_2787 : BitVec 32 := 0#32
  ![v2062.toNat, 0]
@[reducible] def k0_t199_loop : Scf.Loop 32 :=
  let c0_i32_1435 : BitVec 32 := 0#32
  let c64_i32_1436 : BitVec 32 := 64#32
  let v1073 : BitVec 32 := Scalar.addi c0_i32_1435 c64_i32_1436
  let c1_i32_1437 : BitVec 32 := 1#32
  ⟨c0_i32_1435, v1073, c1_i32_1437⟩
def k0_off252 (k0_t199 : Fin k0_t199_loop.trips) : Fin 1 → Nat :=
  let c0_i32_1435 : BitVec 32 := 0#32
  let c1_i32_1437 : BitVec 32 := 1#32
  let arg12 : BitVec 32 := Scf.iv c0_i32_1435 c1_i32_1437 k0_t199
  let c384_i32_2785 : BitVec 32 := 384#32
  let v2062 : BitVec 32 := Scalar.muli arg12 c384_i32_2785
  ![v2062.toNat]
@[reducible] def k0_t200_loop : Scf.Loop 32 :=
  let c0_i32_1443 : BitVec 32 := 0#32
  let c48_i32_1444 : BitVec 32 := 48#32
  let v1078 : BitVec 32 := Scalar.addi c0_i32_1443 c48_i32_1444
  let c1_i32_1445 : BitVec 32 := 1#32
  ⟨c0_i32_1443, v1078, c1_i32_1445⟩
@[reducible] def k0_t201_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off253 (k0_t200 : Fin k0_t200_loop.trips) (k0_t201 : Fin k0_t201_loop.trips) : Fin 2 → Nat :=
  let c0_i32_1443 : BitVec 32 := 0#32
  let c1_i32_1445 : BitVec 32 := 1#32
  let arg12 : BitVec 32 := Scf.iv c0_i32_1443 c1_i32_1445 k0_t200
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t201
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk50 (v2067 : IVec S16 32) : Prop :=
  (∀ a x, ((![v2067] : Fin 1 → IVec S16 32) a x).toNat < S24576.size a)
theorem k0_idx50_inb : ∀ (v2067 : IVec S16 32) (k0_hw50 : k0_chk50 v2067), ∀ a x, ((![v2067] : Fin 1 → IVec S16 32) a x).toNat < S24576.size a := fun v2067 k0_hw50 => k0_hw50
def k0_off254 (k0_t200 : Fin k0_t200_loop.trips) (k0_t201 : Fin k0_t201_loop.trips) : Fin 2 → Nat :=
  let c0_i32_1443 : BitVec 32 := 0#32
  let c1_i32_1445 : BitVec 32 := 1#32
  let arg12 : BitVec 32 := Scf.iv c0_i32_1443 c1_i32_1445 k0_t200
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t201
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t202_loop : Scf.Loop 32 :=
  let c0_i32_1459 : BitVec 32 := 0#32
  let c64_i32_1460 : BitVec 32 := 64#32
  let v1093 : BitVec 32 := Scalar.addi c0_i32_1459 c64_i32_1460
  let c1_i32_1461 : BitVec 32 := 1#32
  ⟨c0_i32_1459, v1093, c1_i32_1461⟩
def k0_off255 (k0_t202 : Fin k0_t202_loop.trips) : Fin 1 → Nat :=
  let c0_i32_1459 : BitVec 32 := 0#32
  let c1_i32_1461 : BitVec 32 := 1#32
  let arg12 : BitVec 32 := Scf.iv c0_i32_1459 c1_i32_1461 k0_t202
  let c384_i32_2785 : BitVec 32 := 384#32
  let v2063 : BitVec 32 := Scalar.muli arg12 c384_i32_2785
  ![v2063.toNat]
def k0_off256 (i : grid0.Coords) (k0_t202 : Fin k0_t202_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1454 : BitVec 32 := 96#32
  let v1088 : BitVec 32 := Scalar.muli v18 c96_i32_1454
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_1455 : BitVec 32 := 3#32
  let v1089 : BitVec 32 := Scalar.addi v29 c3_i32_1455
  let v1090 : BitVec 32 := Scalar.addi v1088 v1089
  let c384_i32_1456 : BitVec 32 := 384#32
  let v1091 : BitVec 32 := Scalar.muli v1090 c384_i32_1456
  let c184_i32_1457 : BitVec 32 := 184#32
  let v1092 : BitVec 32 := Scalar.addi v1091 c184_i32_1457
  let c0_i32_1459 : BitVec 32 := 0#32
  let c1_i32_1461 : BitVec 32 := 1#32
  let arg12 : BitVec 32 := Scf.iv c0_i32_1459 c1_i32_1461 k0_t202
  let v2062 : BitVec 32 := Scalar.addi v1092 arg12
  let c0_i32_2787 : BitVec 32 := 0#32
  ![v2062.toNat, 0]
@[reducible] def k0_t203_loop : Scf.Loop 32 :=
  let c0_i32_1464 : BitVec 32 := 0#32
  let c64_i32_1465 : BitVec 32 := 64#32
  let v1094 : BitVec 32 := Scalar.addi c0_i32_1464 c64_i32_1465
  let c1_i32_1466 : BitVec 32 := 1#32
  ⟨c0_i32_1464, v1094, c1_i32_1466⟩
def k0_off257 (k0_t203 : Fin k0_t203_loop.trips) : Fin 1 → Nat :=
  let c0_i32_1464 : BitVec 32 := 0#32
  let c1_i32_1466 : BitVec 32 := 1#32
  let arg12 : BitVec 32 := Scf.iv c0_i32_1464 c1_i32_1466 k0_t203
  let c384_i32_2785 : BitVec 32 := 384#32
  let v2062 : BitVec 32 := Scalar.muli arg12 c384_i32_2785
  ![v2062.toNat]
@[reducible] def k0_t204_loop : Scf.Loop 32 :=
  let c0_i32_1472 : BitVec 32 := 0#32
  let c48_i32_1473 : BitVec 32 := 48#32
  let v1099 : BitVec 32 := Scalar.addi c0_i32_1472 c48_i32_1473
  let c1_i32_1474 : BitVec 32 := 1#32
  ⟨c0_i32_1472, v1099, c1_i32_1474⟩
@[reducible] def k0_t205_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off258 (k0_t204 : Fin k0_t204_loop.trips) (k0_t205 : Fin k0_t205_loop.trips) : Fin 2 → Nat :=
  let c0_i32_1472 : BitVec 32 := 0#32
  let c1_i32_1474 : BitVec 32 := 1#32
  let arg12 : BitVec 32 := Scf.iv c0_i32_1472 c1_i32_1474 k0_t204
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t205
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk51 (v2067 : IVec S16 32) : Prop :=
  (∀ a x, ((![v2067] : Fin 1 → IVec S16 32) a x).toNat < S24576.size a)
theorem k0_idx51_inb : ∀ (v2067 : IVec S16 32) (k0_hw51 : k0_chk51 v2067), ∀ a x, ((![v2067] : Fin 1 → IVec S16 32) a x).toNat < S24576.size a := fun v2067 k0_hw51 => k0_hw51
def k0_off259 (k0_t204 : Fin k0_t204_loop.trips) (k0_t205 : Fin k0_t205_loop.trips) : Fin 2 → Nat :=
  let c0_i32_1472 : BitVec 32 := 0#32
  let c1_i32_1474 : BitVec 32 := 1#32
  let arg12 : BitVec 32 := Scf.iv c0_i32_1472 c1_i32_1474 k0_t204
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t205
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t206_loop : Scf.Loop 32 :=
  let c0_i32_1488 : BitVec 32 := 0#32
  let c64_i32_1489 : BitVec 32 := 64#32
  let v1114 : BitVec 32 := Scalar.addi c0_i32_1488 c64_i32_1489
  let c1_i32_1490 : BitVec 32 := 1#32
  ⟨c0_i32_1488, v1114, c1_i32_1490⟩
def k0_off260 (k0_t206 : Fin k0_t206_loop.trips) : Fin 1 → Nat :=
  let c0_i32_1488 : BitVec 32 := 0#32
  let c1_i32_1490 : BitVec 32 := 1#32
  let arg12 : BitVec 32 := Scf.iv c0_i32_1488 c1_i32_1490 k0_t206
  let c384_i32_2785 : BitVec 32 := 384#32
  let v2063 : BitVec 32 := Scalar.muli arg12 c384_i32_2785
  ![v2063.toNat]
def k0_off261 (i : grid0.Coords) (k0_t206 : Fin k0_t206_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1483 : BitVec 32 := 96#32
  let v1109 : BitVec 32 := Scalar.muli v18 c96_i32_1483
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_1484 : BitVec 32 := 4#32
  let v1110 : BitVec 32 := Scalar.addi v29 c4_i32_1484
  let v1111 : BitVec 32 := Scalar.addi v1109 v1110
  let c384_i32_1485 : BitVec 32 := 384#32
  let v1112 : BitVec 32 := Scalar.muli v1111 c384_i32_1485
  let c184_i32_1486 : BitVec 32 := 184#32
  let v1113 : BitVec 32 := Scalar.addi v1112 c184_i32_1486
  let c0_i32_1488 : BitVec 32 := 0#32
  let c1_i32_1490 : BitVec 32 := 1#32
  let arg12 : BitVec 32 := Scf.iv c0_i32_1488 c1_i32_1490 k0_t206
  let v2062 : BitVec 32 := Scalar.addi v1113 arg12
  let c0_i32_2787 : BitVec 32 := 0#32
  ![v2062.toNat, 0]
@[reducible] def k0_t207_loop : Scf.Loop 32 :=
  let c0_i32_1493 : BitVec 32 := 0#32
  let c64_i32_1494 : BitVec 32 := 64#32
  let v1115 : BitVec 32 := Scalar.addi c0_i32_1493 c64_i32_1494
  let c1_i32_1495 : BitVec 32 := 1#32
  ⟨c0_i32_1493, v1115, c1_i32_1495⟩
def k0_off262 (k0_t207 : Fin k0_t207_loop.trips) : Fin 1 → Nat :=
  let c0_i32_1493 : BitVec 32 := 0#32
  let c1_i32_1495 : BitVec 32 := 1#32
  let arg12 : BitVec 32 := Scf.iv c0_i32_1493 c1_i32_1495 k0_t207
  let c384_i32_2785 : BitVec 32 := 384#32
  let v2062 : BitVec 32 := Scalar.muli arg12 c384_i32_2785
  ![v2062.toNat]
@[reducible] def k0_t208_loop : Scf.Loop 32 :=
  let c0_i32_1501 : BitVec 32 := 0#32
  let c48_i32_1502 : BitVec 32 := 48#32
  let v1120 : BitVec 32 := Scalar.addi c0_i32_1501 c48_i32_1502
  let c1_i32_1503 : BitVec 32 := 1#32
  ⟨c0_i32_1501, v1120, c1_i32_1503⟩
@[reducible] def k0_t209_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off263 (k0_t208 : Fin k0_t208_loop.trips) (k0_t209 : Fin k0_t209_loop.trips) : Fin 2 → Nat :=
  let c0_i32_1501 : BitVec 32 := 0#32
  let c1_i32_1503 : BitVec 32 := 1#32
  let arg12 : BitVec 32 := Scf.iv c0_i32_1501 c1_i32_1503 k0_t208
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t209
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk52 (v2067 : IVec S16 32) : Prop :=
  (∀ a x, ((![v2067] : Fin 1 → IVec S16 32) a x).toNat < S24576.size a)
theorem k0_idx52_inb : ∀ (v2067 : IVec S16 32) (k0_hw52 : k0_chk52 v2067), ∀ a x, ((![v2067] : Fin 1 → IVec S16 32) a x).toNat < S24576.size a := fun v2067 k0_hw52 => k0_hw52
def k0_off264 (k0_t208 : Fin k0_t208_loop.trips) (k0_t209 : Fin k0_t209_loop.trips) : Fin 2 → Nat :=
  let c0_i32_1501 : BitVec 32 := 0#32
  let c1_i32_1503 : BitVec 32 := 1#32
  let arg12 : BitVec 32 := Scf.iv c0_i32_1501 c1_i32_1503 k0_t208
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t209
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t210_loop : Scf.Loop 32 :=
  let c0_i32_1517 : BitVec 32 := 0#32
  let c64_i32_1518 : BitVec 32 := 64#32
  let v1135 : BitVec 32 := Scalar.addi c0_i32_1517 c64_i32_1518
  let c1_i32_1519 : BitVec 32 := 1#32
  ⟨c0_i32_1517, v1135, c1_i32_1519⟩
def k0_off265 (k0_t210 : Fin k0_t210_loop.trips) : Fin 1 → Nat :=
  let c0_i32_1517 : BitVec 32 := 0#32
  let c1_i32_1519 : BitVec 32 := 1#32
  let arg12 : BitVec 32 := Scf.iv c0_i32_1517 c1_i32_1519 k0_t210
  let c384_i32_2785 : BitVec 32 := 384#32
  let v2063 : BitVec 32 := Scalar.muli arg12 c384_i32_2785
  ![v2063.toNat]
def k0_off266 (i : grid0.Coords) (k0_t210 : Fin k0_t210_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1512 : BitVec 32 := 96#32
  let v1130 : BitVec 32 := Scalar.muli v18 c96_i32_1512
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_1513 : BitVec 32 := 5#32
  let v1131 : BitVec 32 := Scalar.addi v29 c5_i32_1513
  let v1132 : BitVec 32 := Scalar.addi v1130 v1131
  let c384_i32_1514 : BitVec 32 := 384#32
  let v1133 : BitVec 32 := Scalar.muli v1132 c384_i32_1514
  let c184_i32_1515 : BitVec 32 := 184#32
  let v1134 : BitVec 32 := Scalar.addi v1133 c184_i32_1515
  let c0_i32_1517 : BitVec 32 := 0#32
  let c1_i32_1519 : BitVec 32 := 1#32
  let arg12 : BitVec 32 := Scf.iv c0_i32_1517 c1_i32_1519 k0_t210
  let v2062 : BitVec 32 := Scalar.addi v1134 arg12
  let c0_i32_2787 : BitVec 32 := 0#32
  ![v2062.toNat, 0]
@[reducible] def k0_t211_loop : Scf.Loop 32 :=
  let c0_i32_1522 : BitVec 32 := 0#32
  let c64_i32_1523 : BitVec 32 := 64#32
  let v1136 : BitVec 32 := Scalar.addi c0_i32_1522 c64_i32_1523
  let c1_i32_1524 : BitVec 32 := 1#32
  ⟨c0_i32_1522, v1136, c1_i32_1524⟩
def k0_off267 (k0_t211 : Fin k0_t211_loop.trips) : Fin 1 → Nat :=
  let c0_i32_1522 : BitVec 32 := 0#32
  let c1_i32_1524 : BitVec 32 := 1#32
  let arg12 : BitVec 32 := Scf.iv c0_i32_1522 c1_i32_1524 k0_t211
  let c384_i32_2785 : BitVec 32 := 384#32
  let v2062 : BitVec 32 := Scalar.muli arg12 c384_i32_2785
  ![v2062.toNat]
@[reducible] def k0_t212_loop : Scf.Loop 32 :=
  let c0_i32_1530 : BitVec 32 := 0#32
  let c48_i32_1531 : BitVec 32 := 48#32
  let v1141 : BitVec 32 := Scalar.addi c0_i32_1530 c48_i32_1531
  let c1_i32_1532 : BitVec 32 := 1#32
  ⟨c0_i32_1530, v1141, c1_i32_1532⟩
@[reducible] def k0_t213_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off268 (k0_t212 : Fin k0_t212_loop.trips) (k0_t213 : Fin k0_t213_loop.trips) : Fin 2 → Nat :=
  let c0_i32_1530 : BitVec 32 := 0#32
  let c1_i32_1532 : BitVec 32 := 1#32
  let arg12 : BitVec 32 := Scf.iv c0_i32_1530 c1_i32_1532 k0_t212
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t213
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk53 (v2067 : IVec S16 32) : Prop :=
  (∀ a x, ((![v2067] : Fin 1 → IVec S16 32) a x).toNat < S24576.size a)
theorem k0_idx53_inb : ∀ (v2067 : IVec S16 32) (k0_hw53 : k0_chk53 v2067), ∀ a x, ((![v2067] : Fin 1 → IVec S16 32) a x).toNat < S24576.size a := fun v2067 k0_hw53 => k0_hw53
def k0_off269 (k0_t212 : Fin k0_t212_loop.trips) (k0_t213 : Fin k0_t213_loop.trips) : Fin 2 → Nat :=
  let c0_i32_1530 : BitVec 32 := 0#32
  let c1_i32_1532 : BitVec 32 := 1#32
  let arg12 : BitVec 32 := Scf.iv c0_i32_1530 c1_i32_1532 k0_t212
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t213
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t214_loop : Scf.Loop 32 :=
  let c0_i32_1546 : BitVec 32 := 0#32
  let c64_i32_1547 : BitVec 32 := 64#32
  let v1156 : BitVec 32 := Scalar.addi c0_i32_1546 c64_i32_1547
  let c1_i32_1548 : BitVec 32 := 1#32
  ⟨c0_i32_1546, v1156, c1_i32_1548⟩
def k0_off270 (k0_t214 : Fin k0_t214_loop.trips) : Fin 1 → Nat :=
  let c0_i32_1546 : BitVec 32 := 0#32
  let c1_i32_1548 : BitVec 32 := 1#32
  let arg12 : BitVec 32 := Scf.iv c0_i32_1546 c1_i32_1548 k0_t214
  let c384_i32_2785 : BitVec 32 := 384#32
  let v2063 : BitVec 32 := Scalar.muli arg12 c384_i32_2785
  ![v2063.toNat]
def k0_off271 (i : grid0.Coords) (k0_t214 : Fin k0_t214_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1541 : BitVec 32 := 96#32
  let v1151 : BitVec 32 := Scalar.muli v18 c96_i32_1541
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_1542 : BitVec 32 := 6#32
  let v1152 : BitVec 32 := Scalar.addi v29 c6_i32_1542
  let v1153 : BitVec 32 := Scalar.addi v1151 v1152
  let c384_i32_1543 : BitVec 32 := 384#32
  let v1154 : BitVec 32 := Scalar.muli v1153 c384_i32_1543
  let c184_i32_1544 : BitVec 32 := 184#32
  let v1155 : BitVec 32 := Scalar.addi v1154 c184_i32_1544
  let c0_i32_1546 : BitVec 32 := 0#32
  let c1_i32_1548 : BitVec 32 := 1#32
  let arg12 : BitVec 32 := Scf.iv c0_i32_1546 c1_i32_1548 k0_t214
  let v2062 : BitVec 32 := Scalar.addi v1155 arg12
  let c0_i32_2787 : BitVec 32 := 0#32
  ![v2062.toNat, 0]
@[reducible] def k0_t215_loop : Scf.Loop 32 :=
  let c0_i32_1551 : BitVec 32 := 0#32
  let c64_i32_1552 : BitVec 32 := 64#32
  let v1157 : BitVec 32 := Scalar.addi c0_i32_1551 c64_i32_1552
  let c1_i32_1553 : BitVec 32 := 1#32
  ⟨c0_i32_1551, v1157, c1_i32_1553⟩
def k0_off272 (k0_t215 : Fin k0_t215_loop.trips) : Fin 1 → Nat :=
  let c0_i32_1551 : BitVec 32 := 0#32
  let c1_i32_1553 : BitVec 32 := 1#32
  let arg12 : BitVec 32 := Scf.iv c0_i32_1551 c1_i32_1553 k0_t215
  let c384_i32_2785 : BitVec 32 := 384#32
  let v2062 : BitVec 32 := Scalar.muli arg12 c384_i32_2785
  ![v2062.toNat]
@[reducible] def k0_t216_loop : Scf.Loop 32 :=
  let c0_i32_1559 : BitVec 32 := 0#32
  let c48_i32_1560 : BitVec 32 := 48#32
  let v1162 : BitVec 32 := Scalar.addi c0_i32_1559 c48_i32_1560
  let c1_i32_1561 : BitVec 32 := 1#32
  ⟨c0_i32_1559, v1162, c1_i32_1561⟩
@[reducible] def k0_t217_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off273 (k0_t216 : Fin k0_t216_loop.trips) (k0_t217 : Fin k0_t217_loop.trips) : Fin 2 → Nat :=
  let c0_i32_1559 : BitVec 32 := 0#32
  let c1_i32_1561 : BitVec 32 := 1#32
  let arg12 : BitVec 32 := Scf.iv c0_i32_1559 c1_i32_1561 k0_t216
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t217
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk54 (v2067 : IVec S16 32) : Prop :=
  (∀ a x, ((![v2067] : Fin 1 → IVec S16 32) a x).toNat < S24576.size a)
theorem k0_idx54_inb : ∀ (v2067 : IVec S16 32) (k0_hw54 : k0_chk54 v2067), ∀ a x, ((![v2067] : Fin 1 → IVec S16 32) a x).toNat < S24576.size a := fun v2067 k0_hw54 => k0_hw54
def k0_off274 (k0_t216 : Fin k0_t216_loop.trips) (k0_t217 : Fin k0_t217_loop.trips) : Fin 2 → Nat :=
  let c0_i32_1559 : BitVec 32 := 0#32
  let c1_i32_1561 : BitVec 32 := 1#32
  let arg12 : BitVec 32 := Scf.iv c0_i32_1559 c1_i32_1561 k0_t216
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t217
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t218_loop : Scf.Loop 32 :=
  let c0_i32_1575 : BitVec 32 := 0#32
  let c64_i32_1576 : BitVec 32 := 64#32
  let v1177 : BitVec 32 := Scalar.addi c0_i32_1575 c64_i32_1576
  let c1_i32_1577 : BitVec 32 := 1#32
  ⟨c0_i32_1575, v1177, c1_i32_1577⟩
def k0_off275 (k0_t218 : Fin k0_t218_loop.trips) : Fin 1 → Nat :=
  let c0_i32_1575 : BitVec 32 := 0#32
  let c1_i32_1577 : BitVec 32 := 1#32
  let arg12 : BitVec 32 := Scf.iv c0_i32_1575 c1_i32_1577 k0_t218
  let c384_i32_2785 : BitVec 32 := 384#32
  let v2063 : BitVec 32 := Scalar.muli arg12 c384_i32_2785
  ![v2063.toNat]
def k0_off276 (i : grid0.Coords) (k0_t218 : Fin k0_t218_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1570 : BitVec 32 := 96#32
  let v1172 : BitVec 32 := Scalar.muli v18 c96_i32_1570
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_1571 : BitVec 32 := 7#32
  let v1173 : BitVec 32 := Scalar.addi v29 c7_i32_1571
  let v1174 : BitVec 32 := Scalar.addi v1172 v1173
  let c384_i32_1572 : BitVec 32 := 384#32
  let v1175 : BitVec 32 := Scalar.muli v1174 c384_i32_1572
  let c184_i32_1573 : BitVec 32 := 184#32
  let v1176 : BitVec 32 := Scalar.addi v1175 c184_i32_1573
  let c0_i32_1575 : BitVec 32 := 0#32
  let c1_i32_1577 : BitVec 32 := 1#32
  let arg12 : BitVec 32 := Scf.iv c0_i32_1575 c1_i32_1577 k0_t218
  let v2062 : BitVec 32 := Scalar.addi v1176 arg12
  let c0_i32_2787 : BitVec 32 := 0#32
  ![v2062.toNat, 0]
@[reducible] def k0_t219_loop : Scf.Loop 32 :=
  let c0_i32_1580 : BitVec 32 := 0#32
  let c64_i32_1581 : BitVec 32 := 64#32
  let v1178 : BitVec 32 := Scalar.addi c0_i32_1580 c64_i32_1581
  let c1_i32_1582 : BitVec 32 := 1#32
  ⟨c0_i32_1580, v1178, c1_i32_1582⟩
def k0_off277 (k0_t219 : Fin k0_t219_loop.trips) : Fin 1 → Nat :=
  let c0_i32_1580 : BitVec 32 := 0#32
  let c1_i32_1582 : BitVec 32 := 1#32
  let arg12 : BitVec 32 := Scf.iv c0_i32_1580 c1_i32_1582 k0_t219
  let c384_i32_2785 : BitVec 32 := 384#32
  let v2062 : BitVec 32 := Scalar.muli arg12 c384_i32_2785
  ![v2062.toNat]
@[reducible] def k0_t220_loop : Scf.Loop 32 :=
  let c0_i32_1588 : BitVec 32 := 0#32
  let c48_i32_1589 : BitVec 32 := 48#32
  let v1183 : BitVec 32 := Scalar.addi c0_i32_1588 c48_i32_1589
  let c1_i32_1590 : BitVec 32 := 1#32
  ⟨c0_i32_1588, v1183, c1_i32_1590⟩
@[reducible] def k0_t221_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off278 (k0_t220 : Fin k0_t220_loop.trips) (k0_t221 : Fin k0_t221_loop.trips) : Fin 2 → Nat :=
  let c0_i32_1588 : BitVec 32 := 0#32
  let c1_i32_1590 : BitVec 32 := 1#32
  let arg12 : BitVec 32 := Scf.iv c0_i32_1588 c1_i32_1590 k0_t220
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t221
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk55 (v2067 : IVec S16 32) : Prop :=
  (∀ a x, ((![v2067] : Fin 1 → IVec S16 32) a x).toNat < S24576.size a)
theorem k0_idx55_inb : ∀ (v2067 : IVec S16 32) (k0_hw55 : k0_chk55 v2067), ∀ a x, ((![v2067] : Fin 1 → IVec S16 32) a x).toNat < S24576.size a := fun v2067 k0_hw55 => k0_hw55
def k0_off279 (k0_t220 : Fin k0_t220_loop.trips) (k0_t221 : Fin k0_t221_loop.trips) : Fin 2 → Nat :=
  let c0_i32_1588 : BitVec 32 := 0#32
  let c1_i32_1590 : BitVec 32 := 1#32
  let arg12 : BitVec 32 := Scf.iv c0_i32_1588 c1_i32_1590 k0_t220
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t221
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t222_loop : Scf.Loop 32 :=
  let c0_i32_1604 : BitVec 32 := 0#32
  let c64_i32_1605 : BitVec 32 := 64#32
  let v1198 : BitVec 32 := Scalar.addi c0_i32_1604 c64_i32_1605
  let c1_i32_1606 : BitVec 32 := 1#32
  ⟨c0_i32_1604, v1198, c1_i32_1606⟩
def k0_off280 (k0_t222 : Fin k0_t222_loop.trips) : Fin 1 → Nat :=
  let c0_i32_1604 : BitVec 32 := 0#32
  let c1_i32_1606 : BitVec 32 := 1#32
  let arg12 : BitVec 32 := Scf.iv c0_i32_1604 c1_i32_1606 k0_t222
  let c384_i32_2785 : BitVec 32 := 384#32
  let v2063 : BitVec 32 := Scalar.muli arg12 c384_i32_2785
  ![v2063.toNat]
def k0_off281 (i : grid0.Coords) (k0_t222 : Fin k0_t222_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1599 : BitVec 32 := 96#32
  let v1193 : BitVec 32 := Scalar.muli v18 c96_i32_1599
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_1600 : BitVec 32 := 8#32
  let v1194 : BitVec 32 := Scalar.addi v29 c8_i32_1600
  let v1195 : BitVec 32 := Scalar.addi v1193 v1194
  let c384_i32_1601 : BitVec 32 := 384#32
  let v1196 : BitVec 32 := Scalar.muli v1195 c384_i32_1601
  let c184_i32_1602 : BitVec 32 := 184#32
  let v1197 : BitVec 32 := Scalar.addi v1196 c184_i32_1602
  let c0_i32_1604 : BitVec 32 := 0#32
  let c1_i32_1606 : BitVec 32 := 1#32
  let arg12 : BitVec 32 := Scf.iv c0_i32_1604 c1_i32_1606 k0_t222
  let v2062 : BitVec 32 := Scalar.addi v1197 arg12
  let c0_i32_2787 : BitVec 32 := 0#32
  ![v2062.toNat, 0]
@[reducible] def k0_t223_loop : Scf.Loop 32 :=
  let c0_i32_1609 : BitVec 32 := 0#32
  let c64_i32_1610 : BitVec 32 := 64#32
  let v1199 : BitVec 32 := Scalar.addi c0_i32_1609 c64_i32_1610
  let c1_i32_1611 : BitVec 32 := 1#32
  ⟨c0_i32_1609, v1199, c1_i32_1611⟩
def k0_off282 (k0_t223 : Fin k0_t223_loop.trips) : Fin 1 → Nat :=
  let c0_i32_1609 : BitVec 32 := 0#32
  let c1_i32_1611 : BitVec 32 := 1#32
  let arg12 : BitVec 32 := Scf.iv c0_i32_1609 c1_i32_1611 k0_t223
  let c384_i32_2785 : BitVec 32 := 384#32
  let v2062 : BitVec 32 := Scalar.muli arg12 c384_i32_2785
  ![v2062.toNat]
@[reducible] def k0_t224_loop : Scf.Loop 32 :=
  let c0_i32_1617 : BitVec 32 := 0#32
  let c48_i32_1618 : BitVec 32 := 48#32
  let v1204 : BitVec 32 := Scalar.addi c0_i32_1617 c48_i32_1618
  let c1_i32_1619 : BitVec 32 := 1#32
  ⟨c0_i32_1617, v1204, c1_i32_1619⟩
@[reducible] def k0_t225_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off283 (k0_t224 : Fin k0_t224_loop.trips) (k0_t225 : Fin k0_t225_loop.trips) : Fin 2 → Nat :=
  let c0_i32_1617 : BitVec 32 := 0#32
  let c1_i32_1619 : BitVec 32 := 1#32
  let arg12 : BitVec 32 := Scf.iv c0_i32_1617 c1_i32_1619 k0_t224
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t225
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk56 (v2067 : IVec S16 32) : Prop :=
  (∀ a x, ((![v2067] : Fin 1 → IVec S16 32) a x).toNat < S24576.size a)
theorem k0_idx56_inb : ∀ (v2067 : IVec S16 32) (k0_hw56 : k0_chk56 v2067), ∀ a x, ((![v2067] : Fin 1 → IVec S16 32) a x).toNat < S24576.size a := fun v2067 k0_hw56 => k0_hw56
def k0_off284 (k0_t224 : Fin k0_t224_loop.trips) (k0_t225 : Fin k0_t225_loop.trips) : Fin 2 → Nat :=
  let c0_i32_1617 : BitVec 32 := 0#32
  let c1_i32_1619 : BitVec 32 := 1#32
  let arg12 : BitVec 32 := Scf.iv c0_i32_1617 c1_i32_1619 k0_t224
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t225
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t226_loop : Scf.Loop 32 :=
  let c0_i32_1633 : BitVec 32 := 0#32
  let c64_i32_1634 : BitVec 32 := 64#32
  let v1219 : BitVec 32 := Scalar.addi c0_i32_1633 c64_i32_1634
  let c1_i32_1635 : BitVec 32 := 1#32
  ⟨c0_i32_1633, v1219, c1_i32_1635⟩
def k0_off285 (k0_t226 : Fin k0_t226_loop.trips) : Fin 1 → Nat :=
  let c0_i32_1633 : BitVec 32 := 0#32
  let c1_i32_1635 : BitVec 32 := 1#32
  let arg12 : BitVec 32 := Scf.iv c0_i32_1633 c1_i32_1635 k0_t226
  let c384_i32_2785 : BitVec 32 := 384#32
  let v2063 : BitVec 32 := Scalar.muli arg12 c384_i32_2785
  ![v2063.toNat]
def k0_off286 (i : grid0.Coords) (k0_t226 : Fin k0_t226_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1628 : BitVec 32 := 96#32
  let v1214 : BitVec 32 := Scalar.muli v18 c96_i32_1628
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_1629 : BitVec 32 := 9#32
  let v1215 : BitVec 32 := Scalar.addi v29 c9_i32_1629
  let v1216 : BitVec 32 := Scalar.addi v1214 v1215
  let c384_i32_1630 : BitVec 32 := 384#32
  let v1217 : BitVec 32 := Scalar.muli v1216 c384_i32_1630
  let c184_i32_1631 : BitVec 32 := 184#32
  let v1218 : BitVec 32 := Scalar.addi v1217 c184_i32_1631
  let c0_i32_1633 : BitVec 32 := 0#32
  let c1_i32_1635 : BitVec 32 := 1#32
  let arg12 : BitVec 32 := Scf.iv c0_i32_1633 c1_i32_1635 k0_t226
  let v2062 : BitVec 32 := Scalar.addi v1218 arg12
  let c0_i32_2787 : BitVec 32 := 0#32
  ![v2062.toNat, 0]
@[reducible] def k0_t227_loop : Scf.Loop 32 :=
  let c0_i32_1638 : BitVec 32 := 0#32
  let c64_i32_1639 : BitVec 32 := 64#32
  let v1220 : BitVec 32 := Scalar.addi c0_i32_1638 c64_i32_1639
  let c1_i32_1640 : BitVec 32 := 1#32
  ⟨c0_i32_1638, v1220, c1_i32_1640⟩
def k0_off287 (k0_t227 : Fin k0_t227_loop.trips) : Fin 1 → Nat :=
  let c0_i32_1638 : BitVec 32 := 0#32
  let c1_i32_1640 : BitVec 32 := 1#32
  let arg12 : BitVec 32 := Scf.iv c0_i32_1638 c1_i32_1640 k0_t227
  let c384_i32_2785 : BitVec 32 := 384#32
  let v2062 : BitVec 32 := Scalar.muli arg12 c384_i32_2785
  ![v2062.toNat]
@[reducible] def k0_t228_loop : Scf.Loop 32 :=
  let c0_i32_1646 : BitVec 32 := 0#32
  let c48_i32_1647 : BitVec 32 := 48#32
  let v1225 : BitVec 32 := Scalar.addi c0_i32_1646 c48_i32_1647
  let c1_i32_1648 : BitVec 32 := 1#32
  ⟨c0_i32_1646, v1225, c1_i32_1648⟩
@[reducible] def k0_t229_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off288 (k0_t228 : Fin k0_t228_loop.trips) (k0_t229 : Fin k0_t229_loop.trips) : Fin 2 → Nat :=
  let c0_i32_1646 : BitVec 32 := 0#32
  let c1_i32_1648 : BitVec 32 := 1#32
  let arg12 : BitVec 32 := Scf.iv c0_i32_1646 c1_i32_1648 k0_t228
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t229
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk57 (v2067 : IVec S16 32) : Prop :=
  (∀ a x, ((![v2067] : Fin 1 → IVec S16 32) a x).toNat < S24576.size a)
theorem k0_idx57_inb : ∀ (v2067 : IVec S16 32) (k0_hw57 : k0_chk57 v2067), ∀ a x, ((![v2067] : Fin 1 → IVec S16 32) a x).toNat < S24576.size a := fun v2067 k0_hw57 => k0_hw57
def k0_off289 (k0_t228 : Fin k0_t228_loop.trips) (k0_t229 : Fin k0_t229_loop.trips) : Fin 2 → Nat :=
  let c0_i32_1646 : BitVec 32 := 0#32
  let c1_i32_1648 : BitVec 32 := 1#32
  let arg12 : BitVec 32 := Scf.iv c0_i32_1646 c1_i32_1648 k0_t228
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t229
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t230_loop : Scf.Loop 32 :=
  let c0_i32_1662 : BitVec 32 := 0#32
  let c64_i32_1663 : BitVec 32 := 64#32
  let v1240 : BitVec 32 := Scalar.addi c0_i32_1662 c64_i32_1663
  let c1_i32_1664 : BitVec 32 := 1#32
  ⟨c0_i32_1662, v1240, c1_i32_1664⟩
def k0_off290 (k0_t230 : Fin k0_t230_loop.trips) : Fin 1 → Nat :=
  let c0_i32_1662 : BitVec 32 := 0#32
  let c1_i32_1664 : BitVec 32 := 1#32
  let arg12 : BitVec 32 := Scf.iv c0_i32_1662 c1_i32_1664 k0_t230
  let c384_i32_2785 : BitVec 32 := 384#32
  let v2063 : BitVec 32 := Scalar.muli arg12 c384_i32_2785
  ![v2063.toNat]
def k0_off291 (i : grid0.Coords) (k0_t230 : Fin k0_t230_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1657 : BitVec 32 := 96#32
  let v1235 : BitVec 32 := Scalar.muli v18 c96_i32_1657
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_1658 : BitVec 32 := 10#32
  let v1236 : BitVec 32 := Scalar.addi v29 c10_i32_1658
  let v1237 : BitVec 32 := Scalar.addi v1235 v1236
  let c384_i32_1659 : BitVec 32 := 384#32
  let v1238 : BitVec 32 := Scalar.muli v1237 c384_i32_1659
  let c184_i32_1660 : BitVec 32 := 184#32
  let v1239 : BitVec 32 := Scalar.addi v1238 c184_i32_1660
  let c0_i32_1662 : BitVec 32 := 0#32
  let c1_i32_1664 : BitVec 32 := 1#32
  let arg12 : BitVec 32 := Scf.iv c0_i32_1662 c1_i32_1664 k0_t230
  let v2062 : BitVec 32 := Scalar.addi v1239 arg12
  let c0_i32_2787 : BitVec 32 := 0#32
  ![v2062.toNat, 0]
@[reducible] def k0_t231_loop : Scf.Loop 32 :=
  let c0_i32_1667 : BitVec 32 := 0#32
  let c64_i32_1668 : BitVec 32 := 64#32
  let v1241 : BitVec 32 := Scalar.addi c0_i32_1667 c64_i32_1668
  let c1_i32_1669 : BitVec 32 := 1#32
  ⟨c0_i32_1667, v1241, c1_i32_1669⟩
def k0_off292 (k0_t231 : Fin k0_t231_loop.trips) : Fin 1 → Nat :=
  let c0_i32_1667 : BitVec 32 := 0#32
  let c1_i32_1669 : BitVec 32 := 1#32
  let arg12 : BitVec 32 := Scf.iv c0_i32_1667 c1_i32_1669 k0_t231
  let c384_i32_2785 : BitVec 32 := 384#32
  let v2062 : BitVec 32 := Scalar.muli arg12 c384_i32_2785
  ![v2062.toNat]
@[reducible] def k0_t232_loop : Scf.Loop 32 :=
  let c0_i32_1675 : BitVec 32 := 0#32
  let c48_i32_1676 : BitVec 32 := 48#32
  let v1246 : BitVec 32 := Scalar.addi c0_i32_1675 c48_i32_1676
  let c1_i32_1677 : BitVec 32 := 1#32
  ⟨c0_i32_1675, v1246, c1_i32_1677⟩
@[reducible] def k0_t233_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off293 (k0_t232 : Fin k0_t232_loop.trips) (k0_t233 : Fin k0_t233_loop.trips) : Fin 2 → Nat :=
  let c0_i32_1675 : BitVec 32 := 0#32
  let c1_i32_1677 : BitVec 32 := 1#32
  let arg12 : BitVec 32 := Scf.iv c0_i32_1675 c1_i32_1677 k0_t232
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t233
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk58 (v2067 : IVec S16 32) : Prop :=
  (∀ a x, ((![v2067] : Fin 1 → IVec S16 32) a x).toNat < S24576.size a)
theorem k0_idx58_inb : ∀ (v2067 : IVec S16 32) (k0_hw58 : k0_chk58 v2067), ∀ a x, ((![v2067] : Fin 1 → IVec S16 32) a x).toNat < S24576.size a := fun v2067 k0_hw58 => k0_hw58
def k0_off294 (k0_t232 : Fin k0_t232_loop.trips) (k0_t233 : Fin k0_t233_loop.trips) : Fin 2 → Nat :=
  let c0_i32_1675 : BitVec 32 := 0#32
  let c1_i32_1677 : BitVec 32 := 1#32
  let arg12 : BitVec 32 := Scf.iv c0_i32_1675 c1_i32_1677 k0_t232
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t233
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t234_loop : Scf.Loop 32 :=
  let c0_i32_1691 : BitVec 32 := 0#32
  let c64_i32_1692 : BitVec 32 := 64#32
  let v1261 : BitVec 32 := Scalar.addi c0_i32_1691 c64_i32_1692
  let c1_i32_1693 : BitVec 32 := 1#32
  ⟨c0_i32_1691, v1261, c1_i32_1693⟩
def k0_off295 (k0_t234 : Fin k0_t234_loop.trips) : Fin 1 → Nat :=
  let c0_i32_1691 : BitVec 32 := 0#32
  let c1_i32_1693 : BitVec 32 := 1#32
  let arg12 : BitVec 32 := Scf.iv c0_i32_1691 c1_i32_1693 k0_t234
  let c384_i32_2785 : BitVec 32 := 384#32
  let v2063 : BitVec 32 := Scalar.muli arg12 c384_i32_2785
  ![v2063.toNat]
def k0_off296 (i : grid0.Coords) (k0_t234 : Fin k0_t234_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1686 : BitVec 32 := 96#32
  let v1256 : BitVec 32 := Scalar.muli v18 c96_i32_1686
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_1687 : BitVec 32 := 11#32
  let v1257 : BitVec 32 := Scalar.addi v29 c11_i32_1687
  let v1258 : BitVec 32 := Scalar.addi v1256 v1257
  let c384_i32_1688 : BitVec 32 := 384#32
  let v1259 : BitVec 32 := Scalar.muli v1258 c384_i32_1688
  let c184_i32_1689 : BitVec 32 := 184#32
  let v1260 : BitVec 32 := Scalar.addi v1259 c184_i32_1689
  let c0_i32_1691 : BitVec 32 := 0#32
  let c1_i32_1693 : BitVec 32 := 1#32
  let arg12 : BitVec 32 := Scf.iv c0_i32_1691 c1_i32_1693 k0_t234
  let v2062 : BitVec 32 := Scalar.addi v1260 arg12
  let c0_i32_2787 : BitVec 32 := 0#32
  ![v2062.toNat, 0]
@[reducible] def k0_t235_loop : Scf.Loop 32 :=
  let c0_i32_1696 : BitVec 32 := 0#32
  let c64_i32_1697 : BitVec 32 := 64#32
  let v1262 : BitVec 32 := Scalar.addi c0_i32_1696 c64_i32_1697
  let c1_i32_1698 : BitVec 32 := 1#32
  ⟨c0_i32_1696, v1262, c1_i32_1698⟩
def k0_off297 (k0_t235 : Fin k0_t235_loop.trips) : Fin 1 → Nat :=
  let c0_i32_1696 : BitVec 32 := 0#32
  let c1_i32_1698 : BitVec 32 := 1#32
  let arg12 : BitVec 32 := Scf.iv c0_i32_1696 c1_i32_1698 k0_t235
  let c384_i32_2785 : BitVec 32 := 384#32
  let v2062 : BitVec 32 := Scalar.muli arg12 c384_i32_2785
  ![v2062.toNat]
@[reducible] def k0_t236_loop : Scf.Loop 32 :=
  let c0_i32_1704 : BitVec 32 := 0#32
  let c48_i32_1705 : BitVec 32 := 48#32
  let v1267 : BitVec 32 := Scalar.addi c0_i32_1704 c48_i32_1705
  let c1_i32_1706 : BitVec 32 := 1#32
  ⟨c0_i32_1704, v1267, c1_i32_1706⟩
@[reducible] def k0_t237_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off298 (k0_t236 : Fin k0_t236_loop.trips) (k0_t237 : Fin k0_t237_loop.trips) : Fin 2 → Nat :=
  let c0_i32_1704 : BitVec 32 := 0#32
  let c1_i32_1706 : BitVec 32 := 1#32
  let arg12 : BitVec 32 := Scf.iv c0_i32_1704 c1_i32_1706 k0_t236
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t237
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk59 (v2067 : IVec S16 32) : Prop :=
  (∀ a x, ((![v2067] : Fin 1 → IVec S16 32) a x).toNat < S24576.size a)
theorem k0_idx59_inb : ∀ (v2067 : IVec S16 32) (k0_hw59 : k0_chk59 v2067), ∀ a x, ((![v2067] : Fin 1 → IVec S16 32) a x).toNat < S24576.size a := fun v2067 k0_hw59 => k0_hw59
def k0_off299 (k0_t236 : Fin k0_t236_loop.trips) (k0_t237 : Fin k0_t237_loop.trips) : Fin 2 → Nat :=
  let c0_i32_1704 : BitVec 32 := 0#32
  let c1_i32_1706 : BitVec 32 := 1#32
  let arg12 : BitVec 32 := Scf.iv c0_i32_1704 c1_i32_1706 k0_t236
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t237
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t238_loop : Scf.Loop 32 :=
  let c0_i32_1716 : BitVec 32 := 0#32
  let c64_i32_1717 : BitVec 32 := 64#32
  let v1277 : BitVec 32 := Scalar.addi c0_i32_1716 c64_i32_1717
  let c1_i32_1718 : BitVec 32 := 1#32
  ⟨c0_i32_1716, v1277, c1_i32_1718⟩
def k0_off300 (k0_t238 : Fin k0_t238_loop.trips) : Fin 1 → Nat :=
  let c0_i32_1716 : BitVec 32 := 0#32
  let c1_i32_1718 : BitVec 32 := 1#32
  let arg12 : BitVec 32 := Scf.iv c0_i32_1716 c1_i32_1718 k0_t238
  let c384_i32_2785 : BitVec 32 := 384#32
  let v2062 : BitVec 32 := Scalar.muli arg12 c384_i32_2785
  ![v2062.toNat]
@[reducible] def k0_t239_loop : Scf.Loop 32 :=
  let c0_i32_1724 : BitVec 32 := 0#32
  let c48_i32_1725 : BitVec 32 := 48#32
  let v1282 : BitVec 32 := Scalar.addi c0_i32_1724 c48_i32_1725
  let c1_i32_1726 : BitVec 32 := 1#32
  ⟨c0_i32_1724, v1282, c1_i32_1726⟩
@[reducible] def k0_t240_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off301 (k0_t239 : Fin k0_t239_loop.trips) (k0_t240 : Fin k0_t240_loop.trips) : Fin 2 → Nat :=
  let c0_i32_1724 : BitVec 32 := 0#32
  let c1_i32_1726 : BitVec 32 := 1#32
  let arg12 : BitVec 32 := Scf.iv c0_i32_1724 c1_i32_1726 k0_t239
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t240
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk60 (v2067 : IVec S16 32) : Prop :=
  (∀ a x, ((![v2067] : Fin 1 → IVec S16 32) a x).toNat < S24576.size a)
theorem k0_idx60_inb : ∀ (v2067 : IVec S16 32) (k0_hw60 : k0_chk60 v2067), ∀ a x, ((![v2067] : Fin 1 → IVec S16 32) a x).toNat < S24576.size a := fun v2067 k0_hw60 => k0_hw60
def k0_off302 (k0_t239 : Fin k0_t239_loop.trips) (k0_t240 : Fin k0_t240_loop.trips) : Fin 2 → Nat :=
  let c0_i32_1724 : BitVec 32 := 0#32
  let c1_i32_1726 : BitVec 32 := 1#32
  let arg12 : BitVec 32 := Scf.iv c0_i32_1724 c1_i32_1726 k0_t239
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t240
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t241_loop : Scf.Loop 32 :=
  let c0_i32_1739 : BitVec 32 := 0#32
  let c64_i32_1740 : BitVec 32 := 64#32
  let v1297 : BitVec 32 := Scalar.addi c0_i32_1739 c64_i32_1740
  let c1_i32_1741 : BitVec 32 := 1#32
  ⟨c0_i32_1739, v1297, c1_i32_1741⟩
def k0_off303 (k0_t241 : Fin k0_t241_loop.trips) : Fin 1 → Nat :=
  let c0_i32_1739 : BitVec 32 := 0#32
  let c1_i32_1741 : BitVec 32 := 1#32
  let arg12 : BitVec 32 := Scf.iv c0_i32_1739 c1_i32_1741 k0_t241
  let c384_i32_2785 : BitVec 32 := 384#32
  let v2063 : BitVec 32 := Scalar.muli arg12 c384_i32_2785
  ![v2063.toNat]
def k0_off304 (i : grid0.Coords) (k0_t241 : Fin k0_t241_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1735 : BitVec 32 := 96#32
  let v1292 : BitVec 32 := Scalar.muli v18 c96_i32_1735
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_1736 : BitVec 32 := 0#32
  let v1293 : BitVec 32 := Scalar.addi v29 c0_i32_1736
  let v1294 : BitVec 32 := Scalar.addi v1292 v1293
  let c384_i32_1737 : BitVec 32 := 384#32
  let v1295 : BitVec 32 := Scalar.muli v1294 c384_i32_1737
  let c232_i32 : BitVec 32 := 232#32
  let v1296 : BitVec 32 := Scalar.addi v1295 c232_i32
  let c0_i32_1739 : BitVec 32 := 0#32
  let c1_i32_1741 : BitVec 32 := 1#32
  let arg12 : BitVec 32 := Scf.iv c0_i32_1739 c1_i32_1741 k0_t241
  let v2062 : BitVec 32 := Scalar.addi v1296 arg12
  let c0_i32_2787 : BitVec 32 := 0#32
  ![v2062.toNat, 0]
@[reducible] def k0_t242_loop : Scf.Loop 32 :=
  let c0_i32_1749 : BitVec 32 := 0#32
  let c64_i32_1750 : BitVec 32 := 64#32
  let v1305 : BitVec 32 := Scalar.addi c0_i32_1749 c64_i32_1750
  let c1_i32_1751 : BitVec 32 := 1#32
  ⟨c0_i32_1749, v1305, c1_i32_1751⟩
def k0_off305 (k0_t242 : Fin k0_t242_loop.trips) : Fin 1 → Nat :=
  let c0_i32_1749 : BitVec 32 := 0#32
  let c1_i32_1751 : BitVec 32 := 1#32
  let arg12 : BitVec 32 := Scf.iv c0_i32_1749 c1_i32_1751 k0_t242
  let c384_i32_2785 : BitVec 32 := 384#32
  let v2063 : BitVec 32 := Scalar.muli arg12 c384_i32_2785
  ![v2063.toNat]
def k0_off306 (i : grid0.Coords) (k0_t242 : Fin k0_t242_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1744 : BitVec 32 := 96#32
  let v1300 : BitVec 32 := Scalar.muli v18 c96_i32_1744
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_1745 : BitVec 32 := 1#32
  let v1301 : BitVec 32 := Scalar.addi v29 c1_i32_1745
  let v1302 : BitVec 32 := Scalar.addi v1300 v1301
  let c384_i32_1746 : BitVec 32 := 384#32
  let v1303 : BitVec 32 := Scalar.muli v1302 c384_i32_1746
  let c232_i32_1747 : BitVec 32 := 232#32
  let v1304 : BitVec 32 := Scalar.addi v1303 c232_i32_1747
  let c0_i32_1749 : BitVec 32 := 0#32
  let c1_i32_1751 : BitVec 32 := 1#32
  let arg12 : BitVec 32 := Scf.iv c0_i32_1749 c1_i32_1751 k0_t242
  let v2062 : BitVec 32 := Scalar.addi v1304 arg12
  let c0_i32_2787 : BitVec 32 := 0#32
  ![v2062.toNat, 0]
@[reducible] def k0_t243_loop : Scf.Loop 32 :=
  let c0_i32_1754 : BitVec 32 := 0#32
  let c64_i32_1755 : BitVec 32 := 64#32
  let v1306 : BitVec 32 := Scalar.addi c0_i32_1754 c64_i32_1755
  let c1_i32_1756 : BitVec 32 := 1#32
  ⟨c0_i32_1754, v1306, c1_i32_1756⟩
def k0_off307 (k0_t243 : Fin k0_t243_loop.trips) : Fin 1 → Nat :=
  let c0_i32_1754 : BitVec 32 := 0#32
  let c1_i32_1756 : BitVec 32 := 1#32
  let arg12 : BitVec 32 := Scf.iv c0_i32_1754 c1_i32_1756 k0_t243
  let c384_i32_2785 : BitVec 32 := 384#32
  let v2062 : BitVec 32 := Scalar.muli arg12 c384_i32_2785
  ![v2062.toNat]
@[reducible] def k0_t244_loop : Scf.Loop 32 :=
  let c0_i32_1762 : BitVec 32 := 0#32
  let c48_i32_1763 : BitVec 32 := 48#32
  let v1311 : BitVec 32 := Scalar.addi c0_i32_1762 c48_i32_1763
  let c1_i32_1764 : BitVec 32 := 1#32
  ⟨c0_i32_1762, v1311, c1_i32_1764⟩
@[reducible] def k0_t245_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off308 (k0_t244 : Fin k0_t244_loop.trips) (k0_t245 : Fin k0_t245_loop.trips) : Fin 2 → Nat :=
  let c0_i32_1762 : BitVec 32 := 0#32
  let c1_i32_1764 : BitVec 32 := 1#32
  let arg12 : BitVec 32 := Scf.iv c0_i32_1762 c1_i32_1764 k0_t244
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t245
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk61 (v2067 : IVec S16 32) : Prop :=
  (∀ a x, ((![v2067] : Fin 1 → IVec S16 32) a x).toNat < S24576.size a)
theorem k0_idx61_inb : ∀ (v2067 : IVec S16 32) (k0_hw61 : k0_chk61 v2067), ∀ a x, ((![v2067] : Fin 1 → IVec S16 32) a x).toNat < S24576.size a := fun v2067 k0_hw61 => k0_hw61
def k0_off309 (k0_t244 : Fin k0_t244_loop.trips) (k0_t245 : Fin k0_t245_loop.trips) : Fin 2 → Nat :=
  let c0_i32_1762 : BitVec 32 := 0#32
  let c1_i32_1764 : BitVec 32 := 1#32
  let arg12 : BitVec 32 := Scf.iv c0_i32_1762 c1_i32_1764 k0_t244
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t245
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t246_loop : Scf.Loop 32 :=
  let c0_i32_1778 : BitVec 32 := 0#32
  let c64_i32_1779 : BitVec 32 := 64#32
  let v1326 : BitVec 32 := Scalar.addi c0_i32_1778 c64_i32_1779
  let c1_i32_1780 : BitVec 32 := 1#32
  ⟨c0_i32_1778, v1326, c1_i32_1780⟩
def k0_off310 (k0_t246 : Fin k0_t246_loop.trips) : Fin 1 → Nat :=
  let c0_i32_1778 : BitVec 32 := 0#32
  let c1_i32_1780 : BitVec 32 := 1#32
  let arg12 : BitVec 32 := Scf.iv c0_i32_1778 c1_i32_1780 k0_t246
  let c384_i32_2785 : BitVec 32 := 384#32
  let v2063 : BitVec 32 := Scalar.muli arg12 c384_i32_2785
  ![v2063.toNat]
def k0_off311 (i : grid0.Coords) (k0_t246 : Fin k0_t246_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1773 : BitVec 32 := 96#32
  let v1321 : BitVec 32 := Scalar.muli v18 c96_i32_1773
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_1774 : BitVec 32 := 2#32
  let v1322 : BitVec 32 := Scalar.addi v29 c2_i32_1774
  let v1323 : BitVec 32 := Scalar.addi v1321 v1322
  let c384_i32_1775 : BitVec 32 := 384#32
  let v1324 : BitVec 32 := Scalar.muli v1323 c384_i32_1775
  let c232_i32_1776 : BitVec 32 := 232#32
  let v1325 : BitVec 32 := Scalar.addi v1324 c232_i32_1776
  let c0_i32_1778 : BitVec 32 := 0#32
  let c1_i32_1780 : BitVec 32 := 1#32
  let arg12 : BitVec 32 := Scf.iv c0_i32_1778 c1_i32_1780 k0_t246
  let v2062 : BitVec 32 := Scalar.addi v1325 arg12
  let c0_i32_2787 : BitVec 32 := 0#32
  ![v2062.toNat, 0]
@[reducible] def k0_t247_loop : Scf.Loop 32 :=
  let c0_i32_1783 : BitVec 32 := 0#32
  let c64_i32_1784 : BitVec 32 := 64#32
  let v1327 : BitVec 32 := Scalar.addi c0_i32_1783 c64_i32_1784
  let c1_i32_1785 : BitVec 32 := 1#32
  ⟨c0_i32_1783, v1327, c1_i32_1785⟩
def k0_off312 (k0_t247 : Fin k0_t247_loop.trips) : Fin 1 → Nat :=
  let c0_i32_1783 : BitVec 32 := 0#32
  let c1_i32_1785 : BitVec 32 := 1#32
  let arg12 : BitVec 32 := Scf.iv c0_i32_1783 c1_i32_1785 k0_t247
  let c384_i32_2785 : BitVec 32 := 384#32
  let v2062 : BitVec 32 := Scalar.muli arg12 c384_i32_2785
  ![v2062.toNat]
@[reducible] def k0_t248_loop : Scf.Loop 32 :=
  let c0_i32_1791 : BitVec 32 := 0#32
  let c48_i32_1792 : BitVec 32 := 48#32
  let v1332 : BitVec 32 := Scalar.addi c0_i32_1791 c48_i32_1792
  let c1_i32_1793 : BitVec 32 := 1#32
  ⟨c0_i32_1791, v1332, c1_i32_1793⟩
@[reducible] def k0_t249_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off313 (k0_t248 : Fin k0_t248_loop.trips) (k0_t249 : Fin k0_t249_loop.trips) : Fin 2 → Nat :=
  let c0_i32_1791 : BitVec 32 := 0#32
  let c1_i32_1793 : BitVec 32 := 1#32
  let arg12 : BitVec 32 := Scf.iv c0_i32_1791 c1_i32_1793 k0_t248
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t249
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk62 (v2067 : IVec S16 32) : Prop :=
  (∀ a x, ((![v2067] : Fin 1 → IVec S16 32) a x).toNat < S24576.size a)
theorem k0_idx62_inb : ∀ (v2067 : IVec S16 32) (k0_hw62 : k0_chk62 v2067), ∀ a x, ((![v2067] : Fin 1 → IVec S16 32) a x).toNat < S24576.size a := fun v2067 k0_hw62 => k0_hw62
def k0_off314 (k0_t248 : Fin k0_t248_loop.trips) (k0_t249 : Fin k0_t249_loop.trips) : Fin 2 → Nat :=
  let c0_i32_1791 : BitVec 32 := 0#32
  let c1_i32_1793 : BitVec 32 := 1#32
  let arg12 : BitVec 32 := Scf.iv c0_i32_1791 c1_i32_1793 k0_t248
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t249
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t250_loop : Scf.Loop 32 :=
  let c0_i32_1807 : BitVec 32 := 0#32
  let c64_i32_1808 : BitVec 32 := 64#32
  let v1347 : BitVec 32 := Scalar.addi c0_i32_1807 c64_i32_1808
  let c1_i32_1809 : BitVec 32 := 1#32
  ⟨c0_i32_1807, v1347, c1_i32_1809⟩
def k0_off315 (k0_t250 : Fin k0_t250_loop.trips) : Fin 1 → Nat :=
  let c0_i32_1807 : BitVec 32 := 0#32
  let c1_i32_1809 : BitVec 32 := 1#32
  let arg12 : BitVec 32 := Scf.iv c0_i32_1807 c1_i32_1809 k0_t250
  let c384_i32_2785 : BitVec 32 := 384#32
  let v2063 : BitVec 32 := Scalar.muli arg12 c384_i32_2785
  ![v2063.toNat]
def k0_off316 (i : grid0.Coords) (k0_t250 : Fin k0_t250_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1802 : BitVec 32 := 96#32
  let v1342 : BitVec 32 := Scalar.muli v18 c96_i32_1802
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_1803 : BitVec 32 := 3#32
  let v1343 : BitVec 32 := Scalar.addi v29 c3_i32_1803
  let v1344 : BitVec 32 := Scalar.addi v1342 v1343
  let c384_i32_1804 : BitVec 32 := 384#32
  let v1345 : BitVec 32 := Scalar.muli v1344 c384_i32_1804
  let c232_i32_1805 : BitVec 32 := 232#32
  let v1346 : BitVec 32 := Scalar.addi v1345 c232_i32_1805
  let c0_i32_1807 : BitVec 32 := 0#32
  let c1_i32_1809 : BitVec 32 := 1#32
  let arg12 : BitVec 32 := Scf.iv c0_i32_1807 c1_i32_1809 k0_t250
  let v2062 : BitVec 32 := Scalar.addi v1346 arg12
  let c0_i32_2787 : BitVec 32 := 0#32
  ![v2062.toNat, 0]
@[reducible] def k0_t251_loop : Scf.Loop 32 :=
  let c0_i32_1812 : BitVec 32 := 0#32
  let c64_i32_1813 : BitVec 32 := 64#32
  let v1348 : BitVec 32 := Scalar.addi c0_i32_1812 c64_i32_1813
  let c1_i32_1814 : BitVec 32 := 1#32
  ⟨c0_i32_1812, v1348, c1_i32_1814⟩
def k0_off317 (k0_t251 : Fin k0_t251_loop.trips) : Fin 1 → Nat :=
  let c0_i32_1812 : BitVec 32 := 0#32
  let c1_i32_1814 : BitVec 32 := 1#32
  let arg12 : BitVec 32 := Scf.iv c0_i32_1812 c1_i32_1814 k0_t251
  let c384_i32_2785 : BitVec 32 := 384#32
  let v2062 : BitVec 32 := Scalar.muli arg12 c384_i32_2785
  ![v2062.toNat]
@[reducible] def k0_t252_loop : Scf.Loop 32 :=
  let c0_i32_1820 : BitVec 32 := 0#32
  let c48_i32_1821 : BitVec 32 := 48#32
  let v1353 : BitVec 32 := Scalar.addi c0_i32_1820 c48_i32_1821
  let c1_i32_1822 : BitVec 32 := 1#32
  ⟨c0_i32_1820, v1353, c1_i32_1822⟩
@[reducible] def k0_t253_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off318 (k0_t252 : Fin k0_t252_loop.trips) (k0_t253 : Fin k0_t253_loop.trips) : Fin 2 → Nat :=
  let c0_i32_1820 : BitVec 32 := 0#32
  let c1_i32_1822 : BitVec 32 := 1#32
  let arg12 : BitVec 32 := Scf.iv c0_i32_1820 c1_i32_1822 k0_t252
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t253
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk63 (v2067 : IVec S16 32) : Prop :=
  (∀ a x, ((![v2067] : Fin 1 → IVec S16 32) a x).toNat < S24576.size a)
theorem k0_idx63_inb : ∀ (v2067 : IVec S16 32) (k0_hw63 : k0_chk63 v2067), ∀ a x, ((![v2067] : Fin 1 → IVec S16 32) a x).toNat < S24576.size a := fun v2067 k0_hw63 => k0_hw63
def k0_off319 (k0_t252 : Fin k0_t252_loop.trips) (k0_t253 : Fin k0_t253_loop.trips) : Fin 2 → Nat :=
  let c0_i32_1820 : BitVec 32 := 0#32
  let c1_i32_1822 : BitVec 32 := 1#32
  let arg12 : BitVec 32 := Scf.iv c0_i32_1820 c1_i32_1822 k0_t252
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t253
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t254_loop : Scf.Loop 32 :=
  let c0_i32_1836 : BitVec 32 := 0#32
  let c64_i32_1837 : BitVec 32 := 64#32
  let v1368 : BitVec 32 := Scalar.addi c0_i32_1836 c64_i32_1837
  let c1_i32_1838 : BitVec 32 := 1#32
  ⟨c0_i32_1836, v1368, c1_i32_1838⟩
def k0_off320 (k0_t254 : Fin k0_t254_loop.trips) : Fin 1 → Nat :=
  let c0_i32_1836 : BitVec 32 := 0#32
  let c1_i32_1838 : BitVec 32 := 1#32
  let arg12 : BitVec 32 := Scf.iv c0_i32_1836 c1_i32_1838 k0_t254
  let c384_i32_2785 : BitVec 32 := 384#32
  let v2063 : BitVec 32 := Scalar.muli arg12 c384_i32_2785
  ![v2063.toNat]
def k0_off321 (i : grid0.Coords) (k0_t254 : Fin k0_t254_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1831 : BitVec 32 := 96#32
  let v1363 : BitVec 32 := Scalar.muli v18 c96_i32_1831
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_1832 : BitVec 32 := 4#32
  let v1364 : BitVec 32 := Scalar.addi v29 c4_i32_1832
  let v1365 : BitVec 32 := Scalar.addi v1363 v1364
  let c384_i32_1833 : BitVec 32 := 384#32
  let v1366 : BitVec 32 := Scalar.muli v1365 c384_i32_1833
  let c232_i32_1834 : BitVec 32 := 232#32
  let v1367 : BitVec 32 := Scalar.addi v1366 c232_i32_1834
  let c0_i32_1836 : BitVec 32 := 0#32
  let c1_i32_1838 : BitVec 32 := 1#32
  let arg12 : BitVec 32 := Scf.iv c0_i32_1836 c1_i32_1838 k0_t254
  let v2062 : BitVec 32 := Scalar.addi v1367 arg12
  let c0_i32_2787 : BitVec 32 := 0#32
  ![v2062.toNat, 0]
@[reducible] def k0_t255_loop : Scf.Loop 32 :=
  let c0_i32_1841 : BitVec 32 := 0#32
  let c64_i32_1842 : BitVec 32 := 64#32
  let v1369 : BitVec 32 := Scalar.addi c0_i32_1841 c64_i32_1842
  let c1_i32_1843 : BitVec 32 := 1#32
  ⟨c0_i32_1841, v1369, c1_i32_1843⟩
def k0_off322 (k0_t255 : Fin k0_t255_loop.trips) : Fin 1 → Nat :=
  let c0_i32_1841 : BitVec 32 := 0#32
  let c1_i32_1843 : BitVec 32 := 1#32
  let arg12 : BitVec 32 := Scf.iv c0_i32_1841 c1_i32_1843 k0_t255
  let c384_i32_2785 : BitVec 32 := 384#32
  let v2062 : BitVec 32 := Scalar.muli arg12 c384_i32_2785
  ![v2062.toNat]
@[reducible] def k0_t256_loop : Scf.Loop 32 :=
  let c0_i32_1849 : BitVec 32 := 0#32
  let c48_i32_1850 : BitVec 32 := 48#32
  let v1374 : BitVec 32 := Scalar.addi c0_i32_1849 c48_i32_1850
  let c1_i32_1851 : BitVec 32 := 1#32
  ⟨c0_i32_1849, v1374, c1_i32_1851⟩
@[reducible] def k0_t257_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off323 (k0_t256 : Fin k0_t256_loop.trips) (k0_t257 : Fin k0_t257_loop.trips) : Fin 2 → Nat :=
  let c0_i32_1849 : BitVec 32 := 0#32
  let c1_i32_1851 : BitVec 32 := 1#32
  let arg12 : BitVec 32 := Scf.iv c0_i32_1849 c1_i32_1851 k0_t256
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t257
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk64 (v2067 : IVec S16 32) : Prop :=
  (∀ a x, ((![v2067] : Fin 1 → IVec S16 32) a x).toNat < S24576.size a)
theorem k0_idx64_inb : ∀ (v2067 : IVec S16 32) (k0_hw64 : k0_chk64 v2067), ∀ a x, ((![v2067] : Fin 1 → IVec S16 32) a x).toNat < S24576.size a := fun v2067 k0_hw64 => k0_hw64
def k0_off324 (k0_t256 : Fin k0_t256_loop.trips) (k0_t257 : Fin k0_t257_loop.trips) : Fin 2 → Nat :=
  let c0_i32_1849 : BitVec 32 := 0#32
  let c1_i32_1851 : BitVec 32 := 1#32
  let arg12 : BitVec 32 := Scf.iv c0_i32_1849 c1_i32_1851 k0_t256
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t257
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t258_loop : Scf.Loop 32 :=
  let c0_i32_1865 : BitVec 32 := 0#32
  let c64_i32_1866 : BitVec 32 := 64#32
  let v1389 : BitVec 32 := Scalar.addi c0_i32_1865 c64_i32_1866
  let c1_i32_1867 : BitVec 32 := 1#32
  ⟨c0_i32_1865, v1389, c1_i32_1867⟩
def k0_off325 (k0_t258 : Fin k0_t258_loop.trips) : Fin 1 → Nat :=
  let c0_i32_1865 : BitVec 32 := 0#32
  let c1_i32_1867 : BitVec 32 := 1#32
  let arg12 : BitVec 32 := Scf.iv c0_i32_1865 c1_i32_1867 k0_t258
  let c384_i32_2785 : BitVec 32 := 384#32
  let v2063 : BitVec 32 := Scalar.muli arg12 c384_i32_2785
  ![v2063.toNat]
def k0_off326 (i : grid0.Coords) (k0_t258 : Fin k0_t258_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1860 : BitVec 32 := 96#32
  let v1384 : BitVec 32 := Scalar.muli v18 c96_i32_1860
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_1861 : BitVec 32 := 5#32
  let v1385 : BitVec 32 := Scalar.addi v29 c5_i32_1861
  let v1386 : BitVec 32 := Scalar.addi v1384 v1385
  let c384_i32_1862 : BitVec 32 := 384#32
  let v1387 : BitVec 32 := Scalar.muli v1386 c384_i32_1862
  let c232_i32_1863 : BitVec 32 := 232#32
  let v1388 : BitVec 32 := Scalar.addi v1387 c232_i32_1863
  let c0_i32_1865 : BitVec 32 := 0#32
  let c1_i32_1867 : BitVec 32 := 1#32
  let arg12 : BitVec 32 := Scf.iv c0_i32_1865 c1_i32_1867 k0_t258
  let v2062 : BitVec 32 := Scalar.addi v1388 arg12
  let c0_i32_2787 : BitVec 32 := 0#32
  ![v2062.toNat, 0]
@[reducible] def k0_t259_loop : Scf.Loop 32 :=
  let c0_i32_1870 : BitVec 32 := 0#32
  let c64_i32_1871 : BitVec 32 := 64#32
  let v1390 : BitVec 32 := Scalar.addi c0_i32_1870 c64_i32_1871
  let c1_i32_1872 : BitVec 32 := 1#32
  ⟨c0_i32_1870, v1390, c1_i32_1872⟩
def k0_off327 (k0_t259 : Fin k0_t259_loop.trips) : Fin 1 → Nat :=
  let c0_i32_1870 : BitVec 32 := 0#32
  let c1_i32_1872 : BitVec 32 := 1#32
  let arg12 : BitVec 32 := Scf.iv c0_i32_1870 c1_i32_1872 k0_t259
  let c384_i32_2785 : BitVec 32 := 384#32
  let v2062 : BitVec 32 := Scalar.muli arg12 c384_i32_2785
  ![v2062.toNat]
@[reducible] def k0_t260_loop : Scf.Loop 32 :=
  let c0_i32_1878 : BitVec 32 := 0#32
  let c48_i32_1879 : BitVec 32 := 48#32
  let v1395 : BitVec 32 := Scalar.addi c0_i32_1878 c48_i32_1879
  let c1_i32_1880 : BitVec 32 := 1#32
  ⟨c0_i32_1878, v1395, c1_i32_1880⟩
@[reducible] def k0_t261_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off328 (k0_t260 : Fin k0_t260_loop.trips) (k0_t261 : Fin k0_t261_loop.trips) : Fin 2 → Nat :=
  let c0_i32_1878 : BitVec 32 := 0#32
  let c1_i32_1880 : BitVec 32 := 1#32
  let arg12 : BitVec 32 := Scf.iv c0_i32_1878 c1_i32_1880 k0_t260
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t261
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk65 (v2067 : IVec S16 32) : Prop :=
  (∀ a x, ((![v2067] : Fin 1 → IVec S16 32) a x).toNat < S24576.size a)
theorem k0_idx65_inb : ∀ (v2067 : IVec S16 32) (k0_hw65 : k0_chk65 v2067), ∀ a x, ((![v2067] : Fin 1 → IVec S16 32) a x).toNat < S24576.size a := fun v2067 k0_hw65 => k0_hw65
def k0_off329 (k0_t260 : Fin k0_t260_loop.trips) (k0_t261 : Fin k0_t261_loop.trips) : Fin 2 → Nat :=
  let c0_i32_1878 : BitVec 32 := 0#32
  let c1_i32_1880 : BitVec 32 := 1#32
  let arg12 : BitVec 32 := Scf.iv c0_i32_1878 c1_i32_1880 k0_t260
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t261
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t262_loop : Scf.Loop 32 :=
  let c0_i32_1894 : BitVec 32 := 0#32
  let c64_i32_1895 : BitVec 32 := 64#32
  let v1410 : BitVec 32 := Scalar.addi c0_i32_1894 c64_i32_1895
  let c1_i32_1896 : BitVec 32 := 1#32
  ⟨c0_i32_1894, v1410, c1_i32_1896⟩
def k0_off330 (k0_t262 : Fin k0_t262_loop.trips) : Fin 1 → Nat :=
  let c0_i32_1894 : BitVec 32 := 0#32
  let c1_i32_1896 : BitVec 32 := 1#32
  let arg12 : BitVec 32 := Scf.iv c0_i32_1894 c1_i32_1896 k0_t262
  let c384_i32_2785 : BitVec 32 := 384#32
  let v2063 : BitVec 32 := Scalar.muli arg12 c384_i32_2785
  ![v2063.toNat]
def k0_off331 (i : grid0.Coords) (k0_t262 : Fin k0_t262_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1889 : BitVec 32 := 96#32
  let v1405 : BitVec 32 := Scalar.muli v18 c96_i32_1889
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_1890 : BitVec 32 := 6#32
  let v1406 : BitVec 32 := Scalar.addi v29 c6_i32_1890
  let v1407 : BitVec 32 := Scalar.addi v1405 v1406
  let c384_i32_1891 : BitVec 32 := 384#32
  let v1408 : BitVec 32 := Scalar.muli v1407 c384_i32_1891
  let c232_i32_1892 : BitVec 32 := 232#32
  let v1409 : BitVec 32 := Scalar.addi v1408 c232_i32_1892
  let c0_i32_1894 : BitVec 32 := 0#32
  let c1_i32_1896 : BitVec 32 := 1#32
  let arg12 : BitVec 32 := Scf.iv c0_i32_1894 c1_i32_1896 k0_t262
  let v2062 : BitVec 32 := Scalar.addi v1409 arg12
  let c0_i32_2787 : BitVec 32 := 0#32
  ![v2062.toNat, 0]
@[reducible] def k0_t263_loop : Scf.Loop 32 :=
  let c0_i32_1899 : BitVec 32 := 0#32
  let c64_i32_1900 : BitVec 32 := 64#32
  let v1411 : BitVec 32 := Scalar.addi c0_i32_1899 c64_i32_1900
  let c1_i32_1901 : BitVec 32 := 1#32
  ⟨c0_i32_1899, v1411, c1_i32_1901⟩
def k0_off332 (k0_t263 : Fin k0_t263_loop.trips) : Fin 1 → Nat :=
  let c0_i32_1899 : BitVec 32 := 0#32
  let c1_i32_1901 : BitVec 32 := 1#32
  let arg12 : BitVec 32 := Scf.iv c0_i32_1899 c1_i32_1901 k0_t263
  let c384_i32_2785 : BitVec 32 := 384#32
  let v2062 : BitVec 32 := Scalar.muli arg12 c384_i32_2785
  ![v2062.toNat]
@[reducible] def k0_t264_loop : Scf.Loop 32 :=
  let c0_i32_1907 : BitVec 32 := 0#32
  let c48_i32_1908 : BitVec 32 := 48#32
  let v1416 : BitVec 32 := Scalar.addi c0_i32_1907 c48_i32_1908
  let c1_i32_1909 : BitVec 32 := 1#32
  ⟨c0_i32_1907, v1416, c1_i32_1909⟩
@[reducible] def k0_t265_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off333 (k0_t264 : Fin k0_t264_loop.trips) (k0_t265 : Fin k0_t265_loop.trips) : Fin 2 → Nat :=
  let c0_i32_1907 : BitVec 32 := 0#32
  let c1_i32_1909 : BitVec 32 := 1#32
  let arg12 : BitVec 32 := Scf.iv c0_i32_1907 c1_i32_1909 k0_t264
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t265
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk66 (v2067 : IVec S16 32) : Prop :=
  (∀ a x, ((![v2067] : Fin 1 → IVec S16 32) a x).toNat < S24576.size a)
theorem k0_idx66_inb : ∀ (v2067 : IVec S16 32) (k0_hw66 : k0_chk66 v2067), ∀ a x, ((![v2067] : Fin 1 → IVec S16 32) a x).toNat < S24576.size a := fun v2067 k0_hw66 => k0_hw66
def k0_off334 (k0_t264 : Fin k0_t264_loop.trips) (k0_t265 : Fin k0_t265_loop.trips) : Fin 2 → Nat :=
  let c0_i32_1907 : BitVec 32 := 0#32
  let c1_i32_1909 : BitVec 32 := 1#32
  let arg12 : BitVec 32 := Scf.iv c0_i32_1907 c1_i32_1909 k0_t264
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t265
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t266_loop : Scf.Loop 32 :=
  let c0_i32_1923 : BitVec 32 := 0#32
  let c64_i32_1924 : BitVec 32 := 64#32
  let v1431 : BitVec 32 := Scalar.addi c0_i32_1923 c64_i32_1924
  let c1_i32_1925 : BitVec 32 := 1#32
  ⟨c0_i32_1923, v1431, c1_i32_1925⟩
def k0_off335 (k0_t266 : Fin k0_t266_loop.trips) : Fin 1 → Nat :=
  let c0_i32_1923 : BitVec 32 := 0#32
  let c1_i32_1925 : BitVec 32 := 1#32
  let arg12 : BitVec 32 := Scf.iv c0_i32_1923 c1_i32_1925 k0_t266
  let c384_i32_2785 : BitVec 32 := 384#32
  let v2063 : BitVec 32 := Scalar.muli arg12 c384_i32_2785
  ![v2063.toNat]
def k0_off336 (i : grid0.Coords) (k0_t266 : Fin k0_t266_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1918 : BitVec 32 := 96#32
  let v1426 : BitVec 32 := Scalar.muli v18 c96_i32_1918
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_1919 : BitVec 32 := 7#32
  let v1427 : BitVec 32 := Scalar.addi v29 c7_i32_1919
  let v1428 : BitVec 32 := Scalar.addi v1426 v1427
  let c384_i32_1920 : BitVec 32 := 384#32
  let v1429 : BitVec 32 := Scalar.muli v1428 c384_i32_1920
  let c232_i32_1921 : BitVec 32 := 232#32
  let v1430 : BitVec 32 := Scalar.addi v1429 c232_i32_1921
  let c0_i32_1923 : BitVec 32 := 0#32
  let c1_i32_1925 : BitVec 32 := 1#32
  let arg12 : BitVec 32 := Scf.iv c0_i32_1923 c1_i32_1925 k0_t266
  let v2062 : BitVec 32 := Scalar.addi v1430 arg12
  let c0_i32_2787 : BitVec 32 := 0#32
  ![v2062.toNat, 0]
@[reducible] def k0_t267_loop : Scf.Loop 32 :=
  let c0_i32_1928 : BitVec 32 := 0#32
  let c64_i32_1929 : BitVec 32 := 64#32
  let v1432 : BitVec 32 := Scalar.addi c0_i32_1928 c64_i32_1929
  let c1_i32_1930 : BitVec 32 := 1#32
  ⟨c0_i32_1928, v1432, c1_i32_1930⟩
def k0_off337 (k0_t267 : Fin k0_t267_loop.trips) : Fin 1 → Nat :=
  let c0_i32_1928 : BitVec 32 := 0#32
  let c1_i32_1930 : BitVec 32 := 1#32
  let arg12 : BitVec 32 := Scf.iv c0_i32_1928 c1_i32_1930 k0_t267
  let c384_i32_2785 : BitVec 32 := 384#32
  let v2062 : BitVec 32 := Scalar.muli arg12 c384_i32_2785
  ![v2062.toNat]
@[reducible] def k0_t268_loop : Scf.Loop 32 :=
  let c0_i32_1936 : BitVec 32 := 0#32
  let c48_i32_1937 : BitVec 32 := 48#32
  let v1437 : BitVec 32 := Scalar.addi c0_i32_1936 c48_i32_1937
  let c1_i32_1938 : BitVec 32 := 1#32
  ⟨c0_i32_1936, v1437, c1_i32_1938⟩
@[reducible] def k0_t269_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off338 (k0_t268 : Fin k0_t268_loop.trips) (k0_t269 : Fin k0_t269_loop.trips) : Fin 2 → Nat :=
  let c0_i32_1936 : BitVec 32 := 0#32
  let c1_i32_1938 : BitVec 32 := 1#32
  let arg12 : BitVec 32 := Scf.iv c0_i32_1936 c1_i32_1938 k0_t268
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t269
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk67 (v2067 : IVec S16 32) : Prop :=
  (∀ a x, ((![v2067] : Fin 1 → IVec S16 32) a x).toNat < S24576.size a)
theorem k0_idx67_inb : ∀ (v2067 : IVec S16 32) (k0_hw67 : k0_chk67 v2067), ∀ a x, ((![v2067] : Fin 1 → IVec S16 32) a x).toNat < S24576.size a := fun v2067 k0_hw67 => k0_hw67
def k0_off339 (k0_t268 : Fin k0_t268_loop.trips) (k0_t269 : Fin k0_t269_loop.trips) : Fin 2 → Nat :=
  let c0_i32_1936 : BitVec 32 := 0#32
  let c1_i32_1938 : BitVec 32 := 1#32
  let arg12 : BitVec 32 := Scf.iv c0_i32_1936 c1_i32_1938 k0_t268
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t269
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t270_loop : Scf.Loop 32 :=
  let c0_i32_1952 : BitVec 32 := 0#32
  let c64_i32_1953 : BitVec 32 := 64#32
  let v1452 : BitVec 32 := Scalar.addi c0_i32_1952 c64_i32_1953
  let c1_i32_1954 : BitVec 32 := 1#32
  ⟨c0_i32_1952, v1452, c1_i32_1954⟩
def k0_off340 (k0_t270 : Fin k0_t270_loop.trips) : Fin 1 → Nat :=
  let c0_i32_1952 : BitVec 32 := 0#32
  let c1_i32_1954 : BitVec 32 := 1#32
  let arg12 : BitVec 32 := Scf.iv c0_i32_1952 c1_i32_1954 k0_t270
  let c384_i32_2785 : BitVec 32 := 384#32
  let v2063 : BitVec 32 := Scalar.muli arg12 c384_i32_2785
  ![v2063.toNat]
def k0_off341 (i : grid0.Coords) (k0_t270 : Fin k0_t270_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1947 : BitVec 32 := 96#32
  let v1447 : BitVec 32 := Scalar.muli v18 c96_i32_1947
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_1948 : BitVec 32 := 8#32
  let v1448 : BitVec 32 := Scalar.addi v29 c8_i32_1948
  let v1449 : BitVec 32 := Scalar.addi v1447 v1448
  let c384_i32_1949 : BitVec 32 := 384#32
  let v1450 : BitVec 32 := Scalar.muli v1449 c384_i32_1949
  let c232_i32_1950 : BitVec 32 := 232#32
  let v1451 : BitVec 32 := Scalar.addi v1450 c232_i32_1950
  let c0_i32_1952 : BitVec 32 := 0#32
  let c1_i32_1954 : BitVec 32 := 1#32
  let arg12 : BitVec 32 := Scf.iv c0_i32_1952 c1_i32_1954 k0_t270
  let v2062 : BitVec 32 := Scalar.addi v1451 arg12
  let c0_i32_2787 : BitVec 32 := 0#32
  ![v2062.toNat, 0]
@[reducible] def k0_t271_loop : Scf.Loop 32 :=
  let c0_i32_1957 : BitVec 32 := 0#32
  let c64_i32_1958 : BitVec 32 := 64#32
  let v1453 : BitVec 32 := Scalar.addi c0_i32_1957 c64_i32_1958
  let c1_i32_1959 : BitVec 32 := 1#32
  ⟨c0_i32_1957, v1453, c1_i32_1959⟩
def k0_off342 (k0_t271 : Fin k0_t271_loop.trips) : Fin 1 → Nat :=
  let c0_i32_1957 : BitVec 32 := 0#32
  let c1_i32_1959 : BitVec 32 := 1#32
  let arg12 : BitVec 32 := Scf.iv c0_i32_1957 c1_i32_1959 k0_t271
  let c384_i32_2785 : BitVec 32 := 384#32
  let v2062 : BitVec 32 := Scalar.muli arg12 c384_i32_2785
  ![v2062.toNat]
@[reducible] def k0_t272_loop : Scf.Loop 32 :=
  let c0_i32_1965 : BitVec 32 := 0#32
  let c48_i32_1966 : BitVec 32 := 48#32
  let v1458 : BitVec 32 := Scalar.addi c0_i32_1965 c48_i32_1966
  let c1_i32_1967 : BitVec 32 := 1#32
  ⟨c0_i32_1965, v1458, c1_i32_1967⟩
@[reducible] def k0_t273_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off343 (k0_t272 : Fin k0_t272_loop.trips) (k0_t273 : Fin k0_t273_loop.trips) : Fin 2 → Nat :=
  let c0_i32_1965 : BitVec 32 := 0#32
  let c1_i32_1967 : BitVec 32 := 1#32
  let arg12 : BitVec 32 := Scf.iv c0_i32_1965 c1_i32_1967 k0_t272
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t273
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk68 (v2067 : IVec S16 32) : Prop :=
  (∀ a x, ((![v2067] : Fin 1 → IVec S16 32) a x).toNat < S24576.size a)
theorem k0_idx68_inb : ∀ (v2067 : IVec S16 32) (k0_hw68 : k0_chk68 v2067), ∀ a x, ((![v2067] : Fin 1 → IVec S16 32) a x).toNat < S24576.size a := fun v2067 k0_hw68 => k0_hw68
def k0_off344 (k0_t272 : Fin k0_t272_loop.trips) (k0_t273 : Fin k0_t273_loop.trips) : Fin 2 → Nat :=
  let c0_i32_1965 : BitVec 32 := 0#32
  let c1_i32_1967 : BitVec 32 := 1#32
  let arg12 : BitVec 32 := Scf.iv c0_i32_1965 c1_i32_1967 k0_t272
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t273
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t274_loop : Scf.Loop 32 :=
  let c0_i32_1981 : BitVec 32 := 0#32
  let c64_i32_1982 : BitVec 32 := 64#32
  let v1473 : BitVec 32 := Scalar.addi c0_i32_1981 c64_i32_1982
  let c1_i32_1983 : BitVec 32 := 1#32
  ⟨c0_i32_1981, v1473, c1_i32_1983⟩
def k0_off345 (k0_t274 : Fin k0_t274_loop.trips) : Fin 1 → Nat :=
  let c0_i32_1981 : BitVec 32 := 0#32
  let c1_i32_1983 : BitVec 32 := 1#32
  let arg12 : BitVec 32 := Scf.iv c0_i32_1981 c1_i32_1983 k0_t274
  let c384_i32_2785 : BitVec 32 := 384#32
  let v2063 : BitVec 32 := Scalar.muli arg12 c384_i32_2785
  ![v2063.toNat]
def k0_off346 (i : grid0.Coords) (k0_t274 : Fin k0_t274_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_1976 : BitVec 32 := 96#32
  let v1468 : BitVec 32 := Scalar.muli v18 c96_i32_1976
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_1977 : BitVec 32 := 9#32
  let v1469 : BitVec 32 := Scalar.addi v29 c9_i32_1977
  let v1470 : BitVec 32 := Scalar.addi v1468 v1469
  let c384_i32_1978 : BitVec 32 := 384#32
  let v1471 : BitVec 32 := Scalar.muli v1470 c384_i32_1978
  let c232_i32_1979 : BitVec 32 := 232#32
  let v1472 : BitVec 32 := Scalar.addi v1471 c232_i32_1979
  let c0_i32_1981 : BitVec 32 := 0#32
  let c1_i32_1983 : BitVec 32 := 1#32
  let arg12 : BitVec 32 := Scf.iv c0_i32_1981 c1_i32_1983 k0_t274
  let v2062 : BitVec 32 := Scalar.addi v1472 arg12
  let c0_i32_2787 : BitVec 32 := 0#32
  ![v2062.toNat, 0]
@[reducible] def k0_t275_loop : Scf.Loop 32 :=
  let c0_i32_1986 : BitVec 32 := 0#32
  let c64_i32_1987 : BitVec 32 := 64#32
  let v1474 : BitVec 32 := Scalar.addi c0_i32_1986 c64_i32_1987
  let c1_i32_1988 : BitVec 32 := 1#32
  ⟨c0_i32_1986, v1474, c1_i32_1988⟩
def k0_off347 (k0_t275 : Fin k0_t275_loop.trips) : Fin 1 → Nat :=
  let c0_i32_1986 : BitVec 32 := 0#32
  let c1_i32_1988 : BitVec 32 := 1#32
  let arg12 : BitVec 32 := Scf.iv c0_i32_1986 c1_i32_1988 k0_t275
  let c384_i32_2785 : BitVec 32 := 384#32
  let v2062 : BitVec 32 := Scalar.muli arg12 c384_i32_2785
  ![v2062.toNat]
@[reducible] def k0_t276_loop : Scf.Loop 32 :=
  let c0_i32_1994 : BitVec 32 := 0#32
  let c48_i32_1995 : BitVec 32 := 48#32
  let v1479 : BitVec 32 := Scalar.addi c0_i32_1994 c48_i32_1995
  let c1_i32_1996 : BitVec 32 := 1#32
  ⟨c0_i32_1994, v1479, c1_i32_1996⟩
@[reducible] def k0_t277_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off348 (k0_t276 : Fin k0_t276_loop.trips) (k0_t277 : Fin k0_t277_loop.trips) : Fin 2 → Nat :=
  let c0_i32_1994 : BitVec 32 := 0#32
  let c1_i32_1996 : BitVec 32 := 1#32
  let arg12 : BitVec 32 := Scf.iv c0_i32_1994 c1_i32_1996 k0_t276
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t277
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk69 (v2067 : IVec S16 32) : Prop :=
  (∀ a x, ((![v2067] : Fin 1 → IVec S16 32) a x).toNat < S24576.size a)
theorem k0_idx69_inb : ∀ (v2067 : IVec S16 32) (k0_hw69 : k0_chk69 v2067), ∀ a x, ((![v2067] : Fin 1 → IVec S16 32) a x).toNat < S24576.size a := fun v2067 k0_hw69 => k0_hw69
def k0_off349 (k0_t276 : Fin k0_t276_loop.trips) (k0_t277 : Fin k0_t277_loop.trips) : Fin 2 → Nat :=
  let c0_i32_1994 : BitVec 32 := 0#32
  let c1_i32_1996 : BitVec 32 := 1#32
  let arg12 : BitVec 32 := Scf.iv c0_i32_1994 c1_i32_1996 k0_t276
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t277
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t278_loop : Scf.Loop 32 :=
  let c0_i32_2010 : BitVec 32 := 0#32
  let c64_i32_2011 : BitVec 32 := 64#32
  let v1494 : BitVec 32 := Scalar.addi c0_i32_2010 c64_i32_2011
  let c1_i32_2012 : BitVec 32 := 1#32
  ⟨c0_i32_2010, v1494, c1_i32_2012⟩
def k0_off350 (k0_t278 : Fin k0_t278_loop.trips) : Fin 1 → Nat :=
  let c0_i32_2010 : BitVec 32 := 0#32
  let c1_i32_2012 : BitVec 32 := 1#32
  let arg12 : BitVec 32 := Scf.iv c0_i32_2010 c1_i32_2012 k0_t278
  let c384_i32_2785 : BitVec 32 := 384#32
  let v2063 : BitVec 32 := Scalar.muli arg12 c384_i32_2785
  ![v2063.toNat]
def k0_off351 (i : grid0.Coords) (k0_t278 : Fin k0_t278_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2005 : BitVec 32 := 96#32
  let v1489 : BitVec 32 := Scalar.muli v18 c96_i32_2005
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_2006 : BitVec 32 := 10#32
  let v1490 : BitVec 32 := Scalar.addi v29 c10_i32_2006
  let v1491 : BitVec 32 := Scalar.addi v1489 v1490
  let c384_i32_2007 : BitVec 32 := 384#32
  let v1492 : BitVec 32 := Scalar.muli v1491 c384_i32_2007
  let c232_i32_2008 : BitVec 32 := 232#32
  let v1493 : BitVec 32 := Scalar.addi v1492 c232_i32_2008
  let c0_i32_2010 : BitVec 32 := 0#32
  let c1_i32_2012 : BitVec 32 := 1#32
  let arg12 : BitVec 32 := Scf.iv c0_i32_2010 c1_i32_2012 k0_t278
  let v2062 : BitVec 32 := Scalar.addi v1493 arg12
  let c0_i32_2787 : BitVec 32 := 0#32
  ![v2062.toNat, 0]
@[reducible] def k0_t279_loop : Scf.Loop 32 :=
  let c0_i32_2015 : BitVec 32 := 0#32
  let c64_i32_2016 : BitVec 32 := 64#32
  let v1495 : BitVec 32 := Scalar.addi c0_i32_2015 c64_i32_2016
  let c1_i32_2017 : BitVec 32 := 1#32
  ⟨c0_i32_2015, v1495, c1_i32_2017⟩
def k0_off352 (k0_t279 : Fin k0_t279_loop.trips) : Fin 1 → Nat :=
  let c0_i32_2015 : BitVec 32 := 0#32
  let c1_i32_2017 : BitVec 32 := 1#32
  let arg12 : BitVec 32 := Scf.iv c0_i32_2015 c1_i32_2017 k0_t279
  let c384_i32_2785 : BitVec 32 := 384#32
  let v2062 : BitVec 32 := Scalar.muli arg12 c384_i32_2785
  ![v2062.toNat]
@[reducible] def k0_t280_loop : Scf.Loop 32 :=
  let c0_i32_2023 : BitVec 32 := 0#32
  let c48_i32_2024 : BitVec 32 := 48#32
  let v1500 : BitVec 32 := Scalar.addi c0_i32_2023 c48_i32_2024
  let c1_i32_2025 : BitVec 32 := 1#32
  ⟨c0_i32_2023, v1500, c1_i32_2025⟩
@[reducible] def k0_t281_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off353 (k0_t280 : Fin k0_t280_loop.trips) (k0_t281 : Fin k0_t281_loop.trips) : Fin 2 → Nat :=
  let c0_i32_2023 : BitVec 32 := 0#32
  let c1_i32_2025 : BitVec 32 := 1#32
  let arg12 : BitVec 32 := Scf.iv c0_i32_2023 c1_i32_2025 k0_t280
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t281
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk70 (v2067 : IVec S16 32) : Prop :=
  (∀ a x, ((![v2067] : Fin 1 → IVec S16 32) a x).toNat < S24576.size a)
theorem k0_idx70_inb : ∀ (v2067 : IVec S16 32) (k0_hw70 : k0_chk70 v2067), ∀ a x, ((![v2067] : Fin 1 → IVec S16 32) a x).toNat < S24576.size a := fun v2067 k0_hw70 => k0_hw70
def k0_off354 (k0_t280 : Fin k0_t280_loop.trips) (k0_t281 : Fin k0_t281_loop.trips) : Fin 2 → Nat :=
  let c0_i32_2023 : BitVec 32 := 0#32
  let c1_i32_2025 : BitVec 32 := 1#32
  let arg12 : BitVec 32 := Scf.iv c0_i32_2023 c1_i32_2025 k0_t280
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t281
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t282_loop : Scf.Loop 32 :=
  let c0_i32_2039 : BitVec 32 := 0#32
  let c64_i32_2040 : BitVec 32 := 64#32
  let v1515 : BitVec 32 := Scalar.addi c0_i32_2039 c64_i32_2040
  let c1_i32_2041 : BitVec 32 := 1#32
  ⟨c0_i32_2039, v1515, c1_i32_2041⟩
def k0_off355 (k0_t282 : Fin k0_t282_loop.trips) : Fin 1 → Nat :=
  let c0_i32_2039 : BitVec 32 := 0#32
  let c1_i32_2041 : BitVec 32 := 1#32
  let arg12 : BitVec 32 := Scf.iv c0_i32_2039 c1_i32_2041 k0_t282
  let c384_i32_2785 : BitVec 32 := 384#32
  let v2063 : BitVec 32 := Scalar.muli arg12 c384_i32_2785
  ![v2063.toNat]
def k0_off356 (i : grid0.Coords) (k0_t282 : Fin k0_t282_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2034 : BitVec 32 := 96#32
  let v1510 : BitVec 32 := Scalar.muli v18 c96_i32_2034
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_2035 : BitVec 32 := 11#32
  let v1511 : BitVec 32 := Scalar.addi v29 c11_i32_2035
  let v1512 : BitVec 32 := Scalar.addi v1510 v1511
  let c384_i32_2036 : BitVec 32 := 384#32
  let v1513 : BitVec 32 := Scalar.muli v1512 c384_i32_2036
  let c232_i32_2037 : BitVec 32 := 232#32
  let v1514 : BitVec 32 := Scalar.addi v1513 c232_i32_2037
  let c0_i32_2039 : BitVec 32 := 0#32
  let c1_i32_2041 : BitVec 32 := 1#32
  let arg12 : BitVec 32 := Scf.iv c0_i32_2039 c1_i32_2041 k0_t282
  let v2062 : BitVec 32 := Scalar.addi v1514 arg12
  let c0_i32_2787 : BitVec 32 := 0#32
  ![v2062.toNat, 0]
@[reducible] def k0_t283_loop : Scf.Loop 32 :=
  let c0_i32_2044 : BitVec 32 := 0#32
  let c64_i32_2045 : BitVec 32 := 64#32
  let v1516 : BitVec 32 := Scalar.addi c0_i32_2044 c64_i32_2045
  let c1_i32_2046 : BitVec 32 := 1#32
  ⟨c0_i32_2044, v1516, c1_i32_2046⟩
def k0_off357 (k0_t283 : Fin k0_t283_loop.trips) : Fin 1 → Nat :=
  let c0_i32_2044 : BitVec 32 := 0#32
  let c1_i32_2046 : BitVec 32 := 1#32
  let arg12 : BitVec 32 := Scf.iv c0_i32_2044 c1_i32_2046 k0_t283
  let c384_i32_2785 : BitVec 32 := 384#32
  let v2062 : BitVec 32 := Scalar.muli arg12 c384_i32_2785
  ![v2062.toNat]
@[reducible] def k0_t284_loop : Scf.Loop 32 :=
  let c0_i32_2052 : BitVec 32 := 0#32
  let c48_i32_2053 : BitVec 32 := 48#32
  let v1521 : BitVec 32 := Scalar.addi c0_i32_2052 c48_i32_2053
  let c1_i32_2054 : BitVec 32 := 1#32
  ⟨c0_i32_2052, v1521, c1_i32_2054⟩
@[reducible] def k0_t285_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off358 (k0_t284 : Fin k0_t284_loop.trips) (k0_t285 : Fin k0_t285_loop.trips) : Fin 2 → Nat :=
  let c0_i32_2052 : BitVec 32 := 0#32
  let c1_i32_2054 : BitVec 32 := 1#32
  let arg12 : BitVec 32 := Scf.iv c0_i32_2052 c1_i32_2054 k0_t284
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t285
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk71 (v2067 : IVec S16 32) : Prop :=
  (∀ a x, ((![v2067] : Fin 1 → IVec S16 32) a x).toNat < S24576.size a)
theorem k0_idx71_inb : ∀ (v2067 : IVec S16 32) (k0_hw71 : k0_chk71 v2067), ∀ a x, ((![v2067] : Fin 1 → IVec S16 32) a x).toNat < S24576.size a := fun v2067 k0_hw71 => k0_hw71
def k0_off359 (k0_t284 : Fin k0_t284_loop.trips) (k0_t285 : Fin k0_t285_loop.trips) : Fin 2 → Nat :=
  let c0_i32_2052 : BitVec 32 := 0#32
  let c1_i32_2054 : BitVec 32 := 1#32
  let arg12 : BitVec 32 := Scf.iv c0_i32_2052 c1_i32_2054 k0_t284
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t285
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t286_loop : Scf.Loop 32 :=
  let c0_i32_2064 : BitVec 32 := 0#32
  let c64_i32_2065 : BitVec 32 := 64#32
  let v1531 : BitVec 32 := Scalar.addi c0_i32_2064 c64_i32_2065
  let c1_i32_2066 : BitVec 32 := 1#32
  ⟨c0_i32_2064, v1531, c1_i32_2066⟩
def k0_off360 (k0_t286 : Fin k0_t286_loop.trips) : Fin 1 → Nat :=
  let c0_i32_2064 : BitVec 32 := 0#32
  let c1_i32_2066 : BitVec 32 := 1#32
  let arg12 : BitVec 32 := Scf.iv c0_i32_2064 c1_i32_2066 k0_t286
  let c384_i32_2785 : BitVec 32 := 384#32
  let v2062 : BitVec 32 := Scalar.muli arg12 c384_i32_2785
  ![v2062.toNat]
@[reducible] def k0_t287_loop : Scf.Loop 32 :=
  let c0_i32_2072 : BitVec 32 := 0#32
  let c48_i32_2073 : BitVec 32 := 48#32
  let v1536 : BitVec 32 := Scalar.addi c0_i32_2072 c48_i32_2073
  let c1_i32_2074 : BitVec 32 := 1#32
  ⟨c0_i32_2072, v1536, c1_i32_2074⟩
@[reducible] def k0_t288_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off361 (k0_t287 : Fin k0_t287_loop.trips) (k0_t288 : Fin k0_t288_loop.trips) : Fin 2 → Nat :=
  let c0_i32_2072 : BitVec 32 := 0#32
  let c1_i32_2074 : BitVec 32 := 1#32
  let arg12 : BitVec 32 := Scf.iv c0_i32_2072 c1_i32_2074 k0_t287
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t288
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk72 (v2067 : IVec S16 32) : Prop :=
  (∀ a x, ((![v2067] : Fin 1 → IVec S16 32) a x).toNat < S24576.size a)
theorem k0_idx72_inb : ∀ (v2067 : IVec S16 32) (k0_hw72 : k0_chk72 v2067), ∀ a x, ((![v2067] : Fin 1 → IVec S16 32) a x).toNat < S24576.size a := fun v2067 k0_hw72 => k0_hw72
def k0_off362 (k0_t287 : Fin k0_t287_loop.trips) (k0_t288 : Fin k0_t288_loop.trips) : Fin 2 → Nat :=
  let c0_i32_2072 : BitVec 32 := 0#32
  let c1_i32_2074 : BitVec 32 := 1#32
  let arg12 : BitVec 32 := Scf.iv c0_i32_2072 c1_i32_2074 k0_t287
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t288
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t289_loop : Scf.Loop 32 :=
  let c0_i32_2087 : BitVec 32 := 0#32
  let c64_i32_2088 : BitVec 32 := 64#32
  let v1551 : BitVec 32 := Scalar.addi c0_i32_2087 c64_i32_2088
  let c1_i32_2089 : BitVec 32 := 1#32
  ⟨c0_i32_2087, v1551, c1_i32_2089⟩
def k0_off363 (k0_t289 : Fin k0_t289_loop.trips) : Fin 1 → Nat :=
  let c0_i32_2087 : BitVec 32 := 0#32
  let c1_i32_2089 : BitVec 32 := 1#32
  let arg12 : BitVec 32 := Scf.iv c0_i32_2087 c1_i32_2089 k0_t289
  let c384_i32_2785 : BitVec 32 := 384#32
  let v2063 : BitVec 32 := Scalar.muli arg12 c384_i32_2785
  ![v2063.toNat]
def k0_off364 (i : grid0.Coords) (k0_t289 : Fin k0_t289_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2083 : BitVec 32 := 96#32
  let v1546 : BitVec 32 := Scalar.muli v18 c96_i32_2083
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_2084 : BitVec 32 := 0#32
  let v1547 : BitVec 32 := Scalar.addi v29 c0_i32_2084
  let v1548 : BitVec 32 := Scalar.addi v1546 v1547
  let c384_i32_2085 : BitVec 32 := 384#32
  let v1549 : BitVec 32 := Scalar.muli v1548 c384_i32_2085
  let c280_i32 : BitVec 32 := 280#32
  let v1550 : BitVec 32 := Scalar.addi v1549 c280_i32
  let c0_i32_2087 : BitVec 32 := 0#32
  let c1_i32_2089 : BitVec 32 := 1#32
  let arg12 : BitVec 32 := Scf.iv c0_i32_2087 c1_i32_2089 k0_t289
  let v2062 : BitVec 32 := Scalar.addi v1550 arg12
  let c0_i32_2787 : BitVec 32 := 0#32
  ![v2062.toNat, 0]
@[reducible] def k0_t290_loop : Scf.Loop 32 :=
  let c0_i32_2097 : BitVec 32 := 0#32
  let c64_i32_2098 : BitVec 32 := 64#32
  let v1559 : BitVec 32 := Scalar.addi c0_i32_2097 c64_i32_2098
  let c1_i32_2099 : BitVec 32 := 1#32
  ⟨c0_i32_2097, v1559, c1_i32_2099⟩
def k0_off365 (k0_t290 : Fin k0_t290_loop.trips) : Fin 1 → Nat :=
  let c0_i32_2097 : BitVec 32 := 0#32
  let c1_i32_2099 : BitVec 32 := 1#32
  let arg12 : BitVec 32 := Scf.iv c0_i32_2097 c1_i32_2099 k0_t290
  let c384_i32_2785 : BitVec 32 := 384#32
  let v2063 : BitVec 32 := Scalar.muli arg12 c384_i32_2785
  ![v2063.toNat]
def k0_off366 (i : grid0.Coords) (k0_t290 : Fin k0_t290_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2092 : BitVec 32 := 96#32
  let v1554 : BitVec 32 := Scalar.muli v18 c96_i32_2092
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_2093 : BitVec 32 := 1#32
  let v1555 : BitVec 32 := Scalar.addi v29 c1_i32_2093
  let v1556 : BitVec 32 := Scalar.addi v1554 v1555
  let c384_i32_2094 : BitVec 32 := 384#32
  let v1557 : BitVec 32 := Scalar.muli v1556 c384_i32_2094
  let c280_i32_2095 : BitVec 32 := 280#32
  let v1558 : BitVec 32 := Scalar.addi v1557 c280_i32_2095
  let c0_i32_2097 : BitVec 32 := 0#32
  let c1_i32_2099 : BitVec 32 := 1#32
  let arg12 : BitVec 32 := Scf.iv c0_i32_2097 c1_i32_2099 k0_t290
  let v2062 : BitVec 32 := Scalar.addi v1558 arg12
  let c0_i32_2787 : BitVec 32 := 0#32
  ![v2062.toNat, 0]
@[reducible] def k0_t291_loop : Scf.Loop 32 :=
  let c0_i32_2102 : BitVec 32 := 0#32
  let c64_i32_2103 : BitVec 32 := 64#32
  let v1560 : BitVec 32 := Scalar.addi c0_i32_2102 c64_i32_2103
  let c1_i32_2104 : BitVec 32 := 1#32
  ⟨c0_i32_2102, v1560, c1_i32_2104⟩
def k0_off367 (k0_t291 : Fin k0_t291_loop.trips) : Fin 1 → Nat :=
  let c0_i32_2102 : BitVec 32 := 0#32
  let c1_i32_2104 : BitVec 32 := 1#32
  let arg12 : BitVec 32 := Scf.iv c0_i32_2102 c1_i32_2104 k0_t291
  let c384_i32_2785 : BitVec 32 := 384#32
  let v2062 : BitVec 32 := Scalar.muli arg12 c384_i32_2785
  ![v2062.toNat]
@[reducible] def k0_t292_loop : Scf.Loop 32 :=
  let c0_i32_2110 : BitVec 32 := 0#32
  let c48_i32_2111 : BitVec 32 := 48#32
  let v1565 : BitVec 32 := Scalar.addi c0_i32_2110 c48_i32_2111
  let c1_i32_2112 : BitVec 32 := 1#32
  ⟨c0_i32_2110, v1565, c1_i32_2112⟩
@[reducible] def k0_t293_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off368 (k0_t292 : Fin k0_t292_loop.trips) (k0_t293 : Fin k0_t293_loop.trips) : Fin 2 → Nat :=
  let c0_i32_2110 : BitVec 32 := 0#32
  let c1_i32_2112 : BitVec 32 := 1#32
  let arg12 : BitVec 32 := Scf.iv c0_i32_2110 c1_i32_2112 k0_t292
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t293
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk73 (v2067 : IVec S16 32) : Prop :=
  (∀ a x, ((![v2067] : Fin 1 → IVec S16 32) a x).toNat < S24576.size a)
theorem k0_idx73_inb : ∀ (v2067 : IVec S16 32) (k0_hw73 : k0_chk73 v2067), ∀ a x, ((![v2067] : Fin 1 → IVec S16 32) a x).toNat < S24576.size a := fun v2067 k0_hw73 => k0_hw73
def k0_off369 (k0_t292 : Fin k0_t292_loop.trips) (k0_t293 : Fin k0_t293_loop.trips) : Fin 2 → Nat :=
  let c0_i32_2110 : BitVec 32 := 0#32
  let c1_i32_2112 : BitVec 32 := 1#32
  let arg12 : BitVec 32 := Scf.iv c0_i32_2110 c1_i32_2112 k0_t292
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t293
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t294_loop : Scf.Loop 32 :=
  let c0_i32_2126 : BitVec 32 := 0#32
  let c64_i32_2127 : BitVec 32 := 64#32
  let v1580 : BitVec 32 := Scalar.addi c0_i32_2126 c64_i32_2127
  let c1_i32_2128 : BitVec 32 := 1#32
  ⟨c0_i32_2126, v1580, c1_i32_2128⟩
def k0_off370 (k0_t294 : Fin k0_t294_loop.trips) : Fin 1 → Nat :=
  let c0_i32_2126 : BitVec 32 := 0#32
  let c1_i32_2128 : BitVec 32 := 1#32
  let arg12 : BitVec 32 := Scf.iv c0_i32_2126 c1_i32_2128 k0_t294
  let c384_i32_2785 : BitVec 32 := 384#32
  let v2063 : BitVec 32 := Scalar.muli arg12 c384_i32_2785
  ![v2063.toNat]
def k0_off371 (i : grid0.Coords) (k0_t294 : Fin k0_t294_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2121 : BitVec 32 := 96#32
  let v1575 : BitVec 32 := Scalar.muli v18 c96_i32_2121
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_2122 : BitVec 32 := 2#32
  let v1576 : BitVec 32 := Scalar.addi v29 c2_i32_2122
  let v1577 : BitVec 32 := Scalar.addi v1575 v1576
  let c384_i32_2123 : BitVec 32 := 384#32
  let v1578 : BitVec 32 := Scalar.muli v1577 c384_i32_2123
  let c280_i32_2124 : BitVec 32 := 280#32
  let v1579 : BitVec 32 := Scalar.addi v1578 c280_i32_2124
  let c0_i32_2126 : BitVec 32 := 0#32
  let c1_i32_2128 : BitVec 32 := 1#32
  let arg12 : BitVec 32 := Scf.iv c0_i32_2126 c1_i32_2128 k0_t294
  let v2062 : BitVec 32 := Scalar.addi v1579 arg12
  let c0_i32_2787 : BitVec 32 := 0#32
  ![v2062.toNat, 0]
@[reducible] def k0_t295_loop : Scf.Loop 32 :=
  let c0_i32_2131 : BitVec 32 := 0#32
  let c64_i32_2132 : BitVec 32 := 64#32
  let v1581 : BitVec 32 := Scalar.addi c0_i32_2131 c64_i32_2132
  let c1_i32_2133 : BitVec 32 := 1#32
  ⟨c0_i32_2131, v1581, c1_i32_2133⟩
def k0_off372 (k0_t295 : Fin k0_t295_loop.trips) : Fin 1 → Nat :=
  let c0_i32_2131 : BitVec 32 := 0#32
  let c1_i32_2133 : BitVec 32 := 1#32
  let arg12 : BitVec 32 := Scf.iv c0_i32_2131 c1_i32_2133 k0_t295
  let c384_i32_2785 : BitVec 32 := 384#32
  let v2062 : BitVec 32 := Scalar.muli arg12 c384_i32_2785
  ![v2062.toNat]
@[reducible] def k0_t296_loop : Scf.Loop 32 :=
  let c0_i32_2139 : BitVec 32 := 0#32
  let c48_i32_2140 : BitVec 32 := 48#32
  let v1586 : BitVec 32 := Scalar.addi c0_i32_2139 c48_i32_2140
  let c1_i32_2141 : BitVec 32 := 1#32
  ⟨c0_i32_2139, v1586, c1_i32_2141⟩
@[reducible] def k0_t297_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off373 (k0_t296 : Fin k0_t296_loop.trips) (k0_t297 : Fin k0_t297_loop.trips) : Fin 2 → Nat :=
  let c0_i32_2139 : BitVec 32 := 0#32
  let c1_i32_2141 : BitVec 32 := 1#32
  let arg12 : BitVec 32 := Scf.iv c0_i32_2139 c1_i32_2141 k0_t296
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t297
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk74 (v2067 : IVec S16 32) : Prop :=
  (∀ a x, ((![v2067] : Fin 1 → IVec S16 32) a x).toNat < S24576.size a)
theorem k0_idx74_inb : ∀ (v2067 : IVec S16 32) (k0_hw74 : k0_chk74 v2067), ∀ a x, ((![v2067] : Fin 1 → IVec S16 32) a x).toNat < S24576.size a := fun v2067 k0_hw74 => k0_hw74
def k0_off374 (k0_t296 : Fin k0_t296_loop.trips) (k0_t297 : Fin k0_t297_loop.trips) : Fin 2 → Nat :=
  let c0_i32_2139 : BitVec 32 := 0#32
  let c1_i32_2141 : BitVec 32 := 1#32
  let arg12 : BitVec 32 := Scf.iv c0_i32_2139 c1_i32_2141 k0_t296
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t297
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t298_loop : Scf.Loop 32 :=
  let c0_i32_2155 : BitVec 32 := 0#32
  let c64_i32_2156 : BitVec 32 := 64#32
  let v1601 : BitVec 32 := Scalar.addi c0_i32_2155 c64_i32_2156
  let c1_i32_2157 : BitVec 32 := 1#32
  ⟨c0_i32_2155, v1601, c1_i32_2157⟩
def k0_off375 (k0_t298 : Fin k0_t298_loop.trips) : Fin 1 → Nat :=
  let c0_i32_2155 : BitVec 32 := 0#32
  let c1_i32_2157 : BitVec 32 := 1#32
  let arg12 : BitVec 32 := Scf.iv c0_i32_2155 c1_i32_2157 k0_t298
  let c384_i32_2785 : BitVec 32 := 384#32
  let v2063 : BitVec 32 := Scalar.muli arg12 c384_i32_2785
  ![v2063.toNat]
def k0_off376 (i : grid0.Coords) (k0_t298 : Fin k0_t298_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2150 : BitVec 32 := 96#32
  let v1596 : BitVec 32 := Scalar.muli v18 c96_i32_2150
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_2151 : BitVec 32 := 3#32
  let v1597 : BitVec 32 := Scalar.addi v29 c3_i32_2151
  let v1598 : BitVec 32 := Scalar.addi v1596 v1597
  let c384_i32_2152 : BitVec 32 := 384#32
  let v1599 : BitVec 32 := Scalar.muli v1598 c384_i32_2152
  let c280_i32_2153 : BitVec 32 := 280#32
  let v1600 : BitVec 32 := Scalar.addi v1599 c280_i32_2153
  let c0_i32_2155 : BitVec 32 := 0#32
  let c1_i32_2157 : BitVec 32 := 1#32
  let arg12 : BitVec 32 := Scf.iv c0_i32_2155 c1_i32_2157 k0_t298
  let v2062 : BitVec 32 := Scalar.addi v1600 arg12
  let c0_i32_2787 : BitVec 32 := 0#32
  ![v2062.toNat, 0]
@[reducible] def k0_t299_loop : Scf.Loop 32 :=
  let c0_i32_2160 : BitVec 32 := 0#32
  let c64_i32_2161 : BitVec 32 := 64#32
  let v1602 : BitVec 32 := Scalar.addi c0_i32_2160 c64_i32_2161
  let c1_i32_2162 : BitVec 32 := 1#32
  ⟨c0_i32_2160, v1602, c1_i32_2162⟩
def k0_off377 (k0_t299 : Fin k0_t299_loop.trips) : Fin 1 → Nat :=
  let c0_i32_2160 : BitVec 32 := 0#32
  let c1_i32_2162 : BitVec 32 := 1#32
  let arg12 : BitVec 32 := Scf.iv c0_i32_2160 c1_i32_2162 k0_t299
  let c384_i32_2785 : BitVec 32 := 384#32
  let v2062 : BitVec 32 := Scalar.muli arg12 c384_i32_2785
  ![v2062.toNat]
@[reducible] def k0_t300_loop : Scf.Loop 32 :=
  let c0_i32_2168 : BitVec 32 := 0#32
  let c48_i32_2169 : BitVec 32 := 48#32
  let v1607 : BitVec 32 := Scalar.addi c0_i32_2168 c48_i32_2169
  let c1_i32_2170 : BitVec 32 := 1#32
  ⟨c0_i32_2168, v1607, c1_i32_2170⟩
@[reducible] def k0_t301_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off378 (k0_t300 : Fin k0_t300_loop.trips) (k0_t301 : Fin k0_t301_loop.trips) : Fin 2 → Nat :=
  let c0_i32_2168 : BitVec 32 := 0#32
  let c1_i32_2170 : BitVec 32 := 1#32
  let arg12 : BitVec 32 := Scf.iv c0_i32_2168 c1_i32_2170 k0_t300
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t301
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk75 (v2067 : IVec S16 32) : Prop :=
  (∀ a x, ((![v2067] : Fin 1 → IVec S16 32) a x).toNat < S24576.size a)
theorem k0_idx75_inb : ∀ (v2067 : IVec S16 32) (k0_hw75 : k0_chk75 v2067), ∀ a x, ((![v2067] : Fin 1 → IVec S16 32) a x).toNat < S24576.size a := fun v2067 k0_hw75 => k0_hw75
def k0_off379 (k0_t300 : Fin k0_t300_loop.trips) (k0_t301 : Fin k0_t301_loop.trips) : Fin 2 → Nat :=
  let c0_i32_2168 : BitVec 32 := 0#32
  let c1_i32_2170 : BitVec 32 := 1#32
  let arg12 : BitVec 32 := Scf.iv c0_i32_2168 c1_i32_2170 k0_t300
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t301
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t302_loop : Scf.Loop 32 :=
  let c0_i32_2184 : BitVec 32 := 0#32
  let c64_i32_2185 : BitVec 32 := 64#32
  let v1622 : BitVec 32 := Scalar.addi c0_i32_2184 c64_i32_2185
  let c1_i32_2186 : BitVec 32 := 1#32
  ⟨c0_i32_2184, v1622, c1_i32_2186⟩
def k0_off380 (k0_t302 : Fin k0_t302_loop.trips) : Fin 1 → Nat :=
  let c0_i32_2184 : BitVec 32 := 0#32
  let c1_i32_2186 : BitVec 32 := 1#32
  let arg12 : BitVec 32 := Scf.iv c0_i32_2184 c1_i32_2186 k0_t302
  let c384_i32_2785 : BitVec 32 := 384#32
  let v2063 : BitVec 32 := Scalar.muli arg12 c384_i32_2785
  ![v2063.toNat]
def k0_off381 (i : grid0.Coords) (k0_t302 : Fin k0_t302_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2179 : BitVec 32 := 96#32
  let v1617 : BitVec 32 := Scalar.muli v18 c96_i32_2179
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_2180 : BitVec 32 := 4#32
  let v1618 : BitVec 32 := Scalar.addi v29 c4_i32_2180
  let v1619 : BitVec 32 := Scalar.addi v1617 v1618
  let c384_i32_2181 : BitVec 32 := 384#32
  let v1620 : BitVec 32 := Scalar.muli v1619 c384_i32_2181
  let c280_i32_2182 : BitVec 32 := 280#32
  let v1621 : BitVec 32 := Scalar.addi v1620 c280_i32_2182
  let c0_i32_2184 : BitVec 32 := 0#32
  let c1_i32_2186 : BitVec 32 := 1#32
  let arg12 : BitVec 32 := Scf.iv c0_i32_2184 c1_i32_2186 k0_t302
  let v2062 : BitVec 32 := Scalar.addi v1621 arg12
  let c0_i32_2787 : BitVec 32 := 0#32
  ![v2062.toNat, 0]
@[reducible] def k0_t303_loop : Scf.Loop 32 :=
  let c0_i32_2189 : BitVec 32 := 0#32
  let c64_i32_2190 : BitVec 32 := 64#32
  let v1623 : BitVec 32 := Scalar.addi c0_i32_2189 c64_i32_2190
  let c1_i32_2191 : BitVec 32 := 1#32
  ⟨c0_i32_2189, v1623, c1_i32_2191⟩
def k0_off382 (k0_t303 : Fin k0_t303_loop.trips) : Fin 1 → Nat :=
  let c0_i32_2189 : BitVec 32 := 0#32
  let c1_i32_2191 : BitVec 32 := 1#32
  let arg12 : BitVec 32 := Scf.iv c0_i32_2189 c1_i32_2191 k0_t303
  let c384_i32_2785 : BitVec 32 := 384#32
  let v2062 : BitVec 32 := Scalar.muli arg12 c384_i32_2785
  ![v2062.toNat]
@[reducible] def k0_t304_loop : Scf.Loop 32 :=
  let c0_i32_2197 : BitVec 32 := 0#32
  let c48_i32_2198 : BitVec 32 := 48#32
  let v1628 : BitVec 32 := Scalar.addi c0_i32_2197 c48_i32_2198
  let c1_i32_2199 : BitVec 32 := 1#32
  ⟨c0_i32_2197, v1628, c1_i32_2199⟩
@[reducible] def k0_t305_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off383 (k0_t304 : Fin k0_t304_loop.trips) (k0_t305 : Fin k0_t305_loop.trips) : Fin 2 → Nat :=
  let c0_i32_2197 : BitVec 32 := 0#32
  let c1_i32_2199 : BitVec 32 := 1#32
  let arg12 : BitVec 32 := Scf.iv c0_i32_2197 c1_i32_2199 k0_t304
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t305
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk76 (v2067 : IVec S16 32) : Prop :=
  (∀ a x, ((![v2067] : Fin 1 → IVec S16 32) a x).toNat < S24576.size a)
theorem k0_idx76_inb : ∀ (v2067 : IVec S16 32) (k0_hw76 : k0_chk76 v2067), ∀ a x, ((![v2067] : Fin 1 → IVec S16 32) a x).toNat < S24576.size a := fun v2067 k0_hw76 => k0_hw76
def k0_off384 (k0_t304 : Fin k0_t304_loop.trips) (k0_t305 : Fin k0_t305_loop.trips) : Fin 2 → Nat :=
  let c0_i32_2197 : BitVec 32 := 0#32
  let c1_i32_2199 : BitVec 32 := 1#32
  let arg12 : BitVec 32 := Scf.iv c0_i32_2197 c1_i32_2199 k0_t304
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t305
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t306_loop : Scf.Loop 32 :=
  let c0_i32_2213 : BitVec 32 := 0#32
  let c64_i32_2214 : BitVec 32 := 64#32
  let v1643 : BitVec 32 := Scalar.addi c0_i32_2213 c64_i32_2214
  let c1_i32_2215 : BitVec 32 := 1#32
  ⟨c0_i32_2213, v1643, c1_i32_2215⟩
def k0_off385 (k0_t306 : Fin k0_t306_loop.trips) : Fin 1 → Nat :=
  let c0_i32_2213 : BitVec 32 := 0#32
  let c1_i32_2215 : BitVec 32 := 1#32
  let arg12 : BitVec 32 := Scf.iv c0_i32_2213 c1_i32_2215 k0_t306
  let c384_i32_2785 : BitVec 32 := 384#32
  let v2063 : BitVec 32 := Scalar.muli arg12 c384_i32_2785
  ![v2063.toNat]
def k0_off386 (i : grid0.Coords) (k0_t306 : Fin k0_t306_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2208 : BitVec 32 := 96#32
  let v1638 : BitVec 32 := Scalar.muli v18 c96_i32_2208
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_2209 : BitVec 32 := 5#32
  let v1639 : BitVec 32 := Scalar.addi v29 c5_i32_2209
  let v1640 : BitVec 32 := Scalar.addi v1638 v1639
  let c384_i32_2210 : BitVec 32 := 384#32
  let v1641 : BitVec 32 := Scalar.muli v1640 c384_i32_2210
  let c280_i32_2211 : BitVec 32 := 280#32
  let v1642 : BitVec 32 := Scalar.addi v1641 c280_i32_2211
  let c0_i32_2213 : BitVec 32 := 0#32
  let c1_i32_2215 : BitVec 32 := 1#32
  let arg12 : BitVec 32 := Scf.iv c0_i32_2213 c1_i32_2215 k0_t306
  let v2062 : BitVec 32 := Scalar.addi v1642 arg12
  let c0_i32_2787 : BitVec 32 := 0#32
  ![v2062.toNat, 0]
@[reducible] def k0_t307_loop : Scf.Loop 32 :=
  let c0_i32_2218 : BitVec 32 := 0#32
  let c64_i32_2219 : BitVec 32 := 64#32
  let v1644 : BitVec 32 := Scalar.addi c0_i32_2218 c64_i32_2219
  let c1_i32_2220 : BitVec 32 := 1#32
  ⟨c0_i32_2218, v1644, c1_i32_2220⟩
def k0_off387 (k0_t307 : Fin k0_t307_loop.trips) : Fin 1 → Nat :=
  let c0_i32_2218 : BitVec 32 := 0#32
  let c1_i32_2220 : BitVec 32 := 1#32
  let arg12 : BitVec 32 := Scf.iv c0_i32_2218 c1_i32_2220 k0_t307
  let c384_i32_2785 : BitVec 32 := 384#32
  let v2062 : BitVec 32 := Scalar.muli arg12 c384_i32_2785
  ![v2062.toNat]
@[reducible] def k0_t308_loop : Scf.Loop 32 :=
  let c0_i32_2226 : BitVec 32 := 0#32
  let c48_i32_2227 : BitVec 32 := 48#32
  let v1649 : BitVec 32 := Scalar.addi c0_i32_2226 c48_i32_2227
  let c1_i32_2228 : BitVec 32 := 1#32
  ⟨c0_i32_2226, v1649, c1_i32_2228⟩
@[reducible] def k0_t309_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off388 (k0_t308 : Fin k0_t308_loop.trips) (k0_t309 : Fin k0_t309_loop.trips) : Fin 2 → Nat :=
  let c0_i32_2226 : BitVec 32 := 0#32
  let c1_i32_2228 : BitVec 32 := 1#32
  let arg12 : BitVec 32 := Scf.iv c0_i32_2226 c1_i32_2228 k0_t308
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t309
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk77 (v2067 : IVec S16 32) : Prop :=
  (∀ a x, ((![v2067] : Fin 1 → IVec S16 32) a x).toNat < S24576.size a)
theorem k0_idx77_inb : ∀ (v2067 : IVec S16 32) (k0_hw77 : k0_chk77 v2067), ∀ a x, ((![v2067] : Fin 1 → IVec S16 32) a x).toNat < S24576.size a := fun v2067 k0_hw77 => k0_hw77
def k0_off389 (k0_t308 : Fin k0_t308_loop.trips) (k0_t309 : Fin k0_t309_loop.trips) : Fin 2 → Nat :=
  let c0_i32_2226 : BitVec 32 := 0#32
  let c1_i32_2228 : BitVec 32 := 1#32
  let arg12 : BitVec 32 := Scf.iv c0_i32_2226 c1_i32_2228 k0_t308
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t309
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t310_loop : Scf.Loop 32 :=
  let c0_i32_2242 : BitVec 32 := 0#32
  let c64_i32_2243 : BitVec 32 := 64#32
  let v1664 : BitVec 32 := Scalar.addi c0_i32_2242 c64_i32_2243
  let c1_i32_2244 : BitVec 32 := 1#32
  ⟨c0_i32_2242, v1664, c1_i32_2244⟩
def k0_off390 (k0_t310 : Fin k0_t310_loop.trips) : Fin 1 → Nat :=
  let c0_i32_2242 : BitVec 32 := 0#32
  let c1_i32_2244 : BitVec 32 := 1#32
  let arg12 : BitVec 32 := Scf.iv c0_i32_2242 c1_i32_2244 k0_t310
  let c384_i32_2785 : BitVec 32 := 384#32
  let v2063 : BitVec 32 := Scalar.muli arg12 c384_i32_2785
  ![v2063.toNat]
def k0_off391 (i : grid0.Coords) (k0_t310 : Fin k0_t310_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2237 : BitVec 32 := 96#32
  let v1659 : BitVec 32 := Scalar.muli v18 c96_i32_2237
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_2238 : BitVec 32 := 6#32
  let v1660 : BitVec 32 := Scalar.addi v29 c6_i32_2238
  let v1661 : BitVec 32 := Scalar.addi v1659 v1660
  let c384_i32_2239 : BitVec 32 := 384#32
  let v1662 : BitVec 32 := Scalar.muli v1661 c384_i32_2239
  let c280_i32_2240 : BitVec 32 := 280#32
  let v1663 : BitVec 32 := Scalar.addi v1662 c280_i32_2240
  let c0_i32_2242 : BitVec 32 := 0#32
  let c1_i32_2244 : BitVec 32 := 1#32
  let arg12 : BitVec 32 := Scf.iv c0_i32_2242 c1_i32_2244 k0_t310
  let v2062 : BitVec 32 := Scalar.addi v1663 arg12
  let c0_i32_2787 : BitVec 32 := 0#32
  ![v2062.toNat, 0]
@[reducible] def k0_t311_loop : Scf.Loop 32 :=
  let c0_i32_2247 : BitVec 32 := 0#32
  let c64_i32_2248 : BitVec 32 := 64#32
  let v1665 : BitVec 32 := Scalar.addi c0_i32_2247 c64_i32_2248
  let c1_i32_2249 : BitVec 32 := 1#32
  ⟨c0_i32_2247, v1665, c1_i32_2249⟩
def k0_off392 (k0_t311 : Fin k0_t311_loop.trips) : Fin 1 → Nat :=
  let c0_i32_2247 : BitVec 32 := 0#32
  let c1_i32_2249 : BitVec 32 := 1#32
  let arg12 : BitVec 32 := Scf.iv c0_i32_2247 c1_i32_2249 k0_t311
  let c384_i32_2785 : BitVec 32 := 384#32
  let v2062 : BitVec 32 := Scalar.muli arg12 c384_i32_2785
  ![v2062.toNat]
@[reducible] def k0_t312_loop : Scf.Loop 32 :=
  let c0_i32_2255 : BitVec 32 := 0#32
  let c48_i32_2256 : BitVec 32 := 48#32
  let v1670 : BitVec 32 := Scalar.addi c0_i32_2255 c48_i32_2256
  let c1_i32_2257 : BitVec 32 := 1#32
  ⟨c0_i32_2255, v1670, c1_i32_2257⟩
@[reducible] def k0_t313_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off393 (k0_t312 : Fin k0_t312_loop.trips) (k0_t313 : Fin k0_t313_loop.trips) : Fin 2 → Nat :=
  let c0_i32_2255 : BitVec 32 := 0#32
  let c1_i32_2257 : BitVec 32 := 1#32
  let arg12 : BitVec 32 := Scf.iv c0_i32_2255 c1_i32_2257 k0_t312
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t313
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk78 (v2067 : IVec S16 32) : Prop :=
  (∀ a x, ((![v2067] : Fin 1 → IVec S16 32) a x).toNat < S24576.size a)
theorem k0_idx78_inb : ∀ (v2067 : IVec S16 32) (k0_hw78 : k0_chk78 v2067), ∀ a x, ((![v2067] : Fin 1 → IVec S16 32) a x).toNat < S24576.size a := fun v2067 k0_hw78 => k0_hw78
def k0_off394 (k0_t312 : Fin k0_t312_loop.trips) (k0_t313 : Fin k0_t313_loop.trips) : Fin 2 → Nat :=
  let c0_i32_2255 : BitVec 32 := 0#32
  let c1_i32_2257 : BitVec 32 := 1#32
  let arg12 : BitVec 32 := Scf.iv c0_i32_2255 c1_i32_2257 k0_t312
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t313
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t314_loop : Scf.Loop 32 :=
  let c0_i32_2271 : BitVec 32 := 0#32
  let c64_i32_2272 : BitVec 32 := 64#32
  let v1685 : BitVec 32 := Scalar.addi c0_i32_2271 c64_i32_2272
  let c1_i32_2273 : BitVec 32 := 1#32
  ⟨c0_i32_2271, v1685, c1_i32_2273⟩
def k0_off395 (k0_t314 : Fin k0_t314_loop.trips) : Fin 1 → Nat :=
  let c0_i32_2271 : BitVec 32 := 0#32
  let c1_i32_2273 : BitVec 32 := 1#32
  let arg12 : BitVec 32 := Scf.iv c0_i32_2271 c1_i32_2273 k0_t314
  let c384_i32_2785 : BitVec 32 := 384#32
  let v2063 : BitVec 32 := Scalar.muli arg12 c384_i32_2785
  ![v2063.toNat]
def k0_off396 (i : grid0.Coords) (k0_t314 : Fin k0_t314_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2266 : BitVec 32 := 96#32
  let v1680 : BitVec 32 := Scalar.muli v18 c96_i32_2266
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_2267 : BitVec 32 := 7#32
  let v1681 : BitVec 32 := Scalar.addi v29 c7_i32_2267
  let v1682 : BitVec 32 := Scalar.addi v1680 v1681
  let c384_i32_2268 : BitVec 32 := 384#32
  let v1683 : BitVec 32 := Scalar.muli v1682 c384_i32_2268
  let c280_i32_2269 : BitVec 32 := 280#32
  let v1684 : BitVec 32 := Scalar.addi v1683 c280_i32_2269
  let c0_i32_2271 : BitVec 32 := 0#32
  let c1_i32_2273 : BitVec 32 := 1#32
  let arg12 : BitVec 32 := Scf.iv c0_i32_2271 c1_i32_2273 k0_t314
  let v2062 : BitVec 32 := Scalar.addi v1684 arg12
  let c0_i32_2787 : BitVec 32 := 0#32
  ![v2062.toNat, 0]
@[reducible] def k0_t315_loop : Scf.Loop 32 :=
  let c0_i32_2276 : BitVec 32 := 0#32
  let c64_i32_2277 : BitVec 32 := 64#32
  let v1686 : BitVec 32 := Scalar.addi c0_i32_2276 c64_i32_2277
  let c1_i32_2278 : BitVec 32 := 1#32
  ⟨c0_i32_2276, v1686, c1_i32_2278⟩
def k0_off397 (k0_t315 : Fin k0_t315_loop.trips) : Fin 1 → Nat :=
  let c0_i32_2276 : BitVec 32 := 0#32
  let c1_i32_2278 : BitVec 32 := 1#32
  let arg12 : BitVec 32 := Scf.iv c0_i32_2276 c1_i32_2278 k0_t315
  let c384_i32_2785 : BitVec 32 := 384#32
  let v2062 : BitVec 32 := Scalar.muli arg12 c384_i32_2785
  ![v2062.toNat]
@[reducible] def k0_t316_loop : Scf.Loop 32 :=
  let c0_i32_2284 : BitVec 32 := 0#32
  let c48_i32_2285 : BitVec 32 := 48#32
  let v1691 : BitVec 32 := Scalar.addi c0_i32_2284 c48_i32_2285
  let c1_i32_2286 : BitVec 32 := 1#32
  ⟨c0_i32_2284, v1691, c1_i32_2286⟩
@[reducible] def k0_t317_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off398 (k0_t316 : Fin k0_t316_loop.trips) (k0_t317 : Fin k0_t317_loop.trips) : Fin 2 → Nat :=
  let c0_i32_2284 : BitVec 32 := 0#32
  let c1_i32_2286 : BitVec 32 := 1#32
  let arg12 : BitVec 32 := Scf.iv c0_i32_2284 c1_i32_2286 k0_t316
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t317
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk79 (v2067 : IVec S16 32) : Prop :=
  (∀ a x, ((![v2067] : Fin 1 → IVec S16 32) a x).toNat < S24576.size a)
theorem k0_idx79_inb : ∀ (v2067 : IVec S16 32) (k0_hw79 : k0_chk79 v2067), ∀ a x, ((![v2067] : Fin 1 → IVec S16 32) a x).toNat < S24576.size a := fun v2067 k0_hw79 => k0_hw79
def k0_off399 (k0_t316 : Fin k0_t316_loop.trips) (k0_t317 : Fin k0_t317_loop.trips) : Fin 2 → Nat :=
  let c0_i32_2284 : BitVec 32 := 0#32
  let c1_i32_2286 : BitVec 32 := 1#32
  let arg12 : BitVec 32 := Scf.iv c0_i32_2284 c1_i32_2286 k0_t316
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t317
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t318_loop : Scf.Loop 32 :=
  let c0_i32_2300 : BitVec 32 := 0#32
  let c64_i32_2301 : BitVec 32 := 64#32
  let v1706 : BitVec 32 := Scalar.addi c0_i32_2300 c64_i32_2301
  let c1_i32_2302 : BitVec 32 := 1#32
  ⟨c0_i32_2300, v1706, c1_i32_2302⟩
def k0_off400 (k0_t318 : Fin k0_t318_loop.trips) : Fin 1 → Nat :=
  let c0_i32_2300 : BitVec 32 := 0#32
  let c1_i32_2302 : BitVec 32 := 1#32
  let arg12 : BitVec 32 := Scf.iv c0_i32_2300 c1_i32_2302 k0_t318
  let c384_i32_2785 : BitVec 32 := 384#32
  let v2063 : BitVec 32 := Scalar.muli arg12 c384_i32_2785
  ![v2063.toNat]
def k0_off401 (i : grid0.Coords) (k0_t318 : Fin k0_t318_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2295 : BitVec 32 := 96#32
  let v1701 : BitVec 32 := Scalar.muli v18 c96_i32_2295
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_2296 : BitVec 32 := 8#32
  let v1702 : BitVec 32 := Scalar.addi v29 c8_i32_2296
  let v1703 : BitVec 32 := Scalar.addi v1701 v1702
  let c384_i32_2297 : BitVec 32 := 384#32
  let v1704 : BitVec 32 := Scalar.muli v1703 c384_i32_2297
  let c280_i32_2298 : BitVec 32 := 280#32
  let v1705 : BitVec 32 := Scalar.addi v1704 c280_i32_2298
  let c0_i32_2300 : BitVec 32 := 0#32
  let c1_i32_2302 : BitVec 32 := 1#32
  let arg12 : BitVec 32 := Scf.iv c0_i32_2300 c1_i32_2302 k0_t318
  let v2062 : BitVec 32 := Scalar.addi v1705 arg12
  let c0_i32_2787 : BitVec 32 := 0#32
  ![v2062.toNat, 0]
@[reducible] def k0_t319_loop : Scf.Loop 32 :=
  let c0_i32_2305 : BitVec 32 := 0#32
  let c64_i32_2306 : BitVec 32 := 64#32
  let v1707 : BitVec 32 := Scalar.addi c0_i32_2305 c64_i32_2306
  let c1_i32_2307 : BitVec 32 := 1#32
  ⟨c0_i32_2305, v1707, c1_i32_2307⟩
def k0_off402 (k0_t319 : Fin k0_t319_loop.trips) : Fin 1 → Nat :=
  let c0_i32_2305 : BitVec 32 := 0#32
  let c1_i32_2307 : BitVec 32 := 1#32
  let arg12 : BitVec 32 := Scf.iv c0_i32_2305 c1_i32_2307 k0_t319
  let c384_i32_2785 : BitVec 32 := 384#32
  let v2062 : BitVec 32 := Scalar.muli arg12 c384_i32_2785
  ![v2062.toNat]
@[reducible] def k0_t320_loop : Scf.Loop 32 :=
  let c0_i32_2313 : BitVec 32 := 0#32
  let c48_i32_2314 : BitVec 32 := 48#32
  let v1712 : BitVec 32 := Scalar.addi c0_i32_2313 c48_i32_2314
  let c1_i32_2315 : BitVec 32 := 1#32
  ⟨c0_i32_2313, v1712, c1_i32_2315⟩
@[reducible] def k0_t321_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off403 (k0_t320 : Fin k0_t320_loop.trips) (k0_t321 : Fin k0_t321_loop.trips) : Fin 2 → Nat :=
  let c0_i32_2313 : BitVec 32 := 0#32
  let c1_i32_2315 : BitVec 32 := 1#32
  let arg12 : BitVec 32 := Scf.iv c0_i32_2313 c1_i32_2315 k0_t320
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t321
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk80 (v2067 : IVec S16 32) : Prop :=
  (∀ a x, ((![v2067] : Fin 1 → IVec S16 32) a x).toNat < S24576.size a)
theorem k0_idx80_inb : ∀ (v2067 : IVec S16 32) (k0_hw80 : k0_chk80 v2067), ∀ a x, ((![v2067] : Fin 1 → IVec S16 32) a x).toNat < S24576.size a := fun v2067 k0_hw80 => k0_hw80
def k0_off404 (k0_t320 : Fin k0_t320_loop.trips) (k0_t321 : Fin k0_t321_loop.trips) : Fin 2 → Nat :=
  let c0_i32_2313 : BitVec 32 := 0#32
  let c1_i32_2315 : BitVec 32 := 1#32
  let arg12 : BitVec 32 := Scf.iv c0_i32_2313 c1_i32_2315 k0_t320
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t321
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t322_loop : Scf.Loop 32 :=
  let c0_i32_2329 : BitVec 32 := 0#32
  let c64_i32_2330 : BitVec 32 := 64#32
  let v1727 : BitVec 32 := Scalar.addi c0_i32_2329 c64_i32_2330
  let c1_i32_2331 : BitVec 32 := 1#32
  ⟨c0_i32_2329, v1727, c1_i32_2331⟩
def k0_off405 (k0_t322 : Fin k0_t322_loop.trips) : Fin 1 → Nat :=
  let c0_i32_2329 : BitVec 32 := 0#32
  let c1_i32_2331 : BitVec 32 := 1#32
  let arg12 : BitVec 32 := Scf.iv c0_i32_2329 c1_i32_2331 k0_t322
  let c384_i32_2785 : BitVec 32 := 384#32
  let v2063 : BitVec 32 := Scalar.muli arg12 c384_i32_2785
  ![v2063.toNat]
def k0_off406 (i : grid0.Coords) (k0_t322 : Fin k0_t322_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2324 : BitVec 32 := 96#32
  let v1722 : BitVec 32 := Scalar.muli v18 c96_i32_2324
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_2325 : BitVec 32 := 9#32
  let v1723 : BitVec 32 := Scalar.addi v29 c9_i32_2325
  let v1724 : BitVec 32 := Scalar.addi v1722 v1723
  let c384_i32_2326 : BitVec 32 := 384#32
  let v1725 : BitVec 32 := Scalar.muli v1724 c384_i32_2326
  let c280_i32_2327 : BitVec 32 := 280#32
  let v1726 : BitVec 32 := Scalar.addi v1725 c280_i32_2327
  let c0_i32_2329 : BitVec 32 := 0#32
  let c1_i32_2331 : BitVec 32 := 1#32
  let arg12 : BitVec 32 := Scf.iv c0_i32_2329 c1_i32_2331 k0_t322
  let v2062 : BitVec 32 := Scalar.addi v1726 arg12
  let c0_i32_2787 : BitVec 32 := 0#32
  ![v2062.toNat, 0]
@[reducible] def k0_t323_loop : Scf.Loop 32 :=
  let c0_i32_2334 : BitVec 32 := 0#32
  let c64_i32_2335 : BitVec 32 := 64#32
  let v1728 : BitVec 32 := Scalar.addi c0_i32_2334 c64_i32_2335
  let c1_i32_2336 : BitVec 32 := 1#32
  ⟨c0_i32_2334, v1728, c1_i32_2336⟩
def k0_off407 (k0_t323 : Fin k0_t323_loop.trips) : Fin 1 → Nat :=
  let c0_i32_2334 : BitVec 32 := 0#32
  let c1_i32_2336 : BitVec 32 := 1#32
  let arg12 : BitVec 32 := Scf.iv c0_i32_2334 c1_i32_2336 k0_t323
  let c384_i32_2785 : BitVec 32 := 384#32
  let v2062 : BitVec 32 := Scalar.muli arg12 c384_i32_2785
  ![v2062.toNat]
@[reducible] def k0_t324_loop : Scf.Loop 32 :=
  let c0_i32_2342 : BitVec 32 := 0#32
  let c48_i32_2343 : BitVec 32 := 48#32
  let v1733 : BitVec 32 := Scalar.addi c0_i32_2342 c48_i32_2343
  let c1_i32_2344 : BitVec 32 := 1#32
  ⟨c0_i32_2342, v1733, c1_i32_2344⟩
@[reducible] def k0_t325_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off408 (k0_t324 : Fin k0_t324_loop.trips) (k0_t325 : Fin k0_t325_loop.trips) : Fin 2 → Nat :=
  let c0_i32_2342 : BitVec 32 := 0#32
  let c1_i32_2344 : BitVec 32 := 1#32
  let arg12 : BitVec 32 := Scf.iv c0_i32_2342 c1_i32_2344 k0_t324
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t325
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk81 (v2067 : IVec S16 32) : Prop :=
  (∀ a x, ((![v2067] : Fin 1 → IVec S16 32) a x).toNat < S24576.size a)
theorem k0_idx81_inb : ∀ (v2067 : IVec S16 32) (k0_hw81 : k0_chk81 v2067), ∀ a x, ((![v2067] : Fin 1 → IVec S16 32) a x).toNat < S24576.size a := fun v2067 k0_hw81 => k0_hw81
def k0_off409 (k0_t324 : Fin k0_t324_loop.trips) (k0_t325 : Fin k0_t325_loop.trips) : Fin 2 → Nat :=
  let c0_i32_2342 : BitVec 32 := 0#32
  let c1_i32_2344 : BitVec 32 := 1#32
  let arg12 : BitVec 32 := Scf.iv c0_i32_2342 c1_i32_2344 k0_t324
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t325
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t326_loop : Scf.Loop 32 :=
  let c0_i32_2358 : BitVec 32 := 0#32
  let c64_i32_2359 : BitVec 32 := 64#32
  let v1748 : BitVec 32 := Scalar.addi c0_i32_2358 c64_i32_2359
  let c1_i32_2360 : BitVec 32 := 1#32
  ⟨c0_i32_2358, v1748, c1_i32_2360⟩
def k0_off410 (k0_t326 : Fin k0_t326_loop.trips) : Fin 1 → Nat :=
  let c0_i32_2358 : BitVec 32 := 0#32
  let c1_i32_2360 : BitVec 32 := 1#32
  let arg12 : BitVec 32 := Scf.iv c0_i32_2358 c1_i32_2360 k0_t326
  let c384_i32_2785 : BitVec 32 := 384#32
  let v2063 : BitVec 32 := Scalar.muli arg12 c384_i32_2785
  ![v2063.toNat]
def k0_off411 (i : grid0.Coords) (k0_t326 : Fin k0_t326_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2353 : BitVec 32 := 96#32
  let v1743 : BitVec 32 := Scalar.muli v18 c96_i32_2353
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_2354 : BitVec 32 := 10#32
  let v1744 : BitVec 32 := Scalar.addi v29 c10_i32_2354
  let v1745 : BitVec 32 := Scalar.addi v1743 v1744
  let c384_i32_2355 : BitVec 32 := 384#32
  let v1746 : BitVec 32 := Scalar.muli v1745 c384_i32_2355
  let c280_i32_2356 : BitVec 32 := 280#32
  let v1747 : BitVec 32 := Scalar.addi v1746 c280_i32_2356
  let c0_i32_2358 : BitVec 32 := 0#32
  let c1_i32_2360 : BitVec 32 := 1#32
  let arg12 : BitVec 32 := Scf.iv c0_i32_2358 c1_i32_2360 k0_t326
  let v2062 : BitVec 32 := Scalar.addi v1747 arg12
  let c0_i32_2787 : BitVec 32 := 0#32
  ![v2062.toNat, 0]
@[reducible] def k0_t327_loop : Scf.Loop 32 :=
  let c0_i32_2363 : BitVec 32 := 0#32
  let c64_i32_2364 : BitVec 32 := 64#32
  let v1749 : BitVec 32 := Scalar.addi c0_i32_2363 c64_i32_2364
  let c1_i32_2365 : BitVec 32 := 1#32
  ⟨c0_i32_2363, v1749, c1_i32_2365⟩
def k0_off412 (k0_t327 : Fin k0_t327_loop.trips) : Fin 1 → Nat :=
  let c0_i32_2363 : BitVec 32 := 0#32
  let c1_i32_2365 : BitVec 32 := 1#32
  let arg12 : BitVec 32 := Scf.iv c0_i32_2363 c1_i32_2365 k0_t327
  let c384_i32_2785 : BitVec 32 := 384#32
  let v2062 : BitVec 32 := Scalar.muli arg12 c384_i32_2785
  ![v2062.toNat]
@[reducible] def k0_t328_loop : Scf.Loop 32 :=
  let c0_i32_2371 : BitVec 32 := 0#32
  let c48_i32_2372 : BitVec 32 := 48#32
  let v1754 : BitVec 32 := Scalar.addi c0_i32_2371 c48_i32_2372
  let c1_i32_2373 : BitVec 32 := 1#32
  ⟨c0_i32_2371, v1754, c1_i32_2373⟩
@[reducible] def k0_t329_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off413 (k0_t328 : Fin k0_t328_loop.trips) (k0_t329 : Fin k0_t329_loop.trips) : Fin 2 → Nat :=
  let c0_i32_2371 : BitVec 32 := 0#32
  let c1_i32_2373 : BitVec 32 := 1#32
  let arg12 : BitVec 32 := Scf.iv c0_i32_2371 c1_i32_2373 k0_t328
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t329
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk82 (v2067 : IVec S16 32) : Prop :=
  (∀ a x, ((![v2067] : Fin 1 → IVec S16 32) a x).toNat < S24576.size a)
theorem k0_idx82_inb : ∀ (v2067 : IVec S16 32) (k0_hw82 : k0_chk82 v2067), ∀ a x, ((![v2067] : Fin 1 → IVec S16 32) a x).toNat < S24576.size a := fun v2067 k0_hw82 => k0_hw82
def k0_off414 (k0_t328 : Fin k0_t328_loop.trips) (k0_t329 : Fin k0_t329_loop.trips) : Fin 2 → Nat :=
  let c0_i32_2371 : BitVec 32 := 0#32
  let c1_i32_2373 : BitVec 32 := 1#32
  let arg12 : BitVec 32 := Scf.iv c0_i32_2371 c1_i32_2373 k0_t328
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t329
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t330_loop : Scf.Loop 32 :=
  let c0_i32_2387 : BitVec 32 := 0#32
  let c64_i32_2388 : BitVec 32 := 64#32
  let v1769 : BitVec 32 := Scalar.addi c0_i32_2387 c64_i32_2388
  let c1_i32_2389 : BitVec 32 := 1#32
  ⟨c0_i32_2387, v1769, c1_i32_2389⟩
def k0_off415 (k0_t330 : Fin k0_t330_loop.trips) : Fin 1 → Nat :=
  let c0_i32_2387 : BitVec 32 := 0#32
  let c1_i32_2389 : BitVec 32 := 1#32
  let arg12 : BitVec 32 := Scf.iv c0_i32_2387 c1_i32_2389 k0_t330
  let c384_i32_2785 : BitVec 32 := 384#32
  let v2063 : BitVec 32 := Scalar.muli arg12 c384_i32_2785
  ![v2063.toNat]
def k0_off416 (i : grid0.Coords) (k0_t330 : Fin k0_t330_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2382 : BitVec 32 := 96#32
  let v1764 : BitVec 32 := Scalar.muli v18 c96_i32_2382
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_2383 : BitVec 32 := 11#32
  let v1765 : BitVec 32 := Scalar.addi v29 c11_i32_2383
  let v1766 : BitVec 32 := Scalar.addi v1764 v1765
  let c384_i32_2384 : BitVec 32 := 384#32
  let v1767 : BitVec 32 := Scalar.muli v1766 c384_i32_2384
  let c280_i32_2385 : BitVec 32 := 280#32
  let v1768 : BitVec 32 := Scalar.addi v1767 c280_i32_2385
  let c0_i32_2387 : BitVec 32 := 0#32
  let c1_i32_2389 : BitVec 32 := 1#32
  let arg12 : BitVec 32 := Scf.iv c0_i32_2387 c1_i32_2389 k0_t330
  let v2062 : BitVec 32 := Scalar.addi v1768 arg12
  let c0_i32_2787 : BitVec 32 := 0#32
  ![v2062.toNat, 0]
@[reducible] def k0_t331_loop : Scf.Loop 32 :=
  let c0_i32_2392 : BitVec 32 := 0#32
  let c64_i32_2393 : BitVec 32 := 64#32
  let v1770 : BitVec 32 := Scalar.addi c0_i32_2392 c64_i32_2393
  let c1_i32_2394 : BitVec 32 := 1#32
  ⟨c0_i32_2392, v1770, c1_i32_2394⟩
def k0_off417 (k0_t331 : Fin k0_t331_loop.trips) : Fin 1 → Nat :=
  let c0_i32_2392 : BitVec 32 := 0#32
  let c1_i32_2394 : BitVec 32 := 1#32
  let arg12 : BitVec 32 := Scf.iv c0_i32_2392 c1_i32_2394 k0_t331
  let c384_i32_2785 : BitVec 32 := 384#32
  let v2062 : BitVec 32 := Scalar.muli arg12 c384_i32_2785
  ![v2062.toNat]
@[reducible] def k0_t332_loop : Scf.Loop 32 :=
  let c0_i32_2400 : BitVec 32 := 0#32
  let c48_i32_2401 : BitVec 32 := 48#32
  let v1775 : BitVec 32 := Scalar.addi c0_i32_2400 c48_i32_2401
  let c1_i32_2402 : BitVec 32 := 1#32
  ⟨c0_i32_2400, v1775, c1_i32_2402⟩
@[reducible] def k0_t333_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off418 (k0_t332 : Fin k0_t332_loop.trips) (k0_t333 : Fin k0_t333_loop.trips) : Fin 2 → Nat :=
  let c0_i32_2400 : BitVec 32 := 0#32
  let c1_i32_2402 : BitVec 32 := 1#32
  let arg12 : BitVec 32 := Scf.iv c0_i32_2400 c1_i32_2402 k0_t332
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t333
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk83 (v2067 : IVec S16 32) : Prop :=
  (∀ a x, ((![v2067] : Fin 1 → IVec S16 32) a x).toNat < S24576.size a)
theorem k0_idx83_inb : ∀ (v2067 : IVec S16 32) (k0_hw83 : k0_chk83 v2067), ∀ a x, ((![v2067] : Fin 1 → IVec S16 32) a x).toNat < S24576.size a := fun v2067 k0_hw83 => k0_hw83
def k0_off419 (k0_t332 : Fin k0_t332_loop.trips) (k0_t333 : Fin k0_t333_loop.trips) : Fin 2 → Nat :=
  let c0_i32_2400 : BitVec 32 := 0#32
  let c1_i32_2402 : BitVec 32 := 1#32
  let arg12 : BitVec 32 := Scf.iv c0_i32_2400 c1_i32_2402 k0_t332
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t333
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t334_loop : Scf.Loop 32 :=
  let c0_i32_2412 : BitVec 32 := 0#32
  let c64_i32_2413 : BitVec 32 := 64#32
  let v1785 : BitVec 32 := Scalar.addi c0_i32_2412 c64_i32_2413
  let c1_i32_2414 : BitVec 32 := 1#32
  ⟨c0_i32_2412, v1785, c1_i32_2414⟩
def k0_off420 (k0_t334 : Fin k0_t334_loop.trips) : Fin 1 → Nat :=
  let c0_i32_2412 : BitVec 32 := 0#32
  let c1_i32_2414 : BitVec 32 := 1#32
  let arg12 : BitVec 32 := Scf.iv c0_i32_2412 c1_i32_2414 k0_t334
  let c384_i32_2785 : BitVec 32 := 384#32
  let v2062 : BitVec 32 := Scalar.muli arg12 c384_i32_2785
  ![v2062.toNat]
@[reducible] def k0_t335_loop : Scf.Loop 32 :=
  let c0_i32_2420 : BitVec 32 := 0#32
  let c48_i32_2421 : BitVec 32 := 48#32
  let v1790 : BitVec 32 := Scalar.addi c0_i32_2420 c48_i32_2421
  let c1_i32_2422 : BitVec 32 := 1#32
  ⟨c0_i32_2420, v1790, c1_i32_2422⟩
@[reducible] def k0_t336_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off421 (k0_t335 : Fin k0_t335_loop.trips) (k0_t336 : Fin k0_t336_loop.trips) : Fin 2 → Nat :=
  let c0_i32_2420 : BitVec 32 := 0#32
  let c1_i32_2422 : BitVec 32 := 1#32
  let arg12 : BitVec 32 := Scf.iv c0_i32_2420 c1_i32_2422 k0_t335
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t336
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk84 (v2067 : IVec S16 32) : Prop :=
  (∀ a x, ((![v2067] : Fin 1 → IVec S16 32) a x).toNat < S24576.size a)
theorem k0_idx84_inb : ∀ (v2067 : IVec S16 32) (k0_hw84 : k0_chk84 v2067), ∀ a x, ((![v2067] : Fin 1 → IVec S16 32) a x).toNat < S24576.size a := fun v2067 k0_hw84 => k0_hw84
def k0_off422 (k0_t335 : Fin k0_t335_loop.trips) (k0_t336 : Fin k0_t336_loop.trips) : Fin 2 → Nat :=
  let c0_i32_2420 : BitVec 32 := 0#32
  let c1_i32_2422 : BitVec 32 := 1#32
  let arg12 : BitVec 32 := Scf.iv c0_i32_2420 c1_i32_2422 k0_t335
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t336
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t337_loop : Scf.Loop 32 :=
  let c0_i32_2435 : BitVec 32 := 0#32
  let c56_i32_2436 : BitVec 32 := 56#32
  let v1805 : BitVec 32 := Scalar.addi c0_i32_2435 c56_i32_2436
  let c1_i32_2437 : BitVec 32 := 1#32
  ⟨c0_i32_2435, v1805, c1_i32_2437⟩
def k0_off423 (k0_t337 : Fin k0_t337_loop.trips) : Fin 1 → Nat :=
  let c0_i32_2435 : BitVec 32 := 0#32
  let c1_i32_2437 : BitVec 32 := 1#32
  let arg12 : BitVec 32 := Scf.iv c0_i32_2435 c1_i32_2437 k0_t337
  let c384_i32_2785 : BitVec 32 := 384#32
  let v2063 : BitVec 32 := Scalar.muli arg12 c384_i32_2785
  ![v2063.toNat]
def k0_off424 (i : grid0.Coords) (k0_t337 : Fin k0_t337_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2431 : BitVec 32 := 96#32
  let v1800 : BitVec 32 := Scalar.muli v18 c96_i32_2431
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c0_i32_2432 : BitVec 32 := 0#32
  let v1801 : BitVec 32 := Scalar.addi v29 c0_i32_2432
  let v1802 : BitVec 32 := Scalar.addi v1800 v1801
  let c384_i32_2433 : BitVec 32 := 384#32
  let v1803 : BitVec 32 := Scalar.muli v1802 c384_i32_2433
  let c328_i32 : BitVec 32 := 328#32
  let v1804 : BitVec 32 := Scalar.addi v1803 c328_i32
  let c0_i32_2435 : BitVec 32 := 0#32
  let c1_i32_2437 : BitVec 32 := 1#32
  let arg12 : BitVec 32 := Scf.iv c0_i32_2435 c1_i32_2437 k0_t337
  let v2062 : BitVec 32 := Scalar.addi v1804 arg12
  let c0_i32_2787 : BitVec 32 := 0#32
  ![v2062.toNat, 0]
@[reducible] def k0_t338_loop : Scf.Loop 32 :=
  let c0_i32_2445 : BitVec 32 := 0#32
  let c56_i32_2446 : BitVec 32 := 56#32
  let v1813 : BitVec 32 := Scalar.addi c0_i32_2445 c56_i32_2446
  let c1_i32_2447 : BitVec 32 := 1#32
  ⟨c0_i32_2445, v1813, c1_i32_2447⟩
def k0_off425 (k0_t338 : Fin k0_t338_loop.trips) : Fin 1 → Nat :=
  let c0_i32_2445 : BitVec 32 := 0#32
  let c1_i32_2447 : BitVec 32 := 1#32
  let arg12 : BitVec 32 := Scf.iv c0_i32_2445 c1_i32_2447 k0_t338
  let c384_i32_2785 : BitVec 32 := 384#32
  let v2063 : BitVec 32 := Scalar.muli arg12 c384_i32_2785
  ![v2063.toNat]
def k0_off426 (i : grid0.Coords) (k0_t338 : Fin k0_t338_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2440 : BitVec 32 := 96#32
  let v1808 : BitVec 32 := Scalar.muli v18 c96_i32_2440
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c1_i32_2441 : BitVec 32 := 1#32
  let v1809 : BitVec 32 := Scalar.addi v29 c1_i32_2441
  let v1810 : BitVec 32 := Scalar.addi v1808 v1809
  let c384_i32_2442 : BitVec 32 := 384#32
  let v1811 : BitVec 32 := Scalar.muli v1810 c384_i32_2442
  let c328_i32_2443 : BitVec 32 := 328#32
  let v1812 : BitVec 32 := Scalar.addi v1811 c328_i32_2443
  let c0_i32_2445 : BitVec 32 := 0#32
  let c1_i32_2447 : BitVec 32 := 1#32
  let arg12 : BitVec 32 := Scf.iv c0_i32_2445 c1_i32_2447 k0_t338
  let v2062 : BitVec 32 := Scalar.addi v1812 arg12
  let c0_i32_2787 : BitVec 32 := 0#32
  ![v2062.toNat, 0]
@[reducible] def k0_t339_loop : Scf.Loop 32 :=
  let c0_i32_2450 : BitVec 32 := 0#32
  let c56_i32_2451 : BitVec 32 := 56#32
  let v1814 : BitVec 32 := Scalar.addi c0_i32_2450 c56_i32_2451
  let c1_i32_2452 : BitVec 32 := 1#32
  ⟨c0_i32_2450, v1814, c1_i32_2452⟩
def k0_off427 (k0_t339 : Fin k0_t339_loop.trips) : Fin 1 → Nat :=
  let c0_i32_2450 : BitVec 32 := 0#32
  let c1_i32_2452 : BitVec 32 := 1#32
  let arg12 : BitVec 32 := Scf.iv c0_i32_2450 c1_i32_2452 k0_t339
  let c384_i32_2785 : BitVec 32 := 384#32
  let v2062 : BitVec 32 := Scalar.muli arg12 c384_i32_2785
  ![v2062.toNat]
@[reducible] def k0_t340_loop : Scf.Loop 32 :=
  let c0_i32_2458 : BitVec 32 := 0#32
  let c48_i32_2459 : BitVec 32 := 48#32
  let v1819 : BitVec 32 := Scalar.addi c0_i32_2458 c48_i32_2459
  let c1_i32_2460 : BitVec 32 := 1#32
  ⟨c0_i32_2458, v1819, c1_i32_2460⟩
@[reducible] def k0_t341_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off428 (k0_t340 : Fin k0_t340_loop.trips) (k0_t341 : Fin k0_t341_loop.trips) : Fin 2 → Nat :=
  let c0_i32_2458 : BitVec 32 := 0#32
  let c1_i32_2460 : BitVec 32 := 1#32
  let arg12 : BitVec 32 := Scf.iv c0_i32_2458 c1_i32_2460 k0_t340
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t341
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk85 (v2067 : IVec S16 32) : Prop :=
  (∀ a x, ((![v2067] : Fin 1 → IVec S16 32) a x).toNat < S24576.size a)
theorem k0_idx85_inb : ∀ (v2067 : IVec S16 32) (k0_hw85 : k0_chk85 v2067), ∀ a x, ((![v2067] : Fin 1 → IVec S16 32) a x).toNat < S24576.size a := fun v2067 k0_hw85 => k0_hw85
def k0_off429 (k0_t340 : Fin k0_t340_loop.trips) (k0_t341 : Fin k0_t341_loop.trips) : Fin 2 → Nat :=
  let c0_i32_2458 : BitVec 32 := 0#32
  let c1_i32_2460 : BitVec 32 := 1#32
  let arg12 : BitVec 32 := Scf.iv c0_i32_2458 c1_i32_2460 k0_t340
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t341
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t342_loop : Scf.Loop 32 :=
  let c0_i32_2474 : BitVec 32 := 0#32
  let c56_i32_2475 : BitVec 32 := 56#32
  let v1834 : BitVec 32 := Scalar.addi c0_i32_2474 c56_i32_2475
  let c1_i32_2476 : BitVec 32 := 1#32
  ⟨c0_i32_2474, v1834, c1_i32_2476⟩
def k0_off430 (k0_t342 : Fin k0_t342_loop.trips) : Fin 1 → Nat :=
  let c0_i32_2474 : BitVec 32 := 0#32
  let c1_i32_2476 : BitVec 32 := 1#32
  let arg12 : BitVec 32 := Scf.iv c0_i32_2474 c1_i32_2476 k0_t342
  let c384_i32_2785 : BitVec 32 := 384#32
  let v2063 : BitVec 32 := Scalar.muli arg12 c384_i32_2785
  ![v2063.toNat]
def k0_off431 (i : grid0.Coords) (k0_t342 : Fin k0_t342_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2469 : BitVec 32 := 96#32
  let v1829 : BitVec 32 := Scalar.muli v18 c96_i32_2469
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c2_i32_2470 : BitVec 32 := 2#32
  let v1830 : BitVec 32 := Scalar.addi v29 c2_i32_2470
  let v1831 : BitVec 32 := Scalar.addi v1829 v1830
  let c384_i32_2471 : BitVec 32 := 384#32
  let v1832 : BitVec 32 := Scalar.muli v1831 c384_i32_2471
  let c328_i32_2472 : BitVec 32 := 328#32
  let v1833 : BitVec 32 := Scalar.addi v1832 c328_i32_2472
  let c0_i32_2474 : BitVec 32 := 0#32
  let c1_i32_2476 : BitVec 32 := 1#32
  let arg12 : BitVec 32 := Scf.iv c0_i32_2474 c1_i32_2476 k0_t342
  let v2062 : BitVec 32 := Scalar.addi v1833 arg12
  let c0_i32_2787 : BitVec 32 := 0#32
  ![v2062.toNat, 0]
@[reducible] def k0_t343_loop : Scf.Loop 32 :=
  let c0_i32_2479 : BitVec 32 := 0#32
  let c56_i32_2480 : BitVec 32 := 56#32
  let v1835 : BitVec 32 := Scalar.addi c0_i32_2479 c56_i32_2480
  let c1_i32_2481 : BitVec 32 := 1#32
  ⟨c0_i32_2479, v1835, c1_i32_2481⟩
def k0_off432 (k0_t343 : Fin k0_t343_loop.trips) : Fin 1 → Nat :=
  let c0_i32_2479 : BitVec 32 := 0#32
  let c1_i32_2481 : BitVec 32 := 1#32
  let arg12 : BitVec 32 := Scf.iv c0_i32_2479 c1_i32_2481 k0_t343
  let c384_i32_2785 : BitVec 32 := 384#32
  let v2062 : BitVec 32 := Scalar.muli arg12 c384_i32_2785
  ![v2062.toNat]
@[reducible] def k0_t344_loop : Scf.Loop 32 :=
  let c0_i32_2487 : BitVec 32 := 0#32
  let c48_i32_2488 : BitVec 32 := 48#32
  let v1840 : BitVec 32 := Scalar.addi c0_i32_2487 c48_i32_2488
  let c1_i32_2489 : BitVec 32 := 1#32
  ⟨c0_i32_2487, v1840, c1_i32_2489⟩
@[reducible] def k0_t345_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off433 (k0_t344 : Fin k0_t344_loop.trips) (k0_t345 : Fin k0_t345_loop.trips) : Fin 2 → Nat :=
  let c0_i32_2487 : BitVec 32 := 0#32
  let c1_i32_2489 : BitVec 32 := 1#32
  let arg12 : BitVec 32 := Scf.iv c0_i32_2487 c1_i32_2489 k0_t344
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t345
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk86 (v2067 : IVec S16 32) : Prop :=
  (∀ a x, ((![v2067] : Fin 1 → IVec S16 32) a x).toNat < S24576.size a)
theorem k0_idx86_inb : ∀ (v2067 : IVec S16 32) (k0_hw86 : k0_chk86 v2067), ∀ a x, ((![v2067] : Fin 1 → IVec S16 32) a x).toNat < S24576.size a := fun v2067 k0_hw86 => k0_hw86
def k0_off434 (k0_t344 : Fin k0_t344_loop.trips) (k0_t345 : Fin k0_t345_loop.trips) : Fin 2 → Nat :=
  let c0_i32_2487 : BitVec 32 := 0#32
  let c1_i32_2489 : BitVec 32 := 1#32
  let arg12 : BitVec 32 := Scf.iv c0_i32_2487 c1_i32_2489 k0_t344
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t345
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t346_loop : Scf.Loop 32 :=
  let c0_i32_2503 : BitVec 32 := 0#32
  let c56_i32_2504 : BitVec 32 := 56#32
  let v1855 : BitVec 32 := Scalar.addi c0_i32_2503 c56_i32_2504
  let c1_i32_2505 : BitVec 32 := 1#32
  ⟨c0_i32_2503, v1855, c1_i32_2505⟩
def k0_off435 (k0_t346 : Fin k0_t346_loop.trips) : Fin 1 → Nat :=
  let c0_i32_2503 : BitVec 32 := 0#32
  let c1_i32_2505 : BitVec 32 := 1#32
  let arg12 : BitVec 32 := Scf.iv c0_i32_2503 c1_i32_2505 k0_t346
  let c384_i32_2785 : BitVec 32 := 384#32
  let v2063 : BitVec 32 := Scalar.muli arg12 c384_i32_2785
  ![v2063.toNat]
def k0_off436 (i : grid0.Coords) (k0_t346 : Fin k0_t346_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2498 : BitVec 32 := 96#32
  let v1850 : BitVec 32 := Scalar.muli v18 c96_i32_2498
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c3_i32_2499 : BitVec 32 := 3#32
  let v1851 : BitVec 32 := Scalar.addi v29 c3_i32_2499
  let v1852 : BitVec 32 := Scalar.addi v1850 v1851
  let c384_i32_2500 : BitVec 32 := 384#32
  let v1853 : BitVec 32 := Scalar.muli v1852 c384_i32_2500
  let c328_i32_2501 : BitVec 32 := 328#32
  let v1854 : BitVec 32 := Scalar.addi v1853 c328_i32_2501
  let c0_i32_2503 : BitVec 32 := 0#32
  let c1_i32_2505 : BitVec 32 := 1#32
  let arg12 : BitVec 32 := Scf.iv c0_i32_2503 c1_i32_2505 k0_t346
  let v2062 : BitVec 32 := Scalar.addi v1854 arg12
  let c0_i32_2787 : BitVec 32 := 0#32
  ![v2062.toNat, 0]
@[reducible] def k0_t347_loop : Scf.Loop 32 :=
  let c0_i32_2508 : BitVec 32 := 0#32
  let c56_i32_2509 : BitVec 32 := 56#32
  let v1856 : BitVec 32 := Scalar.addi c0_i32_2508 c56_i32_2509
  let c1_i32_2510 : BitVec 32 := 1#32
  ⟨c0_i32_2508, v1856, c1_i32_2510⟩
def k0_off437 (k0_t347 : Fin k0_t347_loop.trips) : Fin 1 → Nat :=
  let c0_i32_2508 : BitVec 32 := 0#32
  let c1_i32_2510 : BitVec 32 := 1#32
  let arg12 : BitVec 32 := Scf.iv c0_i32_2508 c1_i32_2510 k0_t347
  let c384_i32_2785 : BitVec 32 := 384#32
  let v2062 : BitVec 32 := Scalar.muli arg12 c384_i32_2785
  ![v2062.toNat]
@[reducible] def k0_t348_loop : Scf.Loop 32 :=
  let c0_i32_2516 : BitVec 32 := 0#32
  let c48_i32_2517 : BitVec 32 := 48#32
  let v1861 : BitVec 32 := Scalar.addi c0_i32_2516 c48_i32_2517
  let c1_i32_2518 : BitVec 32 := 1#32
  ⟨c0_i32_2516, v1861, c1_i32_2518⟩
@[reducible] def k0_t349_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off438 (k0_t348 : Fin k0_t348_loop.trips) (k0_t349 : Fin k0_t349_loop.trips) : Fin 2 → Nat :=
  let c0_i32_2516 : BitVec 32 := 0#32
  let c1_i32_2518 : BitVec 32 := 1#32
  let arg12 : BitVec 32 := Scf.iv c0_i32_2516 c1_i32_2518 k0_t348
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t349
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk87 (v2067 : IVec S16 32) : Prop :=
  (∀ a x, ((![v2067] : Fin 1 → IVec S16 32) a x).toNat < S24576.size a)
theorem k0_idx87_inb : ∀ (v2067 : IVec S16 32) (k0_hw87 : k0_chk87 v2067), ∀ a x, ((![v2067] : Fin 1 → IVec S16 32) a x).toNat < S24576.size a := fun v2067 k0_hw87 => k0_hw87
def k0_off439 (k0_t348 : Fin k0_t348_loop.trips) (k0_t349 : Fin k0_t349_loop.trips) : Fin 2 → Nat :=
  let c0_i32_2516 : BitVec 32 := 0#32
  let c1_i32_2518 : BitVec 32 := 1#32
  let arg12 : BitVec 32 := Scf.iv c0_i32_2516 c1_i32_2518 k0_t348
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t349
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t350_loop : Scf.Loop 32 :=
  let c0_i32_2532 : BitVec 32 := 0#32
  let c56_i32_2533 : BitVec 32 := 56#32
  let v1876 : BitVec 32 := Scalar.addi c0_i32_2532 c56_i32_2533
  let c1_i32_2534 : BitVec 32 := 1#32
  ⟨c0_i32_2532, v1876, c1_i32_2534⟩
def k0_off440 (k0_t350 : Fin k0_t350_loop.trips) : Fin 1 → Nat :=
  let c0_i32_2532 : BitVec 32 := 0#32
  let c1_i32_2534 : BitVec 32 := 1#32
  let arg12 : BitVec 32 := Scf.iv c0_i32_2532 c1_i32_2534 k0_t350
  let c384_i32_2785 : BitVec 32 := 384#32
  let v2063 : BitVec 32 := Scalar.muli arg12 c384_i32_2785
  ![v2063.toNat]
def k0_off441 (i : grid0.Coords) (k0_t350 : Fin k0_t350_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2527 : BitVec 32 := 96#32
  let v1871 : BitVec 32 := Scalar.muli v18 c96_i32_2527
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c4_i32_2528 : BitVec 32 := 4#32
  let v1872 : BitVec 32 := Scalar.addi v29 c4_i32_2528
  let v1873 : BitVec 32 := Scalar.addi v1871 v1872
  let c384_i32_2529 : BitVec 32 := 384#32
  let v1874 : BitVec 32 := Scalar.muli v1873 c384_i32_2529
  let c328_i32_2530 : BitVec 32 := 328#32
  let v1875 : BitVec 32 := Scalar.addi v1874 c328_i32_2530
  let c0_i32_2532 : BitVec 32 := 0#32
  let c1_i32_2534 : BitVec 32 := 1#32
  let arg12 : BitVec 32 := Scf.iv c0_i32_2532 c1_i32_2534 k0_t350
  let v2062 : BitVec 32 := Scalar.addi v1875 arg12
  let c0_i32_2787 : BitVec 32 := 0#32
  ![v2062.toNat, 0]
@[reducible] def k0_t351_loop : Scf.Loop 32 :=
  let c0_i32_2537 : BitVec 32 := 0#32
  let c56_i32_2538 : BitVec 32 := 56#32
  let v1877 : BitVec 32 := Scalar.addi c0_i32_2537 c56_i32_2538
  let c1_i32_2539 : BitVec 32 := 1#32
  ⟨c0_i32_2537, v1877, c1_i32_2539⟩
def k0_off442 (k0_t351 : Fin k0_t351_loop.trips) : Fin 1 → Nat :=
  let c0_i32_2537 : BitVec 32 := 0#32
  let c1_i32_2539 : BitVec 32 := 1#32
  let arg12 : BitVec 32 := Scf.iv c0_i32_2537 c1_i32_2539 k0_t351
  let c384_i32_2785 : BitVec 32 := 384#32
  let v2062 : BitVec 32 := Scalar.muli arg12 c384_i32_2785
  ![v2062.toNat]
@[reducible] def k0_t352_loop : Scf.Loop 32 :=
  let c0_i32_2545 : BitVec 32 := 0#32
  let c48_i32_2546 : BitVec 32 := 48#32
  let v1882 : BitVec 32 := Scalar.addi c0_i32_2545 c48_i32_2546
  let c1_i32_2547 : BitVec 32 := 1#32
  ⟨c0_i32_2545, v1882, c1_i32_2547⟩
@[reducible] def k0_t353_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off443 (k0_t352 : Fin k0_t352_loop.trips) (k0_t353 : Fin k0_t353_loop.trips) : Fin 2 → Nat :=
  let c0_i32_2545 : BitVec 32 := 0#32
  let c1_i32_2547 : BitVec 32 := 1#32
  let arg12 : BitVec 32 := Scf.iv c0_i32_2545 c1_i32_2547 k0_t352
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t353
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk88 (v2067 : IVec S16 32) : Prop :=
  (∀ a x, ((![v2067] : Fin 1 → IVec S16 32) a x).toNat < S24576.size a)
theorem k0_idx88_inb : ∀ (v2067 : IVec S16 32) (k0_hw88 : k0_chk88 v2067), ∀ a x, ((![v2067] : Fin 1 → IVec S16 32) a x).toNat < S24576.size a := fun v2067 k0_hw88 => k0_hw88
def k0_off444 (k0_t352 : Fin k0_t352_loop.trips) (k0_t353 : Fin k0_t353_loop.trips) : Fin 2 → Nat :=
  let c0_i32_2545 : BitVec 32 := 0#32
  let c1_i32_2547 : BitVec 32 := 1#32
  let arg12 : BitVec 32 := Scf.iv c0_i32_2545 c1_i32_2547 k0_t352
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t353
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t354_loop : Scf.Loop 32 :=
  let c0_i32_2561 : BitVec 32 := 0#32
  let c56_i32_2562 : BitVec 32 := 56#32
  let v1897 : BitVec 32 := Scalar.addi c0_i32_2561 c56_i32_2562
  let c1_i32_2563 : BitVec 32 := 1#32
  ⟨c0_i32_2561, v1897, c1_i32_2563⟩
def k0_off445 (k0_t354 : Fin k0_t354_loop.trips) : Fin 1 → Nat :=
  let c0_i32_2561 : BitVec 32 := 0#32
  let c1_i32_2563 : BitVec 32 := 1#32
  let arg12 : BitVec 32 := Scf.iv c0_i32_2561 c1_i32_2563 k0_t354
  let c384_i32_2785 : BitVec 32 := 384#32
  let v2063 : BitVec 32 := Scalar.muli arg12 c384_i32_2785
  ![v2063.toNat]
def k0_off446 (i : grid0.Coords) (k0_t354 : Fin k0_t354_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2556 : BitVec 32 := 96#32
  let v1892 : BitVec 32 := Scalar.muli v18 c96_i32_2556
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c5_i32_2557 : BitVec 32 := 5#32
  let v1893 : BitVec 32 := Scalar.addi v29 c5_i32_2557
  let v1894 : BitVec 32 := Scalar.addi v1892 v1893
  let c384_i32_2558 : BitVec 32 := 384#32
  let v1895 : BitVec 32 := Scalar.muli v1894 c384_i32_2558
  let c328_i32_2559 : BitVec 32 := 328#32
  let v1896 : BitVec 32 := Scalar.addi v1895 c328_i32_2559
  let c0_i32_2561 : BitVec 32 := 0#32
  let c1_i32_2563 : BitVec 32 := 1#32
  let arg12 : BitVec 32 := Scf.iv c0_i32_2561 c1_i32_2563 k0_t354
  let v2062 : BitVec 32 := Scalar.addi v1896 arg12
  let c0_i32_2787 : BitVec 32 := 0#32
  ![v2062.toNat, 0]
@[reducible] def k0_t355_loop : Scf.Loop 32 :=
  let c0_i32_2566 : BitVec 32 := 0#32
  let c56_i32_2567 : BitVec 32 := 56#32
  let v1898 : BitVec 32 := Scalar.addi c0_i32_2566 c56_i32_2567
  let c1_i32_2568 : BitVec 32 := 1#32
  ⟨c0_i32_2566, v1898, c1_i32_2568⟩
def k0_off447 (k0_t355 : Fin k0_t355_loop.trips) : Fin 1 → Nat :=
  let c0_i32_2566 : BitVec 32 := 0#32
  let c1_i32_2568 : BitVec 32 := 1#32
  let arg12 : BitVec 32 := Scf.iv c0_i32_2566 c1_i32_2568 k0_t355
  let c384_i32_2785 : BitVec 32 := 384#32
  let v2062 : BitVec 32 := Scalar.muli arg12 c384_i32_2785
  ![v2062.toNat]
@[reducible] def k0_t356_loop : Scf.Loop 32 :=
  let c0_i32_2574 : BitVec 32 := 0#32
  let c48_i32_2575 : BitVec 32 := 48#32
  let v1903 : BitVec 32 := Scalar.addi c0_i32_2574 c48_i32_2575
  let c1_i32_2576 : BitVec 32 := 1#32
  ⟨c0_i32_2574, v1903, c1_i32_2576⟩
@[reducible] def k0_t357_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off448 (k0_t356 : Fin k0_t356_loop.trips) (k0_t357 : Fin k0_t357_loop.trips) : Fin 2 → Nat :=
  let c0_i32_2574 : BitVec 32 := 0#32
  let c1_i32_2576 : BitVec 32 := 1#32
  let arg12 : BitVec 32 := Scf.iv c0_i32_2574 c1_i32_2576 k0_t356
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t357
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk89 (v2067 : IVec S16 32) : Prop :=
  (∀ a x, ((![v2067] : Fin 1 → IVec S16 32) a x).toNat < S24576.size a)
theorem k0_idx89_inb : ∀ (v2067 : IVec S16 32) (k0_hw89 : k0_chk89 v2067), ∀ a x, ((![v2067] : Fin 1 → IVec S16 32) a x).toNat < S24576.size a := fun v2067 k0_hw89 => k0_hw89
def k0_off449 (k0_t356 : Fin k0_t356_loop.trips) (k0_t357 : Fin k0_t357_loop.trips) : Fin 2 → Nat :=
  let c0_i32_2574 : BitVec 32 := 0#32
  let c1_i32_2576 : BitVec 32 := 1#32
  let arg12 : BitVec 32 := Scf.iv c0_i32_2574 c1_i32_2576 k0_t356
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t357
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t358_loop : Scf.Loop 32 :=
  let c0_i32_2590 : BitVec 32 := 0#32
  let c56_i32_2591 : BitVec 32 := 56#32
  let v1918 : BitVec 32 := Scalar.addi c0_i32_2590 c56_i32_2591
  let c1_i32_2592 : BitVec 32 := 1#32
  ⟨c0_i32_2590, v1918, c1_i32_2592⟩
def k0_off450 (k0_t358 : Fin k0_t358_loop.trips) : Fin 1 → Nat :=
  let c0_i32_2590 : BitVec 32 := 0#32
  let c1_i32_2592 : BitVec 32 := 1#32
  let arg12 : BitVec 32 := Scf.iv c0_i32_2590 c1_i32_2592 k0_t358
  let c384_i32_2785 : BitVec 32 := 384#32
  let v2063 : BitVec 32 := Scalar.muli arg12 c384_i32_2785
  ![v2063.toNat]
def k0_off451 (i : grid0.Coords) (k0_t358 : Fin k0_t358_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2585 : BitVec 32 := 96#32
  let v1913 : BitVec 32 := Scalar.muli v18 c96_i32_2585
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c6_i32_2586 : BitVec 32 := 6#32
  let v1914 : BitVec 32 := Scalar.addi v29 c6_i32_2586
  let v1915 : BitVec 32 := Scalar.addi v1913 v1914
  let c384_i32_2587 : BitVec 32 := 384#32
  let v1916 : BitVec 32 := Scalar.muli v1915 c384_i32_2587
  let c328_i32_2588 : BitVec 32 := 328#32
  let v1917 : BitVec 32 := Scalar.addi v1916 c328_i32_2588
  let c0_i32_2590 : BitVec 32 := 0#32
  let c1_i32_2592 : BitVec 32 := 1#32
  let arg12 : BitVec 32 := Scf.iv c0_i32_2590 c1_i32_2592 k0_t358
  let v2062 : BitVec 32 := Scalar.addi v1917 arg12
  let c0_i32_2787 : BitVec 32 := 0#32
  ![v2062.toNat, 0]
@[reducible] def k0_t359_loop : Scf.Loop 32 :=
  let c0_i32_2595 : BitVec 32 := 0#32
  let c56_i32_2596 : BitVec 32 := 56#32
  let v1919 : BitVec 32 := Scalar.addi c0_i32_2595 c56_i32_2596
  let c1_i32_2597 : BitVec 32 := 1#32
  ⟨c0_i32_2595, v1919, c1_i32_2597⟩
def k0_off452 (k0_t359 : Fin k0_t359_loop.trips) : Fin 1 → Nat :=
  let c0_i32_2595 : BitVec 32 := 0#32
  let c1_i32_2597 : BitVec 32 := 1#32
  let arg12 : BitVec 32 := Scf.iv c0_i32_2595 c1_i32_2597 k0_t359
  let c384_i32_2785 : BitVec 32 := 384#32
  let v2062 : BitVec 32 := Scalar.muli arg12 c384_i32_2785
  ![v2062.toNat]
@[reducible] def k0_t360_loop : Scf.Loop 32 :=
  let c0_i32_2603 : BitVec 32 := 0#32
  let c48_i32_2604 : BitVec 32 := 48#32
  let v1924 : BitVec 32 := Scalar.addi c0_i32_2603 c48_i32_2604
  let c1_i32_2605 : BitVec 32 := 1#32
  ⟨c0_i32_2603, v1924, c1_i32_2605⟩
@[reducible] def k0_t361_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off453 (k0_t360 : Fin k0_t360_loop.trips) (k0_t361 : Fin k0_t361_loop.trips) : Fin 2 → Nat :=
  let c0_i32_2603 : BitVec 32 := 0#32
  let c1_i32_2605 : BitVec 32 := 1#32
  let arg12 : BitVec 32 := Scf.iv c0_i32_2603 c1_i32_2605 k0_t360
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t361
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk90 (v2067 : IVec S16 32) : Prop :=
  (∀ a x, ((![v2067] : Fin 1 → IVec S16 32) a x).toNat < S24576.size a)
theorem k0_idx90_inb : ∀ (v2067 : IVec S16 32) (k0_hw90 : k0_chk90 v2067), ∀ a x, ((![v2067] : Fin 1 → IVec S16 32) a x).toNat < S24576.size a := fun v2067 k0_hw90 => k0_hw90
def k0_off454 (k0_t360 : Fin k0_t360_loop.trips) (k0_t361 : Fin k0_t361_loop.trips) : Fin 2 → Nat :=
  let c0_i32_2603 : BitVec 32 := 0#32
  let c1_i32_2605 : BitVec 32 := 1#32
  let arg12 : BitVec 32 := Scf.iv c0_i32_2603 c1_i32_2605 k0_t360
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t361
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t362_loop : Scf.Loop 32 :=
  let c0_i32_2619 : BitVec 32 := 0#32
  let c56_i32_2620 : BitVec 32 := 56#32
  let v1939 : BitVec 32 := Scalar.addi c0_i32_2619 c56_i32_2620
  let c1_i32_2621 : BitVec 32 := 1#32
  ⟨c0_i32_2619, v1939, c1_i32_2621⟩
def k0_off455 (k0_t362 : Fin k0_t362_loop.trips) : Fin 1 → Nat :=
  let c0_i32_2619 : BitVec 32 := 0#32
  let c1_i32_2621 : BitVec 32 := 1#32
  let arg12 : BitVec 32 := Scf.iv c0_i32_2619 c1_i32_2621 k0_t362
  let c384_i32_2785 : BitVec 32 := 384#32
  let v2063 : BitVec 32 := Scalar.muli arg12 c384_i32_2785
  ![v2063.toNat]
def k0_off456 (i : grid0.Coords) (k0_t362 : Fin k0_t362_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2614 : BitVec 32 := 96#32
  let v1934 : BitVec 32 := Scalar.muli v18 c96_i32_2614
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c7_i32_2615 : BitVec 32 := 7#32
  let v1935 : BitVec 32 := Scalar.addi v29 c7_i32_2615
  let v1936 : BitVec 32 := Scalar.addi v1934 v1935
  let c384_i32_2616 : BitVec 32 := 384#32
  let v1937 : BitVec 32 := Scalar.muli v1936 c384_i32_2616
  let c328_i32_2617 : BitVec 32 := 328#32
  let v1938 : BitVec 32 := Scalar.addi v1937 c328_i32_2617
  let c0_i32_2619 : BitVec 32 := 0#32
  let c1_i32_2621 : BitVec 32 := 1#32
  let arg12 : BitVec 32 := Scf.iv c0_i32_2619 c1_i32_2621 k0_t362
  let v2062 : BitVec 32 := Scalar.addi v1938 arg12
  let c0_i32_2787 : BitVec 32 := 0#32
  ![v2062.toNat, 0]
@[reducible] def k0_t363_loop : Scf.Loop 32 :=
  let c0_i32_2624 : BitVec 32 := 0#32
  let c56_i32_2625 : BitVec 32 := 56#32
  let v1940 : BitVec 32 := Scalar.addi c0_i32_2624 c56_i32_2625
  let c1_i32_2626 : BitVec 32 := 1#32
  ⟨c0_i32_2624, v1940, c1_i32_2626⟩
def k0_off457 (k0_t363 : Fin k0_t363_loop.trips) : Fin 1 → Nat :=
  let c0_i32_2624 : BitVec 32 := 0#32
  let c1_i32_2626 : BitVec 32 := 1#32
  let arg12 : BitVec 32 := Scf.iv c0_i32_2624 c1_i32_2626 k0_t363
  let c384_i32_2785 : BitVec 32 := 384#32
  let v2062 : BitVec 32 := Scalar.muli arg12 c384_i32_2785
  ![v2062.toNat]
@[reducible] def k0_t364_loop : Scf.Loop 32 :=
  let c0_i32_2632 : BitVec 32 := 0#32
  let c48_i32_2633 : BitVec 32 := 48#32
  let v1945 : BitVec 32 := Scalar.addi c0_i32_2632 c48_i32_2633
  let c1_i32_2634 : BitVec 32 := 1#32
  ⟨c0_i32_2632, v1945, c1_i32_2634⟩
@[reducible] def k0_t365_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off458 (k0_t364 : Fin k0_t364_loop.trips) (k0_t365 : Fin k0_t365_loop.trips) : Fin 2 → Nat :=
  let c0_i32_2632 : BitVec 32 := 0#32
  let c1_i32_2634 : BitVec 32 := 1#32
  let arg12 : BitVec 32 := Scf.iv c0_i32_2632 c1_i32_2634 k0_t364
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t365
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk91 (v2067 : IVec S16 32) : Prop :=
  (∀ a x, ((![v2067] : Fin 1 → IVec S16 32) a x).toNat < S24576.size a)
theorem k0_idx91_inb : ∀ (v2067 : IVec S16 32) (k0_hw91 : k0_chk91 v2067), ∀ a x, ((![v2067] : Fin 1 → IVec S16 32) a x).toNat < S24576.size a := fun v2067 k0_hw91 => k0_hw91
def k0_off459 (k0_t364 : Fin k0_t364_loop.trips) (k0_t365 : Fin k0_t365_loop.trips) : Fin 2 → Nat :=
  let c0_i32_2632 : BitVec 32 := 0#32
  let c1_i32_2634 : BitVec 32 := 1#32
  let arg12 : BitVec 32 := Scf.iv c0_i32_2632 c1_i32_2634 k0_t364
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t365
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t366_loop : Scf.Loop 32 :=
  let c0_i32_2648 : BitVec 32 := 0#32
  let c56_i32_2649 : BitVec 32 := 56#32
  let v1960 : BitVec 32 := Scalar.addi c0_i32_2648 c56_i32_2649
  let c1_i32_2650 : BitVec 32 := 1#32
  ⟨c0_i32_2648, v1960, c1_i32_2650⟩
def k0_off460 (k0_t366 : Fin k0_t366_loop.trips) : Fin 1 → Nat :=
  let c0_i32_2648 : BitVec 32 := 0#32
  let c1_i32_2650 : BitVec 32 := 1#32
  let arg12 : BitVec 32 := Scf.iv c0_i32_2648 c1_i32_2650 k0_t366
  let c384_i32_2785 : BitVec 32 := 384#32
  let v2063 : BitVec 32 := Scalar.muli arg12 c384_i32_2785
  ![v2063.toNat]
def k0_off461 (i : grid0.Coords) (k0_t366 : Fin k0_t366_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2643 : BitVec 32 := 96#32
  let v1955 : BitVec 32 := Scalar.muli v18 c96_i32_2643
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c8_i32_2644 : BitVec 32 := 8#32
  let v1956 : BitVec 32 := Scalar.addi v29 c8_i32_2644
  let v1957 : BitVec 32 := Scalar.addi v1955 v1956
  let c384_i32_2645 : BitVec 32 := 384#32
  let v1958 : BitVec 32 := Scalar.muli v1957 c384_i32_2645
  let c328_i32_2646 : BitVec 32 := 328#32
  let v1959 : BitVec 32 := Scalar.addi v1958 c328_i32_2646
  let c0_i32_2648 : BitVec 32 := 0#32
  let c1_i32_2650 : BitVec 32 := 1#32
  let arg12 : BitVec 32 := Scf.iv c0_i32_2648 c1_i32_2650 k0_t366
  let v2062 : BitVec 32 := Scalar.addi v1959 arg12
  let c0_i32_2787 : BitVec 32 := 0#32
  ![v2062.toNat, 0]
@[reducible] def k0_t367_loop : Scf.Loop 32 :=
  let c0_i32_2653 : BitVec 32 := 0#32
  let c56_i32_2654 : BitVec 32 := 56#32
  let v1961 : BitVec 32 := Scalar.addi c0_i32_2653 c56_i32_2654
  let c1_i32_2655 : BitVec 32 := 1#32
  ⟨c0_i32_2653, v1961, c1_i32_2655⟩
def k0_off462 (k0_t367 : Fin k0_t367_loop.trips) : Fin 1 → Nat :=
  let c0_i32_2653 : BitVec 32 := 0#32
  let c1_i32_2655 : BitVec 32 := 1#32
  let arg12 : BitVec 32 := Scf.iv c0_i32_2653 c1_i32_2655 k0_t367
  let c384_i32_2785 : BitVec 32 := 384#32
  let v2062 : BitVec 32 := Scalar.muli arg12 c384_i32_2785
  ![v2062.toNat]
@[reducible] def k0_t368_loop : Scf.Loop 32 :=
  let c0_i32_2661 : BitVec 32 := 0#32
  let c48_i32_2662 : BitVec 32 := 48#32
  let v1966 : BitVec 32 := Scalar.addi c0_i32_2661 c48_i32_2662
  let c1_i32_2663 : BitVec 32 := 1#32
  ⟨c0_i32_2661, v1966, c1_i32_2663⟩
@[reducible] def k0_t369_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off463 (k0_t368 : Fin k0_t368_loop.trips) (k0_t369 : Fin k0_t369_loop.trips) : Fin 2 → Nat :=
  let c0_i32_2661 : BitVec 32 := 0#32
  let c1_i32_2663 : BitVec 32 := 1#32
  let arg12 : BitVec 32 := Scf.iv c0_i32_2661 c1_i32_2663 k0_t368
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t369
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk92 (v2067 : IVec S16 32) : Prop :=
  (∀ a x, ((![v2067] : Fin 1 → IVec S16 32) a x).toNat < S24576.size a)
theorem k0_idx92_inb : ∀ (v2067 : IVec S16 32) (k0_hw92 : k0_chk92 v2067), ∀ a x, ((![v2067] : Fin 1 → IVec S16 32) a x).toNat < S24576.size a := fun v2067 k0_hw92 => k0_hw92
def k0_off464 (k0_t368 : Fin k0_t368_loop.trips) (k0_t369 : Fin k0_t369_loop.trips) : Fin 2 → Nat :=
  let c0_i32_2661 : BitVec 32 := 0#32
  let c1_i32_2663 : BitVec 32 := 1#32
  let arg12 : BitVec 32 := Scf.iv c0_i32_2661 c1_i32_2663 k0_t368
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t369
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t370_loop : Scf.Loop 32 :=
  let c0_i32_2677 : BitVec 32 := 0#32
  let c56_i32_2678 : BitVec 32 := 56#32
  let v1981 : BitVec 32 := Scalar.addi c0_i32_2677 c56_i32_2678
  let c1_i32_2679 : BitVec 32 := 1#32
  ⟨c0_i32_2677, v1981, c1_i32_2679⟩
def k0_off465 (k0_t370 : Fin k0_t370_loop.trips) : Fin 1 → Nat :=
  let c0_i32_2677 : BitVec 32 := 0#32
  let c1_i32_2679 : BitVec 32 := 1#32
  let arg12 : BitVec 32 := Scf.iv c0_i32_2677 c1_i32_2679 k0_t370
  let c384_i32_2785 : BitVec 32 := 384#32
  let v2063 : BitVec 32 := Scalar.muli arg12 c384_i32_2785
  ![v2063.toNat]
def k0_off466 (i : grid0.Coords) (k0_t370 : Fin k0_t370_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2672 : BitVec 32 := 96#32
  let v1976 : BitVec 32 := Scalar.muli v18 c96_i32_2672
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c9_i32_2673 : BitVec 32 := 9#32
  let v1977 : BitVec 32 := Scalar.addi v29 c9_i32_2673
  let v1978 : BitVec 32 := Scalar.addi v1976 v1977
  let c384_i32_2674 : BitVec 32 := 384#32
  let v1979 : BitVec 32 := Scalar.muli v1978 c384_i32_2674
  let c328_i32_2675 : BitVec 32 := 328#32
  let v1980 : BitVec 32 := Scalar.addi v1979 c328_i32_2675
  let c0_i32_2677 : BitVec 32 := 0#32
  let c1_i32_2679 : BitVec 32 := 1#32
  let arg12 : BitVec 32 := Scf.iv c0_i32_2677 c1_i32_2679 k0_t370
  let v2062 : BitVec 32 := Scalar.addi v1980 arg12
  let c0_i32_2787 : BitVec 32 := 0#32
  ![v2062.toNat, 0]
@[reducible] def k0_t371_loop : Scf.Loop 32 :=
  let c0_i32_2682 : BitVec 32 := 0#32
  let c56_i32_2683 : BitVec 32 := 56#32
  let v1982 : BitVec 32 := Scalar.addi c0_i32_2682 c56_i32_2683
  let c1_i32_2684 : BitVec 32 := 1#32
  ⟨c0_i32_2682, v1982, c1_i32_2684⟩
def k0_off467 (k0_t371 : Fin k0_t371_loop.trips) : Fin 1 → Nat :=
  let c0_i32_2682 : BitVec 32 := 0#32
  let c1_i32_2684 : BitVec 32 := 1#32
  let arg12 : BitVec 32 := Scf.iv c0_i32_2682 c1_i32_2684 k0_t371
  let c384_i32_2785 : BitVec 32 := 384#32
  let v2062 : BitVec 32 := Scalar.muli arg12 c384_i32_2785
  ![v2062.toNat]
@[reducible] def k0_t372_loop : Scf.Loop 32 :=
  let c0_i32_2690 : BitVec 32 := 0#32
  let c48_i32_2691 : BitVec 32 := 48#32
  let v1987 : BitVec 32 := Scalar.addi c0_i32_2690 c48_i32_2691
  let c1_i32_2692 : BitVec 32 := 1#32
  ⟨c0_i32_2690, v1987, c1_i32_2692⟩
@[reducible] def k0_t373_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off468 (k0_t372 : Fin k0_t372_loop.trips) (k0_t373 : Fin k0_t373_loop.trips) : Fin 2 → Nat :=
  let c0_i32_2690 : BitVec 32 := 0#32
  let c1_i32_2692 : BitVec 32 := 1#32
  let arg12 : BitVec 32 := Scf.iv c0_i32_2690 c1_i32_2692 k0_t372
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t373
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk93 (v2067 : IVec S16 32) : Prop :=
  (∀ a x, ((![v2067] : Fin 1 → IVec S16 32) a x).toNat < S24576.size a)
theorem k0_idx93_inb : ∀ (v2067 : IVec S16 32) (k0_hw93 : k0_chk93 v2067), ∀ a x, ((![v2067] : Fin 1 → IVec S16 32) a x).toNat < S24576.size a := fun v2067 k0_hw93 => k0_hw93
def k0_off469 (k0_t372 : Fin k0_t372_loop.trips) (k0_t373 : Fin k0_t373_loop.trips) : Fin 2 → Nat :=
  let c0_i32_2690 : BitVec 32 := 0#32
  let c1_i32_2692 : BitVec 32 := 1#32
  let arg12 : BitVec 32 := Scf.iv c0_i32_2690 c1_i32_2692 k0_t372
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t373
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t374_loop : Scf.Loop 32 :=
  let c0_i32_2706 : BitVec 32 := 0#32
  let c56_i32_2707 : BitVec 32 := 56#32
  let v2002 : BitVec 32 := Scalar.addi c0_i32_2706 c56_i32_2707
  let c1_i32_2708 : BitVec 32 := 1#32
  ⟨c0_i32_2706, v2002, c1_i32_2708⟩
def k0_off470 (k0_t374 : Fin k0_t374_loop.trips) : Fin 1 → Nat :=
  let c0_i32_2706 : BitVec 32 := 0#32
  let c1_i32_2708 : BitVec 32 := 1#32
  let arg12 : BitVec 32 := Scf.iv c0_i32_2706 c1_i32_2708 k0_t374
  let c384_i32_2785 : BitVec 32 := 384#32
  let v2063 : BitVec 32 := Scalar.muli arg12 c384_i32_2785
  ![v2063.toNat]
def k0_off471 (i : grid0.Coords) (k0_t374 : Fin k0_t374_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2701 : BitVec 32 := 96#32
  let v1997 : BitVec 32 := Scalar.muli v18 c96_i32_2701
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c10_i32_2702 : BitVec 32 := 10#32
  let v1998 : BitVec 32 := Scalar.addi v29 c10_i32_2702
  let v1999 : BitVec 32 := Scalar.addi v1997 v1998
  let c384_i32_2703 : BitVec 32 := 384#32
  let v2000 : BitVec 32 := Scalar.muli v1999 c384_i32_2703
  let c328_i32_2704 : BitVec 32 := 328#32
  let v2001 : BitVec 32 := Scalar.addi v2000 c328_i32_2704
  let c0_i32_2706 : BitVec 32 := 0#32
  let c1_i32_2708 : BitVec 32 := 1#32
  let arg12 : BitVec 32 := Scf.iv c0_i32_2706 c1_i32_2708 k0_t374
  let v2062 : BitVec 32 := Scalar.addi v2001 arg12
  let c0_i32_2787 : BitVec 32 := 0#32
  ![v2062.toNat, 0]
@[reducible] def k0_t375_loop : Scf.Loop 32 :=
  let c0_i32_2711 : BitVec 32 := 0#32
  let c56_i32_2712 : BitVec 32 := 56#32
  let v2003 : BitVec 32 := Scalar.addi c0_i32_2711 c56_i32_2712
  let c1_i32_2713 : BitVec 32 := 1#32
  ⟨c0_i32_2711, v2003, c1_i32_2713⟩
def k0_off472 (k0_t375 : Fin k0_t375_loop.trips) : Fin 1 → Nat :=
  let c0_i32_2711 : BitVec 32 := 0#32
  let c1_i32_2713 : BitVec 32 := 1#32
  let arg12 : BitVec 32 := Scf.iv c0_i32_2711 c1_i32_2713 k0_t375
  let c384_i32_2785 : BitVec 32 := 384#32
  let v2062 : BitVec 32 := Scalar.muli arg12 c384_i32_2785
  ![v2062.toNat]
@[reducible] def k0_t376_loop : Scf.Loop 32 :=
  let c0_i32_2719 : BitVec 32 := 0#32
  let c48_i32_2720 : BitVec 32 := 48#32
  let v2008 : BitVec 32 := Scalar.addi c0_i32_2719 c48_i32_2720
  let c1_i32_2721 : BitVec 32 := 1#32
  ⟨c0_i32_2719, v2008, c1_i32_2721⟩
@[reducible] def k0_t377_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off473 (k0_t376 : Fin k0_t376_loop.trips) (k0_t377 : Fin k0_t377_loop.trips) : Fin 2 → Nat :=
  let c0_i32_2719 : BitVec 32 := 0#32
  let c1_i32_2721 : BitVec 32 := 1#32
  let arg12 : BitVec 32 := Scf.iv c0_i32_2719 c1_i32_2721 k0_t376
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t377
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk94 (v2067 : IVec S16 32) : Prop :=
  (∀ a x, ((![v2067] : Fin 1 → IVec S16 32) a x).toNat < S24576.size a)
theorem k0_idx94_inb : ∀ (v2067 : IVec S16 32) (k0_hw94 : k0_chk94 v2067), ∀ a x, ((![v2067] : Fin 1 → IVec S16 32) a x).toNat < S24576.size a := fun v2067 k0_hw94 => k0_hw94
def k0_off474 (k0_t376 : Fin k0_t376_loop.trips) (k0_t377 : Fin k0_t377_loop.trips) : Fin 2 → Nat :=
  let c0_i32_2719 : BitVec 32 := 0#32
  let c1_i32_2721 : BitVec 32 := 1#32
  let arg12 : BitVec 32 := Scf.iv c0_i32_2719 c1_i32_2721 k0_t376
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t377
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t378_loop : Scf.Loop 32 :=
  let c0_i32_2735 : BitVec 32 := 0#32
  let c56_i32_2736 : BitVec 32 := 56#32
  let v2023 : BitVec 32 := Scalar.addi c0_i32_2735 c56_i32_2736
  let c1_i32_2737 : BitVec 32 := 1#32
  ⟨c0_i32_2735, v2023, c1_i32_2737⟩
def k0_off475 (k0_t378 : Fin k0_t378_loop.trips) : Fin 1 → Nat :=
  let c0_i32_2735 : BitVec 32 := 0#32
  let c1_i32_2737 : BitVec 32 := 1#32
  let arg12 : BitVec 32 := Scf.iv c0_i32_2735 c1_i32_2737 k0_t378
  let c384_i32_2785 : BitVec 32 := 384#32
  let v2063 : BitVec 32 := Scalar.muli arg12 c384_i32_2785
  ![v2063.toNat]
def k0_off476 (i : grid0.Coords) (k0_t378 : Fin k0_t378_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32_2730 : BitVec 32 := 96#32
  let v2018 : BitVec 32 := Scalar.muli v18 c96_i32_2730
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let c11_i32_2731 : BitVec 32 := 11#32
  let v2019 : BitVec 32 := Scalar.addi v29 c11_i32_2731
  let v2020 : BitVec 32 := Scalar.addi v2018 v2019
  let c384_i32_2732 : BitVec 32 := 384#32
  let v2021 : BitVec 32 := Scalar.muli v2020 c384_i32_2732
  let c328_i32_2733 : BitVec 32 := 328#32
  let v2022 : BitVec 32 := Scalar.addi v2021 c328_i32_2733
  let c0_i32_2735 : BitVec 32 := 0#32
  let c1_i32_2737 : BitVec 32 := 1#32
  let arg12 : BitVec 32 := Scf.iv c0_i32_2735 c1_i32_2737 k0_t378
  let v2062 : BitVec 32 := Scalar.addi v2022 arg12
  let c0_i32_2787 : BitVec 32 := 0#32
  ![v2062.toNat, 0]
@[reducible] def k0_t379_loop : Scf.Loop 32 :=
  let c0_i32_2740 : BitVec 32 := 0#32
  let c56_i32_2741 : BitVec 32 := 56#32
  let v2024 : BitVec 32 := Scalar.addi c0_i32_2740 c56_i32_2741
  let c1_i32_2742 : BitVec 32 := 1#32
  ⟨c0_i32_2740, v2024, c1_i32_2742⟩
def k0_off477 (k0_t379 : Fin k0_t379_loop.trips) : Fin 1 → Nat :=
  let c0_i32_2740 : BitVec 32 := 0#32
  let c1_i32_2742 : BitVec 32 := 1#32
  let arg12 : BitVec 32 := Scf.iv c0_i32_2740 c1_i32_2742 k0_t379
  let c384_i32_2785 : BitVec 32 := 384#32
  let v2062 : BitVec 32 := Scalar.muli arg12 c384_i32_2785
  ![v2062.toNat]
@[reducible] def k0_t380_loop : Scf.Loop 32 :=
  let c0_i32_2748 : BitVec 32 := 0#32
  let c48_i32_2749 : BitVec 32 := 48#32
  let v2029 : BitVec 32 := Scalar.addi c0_i32_2748 c48_i32_2749
  let c1_i32_2750 : BitVec 32 := 1#32
  ⟨c0_i32_2748, v2029, c1_i32_2750⟩
@[reducible] def k0_t381_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off478 (k0_t380 : Fin k0_t380_loop.trips) (k0_t381 : Fin k0_t381_loop.trips) : Fin 2 → Nat :=
  let c0_i32_2748 : BitVec 32 := 0#32
  let c1_i32_2750 : BitVec 32 := 1#32
  let arg12 : BitVec 32 := Scf.iv c0_i32_2748 c1_i32_2750 k0_t380
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t381
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk95 (v2067 : IVec S16 32) : Prop :=
  (∀ a x, ((![v2067] : Fin 1 → IVec S16 32) a x).toNat < S24576.size a)
theorem k0_idx95_inb : ∀ (v2067 : IVec S16 32) (k0_hw95 : k0_chk95 v2067), ∀ a x, ((![v2067] : Fin 1 → IVec S16 32) a x).toNat < S24576.size a := fun v2067 k0_hw95 => k0_hw95
def k0_off479 (k0_t380 : Fin k0_t380_loop.trips) (k0_t381 : Fin k0_t381_loop.trips) : Fin 2 → Nat :=
  let c0_i32_2748 : BitVec 32 := 0#32
  let c1_i32_2750 : BitVec 32 := 1#32
  let arg12 : BitVec 32 := Scf.iv c0_i32_2748 c1_i32_2750 k0_t380
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t381
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
@[reducible] def k0_t382_loop : Scf.Loop 32 :=
  let c0_i32_2760 : BitVec 32 := 0#32
  let c56_i32_2761 : BitVec 32 := 56#32
  let v2039 : BitVec 32 := Scalar.addi c0_i32_2760 c56_i32_2761
  let c1_i32_2762 : BitVec 32 := 1#32
  ⟨c0_i32_2760, v2039, c1_i32_2762⟩
def k0_off480 (k0_t382 : Fin k0_t382_loop.trips) : Fin 1 → Nat :=
  let c0_i32_2760 : BitVec 32 := 0#32
  let c1_i32_2762 : BitVec 32 := 1#32
  let arg12 : BitVec 32 := Scf.iv c0_i32_2760 c1_i32_2762 k0_t382
  let c384_i32_2785 : BitVec 32 := 384#32
  let v2062 : BitVec 32 := Scalar.muli arg12 c384_i32_2785
  ![v2062.toNat]
@[reducible] def k0_t383_loop : Scf.Loop 32 :=
  let c0_i32_2768 : BitVec 32 := 0#32
  let c48_i32_2769 : BitVec 32 := 48#32
  let v2044 : BitVec 32 := Scalar.addi c0_i32_2768 c48_i32_2769
  let c1_i32_2770 : BitVec 32 := 1#32
  ⟨c0_i32_2768, v2044, c1_i32_2770⟩
@[reducible] def k0_t384_loop : Scf.Loop 32 :=
  let c0_i32_2785 : BitVec 32 := 0#32
  let c24_i32 : BitVec 32 := 24#32
  let v2062 : BitVec 32 := Scalar.addi c0_i32_2785 c24_i32
  let c1_i32_2786 : BitVec 32 := 1#32
  ⟨c0_i32_2785, v2062, c1_i32_2786⟩
def k0_off481 (k0_t383 : Fin k0_t383_loop.trips) (k0_t384 : Fin k0_t384_loop.trips) : Fin 2 → Nat :=
  let c0_i32_2768 : BitVec 32 := 0#32
  let c1_i32_2770 : BitVec 32 := 1#32
  let arg12 : BitVec 32 := Scf.iv c0_i32_2768 c1_i32_2770 k0_t383
  let v2065 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t384
  let c16_i32 : BitVec 32 := 16#32
  let v2063 : BitVec 32 := Scalar.muli arg13 c16_i32
  let v2064 : BitVec 32 := Scalar.addi c0_i32_2788 v2063
  let v2066 : Index := Scalar.indexCast v2064
  ![v2065.toNat, v2066.toNat]

def k0_chk96 (v2067 : IVec S16 32) : Prop :=
  (∀ a x, ((![v2067] : Fin 1 → IVec S16 32) a x).toNat < S24576.size a)
theorem k0_idx96_inb : ∀ (v2067 : IVec S16 32) (k0_hw96 : k0_chk96 v2067), ∀ a x, ((![v2067] : Fin 1 → IVec S16 32) a x).toNat < S24576.size a := fun v2067 k0_hw96 => k0_hw96
def k0_off482 (k0_t383 : Fin k0_t383_loop.trips) (k0_t384 : Fin k0_t384_loop.trips) : Fin 2 → Nat :=
  let c0_i32_2768 : BitVec 32 := 0#32
  let c1_i32_2770 : BitVec 32 := 1#32
  let arg12 : BitVec 32 := Scf.iv c0_i32_2768 c1_i32_2770 k0_t383
  let v2069 : Index := Scalar.indexCast arg12
  let c0_i32_2788 : BitVec 32 := 0#32
  let c0_i32_2785 : BitVec 32 := 0#32
  let c1_i32_2786 : BitVec 32 := 1#32
  let arg13 : BitVec 32 := Scf.iv c0_i32_2785 c1_i32_2786 k0_t384
  let c16_i32 : BitVec 32 := 16#32
  let v2063 : BitVec 32 := Scalar.muli arg13 c16_i32
  let v2064 : BitVec 32 := Scalar.addi c0_i32_2788 v2063
  let v2070 : Index := Scalar.indexCast v2064
  ![v2069.toNat, v2070.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x384x384 : Shape := ⟨4, ![4, 96, 384, 384]⟩
abbrev S4x1x384x384 : Shape := ⟨4, ![4, 1, 384, 384]⟩
abbrev S_ : Shape := ⟨0, ![]⟩
abbrev S4x96x1x384 : Shape := ⟨4, ![4, 96, 1, 384]⟩
abbrev S4x96x385x384 : Shape := ⟨4, ![4, 96, 385, 384]⟩
abbrev S4x96x386x384 : Shape := ⟨4, ![4, 96, 386, 384]⟩
abbrev S4x96x386x1 : Shape := ⟨4, ![4, 96, 386, 1]⟩
abbrev S4x96x386x385 : Shape := ⟨4, ![4, 96, 386, 385]⟩
abbrev S4x96x386x386 : Shape := ⟨4, ![4, 96, 386, 386]⟩
abbrev S384 : Shape := ⟨1, ![384]⟩
abbrev S1x1x384x1 : Shape := ⟨4, ![1, 1, 384, 1]⟩
abbrev S1x1x1x384 : Shape := ⟨4, ![1, 1, 1, 384]⟩
abbrev S4 : Shape := ⟨1, ![4]⟩
abbrev S4x1x1x1 : Shape := ⟨4, ![4, 1, 1, 1]⟩
abbrev S96 : Shape := ⟨1, ![96]⟩
abbrev S1x96x1x1 : Shape := ⟨4, ![1, 96, 1, 1]⟩
abbrev S4x96x384x384x1 : Shape := ⟨5, ![4, 96, 384, 384, 1]⟩
abbrev S4x96x384x384x4 : Shape := ⟨5, ![4, 96, 384, 384, 4]⟩

abbrev nBuf : Space → Nat
  | .hbm => 76
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S4x1x384x384, .i32⟩
  | .hbm, ⟨2, _⟩ => ⟨S4x1x384x384, .i32⟩
  | .hbm, ⟨3, _⟩ => ⟨S_, .i32⟩
  | .hbm, ⟨4, _⟩ => ⟨S4x96x1x384, .f32⟩
  | .hbm, ⟨5, _⟩ => ⟨S4x96x1x384, .f32⟩
  | .hbm, ⟨6, _⟩ => ⟨S4x96x1x384, .f32⟩
  | .hbm, ⟨7, _⟩ => ⟨S4x96x385x384, .f32⟩
  | .hbm, ⟨8, _⟩ => ⟨S4x96x1x384, .f32⟩
  | .hbm, ⟨9, _⟩ => ⟨S4x96x1x384, .f32⟩
  | .hbm, ⟨10, _⟩ => ⟨S4x96x1x384, .f32⟩
  | .hbm, ⟨11, _⟩ => ⟨S4x96x386x384, .f32⟩
  | .hbm, ⟨12, _⟩ => ⟨S4x96x386x1, .f32⟩
  | .hbm, ⟨13, _⟩ => ⟨S4x96x386x1, .f32⟩
  | .hbm, ⟨14, _⟩ => ⟨S4x96x386x1, .f32⟩
  | .hbm, ⟨15, _⟩ => ⟨S4x96x386x385, .f32⟩
  | .hbm, ⟨16, _⟩ => ⟨S4x96x386x1, .f32⟩
  | .hbm, ⟨17, _⟩ => ⟨S4x96x386x1, .f32⟩
  | .hbm, ⟨18, _⟩ => ⟨S4x96x386x1, .f32⟩
  | .hbm, ⟨19, _⟩ => ⟨S4x96x386x386, .f32⟩
  | .hbm, ⟨20, _⟩ => ⟨S384, .i32⟩
  | .hbm, ⟨21, _⟩ => ⟨S1x1x384x1, .i32⟩
  | .hbm, ⟨22, _⟩ => ⟨S_, .i32⟩
  | .hbm, ⟨23, _⟩ => ⟨S1x1x384x1, .i32⟩
  | .hbm, ⟨24, _⟩ => ⟨S1x1x384x1, .i32⟩
  | .hbm, ⟨25, _⟩ => ⟨S4x1x384x384, .i32⟩
  | .hbm, ⟨26, _⟩ => ⟨S4x1x384x384, .i32⟩
  | .hbm, ⟨27, _⟩ => ⟨S384, .i32⟩
  | .hbm, ⟨28, _⟩ => ⟨S1x1x1x384, .i32⟩
  | .hbm, ⟨29, _⟩ => ⟨S_, .i32⟩
  | .hbm, ⟨30, _⟩ => ⟨S1x1x1x384, .i32⟩
  | .hbm, ⟨31, _⟩ => ⟨S1x1x1x384, .i32⟩
  | .hbm, ⟨32, _⟩ => ⟨S4x1x384x384, .i32⟩
  | .hbm, ⟨33, _⟩ => ⟨S4x1x384x384, .i32⟩
  | .hbm, ⟨34, _⟩ => ⟨S4, .i32⟩
  | .hbm, ⟨35, _⟩ => ⟨S4x1x1x1, .i32⟩
  | .hbm, ⟨36, _⟩ => ⟨S96, .i32⟩
  | .hbm, ⟨37, _⟩ => ⟨S1x96x1x1, .i32⟩
  | .hbm, ⟨38, _⟩ => ⟨S_, .i32⟩
  | .hbm, ⟨39, _⟩ => ⟨S4x1x1x1, .i32⟩
  | .hbm, ⟨40, _⟩ => ⟨S4x1x1x1, .i1⟩
  | .hbm, ⟨41, _⟩ => ⟨S_, .i32⟩
  | .hbm, ⟨42, _⟩ => ⟨S4x1x1x1, .i32⟩
  | .hbm, ⟨43, _⟩ => ⟨S4x1x1x1, .i32⟩
  | .hbm, ⟨44, _⟩ => ⟨S4x1x1x1, .i32⟩
  | .hbm, ⟨45, _⟩ => ⟨S_, .i32⟩
  | .hbm, ⟨46, _⟩ => ⟨S1x96x1x1, .i32⟩
  | .hbm, ⟨47, _⟩ => ⟨S1x96x1x1, .i1⟩
  | .hbm, ⟨48, _⟩ => ⟨S_, .i32⟩
  | .hbm, ⟨49, _⟩ => ⟨S1x96x1x1, .i32⟩
  | .hbm, ⟨50, _⟩ => ⟨S1x96x1x1, .i32⟩
  | .hbm, ⟨51, _⟩ => ⟨S1x96x1x1, .i32⟩
  | .hbm, ⟨52, _⟩ => ⟨S_, .i32⟩
  | .hbm, ⟨53, _⟩ => ⟨S4x1x384x384, .i32⟩
  | .hbm, ⟨54, _⟩ => ⟨S4x1x384x384, .i1⟩
  | .hbm, ⟨55, _⟩ => ⟨S_, .i32⟩
  | .hbm, ⟨56, _⟩ => ⟨S4x1x384x384, .i32⟩
  | .hbm, ⟨57, _⟩ => ⟨S4x1x384x384, .i32⟩
  | .hbm, ⟨58, _⟩ => ⟨S4x1x384x384, .i32⟩
  | .hbm, ⟨59, _⟩ => ⟨S_, .i32⟩
  | .hbm, ⟨60, _⟩ => ⟨S4x1x384x384, .i32⟩
  | .hbm, ⟨61, _⟩ => ⟨S4x1x384x384, .i1⟩
  | .hbm, ⟨62, _⟩ => ⟨S_, .i32⟩
  | .hbm, ⟨63, _⟩ => ⟨S4x1x384x384, .i32⟩
  | .hbm, ⟨64, _⟩ => ⟨S4x1x384x384, .i32⟩
  | .hbm, ⟨65, _⟩ => ⟨S4x1x384x384, .i32⟩
  | .hbm, ⟨66, _⟩ => ⟨S4x96x384x384, .i32⟩
  | .hbm, ⟨67, _⟩ => ⟨S4x96x384x384, .i32⟩
  | .hbm, ⟨68, _⟩ => ⟨S4x96x384x384, .i32⟩
  | .hbm, ⟨69, _⟩ => ⟨S4x96x384x384, .i32⟩
  | .hbm, ⟨70, _⟩ => ⟨S4x96x384x384x1, .i32⟩
  | .hbm, ⟨71, _⟩ => ⟨S4x96x384x384x1, .i32⟩
  | .hbm, ⟨72, _⟩ => ⟨S4x96x384x384x1, .i32⟩
  | .hbm, ⟨73, _⟩ => ⟨S4x96x384x384x1, .i32⟩
  | .hbm, ⟨74, _⟩ => ⟨S4x96x384x384x4, .i32⟩
  | .hbm, ⟨75, _⟩ => ⟨S4x96x384x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Proof.Setup.lean ====
/-
  The launch set-up of the gather kernel, the buffers a tile works on, and the plain arithmetic of a tile's work:
  which rows of the image array a tile writes, in which order, and what each entry is to hold.
-/
module

public import proofs.«01_k».proof.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

section Launch
variable [Facts]

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Launch

/-- The launch's ghost state: the handshakes' rounds beside the counters the copies use. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## A tile and its buffers -/

section Tile
variable [Facts]

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Tile

/-- The images (rows of 384), the map of offsets, the result: the arrays in main memory. -/
abbrev xV : Memref sig .scVector .hbm S147456x384 .f32 := Memref.whole main_v36_scv
abbrev mV : Memref sig .scVector .hbm S1536x384 .i32 := Memref.whole main_v34_scv
abbrev oV : Memref sig .scVector .hbm S147456x384 .f32 := Memref.whole main_v37_scv
/-- A tile's own: the strip's map, two input buffers, two output buffers. -/
abbrev bM : Memref sig .scVector .vmem S48x384 .i32 := Memref.whole cc0_scratch0
abbrev bI0 : Memref sig .scVector .vmem S24576 .f32 := Memref.whole cc0_scratch1
abbrev bI1 : Memref sig .scVector .vmem S24576 .f32 := Memref.whole cc0_scratch2
abbrev bO0 : Memref sig .scVector .vmem S48x384 .f32 := Memref.whole cc0_scratch3
abbrev bO1 : Memref sig .scVector .vmem S48x384 .f32 := Memref.whole cc0_scratch4

abbrev xLoc (d : Dev nD) : Loc nD τ sig := (SparseCore.T d).loc main_v36
abbrev mLoc (d : Dev nD) : Loc nD τ sig := (SparseCore.T d).loc main_v34
abbrev oLoc (d : Dev nD) : Loc nD τ sig := (SparseCore.T d).loc main_v37

/-! ## The arithmetic of a tile's work

The work of tile `w` is 96 units: strip `s` (48 output rows of each channel) and channel `j`, in the order
`u = 12 s + j`. -/

/-- The tile's number. -/
def wid (L : grid0.Coords) : ℕ := (L 1).val * 2 + (L 0).val
theorem wid_lt (L : grid0.Coords) : wid L < 32 := by
  have h0 : (L 0).val < 2 := (L 0).isLt
  have h1 : (L 1).val < 16 := (L 1).isLt
  unfold wid; omega

/-- The first row a strip's input window holds, and how many rows it has. -/
def stOf (s : ℕ) : ℕ := 48 * s - 8
def nstOf (s : ℕ) : ℕ := if s = 0 ∨ s = 7 then 56 else 64

theorem nstOf_le (s : ℕ) : nstOf s ≤ 64 := by unfold nstOf; split <;> omega
theorem stOf_add (s : ℕ) (hs : s < 8) : stOf s + nstOf s ≤ 384 := by unfold stOf nstOf; split <;> omega

/-- The row of the image array a unit's window begins at, and the row its output begins at. -/
def rowIn (w s j : ℕ) : ℕ := (12 * w + j) * 384 + stOf s
def rowOut (w s j : ℕ) : ℕ := (12 * w + j) * 384 + 48 * s
/-- The row of the map a strip begins at. -/
def rowM (w s : ℕ) : ℕ := w / 8 * 384 + 48 * s

theorem rowIn_le {w s j : ℕ} (hw : w < 32) (hs : s < 8) (hj : j < 12) : rowIn w s j + nstOf s ≤ 147456 := by
  have := stOf_add s hs
  unfold rowIn; omega
theorem rowOut_le {w s j : ℕ} (hw : w < 32) (hs : s < 8) (hj : j < 12) : rowOut w s j + 48 ≤ 147456 := by
  unfold rowOut; omega
theorem rowM_le {w s : ℕ} (hw : w < 32) (hs : s < 8) : rowM w s + 48 ≤ 1536 := by
  unfold rowM; omega

/-- An entry of the image array, of the map, of a strip, by its coordinates. -/
def ix (r w : ℕ) : S147456x384.Idx := fun
  | 0 => ⟨r % 147456, Nat.mod_lt _ (by decide)⟩
  | 1 => ⟨w % 384, Nat.mod_lt _ (by decide)⟩
def im (r w : ℕ) : S1536x384.Idx := fun
  | 0 => ⟨r % 1536, Nat.mod_lt _ (by decide)⟩
  | 1 => ⟨w % 384, Nat.mod_lt _ (by decide)⟩
theorem ix_eq (i : S147456x384.Idx) (r w : ℕ) (h0 : (i 0).val = r) (h1 : (i 1).val = w) : ix r w = i := by
  subst h0 h1
  funext a; apply Fin.ext
  match a with
  | 0 => exact Nat.mod_eq_of_lt (i 0).isLt
  | 1 => exact Nat.mod_eq_of_lt (i 1).isLt
theorem im_eq (i : S1536x384.Idx) (r w : ℕ) (h0 : (i 0).val = r) (h1 : (i 1).val = w) : im r w = i := by
  subst h0 h1
  funext a; apply Fin.ext
  match a with
  | 0 => exact Nat.mod_eq_of_lt (i 0).isLt
  | 1 => exact Nat.mod_eq_of_lt (i 1).isLt

/-- What the result holds at row `r`, column `w`: the image entry the map's word there names, counted from the first
    row of the window of that row's strip. -/
def gat (X : S147456x384.Idx → Elt F .f32) (M : S1536x384.Idx → Elt F .i32) (r w : ℕ) : Elt F .f32 :=
  X (ix (r / 384 * 384 + stOf (r % 384 / 48) + (M (im (r / 36864 * 384 + r % 384) w) : BitVec 32).toNat / 384)
    ((M (im (r / 36864 * 384 + r % 384) w) : BitVec 32).toNat % 384))
def OUT (X : S147456x384.Idx → Elt F .f32) (M : S1536x384.Idx → Elt F .i32) : S147456x384.Idx → Elt F .f32 :=
  fun i => gat X M (i 0).val (i 1).val

/-- Every word of the map names an entry of its strip's window. -/
def MapOK (M : S1536x384.Idx → Elt F .i32) : Prop :=
  ∀ r w : ℕ, (M (im r w) : BitVec 32).toNat < nstOf (r % 384 / 48) * 384

/-- The unit a row of the result belongs to, within its tile. -/
def unitOf (r : ℕ) : ℕ := r % 384 / 48 * 12 + r / 384 % 12

/-- The rows of tile `w` at the units `u ≤ … < v`. -/
def rowsUV (w u v : ℕ) : Finset S147456x384.Idx :=
  Finset.univ.filter fun i => (i 0).val / 4608 = w ∧ u ≤ unitOf (i 0).val ∧ unitOf (i 0).val < v
/-- The rows `a ≤ … < b`. -/
def rowsAB (a b : ℕ) : Finset S147456x384.Idx := Finset.univ.filter fun i => a ≤ (i 0).val ∧ (i 0).val < b

end Cert.Proof.Pool

end
-- ==== Proof.Offsets.lean ====
/-
  The rows and columns at which the kernel's accesses begin, as numbers.
-/
module

public import proofs.«01_k».proof.Proof.Setup

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

/-! The quotient and the remainder of a tile's number by eight, as the kernel computes them. -/

def q18 (v1 : BitVec 32) : BitVec 32 :=
  Scalar.select (Scalar.andi (Scalar.cmpi .ne (Scalar.subi (Scalar.extui (Scalar.cmpi .sgt v1 0#32)) (Scalar.extui (Scalar.cmpi .slt v1 0#32)))
      (Scalar.subi (Scalar.extui (Scalar.cmpi .sgt 8#32 0#32)) (Scalar.extui (Scalar.cmpi .slt 8#32 0#32))))
    (Scalar.cmpi .ne (Scalar.remsi v1 8#32) 0#32)) (Scalar.subi (Scalar.divsi v1 8#32) 1#32) (Scalar.divsi v1 8#32)
def q20 : BitVec 32 := Scalar.select (Scalar.cmpi .eq 8#32 0#32) 1#32 8#32
def q28 (v1 : BitVec 32) : BitVec 32 :=
  Scalar.select (Scalar.andi (Scalar.xori (Scalar.cmpi .slt (Scalar.remsi v1 q20) 0#32) (Scalar.cmpi .slt q20 0#32)) (Scalar.cmpi .ne (Scalar.remsi v1 q20) 0#32))
    (Scalar.addi (Scalar.remsi v1 q20) q20) (Scalar.remsi v1 q20)
def q1 (L : grid0.Coords) : BitVec 32 := Scalar.addi (Scalar.muli (BitVec.ofNat 32 (L 1).val) 2#32) (BitVec.ofNat 32 (L 0).val)

theorem q18_all : ∀ (a : Fin 2) (b : Fin 16), q18 (Scalar.addi (Scalar.muli (BitVec.ofNat 32 b.val) 2#32) (BitVec.ofNat 32 a.val)) = BitVec.ofNat 32 ((b.val * 2 + a.val) / 8) := by
  decide +kernel
theorem q28_all : ∀ (a : Fin 2) (b : Fin 16), q28 (Scalar.addi (Scalar.muli (BitVec.ofNat 32 b.val) 2#32) (BitVec.ofNat 32 a.val)) = BitVec.ofNat 32 ((b.val * 2 + a.val) % 8) := by
  decide +kernel
theorem q18_eq : q18 (q1 L) = BitVec.ofNat 32 (wid L / 8) := q18_all (L 0) (L 1)
theorem q28_eq : q28 (q1 L) = BitVec.ofNat 32 (wid L % 8) := q28_all (L 0) (L 1)

/-- The row of channel `j`, and `t` rows on. -/
def qRow (j t : BitVec 32) : BitVec 32 :=
  Scalar.addi (Scalar.muli (Scalar.addi (Scalar.muli (q18 (q1 L)) 96#32) (Scalar.addi (Scalar.muli (q28 (q1 L)) 12#32) j)) 384#32) t

theorem qRow_toNat (j t : ℕ) (hj : j < 12) (ht : t < 384) : (qRow L (BitVec.ofNat 32 j) (BitVec.ofNat 32 t)).toNat = (12 * wid L + j) * 384 + t := by
  unfold qRow
  rw [q18_eq, q28_eq]
  have hw := wid_lt L
  simp only [Scalar.addi, IntOp.addi, Scalar.muli, IntOp.muli, BitVec.toNat_add, BitVec.toNat_mul, BitVec.toNat_ofNat]
  omega

theorem iv_toNat (n k : ℕ) (h : k < 4096) : (Scf.iv 0#32 1#32 k).toNat = k := by
  simp only [Scf.iv, BitVec.toNat_add, BitVec.toNat_mul, BitVec.toNat_ofNat]
  omega

theorem off1_val (k : ℕ) (h : k < 4096) : (![(Scalar.muli (Scf.iv 0#32 1#32 k) 384#32).toNat] : Fin 1 → ℕ) = ![384 * k] := by
  congr 1
  simp only [Scalar.muli, IntOp.muli, BitVec.toNat_mul, iv_toNat 0 k h, BitVec.toNat_ofNat]
  omega

theorem off2_val (s j : ℕ) (hs : s < 8) (hj : j < 12) (k : ℕ) (h : k < 64) :
    (![(Scalar.addi (qRow L (BitVec.ofNat 32 j) (BitVec.ofNat 32 (stOf s))) (Scf.iv 0#32 1#32 k)).toNat, 0] : Fin 2 → ℕ) = ![rowIn (wid L) s j + k, 0] := by
  have hst : stOf s < 384 := by unfold stOf; omega
  have e : (Scalar.addi (qRow L (BitVec.ofNat 32 j) (BitVec.ofNat 32 (stOf s))) (Scf.iv 0#32 1#32 k)).toNat = rowIn (wid L) s j + k := by
    have hw := wid_lt L
    simp only [Scalar.addi, IntOp.addi, BitVec.toNat_add, iv_toNat 0 k (by omega), qRow_toNat L j _ hj hst]
    unfold rowIn; omega
  rw [e]

theorem off3_val (s : ℕ) (hs : s < 8) :
    (![(Scalar.addi (Scalar.muli (q18 (q1 L)) 384#32) (BitVec.ofNat 32 (48 * s))).toNat, 0] : Fin 2 → ℕ) = ![rowM (wid L) s, 0] := by
  have e : (Scalar.addi (Scalar.muli (q18 (q1 L)) 384#32) (BitVec.ofNat 32 (48 * s))).toNat = rowM (wid L) s := by
    have hw := wid_lt L
    rw [q18_eq]
    simp only [Scalar.addi, IntOp.addi, Scalar.muli, IntOp.muli, BitVec.toNat_add, BitVec.toNat_mul, BitVec.toNat_ofNat]
    unfold rowM; omega
  rw [e]

theorem off9_val (s j : ℕ) (hs : s < 8) (hj : j < 12) :
    (![(qRow L (BitVec.ofNat 32 j) (BitVec.ofNat 32 (48 * s))).toNat, 0] : Fin 2 → ℕ) = ![rowOut (wid L) s j, 0] := by
  rw [qRow_toNat L j _ hj (by omega)]
  rfl

theorem off7_val (k l : ℕ) (hk : k < 48) (hl : l < 24) :
    (![(Scalar.indexCast (Scf.iv 0#32 1#32 k)).toNat, (Scalar.indexCast (Scalar.addi 0#32 (Scalar.muli (Scf.iv 0#32 1#32 l) 16#32))).toNat] : Fin 2 → ℕ) = ![k, 16 * l] := by
  have e0 : (Scalar.indexCast (Scf.iv 0#32 1#32 k)).toNat = k := iv_toNat 0 k (by omega)
  have e1 : (Scalar.indexCast (Scalar.addi 0#32 (Scalar.muli (Scf.iv 0#32 1#32 l) 16#32))).toNat = 16 * l := by
    show (Scalar.addi 0#32 (Scalar.muli (Scf.iv 0#32 1#32 l) 16#32)).toNat = 16 * l
    simp only [Scalar.addi, IntOp.addi, Scalar.muli, IntOp.muli, BitVec.toNat_add, BitVec.toNat_mul, iv_toNat 0 l (by omega), BitVec.toNat_ofNat]
    omega
  rw [e0, e1]

end Cert.Proof.Pool

end
-- ==== Proof.Issue.lean ====
/-
  Filling an input buffer: the loop that issues one row copy per row of a strip's window, the loop that waits for
  them all, and what the buffer then holds.
-/
module

public import proofs.«01_k».proof.Proof.Setup

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

abbrev TProg (F : FTy → Type) (L : grid0.Coords) (α : Type) : Type 1 := Prog (TpuEff nD τ sig (Elt F) Λ₀ (.scVector (cV L) (jV L))) α

/-- A tile's program meets a postcondition. -/
abbrev twp {α : Type} (p : TProg F L α) (Q : α → sProp 𝕄) : sProp 𝕄 :=
  wp frame (wpE (defs₀ (F := F)) 𝒱₀ (thr d L) none) Set.univ p Q

/-- What the tile may still wait for, with the waits it has made recorded. -/
def Ow (O : CellTallies nD τ sig (HIx 1)) (W : Waits sig (HIx 1)) : sProp 𝕄 :=
  iprop(MayWaits (thr d L) (none : HIx 1) O ∗ ∃ W', ⌜∀ p ∈ W', p ∈ W ∨ p.2 = none⌝ ∗ owes (thr d L) O W')

section In

variable (X : S147456x384.Idx → Elt F .f32)
variable (ib : Memref sig .scVector .vmem S24576 .f32) (sem : DmaSem sig) (q : PosShare TreeShare)

/-- Row `t` of an input buffer and row `r` of the image array, as the copies address them. -/
theorem chunk_inb (t : ℕ) : ∀ a, ((![384 * (t % 64)] : Fin 1 → ℕ) a) + S384.size a ≤ S24576.size a := fun a => by
  match a with
  | 0 => show 384 * (t % 64) + 384 ≤ 24576; omega
abbrev chunk (t : ℕ) : Memref sig .scVector .vmem S384 .f32 :=
  ib.slice (Rect.unit (s := S24576) ![384 * (t % 64)] S384.size (chunk_inb t)) (fun _ => rfl)
theorem row_inb (r : ℕ) : ∀ a, ((![r % 147456, 0] : Fin 2 → ℕ) a) + S1x384.size a ≤ S147456x384.size a := fun a => by
  match a with
  | 0 => show r % 147456 + 1 ≤ 147456; omega
  | 1 => show 0 + 384 ≤ 384; omega
abbrev xRow (r : ℕ) : Memref sig .scVector .hbm S384 .f32 :=
  (xV.slice (Rect.unit (s := S147456x384) ![r % 147456, 0] S1x384.size (row_inb r)) (fun _ => rfl)).squeeze S384 squeezes_S1x384_S384

/-- A buffer's rows from the `t`-th on, and its rows before. -/
def aboveC (t : ℕ) : Finset S24576.Idx := Finset.univ.filter fun i => 384 * t ≤ (i 0).val
def belowC (t : ℕ) : Finset S24576.Idx := Finset.univ.filter fun i => (i 0).val < 384 * t
def chunkC (t : ℕ) : Finset S24576.Idx := Finset.univ.filter fun i => 384 * t ≤ (i 0).val ∧ (i 0).val < 384 * (t + 1)
/-- The image array's rows outside `a ≤ … < b`. -/
def offAB (a b : ℕ) : Finset S147456x384.Idx := Finset.univ.filter fun i => ¬ (a ≤ (i 0).val ∧ (i 0).val < b)

theorem rowRect_set (r : ℕ) (h : r < 147456) :
    (Rect.unit (s := S147456x384) ![r % 147456, 0] S1x384.size (row_inb r)).set = rowsAB r (r + 1) := by
  ext i
  rw [Rect.mem_set_unit]
  simp only [rowsAB, Finset.mem_filter, Finset.mem_univ, _root_.true_and]
  constructor
  · intro H
    have h0 := H 0
    have e : ((![r % 147456, 0] : Fin 2 → ℕ) 0) = r := Nat.mod_eq_of_lt h
    rw [e] at h0
    exact ⟨h0.1, h0.2⟩
  · rintro ⟨h1, h2⟩ a
    match a with
    | 0 => exact ⟨by show r % 147456 ≤ _; rw [Nat.mod_eq_of_lt h]; exact h1, by show _ < r % 147456 + 1; rw [Nat.mod_eq_of_lt h]; exact h2⟩
    | 1 => exact ⟨Nat.zero_le _, by have h3 : (i 1).val < 384 := (i 1).isLt
                                    show _ < 0 + 384; omega⟩

theorem xRow_set (r : ℕ) (h : r < 147456) : (xRow r).view.set = rowsAB r (r + 1) := by
  refine (View.set_reshape _ _).trans ?_
  refine (View.set_slice _ _).trans ?_
  exact (Finset.map_refl (s := (Rect.unit (s := S147456x384) ![r % 147456, 0] S1x384.size (row_inb r)).set)).trans (rowRect_set r h)

theorem chunkRect_set (t : ℕ) (h : t < 64) :
    (Rect.unit (s := S24576) ![384 * (t % 64)] S384.size (chunk_inb t)).set = chunkC t := by
  ext i
  rw [Rect.mem_set_unit]
  simp only [chunkC, Finset.mem_filter, Finset.mem_univ, _root_.true_and]
  constructor
  · intro H
    have h0 := H 0
    have e : ((![384 * (t % 64)] : Fin 1 → ℕ) 0) = 384 * t := congrArg (384 * ·) (Nat.mod_eq_of_lt h)
    rw [e] at h0
    have h2 : (i 0).val < 384 * t + 384 := h0.2
    exact ⟨h0.1, by omega⟩
  · rintro ⟨h1, h2⟩ a
    match a with
    | 0 => exact ⟨by show 384 * (t % 64) ≤ _; rw [Nat.mod_eq_of_lt h]; exact h1, by show _ < 384 * (t % 64) + 384; rw [Nat.mod_eq_of_lt h]; omega⟩

theorem chunk_set (t : ℕ) (h : t < 64) : (chunk ib t).view.set = ib.view.setOn (chunkC t) := by
  refine (View.set_slice _ _).trans ?_
  rw [chunkRect_set t h]; rfl

/-- What a copy reads of row `r`. -/
theorem xRow_read (r : ℕ) (h : r < 147456) (x : S384.Idx) : (xRow r).view.read (Elt F) X x = X (ix r (x 0).val) := by
  have e : (xRow r).view.emb x = ix r (x 0).val := by
    refine (ix_eq _ r _ ?_ ?_).symm
    · show (Rect.emb (Rect.unit (s := S147456x384) ![r % 147456, 0] S1x384.size (row_inb r)) (Shape.reshapeEquiv _ x) 0 : ℕ) = r
      rw [Rect.emb_apply, Shape.reshapeEquiv_cons_one]
      show r % 147456 + 1 * 0 = r
      rw [Nat.mod_eq_of_lt h]; omega
    · show (Rect.emb (Rect.unit (s := S147456x384) ![r % 147456, 0] S1x384.size (row_inb r)) (Shape.reshapeEquiv _ x) 1 : ℕ) = (x 0).val
      rw [Rect.emb_apply, Shape.reshapeEquiv_cons_one]
      show 0 + 1 * (x 0).val = (x 0).val
      omega
  show X ((xRow r).view.emb x) = _
  rw [e]

/-- The buffer after its first `n` rows were filled with the rows `R ≤ …` of the image array. -/
def Gin (n R : ℕ) (f0 : ib.view.ty.Contents (Elt F)) : ib.view.ty.Contents (Elt F) :=
  ib.view.write (Elt F) f0 (fun i => X (ix (R + (i 0).val / 384) ((i 0).val % 384))) (belowC n)

theorem chunk_write (n R t : ℕ) (ht : t < n) (hn : n ≤ 64) (hR : R + n ≤ 147456) (f0 : ib.view.ty.Contents (Elt F)) :
    ∀ i ∈ (chunk ib t).view.set, (chunk ib t).view.write (Elt F) f0 ((xRow (R + t)).view.read (Elt F) X) Finset.univ i = Gin X ib n R f0 i := by
  intro i hi
  obtain ⟨x, -, rfl⟩ := Finset.mem_map.mp hi
  rw [View.write_emb_of_mem _ _ (Finset.mem_univ x)]
  have hx : (x 0).val < 384 := (x 0).isLt
  have e : ((Rect.unit (s := S24576) ![384 * (t % 64)] S384.size (chunk_inb t)).emb x 0 : ℕ) = 384 * t + (x 0).val := by
    rw [Rect.emb_apply]
    show 384 * (t % 64) + 1 * (x 0).val = _
    rw [Nat.mod_eq_of_lt (by omega)]; omega
  have hG : Gin X ib n R f0 (ib.view.emb ((Rect.unit (s := S24576) ![384 * (t % 64)] S384.size (chunk_inb t)).emb x)) = _ :=
    View.write_emb_of_mem _ _ (by
      simp only [belowC, Finset.mem_filter, Finset.mem_univ, _root_.true_and]; rw [e]; omega)
  refine Eq.trans ?_ hG.symm
  rw [xRow_read X _ (by omega), e, show (384 * t + (x 0).val) / 384 = t by omega, show (384 * t + (x 0).val) % 384 = (x 0).val by omega]

/-- What copy `t` of a filling delivers: the buffer's row `t` rewritten, and the image row's share back. -/
def Din (n R : ℕ) (f0 : ib.view.ty.Contents (Elt F)) (t : Fin n) : sProp 𝕄 :=
  iprop(((chunk ib t.val).view.loc (thr d L) ↦[(chunk ib t.val).view.set]{fullShare}
      ((chunk ib t.val).view.write (Elt F) f0 ((xRow (R + t.val)).view.read (Elt F) X) Finset.univ))
    ∗ ((xRow (R + t.val)).view.loc (thr d L) ↦[(xRow (R + t.val)).view.set]{q} X))

instance (n R : ℕ) (f0 : ib.view.ty.Contents (Elt F)) (t : Fin n) : Storable (upEmb : UEmb _ 𝕄) (Din d L X ib q n R f0 t) := by
  unfold Din; infer_instance

/-- The bytes one row's copy is counted by. -/
abbrev Nrow : ℕ := (chunk ib 0).view.dmaCredit

/-- An input buffer idle: its own elements, the images' share, its semaphore at zero. -/
def InIdle : sProp 𝕄 :=
  iprop((xV.view.loc (thr d L) ↦[Finset.univ]{q} X) ∗ (∃ f, ib.view.loc (thr d L) ↦[ib.view.set]{fullShare} f)
    ∗ semVal (thr d L, SemLoc.dma sem) 0)
/-- With `k` of its `n` row copies issued. -/
def InPart (n R k : ℕ) : sProp 𝕄 :=
  iprop(∃ f0, (xV.view.loc (thr d L) ↦[offAB R (R + k)]{q} X) ∗ (ib.view.loc (thr d L) ↦[ib.view.setOn (aboveC k)]{fullShare} f0)
    ∗ Batch EC (thr d L) (SemLoc.dma sem) (none : HIx 1) (Nrow ib) (Din d L X ib q n R f0) k 0)
/-- Filled. -/
def InRdy (n R : ℕ) : sProp 𝕄 :=
  iprop((xV.view.loc (thr d L) ↦[Finset.univ]{q} X)
    ∗ (∃ f, ⌜∀ i : S24576.Idx, (i 0).val < 384 * n → ib.view.read (Elt F) f i = X (ix (R + (i 0).val / 384) ((i 0).val % 384))⌝
        ∗ ib.view.loc (thr d L) ↦[ib.view.set]{fullShare} f)
    ∗ semVal (thr d L, SemLoc.dma sem) 0)

theorem off_step (R k : ℕ) : offAB R (R + k) = rowsAB (R + k) (R + k + 1) ∪ offAB R (R + (k + 1)) := by
  ext i; simp only [offAB, rowsAB, Finset.mem_filter, Finset.mem_univ, _root_.true_and, Finset.mem_union]; omega
theorem off_disj (R k : ℕ) : Disjoint (rowsAB (R + k) (R + k + 1)) (offAB R (R + (k + 1))) := by
  rw [Finset.disjoint_left]; intro i; simp only [offAB, rowsAB, Finset.mem_filter, Finset.mem_univ, _root_.true_and]; omega
theorem above_step (k : ℕ) : aboveC k = chunkC k ∪ aboveC (k + 1) := by
  ext i; simp only [aboveC, chunkC, Finset.mem_filter, Finset.mem_univ, _root_.true_and, Finset.mem_union]; omega
theorem above_disj (k : ℕ) : Disjoint (chunkC k) (aboveC (k + 1)) := by
  rw [Finset.disjoint_left]; intro i; simp only [aboveC, chunkC, Finset.mem_filter, Finset.mem_univ, _root_.true_and]; omega
theorem setOn_union {s : Shape} {e : EltTy} {κ : Kind} {sp : Space} (v : View sig κ sp s e) (A B : Finset s.Idx) [DecidableEq s.Idx] :
    v.setOn (A ∪ B) = v.setOn A ∪ v.setOn B := by
  ext i; simp only [View.setOn, Finset.mem_map, Finset.mem_union]; aesop
theorem setOn_disj {s : Shape} {e : EltTy} {κ : Kind} {sp : Space} (v : View sig κ sp s e) (A B : Finset s.Idx) (h : Disjoint A B) :
    Disjoint (v.setOn A) (v.setOn B) := (Finset.disjoint_map _).mpr h

theorem off_nil (R : ℕ) : offAB R (R + 0) = Finset.univ := by
  ext i; simp only [offAB, Finset.mem_filter, Finset.mem_univ, _root_.true_and, iff_true]; omega
theorem above_zero : aboveC 0 = Finset.univ := by
  ext i; simp only [aboveC, Finset.mem_filter, Finset.mem_univ, _root_.true_and, iff_true]; omega
theorem setOn_all {s : Shape} {e : EltTy} {κ : Kind} {sp : Space} (v : View sig κ sp s e) : v.setOn Finset.univ = v.set := rfl

theorem issue_loop (Lp : Scf.Loop 32) (hok : Lp.OK) (n R : ℕ) (hn : Lp.trips = n) (hn64 : n ≤ 64) (hR : R + n ≤ 147456)
    (o1 : Fin Lp.trips → Fin 1 → ℕ) (inb1 : ∀ k a, o1 k a + S384.size a ≤ S24576.size a)
    (o2 : Fin Lp.trips → Fin 2 → ℕ) (inb2 : ∀ k a, o2 k a + S1x384.size a ≤ S147456x384.size a)
    (h1 : ∀ k, o1 k = ![384 * k.val]) (h2 : ∀ k, o2 k = ![R + k.val, 0]) (body : Fin Lp.trips → Unit → TProg F L Unit)
    (hb : ∀ k u, body k u = (do
      Prog.lift (.enqueueDma ((xV.slice (Rect.unit (s := S147456x384) (o2 k) S1x384.size (inb2 k)) (fun _ => rfl)).squeeze S384 squeezes_S1x384_S384)
        (.here (ib.slice (Rect.unit (s := S24576) (o1 k) S384.size (inb1 k)) (fun _ => rfl))) (.dma sem)
        ((View.wordExact_bits rfl).reshape _ _) (View.wordExact_bits rfl) ⟨Or.inl rfl, trivial⟩)
      pure ⟨⟩)) :
    InIdle d L X ib sem q ⊢ twp d L (Scf.Loop.for Lp hok ⟨⟩ body) (fun _ => InPart d L X ib sem q n R n) := by
  subst hn
  obtain rfl : o1 = fun k => ![384 * (k.val % 64)] := funext fun k => by
    rw [h1, Nat.mod_eq_of_lt (by have := k.isLt; omega)]
  obtain rfl : o2 = fun k => ![(R + k.val) % 147456, 0] := funext fun k => by
    rw [h2, Nat.mod_eq_of_lt (by have := k.isLt; omega)]
  unfold InIdle
  iintro ⟨Hx, ⟨%f0, Hib⟩, Hs⟩
  imod (batch_alloc' EC (thr d L) (none : HIx 1) (Nrow ib) (Din d L X ib q Lp.trips R f0) (E := Set.univ)) $$ Hs with HB
  iapply (Scf.wp_for frame _ Set.univ Lp.lb Lp.ub Lp.st hok ⟨⟩ body (fun k _ => InPart d L X ib sem q Lp.trips R k) ?step)
  case step =>
    intro k acc
    rw [hb]
    unfold InPart
    iintro ⟨%f0, Hx, Hib, HB⟩
    have hk : k.val < Lp.trips := k.isLt
    ihave Hx' := (show (xV.view.loc (thr d L) ↦[offAB R (R + k.val)]{q} X : sProp 𝕄)
        ⊢ iprop((xV.view.loc (thr d L) ↦[rowsAB (R + k.val) (R + k.val + 1)]{q} X) ∗ xV.view.loc (thr d L) ↦[offAB R (R + (k.val + 1))]{q} X) from by
      rw [off_step R k.val]; exact (pointsTo_union (off_disj R k.val)).1) $$ Hx
    icases Hx' with ⟨Hx1, Hx⟩
    ihave Hib' := (show (ib.view.loc (thr d L) ↦[ib.view.setOn (aboveC k.val)]{fullShare} f0 : sProp 𝕄)
        ⊢ iprop((ib.view.loc (thr d L) ↦[ib.view.setOn (chunkC k.val)]{fullShare} f0) ∗ ib.view.loc (thr d L) ↦[ib.view.setOn (aboveC (k.val + 1))]{fullShare} f0) from by
      rw [above_step k.val, setOn_union]; exact (pointsTo_union (setOn_disj _ _ _ (above_disj k.val))).1) $$ Hib
    icases Hib' with ⟨Hc, Hib⟩
    rw [← xRow_set (R + k.val) (by omega), ← chunk_set ib k.val (by omega)]
    simp only [Prog.lift, Prog.bind_op, Prog.bind_ret, Prog.pure_eq_ret]
    iapply (wp_dmaBatch EC 𝒱₀ (thr d L) none (src := xRow (R + k.val)) (dst := chunk ib k.val) (none : HIx 1) (Nrow ib) rfl (Finset.Subset.refl _) hk (Nat.zero_le _) (D := Din d L X ib q Lp.trips R f0)
      (by unfold Din; exact .rfl)) $$ [Hx1 Hc HB]
    · isplitl [Hx1]; · iexact Hx1
      isplitl [Hc]; · iexact Hc
      iexact HB
    iintro HB
    rw [wp_ret]
    imodintro
    iexists f0
    isplitl [Hx]; · iexact Hx
    isplitl [Hib]; · iexact Hib
    iexact HB
  isplitl [Hx Hib HB]
  · unfold InPart
    iexists f0
    isplitl [Hx]; · rw [off_nil]; iexact Hx
    isplitl [Hib]; · rw [above_zero, setOn_all]; iexact Hib
    iexact HB
  iintro %acc H
  iexact H

theorem mem_of_emb_map {s : Shape} {e : EltTy} {κ : Kind} {sp : Space} (v : View sig κ sp s e) (A : Finset s.Idx) (x : s.Idx)
    (h : v.emb x ∈ v.setOn A) : x ∈ A := by
  obtain ⟨y, hy, e⟩ := Finset.mem_map.mp h
  rwa [← v.emb.injective e]
theorem below_above (n : ℕ) : belowC n ∪ aboveC n = Finset.univ := by
  ext i; simp only [aboveC, belowC, Finset.mem_filter, Finset.mem_univ, _root_.true_and, Finset.mem_union, iff_true]; omega

/-- The images' rows and the buffer's rows, put back together. -/
theorem rows_all (R n : ℕ) : offAB R (R + n) ∪ (Finset.univ : Finset (Fin n)).biUnion (fun t => rowsAB (R + t.val) (R + t.val + 1)) = Finset.univ := by
  ext i
  simp only [offAB, rowsAB, Finset.mem_filter, Finset.mem_univ, _root_.true_and, Finset.mem_union, Finset.mem_biUnion, iff_true]
  by_cases h : R ≤ (i 0).val ∧ (i 0).val < R + n
  · exact Or.inr ⟨⟨(i 0).val - R, by omega⟩, by show R + ((i 0).val - R) ≤ _ ∧ _ < R + ((i 0).val - R) + 1; omega⟩
  · exact Or.inl h

/-- Every copy landed: the buffer filled. -/
theorem in_collect (n R : ℕ) (hn64 : n ≤ 64) (hR : R + n ≤ 147456) (f0 : ib.view.ty.Contents (Elt F)) :
    iprop((xV.view.loc (thr d L) ↦[offAB R (R + n)]{q} X) ∗ (ib.view.loc (thr d L) ↦[ib.view.setOn (aboveC n)]{fullShare} f0)
      ∗ bigSep Finset.univ (Din d L X ib q n R f0) ∗ semVal (thr d L, SemLoc.dma sem) 0) ⊢ InRdy d L X ib sem q n R := by
  have e : bigSep Finset.univ (Din d L X ib q n R f0)
      = iprop((ib.view.loc (thr d L) ↦[(Finset.univ : Finset (Fin n)).biUnion fun t => ib.view.setOn (chunkC t.val)]{fullShare} Gin X ib n R f0)
        ∗ (xV.view.loc (thr d L) ↦[(Finset.univ : Finset (Fin n)).biUnion fun t => rowsAB (R + t.val) (R + t.val + 1)]{q} X)) := by
    rw [pointsTo_biUnion, pointsTo_biUnion]
    · refine Eq.trans ?_ (BI.bigSep_sep _ _ _)
      refine bigSep_congr fun t _ => ?_
      have ht := t.isLt
      unfold Din
      rw [xRow_set _ (by omega), pointsTo_congr (chunk_write X ib n R t.val ht hn64 hR f0), chunk_set ib t.val (by omega)]
      rfl
    · intro t _ t' _ h
      rw [Finset.disjoint_left]; intro i
      have := Fin.val_ne_of_ne h
      simp only [rowsAB, Finset.mem_filter, Finset.mem_univ, _root_.true_and]; omega
    · intro t _ t' _ h
      refine setOn_disj _ _ _ ?_
      rw [Finset.disjoint_left]; intro i
      have := Fin.val_ne_of_ne h
      simp only [chunkC, Finset.mem_filter, Finset.mem_univ, _root_.true_and]; omega
  have eg : (ib.view.loc (thr d L) ↦[ib.view.setOn (aboveC n)]{fullShare} f0 : sProp 𝕄)
      = ib.view.loc (thr d L) ↦[ib.view.setOn (aboveC n)]{fullShare} Gin X ib n R f0 := pointsTo_congr fun i hi => by
    obtain ⟨x, hx, rfl⟩ := Finset.mem_map.mp hi
    have hx' : x ∉ belowC n := by
      simp only [aboveC, belowC, Finset.mem_filter, Finset.mem_univ, _root_.true_and] at hx ⊢; omega
    exact (View.write_of_not_mem _ _ _ (fun h => hx' (mem_of_emb_map ib.view _ _ h))).symm
  have ec : (Finset.univ : Finset (Fin n)).biUnion (fun t => ib.view.setOn (chunkC t.val)) = ib.view.setOn (belowC n) := by
    ext i
    rw [Finset.mem_biUnion]
    unfold View.setOn
    simp only [Finset.mem_map, chunkC, belowC, Finset.mem_filter]
    constructor
    · rintro ⟨t, -, x, ⟨-, hx⟩, rfl⟩
      have := t.isLt
      exact ⟨x, ⟨Finset.mem_univ _, by omega⟩, rfl⟩
    · rintro ⟨x, ⟨-, hx⟩, rfl⟩
      exact ⟨⟨(x 0).val / 384, by omega⟩, Finset.mem_univ _, x, ⟨Finset.mem_univ _, by show 384 * ((x 0).val / 384) ≤ _ ∧ _ < 384 * ((x 0).val / 384 + 1); omega⟩, rfl⟩
  have ed : Disjoint (ib.view.setOn (belowC n)) (ib.view.setOn (aboveC n)) := setOn_disj _ _ _ (by
    rw [Finset.disjoint_left]; intro i; simp only [aboveC, belowC, Finset.mem_filter, Finset.mem_univ, _root_.true_and]; omega)
  have eu : ib.view.setOn (belowC n) ∪ ib.view.setOn (aboveC n) = ib.view.set := by
    rw [← setOn_union, below_above, setOn_all]
  have ex : Disjoint (offAB R (R + n)) ((Finset.univ : Finset (Fin n)).biUnion fun t => rowsAB (R + t.val) (R + t.val + 1)) := by
    rw [Finset.disjoint_left]; intro i
    simp only [offAB, rowsAB, Finset.mem_filter, Finset.mem_univ, _root_.true_and, Finset.mem_biUnion, not_exists]
    intro h t
    have := t.isLt
    omega
  rw [e, eg, ec]
  iintro ⟨Hx, Hib, ⟨Hc, Hr⟩, Hs⟩
  unfold InRdy
  isplitl [Hx Hr]
  · rw [← rows_all R n]
    iapply (pointsTo_union ex).2
    isplitl [Hx] <;> iassumption
  isplitl [Hib Hc]
  · iexists (Gin X ib n R f0)
    isplitr
    · ipureintro
      intro i hi
      exact View.read_write_of_mem _ _ (by simp only [belowC, Finset.mem_filter, Finset.mem_univ, _root_.true_and]; exact hi)
    rw [← eu]
    iapply (pointsTo_union ed).2
    isplitl [Hc] <;> iassumption
  iexact Hs

theorem drain_end (n R : ℕ) (hn64 : n ≤ 64) (hR : R + n ≤ 147456) (f0 : ib.view.ty.Contents (Elt F)) (P : sProp 𝕄) :
    iprop((xV.view.loc (thr d L) ↦[offAB R (R + n)]{q} X) ∗ (ib.view.loc (thr d L) ↦[ib.view.setOn (aboveC n)]{fullShare} f0)
      ∗ Batch EC (thr d L) (SemLoc.dma sem) (none : HIx 1) (Nrow ib) (Din d L X ib q n R f0) n (Nrow ib * n) ∗ P)
      ⊢ |={Set.univ}=> iprop(InRdy d L X ib sem q n R ∗ P) := by
  iintro ⟨Hx, Hib, HB, HP⟩
  imod (batch_collect' EC (thr d L) (View.dmaCredit_pos _ (by decide))) $$ HB with ⟨HD, Hs⟩
  imodintro
  isplitr [HP]
  · iapply (in_collect d L X ib sem q n R hn64 hR f0)
    isplitl [Hx]; · iexact Hx
    isplitl [Hib]; · iexact Hib
    isplitl [HD] <;> iassumption
  iexact HP

theorem hwait {k n : ℕ} (N : ℕ) (h : k < n) : k * N + 1 * N ≤ N * n := by
  rw [← Nat.add_mul, Nat.mul_comm]; exact Nat.mul_le_mul_left _ h

theorem drain_loop (Lp : Scf.Loop 32) (hok : Lp.OK) (n R : ℕ) (hn : Lp.trips = n) (hn64 : n ≤ 64) (hR : R + n ≤ 147456)
    (o1 : Fin Lp.trips → Fin 1 → ℕ) (inb1 : ∀ k a, o1 k a + S384.size a ≤ S24576.size a)
    (body : Fin Lp.trips → Unit → TProg F L Unit) (O : CellTallies nD τ sig (HIx 1)) (W : Waits sig (HIx 1))
    (hb : ∀ k u, body k u = (do
      Prog.lift (.waitDma2 sem ((xV.slice (Rect.unit (s := S147456x384) ![0, 0] S1x384.size inb_S147456x384_S1x384_0_0) (fun _ => rfl)).squeeze S384 squeezes_S1x384_S384)
        (ib.slice (Rect.unit (s := S24576) (o1 k) S384.size (inb1 k)) (fun _ => rfl))
        ((View.wordExact_bits rfl).reshape _ _) (View.wordExact_bits rfl))
      pure ⟨⟩)) :
    iprop(InPart d L X ib sem q n R n ∗ Ow (F := F) d L O W)
      ⊢ twp d L (Scf.Loop.for Lp hok ⟨⟩ body) (fun _ => iprop(InRdy d L X ib sem q n R ∗ Ow (F := F) d L O W)) := by
  subst hn
  unfold InPart
  iintro ⟨⟨%f0, Hx, Hib, HB⟩, HO⟩
  iapply (wp_fupd frame _ Set.univ)
  iapply (Scf.wp_for frame _ Set.univ Lp.lb Lp.ub Lp.st hok ⟨⟩ body (fun k _ => iprop(Batch EC (thr d L) (SemLoc.dma sem) (none : HIx 1) (Nrow ib) (Din d L X ib q Lp.trips R f0) Lp.trips (k * Nrow ib)
    ∗ Ow (F := F) d L O W)) ?step)
  case step =>
    intro k acc
    rw [hb]
    have hk : k.val < Lp.trips := k.isLt
    simp only [Prog.lift, Prog.bind_op, Prog.bind_ret, Prog.pure_eq_ret]
    unfold Ow
    iintro ⟨HB, #HM, ⟨%W', %hW, HO⟩⟩
    iapply (wp_waitBatchMulOSized EC 𝒱₀ (thr d L) none (none : HIx 1) 1 (N := Nrow ib) (Nat.one_mul _).symm
      (hwait _ hk)) $$ [HB HO]
    · isplitl [HB]; · iexact HB
      isplitl [HO]; · iexact HO
      iapply (MayWaits.elim (SemLoc.dma sem)) $$ HM
    iintro ⟨HB, HO⟩
    rw [wp_ret]
    imodintro
    isplitl [HB]
    · rw [Nat.add_mul]; iexact HB
    isplitr; · iexact HM
    iexists (insert (SemLoc.dma sem, (none : HIx 1)) W')
    isplitr
    · ipureintro; intro p hp
      rcases Finset.mem_insert.mp hp with rfl | hp
      · exact Or.inr rfl
      · exact hW p hp
    iexact HO
  isplitl [HB HO]
  · isplitl [HB]; · rw [Nat.zero_mul]; iexact HB
    iexact HO
  iintro %acc ⟨HB, HO⟩
  iapply (drain_end d L X ib sem q Lp.trips R hn64 hR f0 (Ow (F := F) d L O W))
  isplitl [Hx]; · iexact Hx
  isplitl [Hib]; · iexact Hib
  isplitl [HB]
  · rw [Nat.mul_comm]; iexact HB
  iexact HO

end In

end Cert.Proof.Pool

end
-- ==== Proof.Gather.lean ====
/-
  The gather of one unit: a strip's map is read sixteen words at a time, each word names an entry of the input buffer,
  and the sixteen entries named are stored in the output buffer.
-/
module

public import proofs.«01_k».proof.Proof.Issue
public import Idealize.ShloMosaic.Lib.Pipeline.Value

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

section Gather

variable (ib : Memref sig .scVector .vmem S24576 .f32) (ob : Memref sig .scVector .vmem S48x384 .f32)

/-- An entry of an input buffer, by its number. -/
def i1 (p : ℕ) : S24576.Idx := fun
  | 0 => ⟨p % 24576, Nat.mod_lt _ (by decide)⟩

/-- What the output buffer is to hold: at each place, the input buffer's entry the map names there. -/
def picked (fi : ib.view.ty.Contents (Elt F)) (mf : S48x384.Idx → Elt F .i32) (i : S48x384.Idx) : Elt F .f32 :=
  ib.view.read (Elt F) fi (i1 (mf i : BitVec 32).toNat)

/-- Places done when `y` rows, and of the next row `x` columns, are done. -/
def Done (y x : ℕ) (i : S48x384.Idx) : Prop := (i 0).val < y ∨ ((i 0).val = y ∧ (i 1).val < x)

theorem gat_inb (a b : ℕ) : ∀ c, ((![a % 48, 16 * (b % 24)] : Fin 2 → ℕ) c) + S1x16.size c ≤ S48x384.size c := fun c => by
  match c with
  | 0 => show a % 48 + 1 ≤ 48; omega
  | 1 => show 16 * (b % 24) + 16 ≤ 384; omega
abbrev gatR (a b : ℕ) : Rect S48x384 := Rect.unit (s := S48x384) ![a % 48, 16 * (b % 24)] S1x16.size (gat_inb a b)

theorem gatR_emb0 (a b : ℕ) (x : S1x16.Idx) : ((gatR a b).emb x 0 : ℕ) = a % 48 := by
  rw [Rect.emb_apply]
  have h : (x 0).val < 1 := (x 0).isLt
  show a % 48 + 1 * (x 0).val = a % 48
  omega
theorem gatR_emb1 (a b : ℕ) (x : S1x16.Idx) : ((gatR a b).emb x 1 : ℕ) = 16 * (b % 24) + (x 1).val := by
  rw [Rect.emb_apply]
  show 16 * (b % 24) + 1 * (x 1).val = _
  omega

/-- A place of the sixteen, or another place. -/
theorem gatR_mem (a b : ℕ) (i : S48x384.Idx) (h0 : (i 0).val = a % 48) (h1 : 16 * (b % 24) ≤ (i 1).val) (h2 : (i 1).val < 16 * (b % 24) + 16) :
    ∃ x, (gatR a b).emb x = i := by
  refine ⟨fun
    | 0 => ⟨0, Nat.one_pos⟩
    | 1 => ⟨(i 1).val - 16 * (b % 24), by show _ < 16; omega⟩, ?_⟩
  funext c; apply Fin.ext
  match c with
  | 0 => rw [h0]; exact gatR_emb0 a b _
  | 1 =>
    refine (gatR_emb1 a b _).trans ?_
    show 16 * (b % 24) + ((i 1).val - 16 * (b % 24)) = _
    omega

/-- Storing the sixteen extends what is done. -/
theorem store_done (fi : ib.view.ty.Contents (Elt F)) (mf : S48x384.Idx → Elt F .i32) (a b : ℕ) (ha : a < 48) (hb : b < 24)
    (g : ob.view.ty.Contents (Elt F)) (w : S1x16.Idx → Elt F .f32)
    (hw : ∀ x, w x = picked ib fi mf ((gatR a b).emb x))
    (hg : ∀ i, Done a (16 * b) i → ob.view.read (Elt F) g i = picked ib fi mf i) :
    ∀ i, Done a (16 * (b + 1)) i → ob.view.read (Elt F) ((ob.access (gatR a b)).write (Elt F) g w Finset.univ) i = picked ib fi mf i := by
  intro i hi
  by_cases h : (i 0).val = a % 48 ∧ 16 * (b % 24) ≤ (i 1).val ∧ (i 1).val < 16 * (b % 24) + 16
  · obtain ⟨x, rfl⟩ := gatR_mem a b i h.1 h.2.1 h.2.2
    rw [← hw]
    exact View.read_write_of_mem (v := ob.access (gatR a b)) _ _ (Finset.mem_univ x)
  · rw [← hg i (by
      unfold Done at hi ⊢
      rw [Nat.mod_eq_of_lt ha, Nat.mod_eq_of_lt hb] at h
      omega)]
    rw [View.read_apply, View.read_apply, View.write_of_not_mem]
    intro hm
    obtain ⟨x, -, e⟩ := Finset.mem_map.mp hm
    have e' : (gatR a b).emb x = i := ob.view.emb.injective e
    apply h
    rw [← e', gatR_emb0, gatR_emb1]
    have hx : (x 1).val < 16 := (x 1).isLt
    omega

variable (fi : ib.view.ty.Contents (Elt F)) (mf : bM.view.ty.Contents (Elt F))

/-- The buffers of a gather, the output buffer's places done so far. -/
def GInv (y x : ℕ) : sProp 𝕄 :=
  iprop((ib.view.loc (thr d L) ↦[ib.view.set]{fullShare} fi) ∗ (bM.view.loc (thr d L) ↦[bM.view.set]{fullShare} mf)
    ∗ ∃ g, ⌜∀ i, Done y x i → ob.view.read (Elt F) g i = picked ib fi (bM.view.read (Elt F) mf) i⌝ ∗ ob.view.loc (thr d L) ↦[ob.view.set]{fullShare} g)

theorem whole_set : (ib.access (.whole S24576)).set = ib.view.set := by
  refine (View.set_slice _ _).trans ?_
  rw [Rect.set_whole]; rfl
theorem access_sub (r : Rect S48x384) : (ob.access r).setOn Finset.univ ⊆ ob.view.set := by
  intro i hi
  obtain ⟨x, -, rfl⟩ := Finset.mem_map.mp hi
  exact Finset.mem_map.mpr ⟨r.emb x, Finset.mem_univ _, rfl⟩

/-- The sixteen words one trip reads, and the sixteen entries they name. -/
theorem trip_words (a b : ℕ) (x : S16.Idx) :
    (shapeCast S16 (bM.view.readAt (Elt F) (gatR a b).toLoadRect mf) shapeCasts_S1x16_S16) x
      = bM.view.read (Elt F) mf ((gatR a b).emb (Fin.cons ⟨0, Nat.one_pos⟩ x)) :=
  shapeCast_dropUnit_apply (n := 1) ![16] _ shapeCasts_S1x16_S16 x

theorem trip_value (a b : ℕ) (v : IVec S16 32) (hv : ∀ x : S16.Idx, v x = bM.view.read (Elt F) mf ((gatR a b).emb (Fin.cons ⟨0, Nat.one_pos⟩ x)))
    (h : ∀ c x, ((![v] : Fin 1 → IVec S16 32) c x).toNat < S24576.size c) (x : S1x16.Idx) :
    (shapeCast S1x16 (loadIdx (F := F) (e := .f32) ((ib.access (.whole S24576)).read (Elt F) fi) ![v] h) shapeCasts_S16_S1x16) x
      = picked ib fi (bM.view.read (Elt F) mf) ((gatR a b).emb x) := by
  refine (shapeCast_addUnit_apply (n := 1) ![16] _ shapeCasts_S16_S1x16 x).trans ?_
  have hx : (Fin.cons ⟨0, Nat.one_pos⟩ (fun a : Fin 1 => x a.succ) : S1x16.Idx) = x := by
    funext c; apply Fin.ext
    match c with
    | 0 =>
      have h0 : (x 0).val < 1 := (x 0).isLt
      show 0 = (x 0).val
      omega
    | 1 => rfl
  have hv' := hv (fun a : Fin 1 => x a.succ)
  rw [hx] at hv'
  show ib.view.read (Elt F) fi ((Rect.whole S24576).emb (idxAt ![v] h (fun a : Fin 1 => x a.succ))) = _
  rw [Rect.emb_whole_apply]
  unfold picked
  rw [← hv']
  congr 1
  funext c; apply Fin.ext
  match c with
  | 0 => exact (Nat.mod_eq_of_lt (h 0 _)).symm

theorem gather_trip (a b : ℕ) (ha : a < 48) (hb : b < 24)
    (chk : IVec S16 32 → Prop) (dec : ∀ v, Decidable (chk v))
    (hidx : ∀ v, chk v → ∀ a x, ((![v] : Fin 1 → IVec S16 32) a x).toNat < S24576.size a)
    (hchk : ∀ v, (∀ x, (v x).toNat < 24576) → chk v)
    (hm : ∀ i, (bM.view.read (Elt F) mf i : BitVec 32).toNat < 24576) :
    GInv d L ib ob fi mf a (16 * b) ⊢ twp d L (do
      let ld : Vec F S1x16 .i32 ← Prog.lift (.load bM (gatR a b).toLoadRect (View.loadsAt_vmem h_S1x16))
      have v : Vec F S16 .i32 := shapeCast S16 ld shapeCasts_S1x16_S16
      have hw : chk v := (← Prog.lift (TpuEff.assume (chk v) (dec v))).down
      let r : Vec F S16 .f32 ← SparseCore.vectorLoadIdx ib ![v] (hidx v hw) (View.loads_vmem h_S24576)
      let _ : Vec F S1x16 .f32 ← Prog.lift (.load ob (gatR a b).toLoadRect (View.loadsAt_vmem h_S1x16))
      Prog.lift (.store ob (gatR a b) (shapeCast S1x16 r shapeCasts_S16_S1x16) Finset.univ (View.stores_vmem_bits_univ h_S1x16 rfl) (.inl rfl))
      pure ⟨⟩ : TProg F L Unit) (fun _ => GInv d L ib ob fi mf a (16 * (b + 1))) := by
  simp only [Prog.lift, Prog.bind_op, Prog.bind_ret, Prog.pure_eq_ret]
  unfold GInv
  iintro ⟨Hib, Hm, ⟨%g, %hg, Ho⟩⟩
  iapply (wp_load 𝒱₀ (thr d L) none Set.univ (m := bM) (S := bM.view.set) (q := fullShare) (f := mf) (View.setOn_subset_set _ _)) $$ Hm
  iintro Hm
  have hv := trip_words (F := F) mf a b
  iapply (wp_assume 𝒱₀ (thr d L) none Set.univ (hchk _ fun x => by rw [hv]; exact hm _))
  iapply (SparseCore.wp_vectorLoadIdx 𝒱₀ (thr d L) none Set.univ (base := ib) (S := ib.view.set) (q := fullShare) (f := fi) (le_of_eq (whole_set ib))) $$ Hib
  iintro Hib
  iapply (wp_load 𝒱₀ (thr d L) none Set.univ (m := ob) (S := ob.view.set) (q := fullShare) (f := g) (View.setOn_subset_set _ _)) $$ Ho
  iintro Ho
  ihave Ho := (show (ob.view.loc (thr d L) ↦[ob.view.set]{fullShare} g : sProp 𝕄) ⊢ ((ob.access (gatR a b)).loc (thr d L) ↦[ob.view.set]{fullShare} g) from .rfl) $$ Ho
  iapply (wp_store 𝒱₀ (thr d L) none Set.univ (m := ob) (r := gatR a b) (access_sub ob (gatR a b))) $$ Ho
  iintro Ho
  rw [wp_ret]
  imodintro
  isplitl [Hib]; · iexact Hib
  isplitl [Hm]; · iexact Hm
  iexists _
  isplitr
  rotate_left
  · iexact Ho
  ipureintro
  exact store_done ib ob fi _ a b ha hb g _ (trip_value ib fi mf a b _ hv _) hg

theorem gather_loop (Lo Li : Scf.Loop 32) (oko : Lo.OK) (oki : Li.OK) (hLo : Lo.trips = 48) (hLi : Li.trips = 24)
    (o7 : Fin Lo.trips → Fin Li.trips → Fin 2 → ℕ) (inb7 : ∀ k l a, o7 k l a + S1x16.size a ≤ S48x384.size a)
    (o8 : Fin Lo.trips → Fin Li.trips → Fin 2 → ℕ) (inb8 : ∀ k l a, o8 k l a + S1x16.size a ≤ S48x384.size a)
    (h7 : ∀ k l, o7 k l = ![k.val, 16 * l.val]) (h8 : ∀ k l, o8 k l = ![k.val, 16 * l.val])
    (chk : IVec S16 32 → Prop) (dec : ∀ v, Decidable (chk v))
    (hidx : ∀ v, chk v → ∀ a x, ((![v] : Fin 1 → IVec S16 32) a x).toNat < S24576.size a)
    (hchk : ∀ v, (∀ x, (v x).toNat < 24576) → chk v)
    (bo : Fin Lo.trips → Unit → TProg F L Unit) (bi : Fin Lo.trips → Fin Li.trips → Unit → TProg F L Unit)
    (hbo : ∀ k u, bo k u = (do Scf.Loop.for Li oki ⟨⟩ (bi k); pure ⟨⟩))
    (hbi : ∀ k l u, bi k l u = (do
      let ld : Vec F S1x16 .i32 ← Prog.lift (.load bM (Rect.unit (s := S48x384) (o7 k l) S1x16.size (inb7 k l)).toLoadRect (View.loadsAt_vmem h_S1x16))
      have v : Vec F S16 .i32 := shapeCast S16 ld shapeCasts_S1x16_S16
      have hw : chk v := (← Prog.lift (TpuEff.assume (chk v) (dec v))).down
      let r : Vec F S16 .f32 ← SparseCore.vectorLoadIdx ib ![v] (hidx v hw) (View.loads_vmem h_S24576)
      let _ : Vec F S1x16 .f32 ← Prog.lift (.load ob (Rect.unit (s := S48x384) (o8 k l) S1x16.size (inb8 k l)).toLoadRect (View.loadsAt_vmem h_S1x16))
      Prog.lift (.store ob (Rect.unit (s := S48x384) (o8 k l) S1x16.size (inb8 k l)) (shapeCast S1x16 r shapeCasts_S16_S1x16) Finset.univ (View.stores_vmem_bits_univ h_S1x16 rfl) (.inl rfl))
      pure ⟨⟩))
    (hm : ∀ i, (bM.view.read (Elt F) mf i : BitVec 32).toNat < 24576) :
    GInv d L ib ob fi mf 0 0 ⊢ twp d L (Scf.Loop.for Lo oko ⟨⟩ bo) (fun _ => GInv d L ib ob fi mf 48 0) := by
  obtain rfl : o7 = fun k l => ![k.val % 48, 16 * (l.val % 24)] := funext fun k => funext fun l => by
    have hk : k.val < 48 := hLo ▸ k.isLt
    have hl : l.val < 24 := hLi ▸ l.isLt
    rw [h7, Nat.mod_eq_of_lt hk, Nat.mod_eq_of_lt hl]
  obtain rfl : o8 = fun k l => ![k.val % 48, 16 * (l.val % 24)] := funext fun k => funext fun l => by
    have hk : k.val < 48 := hLo ▸ k.isLt
    have hl : l.val < 24 := hLi ▸ l.isLt
    rw [h8, Nat.mod_eq_of_lt hk, Nat.mod_eq_of_lt hl]
  iintro H
  iapply (Scf.wp_for frame _ Set.univ Lo.lb Lo.ub Lo.st oko ⟨⟩ bo (fun k _ => GInv d L ib ob fi mf k 0) ?stepo)
  case stepo =>
    intro k acc
    have hk : k.val < 48 := hLo ▸ k.isLt
    rw [hbo, wp_bind]
    iintro H
    iapply (Scf.wp_for frame _ Set.univ Li.lb Li.ub Li.st oki ⟨⟩ (bi k) (fun l _ => GInv d L ib ob fi mf k (16 * l)) ?stepi)
    case stepi =>
      intro l acc
      have hl : l.val < 24 := hLi ▸ l.isLt
      rw [hbi]
      exact gather_trip d L ib ob fi mf k.val l.val hk hl chk dec hidx hchk hm
    isplitl [H]; · iexact H
    iintro %a H
    rw [wp_pure]
    imodintro
    rw [show Scf.trips Li.lb Li.ub Li.st = 24 from hLi]
    unfold GInv
    icases H with ⟨Hib, Hm, ⟨%g, %hg, Ho⟩⟩
    isplitl [Hib]; · iexact Hib
    isplitl [Hm]; · iexact Hm
    iexists g
    isplitr
    · ipureintro
      intro i hi
      refine hg i ?_
      have h1 : (i 1).val < 384 := (i 1).isLt
      unfold Done at hi ⊢
      omega
    iexact Ho
  isplitl [H]; · iexact H
  iintro %a H
  rw [show Scf.trips Lo.lb Lo.ub Lo.st = 48 from hLo]
  iexact H

end Gather

end Cert.Proof.Pool

end
-- ==== Proof.Copies.lean ====
/-
  The copies of whole strips: a strip of the map into the tile, and a gathered strip out to the result.
-/
module

public import proofs.«01_k».proof.Proof.Issue

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

section Copies

variable (X : S147456x384.Idx → Elt F .f32) (M : S1536x384.Idx → Elt F .i32) (O₀ : S147456x384.Idx → Elt F .f32)

/-- Forty-eight rows of the map, and of the result. -/
theorem mRow_inb (r : ℕ) : ∀ a, ((![r % 1489, 0] : Fin 2 → ℕ) a) + S48x384.size a ≤ S1536x384.size a := fun a => by
  match a with
  | 0 => show r % 1489 + 48 ≤ 1536; omega
  | 1 => show 0 + 384 ≤ 384; omega
abbrev mRow (r : ℕ) : Memref sig .scVector .hbm S48x384 .i32 :=
  mV.slice (Rect.unit (s := S1536x384) ![r % 1489, 0] S48x384.size (mRow_inb r)) (fun _ => rfl)
theorem oRow_inb (r : ℕ) : ∀ a, ((![r % 147409, 0] : Fin 2 → ℕ) a) + S48x384.size a ≤ S147456x384.size a := fun a => by
  match a with
  | 0 => show r % 147409 + 48 ≤ 147456; omega
  | 1 => show 0 + 384 ≤ 384; omega
abbrev oRow (r : ℕ) : Memref sig .scVector .hbm S48x384 .f32 :=
  oV.slice (Rect.unit (s := S147456x384) ![r % 147409, 0] S48x384.size (oRow_inb r)) (fun _ => rfl)

theorem mRow_read (r : ℕ) (h : r + 48 ≤ 1536) (x : S48x384.Idx) : (mRow r).view.read (Elt F) M x = M (im (r + (x 0).val) (x 1).val) := by
  have e : (mRow r).view.emb x = im (r + (x 0).val) (x 1).val := by
    refine (im_eq _ _ _ ?_ ?_).symm
    · show ((Rect.unit (s := S1536x384) ![r % 1489, 0] S48x384.size (mRow_inb r)).emb x 0 : ℕ) = _
      rw [Rect.emb_apply]
      show r % 1489 + 1 * (x 0).val = _
      rw [Nat.mod_eq_of_lt (by omega)]; omega
    · show ((Rect.unit (s := S1536x384) ![r % 1489, 0] S48x384.size (mRow_inb r)).emb x 1 : ℕ) = _
      rw [Rect.emb_apply]
      show 0 + 1 * (x 1).val = _
      omega
  show M ((mRow r).view.emb x) = _
  rw [e]

theorem oRow_emb (r : ℕ) (h : r + 48 ≤ 147456) (x : S48x384.Idx) : (oRow r).view.emb x = ix (r + (x 0).val) (x 1).val := by
  refine (ix_eq _ _ _ ?_ ?_).symm
  · show ((Rect.unit (s := S147456x384) ![r % 147409, 0] S48x384.size (oRow_inb r)).emb x 0 : ℕ) = _
    rw [Rect.emb_apply]
    show r % 147409 + 1 * (x 0).val = _
    rw [Nat.mod_eq_of_lt (by omega)]; omega
  · show ((Rect.unit (s := S147456x384) ![r % 147409, 0] S48x384.size (oRow_inb r)).emb x 1 : ℕ) = _
    rw [Rect.emb_apply]
    show 0 + 1 * (x 1).val = _
    omega

theorem oRect_set (r : ℕ) (h : r + 48 ≤ 147456) :
    (Rect.unit (s := S147456x384) ![r % 147409, 0] S48x384.size (oRow_inb r)).set = rowsAB r (r + 48) := by
  ext i
  rw [Rect.mem_set_unit]
  simp only [rowsAB, Finset.mem_filter, Finset.mem_univ, _root_.true_and]
  constructor
  · intro H
    have h0 := H 0
    have e : ((![r % 147409, 0] : Fin 2 → ℕ) 0) = r := Nat.mod_eq_of_lt (by omega)
    rw [e] at h0
    exact ⟨h0.1, h0.2⟩
  · rintro ⟨h1, h2⟩ a
    match a with
    | 0 => exact ⟨by show r % 147409 ≤ _; rw [Nat.mod_eq_of_lt (by omega)]; exact h1,
        by show _ < r % 147409 + 48; rw [Nat.mod_eq_of_lt (by omega)]; exact h2⟩
    | 1 => exact ⟨Nat.zero_le _, by have h3 : (i 1).val < 384 := (i 1).isLt
                                    show _ < 0 + 384; omega⟩
theorem oRow_set (r : ℕ) (h : r + 48 ≤ 147456) : (oRow r).view.set = rowsAB r (r + 48) := by
  refine (View.set_slice _ _).trans ?_
  exact (Finset.map_refl (s := (Rect.unit (s := S147456x384) ![r % 147409, 0] S48x384.size (oRow_inb r)).set)).trans (oRect_set r h)

variable (sem : DmaSem sig) (q : PosShare TreeShare)

/-! ### The map's strip -/

abbrev Nm : ℕ := bM.view.dmaCredit

def MIdle : sProp 𝕄 :=
  iprop((mV.view.loc (thr d L) ↦[Finset.univ]{q} M) ∗ (∃ f, bM.view.loc (thr d L) ↦[bM.view.set]{fullShare} f) ∗ semVal (thr d L, SemLoc.dma sem) 0)
def MFly (r : ℕ) : sProp 𝕄 :=
  iprop(∃ f, (mV.view.loc (thr d L) ↦[Finset.univ \ (mRow r).view.set]{q} M)
    ∗ Flight EC (thr d L) (SemLoc.dma sem) (none : HIx 1) Nm iprop((bM.view.loc (thr d L) ↦[bM.view.set]{fullShare} (bM.view.write (Elt F) f ((mRow r).view.read (Elt F) M) Finset.univ))
        ∗ ((mRow r).view.loc (thr d L) ↦[(mRow r).view.set]{q} M)))
def MRdy (r : ℕ) : sProp 𝕄 :=
  iprop((mV.view.loc (thr d L) ↦[Finset.univ]{q} M)
    ∗ (∃ f, ⌜∀ i : S48x384.Idx, bM.view.read (Elt F) f i = M (im (r + (i 0).val) (i 1).val)⌝ ∗ bM.view.loc (thr d L) ↦[bM.view.set]{fullShare} f)
    ∗ semVal (thr d L, SemLoc.dma sem) 0)

theorem mcopy_issue (r : ℕ) (h : r + 48 ≤ 1536) (o : Fin 2 → ℕ) (inb : ∀ a, o a + S48x384.size a ≤ S1536x384.size a) (ho : o = ![r, 0])
    (hs : (mV.slice (Rect.unit (s := S1536x384) o S48x384.size inb) (fun _ => rfl)).view.WordExact) (hd : bM.view.WordExact) :
    MIdle d L M sem q ⊢ twp d L (Prog.lift (.enqueueDma (mV.slice (Rect.unit (s := S1536x384) o S48x384.size inb) (fun _ => rfl)) (.here bM) (.dma sem) hs hd ⟨Or.inl rfl, trivial⟩) : TProg F L PUnit)
      (fun _ => MFly d L M sem q r) := by
  obtain rfl : o = ![r % 1489, 0] := by rw [ho, Nat.mod_eq_of_lt (by omega)]
  unfold MIdle
  iintro ⟨Hm, ⟨%f, Hb⟩, Hs⟩
  ihave Hm' := (pointsTo_split_subset (Finset.subset_univ (mRow r).view.set)).1 $$ Hm
  icases Hm' with ⟨Hr, Hm⟩
  simp only [Prog.lift]
  iapply (wp_dmaLocal EC 𝒱₀ (thr d L) none (src := mRow r) (dst := bM) (none : HIx 1) Nm rfl (View.dmaCredit_pos _ (by decide)) (Finset.Subset.refl _)) $$ [Hr Hb Hs]
  · isplitl [Hr]; · iexact Hr
    isplitl [Hb]; · iexact Hb
    iexact Hs
  iintro HF
  rw [wp_ret]
  imodintro
  unfold MFly
  iexists f
  isplitl [Hm]; · iexact Hm
  iexact HF

theorem mcopy_wait (r : ℕ) (h : r + 48 ≤ 1536) (O : CellTallies nD τ sig (HIx 1)) (W : Waits sig (HIx 1))
    (src : Memref sig .scVector .hbm S48x384 .i32) (hs : src.view.WordExact) (hd : bM.view.WordExact) :
    iprop(MFly d L M sem q r ∗ Ow (F := F) d L O W) ⊢ twp d L (Prog.lift (.waitDma2 sem src bM hs hd) : TProg F L PUnit)
      (fun _ => iprop(MRdy d L M sem q r ∗ Ow (F := F) d L O W)) := by
  unfold MFly Ow
  iintro ⟨⟨%f, Hm, HF⟩, #HM, ⟨%W', %hW, HO⟩⟩
  simp only [Prog.lift]
  iapply (wp_waitLocalO EC 𝒱₀ (thr d L) none (srcw := src) (dstw := bM) (hsrc := hs) (hdst := hd) (none : HIx 1) (N := Nm) rfl) $$ [HF HO]
  · isplitl [HF]; · iexact HF
    isplitl [HO]; · iexact HO
    iapply (MayWaits.elim (SemLoc.dma sem)) $$ HM
  iintro ⟨⟨Hb, Hr⟩, Hs, HO⟩
  rw [wp_ret]
  imodintro
  isplitl [Hm Hb Hr Hs]
  · unfold MRdy
    isplitl [Hm Hr]
    · iapply (pointsTo_split_subset (Finset.subset_univ (mRow r).view.set)).2
      isplitl [Hr]; · iexact Hr
      iexact Hm
    isplitl [Hb]
    · iexists _
      isplitr
      rotate_left
      · iexact Hb
      ipureintro
      intro i
      rw [View.read_write_univ, mRow_read M r h]
    iexact Hs
  isplitr; · iexact HM
  iexists (insert (SemLoc.dma sem, (none : HIx 1)) W')
  isplitr
  · ipureintro; intro p hp
    rcases Finset.mem_insert.mp hp with rfl | hp
    · exact Or.inr rfl
    · exact hW p hp
  iexact HO

/-! ### A gathered strip -/

variable (ob : Memref sig .scVector .vmem S48x384 .f32)

abbrev No : ℕ := (oRow 0).view.dmaCredit

def OIdle : sProp 𝕄 := iprop((∃ f, ob.view.loc (thr d L) ↦[ob.view.set]{fullShare} f) ∗ semVal (thr d L, SemLoc.dma sem) 0)
def OHeld (r : ℕ) : sProp 𝕄 :=
  iprop((∃ f, ⌜∀ i : S48x384.Idx, ob.view.read (Elt F) f i = gat X M (r + (i 0).val) (i 1).val⌝ ∗ ob.view.loc (thr d L) ↦[ob.view.set]{fullShare} f)
    ∗ semVal (thr d L, SemLoc.dma sem) 0)
def OFly (r : ℕ) : sProp 𝕄 :=
  iprop(∃ f, ⌜∀ i : S48x384.Idx, ob.view.read (Elt F) f i = gat X M (r + (i 0).val) (i 1).val⌝
    ∗ Flight EC (thr d L) (SemLoc.dma sem) (none : HIx 1) No iprop(((oRow r).view.loc (thr d L) ↦[(oRow r).view.set]{fullShare}
          ((oRow r).view.write (Elt F) O₀ (ob.view.read (Elt F) f) Finset.univ))
        ∗ (ob.view.loc (thr d L) ↦[ob.view.set]{fullShare} f)))

theorem ocopy_issue (r : ℕ) (h : r + 48 ≤ 147456) (o : Fin 2 → ℕ) (inb : ∀ a, o a + S48x384.size a ≤ S147456x384.size a) (ho : o = ![r, 0])
    (hs : ob.view.WordExact) (hd : (oV.slice (Rect.unit (s := S147456x384) o S48x384.size inb) (fun _ => rfl)).view.WordExact) :
    iprop(OHeld d L X M sem ob r ∗ (oV.view.loc (thr d L) ↦[rowsAB r (r + 48)]{fullShare} O₀))
      ⊢ twp d L (Prog.lift (.enqueueDma ob (.here (oV.slice (Rect.unit (s := S147456x384) o S48x384.size inb) (fun _ => rfl))) (.dma sem) hs hd ⟨Or.inl rfl, trivial⟩) : TProg F L PUnit)
      (fun _ => OFly d L X M O₀ sem ob r) := by
  obtain rfl : o = ![r % 147409, 0] := by rw [ho, Nat.mod_eq_of_lt (by omega)]
  unfold OHeld
  rw [← oRow_set r h]
  iintro ⟨⟨⟨%f, %hf, Hb⟩, Hs⟩, Ho⟩
  simp only [Prog.lift]
  iapply (wp_dmaLocal EC 𝒱₀ (thr d L) none (src := ob) (dst := oRow r) (none : HIx 1) No rfl (View.dmaCredit_pos _ (by decide)) (Finset.Subset.refl _)) $$ [Ho Hb Hs]
  · isplitl [Hb]; · iexact Hb
    isplitl [Ho]; · iexact Ho
    iexact Hs
  iintro HF
  rw [wp_ret]
  imodintro
  unfold OFly
  iexists f
  isplitr; · ipureintro; exact hf
  iexact HF

theorem oRow_write (r : ℕ) (h : r + 48 ≤ 147456) (w : S48x384.Idx → Elt F .f32) (hw : ∀ i : S48x384.Idx, w i = gat X M (r + (i 0).val) (i 1).val) :
    ∀ i ∈ (oRow r).view.set, (oRow r).view.write (Elt F) O₀ w Finset.univ i = OUT X M i := by
  intro i hi
  obtain ⟨x, -, rfl⟩ := Finset.mem_map.mp hi
  rw [View.write_emb_of_mem _ _ (Finset.mem_univ x)]
  show w x = OUT X M ((oRow r).view.emb x)
  rw [oRow_emb r h, hw]
  have h0 : (x 0).val < 48 := (x 0).isLt
  have h1 : (x 1).val < 384 := (x 1).isLt
  show _ = gat X M ((r + (x 0).val) % 147456) ((x 1).val % 384)
  rw [Nat.mod_eq_of_lt (by omega), Nat.mod_eq_of_lt h1]

theorem oRow_out (r : ℕ) (h : r + 48 ≤ 147456) (w : S48x384.Idx → Elt F .f32) (hw : ∀ i : S48x384.Idx, w i = gat X M (r + (i 0).val) (i 1).val) :
    ((oRow r).view.loc (thr d L) ↦[(oRow r).view.set]{fullShare} ((oRow r).view.write (Elt F) O₀ w Finset.univ) : sProp 𝕄)
      ⊢ (oV.view.loc (thr d L) ↦[(oRow r).view.set]{fullShare} OUT X M) := by
  have e : ((oRow r).view.loc (thr d L) ↦[(oRow r).view.set]{fullShare} ((oRow r).view.write (Elt F) O₀ w Finset.univ) : sProp 𝕄)
      = ((oRow r).view.loc (thr d L) ↦[(oRow r).view.set]{fullShare} OUT X M) := pointsTo_congr fun i hi => oRow_write X M O₀ r h w hw i hi
  rw [e]

theorem ocopy_wait (r : ℕ) (h : r + 48 ≤ 147456) (O : CellTallies nD τ sig (HIx 1)) (W : Waits sig (HIx 1))
    (o : Fin 2 → ℕ) (inb : ∀ a, o a + S48x384.size a ≤ S147456x384.size a)
    (hs : ob.view.WordExact) (hd : (oV.slice (Rect.unit (s := S147456x384) o S48x384.size inb) (fun _ => rfl)).view.WordExact) :
    iprop(OFly d L X M O₀ sem ob r ∗ Ow (F := F) d L O W)
      ⊢ twp d L (Prog.lift (.waitDma2 sem ob (oV.slice (Rect.unit (s := S147456x384) o S48x384.size inb) (fun _ => rfl)) hs hd) : TProg F L PUnit)
      (fun _ => iprop(OIdle (F := F) d L sem ob ∗ (oV.view.loc (thr d L) ↦[rowsAB r (r + 48)]{fullShare} OUT X M) ∗ Ow (F := F) d L O W)) := by
  unfold OFly Ow
  rw [← oRow_set r h]
  iintro ⟨⟨%f, %hf, HF⟩, #HM, ⟨%W', %hW, HO⟩⟩
  simp only [Prog.lift]
  iapply (wp_waitLocalO EC 𝒱₀ (thr d L) none (srcw := ob) (hsrc := hs) (hdst := hd) (none : HIx 1) (N := No) rfl) $$ [HF HO]
  · isplitl [HF]; · iexact HF
    isplitl [HO]; · iexact HO
    iapply (MayWaits.elim (SemLoc.dma sem)) $$ HM
  iintro ⟨⟨Ho, Hb⟩, Hs, HO⟩
  rw [wp_ret]
  imodintro
  isplitl [Hb Hs]
  · unfold OIdle
    isplitl [Hb]
    · iexists f; iexact Hb
    iexact Hs
  isplitl [Ho]
  · iapply (oRow_out d L X M O₀ r h _ hf) $$ Ho
  isplitr; · iexact HM
  iexists (insert (SemLoc.dma sem, (none : HIx 1)) W')
  isplitr
  · ipureintro; intro p hp
    rcases Finset.mem_insert.mp hp with rfl | hp
    · exact Or.inr rfl
    · exact hW p hp
  iexact HO

end Copies

end Cert.Proof.Pool

end
-- ==== Proof.Steps.lean ====
/-
  The steps of a tile's program, each over what the tile's buffers hold before and after it.
-/
module

public import proofs.«01_k».proof.Proof.Offsets
public import proofs.«01_k».proof.Proof.Gather
public import proofs.«01_k».proof.Proof.Copies

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

section Steps

variable (X : S147456x384.Idx → Elt F .f32) (M : S1536x384.Idx → Elt F .i32) (O₀ : S147456x384.Idx → Elt F .f32)
variable (O : CellTallies nD τ sig (HIx 1)) (W : Waits sig (HIx 1))

/-! ### Rules of sequence -/

theorem seq {α β : Type} {P P' : sProp 𝕄} {a : TProg F L α} {k : α → TProg F L β} {Q : β → sProp 𝕄}
    (h : P ⊢ twp d L a (fun _ => P')) (hk : ∀ r, P' ⊢ twp d L (k r) Q) : P ⊢ twp d L (a >>= k) Q := by
  unfold twp at *
  rw [wp_bind]
  exact h.trans (wp_mono frame _ Set.univ hk)
theorem fin {α : Type} {P : sProp 𝕄} (x : α) : P ⊢ twp d L (pure x : TProg F L α) (fun _ => P) := by
  unfold twp
  rw [wp_pure]
  iintro H
  imodintro
  iexact H
theorem framed {α : Type} {A B R P P' : sProp 𝕄} {p : TProg F L α} (h : A ⊢ twp d L p (fun _ => B)) (hP : P ⊢ iprop(A ∗ R)) (hQ : iprop(B ∗ R) ⊢ P') :
    P ⊢ twp d L p (fun _ => P') := by
  unfold twp at *
  iintro H
  ihave H' := hP $$ H
  icases H' with ⟨HA, HR⟩
  ihave HW := h $$ HA
  iapply (wp_mono frame _ Set.univ (fun _ => hQ))
  iapply (wp_frame_r frame _ Set.univ)
  isplitl [HW]; · iexact HW
  iexact HR

/-! ### The semaphores -/

abbrev sI0 : DmaSem sig := ((cc0_scratch5.slice (Rect.unit (s := S4) ![0] S1.size inb_S4_S1_0)).squeeze S_ squeezes_S1_S_).sem
abbrev sI1 : DmaSem sig := ((cc0_scratch5.slice (Rect.unit (s := S4) ![1] S1.size inb_S4_S1_1)).squeeze S_ squeezes_S1_S_).sem
abbrev sO0 : DmaSem sig := ((cc0_scratch5.slice (Rect.unit (s := S4) ![2] S1.size inb_S4_S1_2)).squeeze S_ squeezes_S1_S_).sem
abbrev sO1 : DmaSem sig := ((cc0_scratch5.slice (Rect.unit (s := S4) ![3] S1.size inb_S4_S1_3)).squeeze S_ squeezes_S1_S_).sem
/-- The semaphore of each strip's map copy. -/
abbrev scSem : Fin 8 → DmaSem sig := ![cc0_scoped0.sem, cc0_scoped1.sem, cc0_scoped2.sem, cc0_scoped3.sem, cc0_scoped4.sem, cc0_scoped5.sem, cc0_scoped6.sem, cc0_scoped7.sem]
abbrev sM (s : ℕ) : DmaSem sig := scSem ⟨s % 8, Nat.mod_lt _ (by decide)⟩

/-! ### The states -/

/-- An input buffer: free and next for unit `u`; its copies of unit `u` under way; holding unit `u`. -/
inductive ISt where
  | idle (u : ℕ) | fly (u : ℕ) | rdy (u : ℕ)
/-- The strip's map: next for strip `s`; strip `s` under way; holding strip `s`. -/
inductive MSt where
  | idle (s : ℕ) | fly (s : ℕ) | rdy (s : ℕ)
/-- An output buffer: free and next for unit `u`; holding unit `u`; unit `u` under way to the result. -/
inductive OSt where
  | idle (u : ℕ) | held (u : ℕ) | fly (u : ℕ)

abbrev rI (u : ℕ) : ℕ := rowIn (wid L) (u / 12) (u % 12)
abbrev rO (u : ℕ) : ℕ := rowOut (wid L) (u / 12) (u % 12)

def InA (ib : Memref sig .scVector .vmem S24576 .f32) (sem : DmaSem sig) (q : PosShare TreeShare) : ISt → sProp 𝕄
  | .idle _ => InIdle d L X ib sem q
  | .fly u => InPart d L X ib sem q (nstOf (u / 12)) (rI L u) (nstOf (u / 12))
  | .rdy u => InRdy d L X ib sem q (nstOf (u / 12)) (rI L u)

def mSems : sProp 𝕄 := bigSep (Finset.univ : Finset (Fin 8)) fun t => semVal (thr d L, SemLoc.dma (scSem t)) 0
def mSemsBut (s : ℕ) : sProp 𝕄 :=
  bigSep ((Finset.univ : Finset (Fin 8)).erase ⟨s % 8, Nat.mod_lt _ (by decide)⟩) fun t => semVal (thr d L, SemLoc.dma (scSem t)) 0
theorem mSems_eq (s : ℕ) : (mSems (F := F) d L : sProp 𝕄) = iprop(semVal (thr d L, SemLoc.dma (sM s)) 0 ∗ mSemsBut (F := F) d L s) :=
  SparseCore.bigSep_erase' (Finset.mem_univ _)

/-- The map's strip held at row `r`. -/
def MHas (r : ℕ) : sProp 𝕄 :=
  iprop(∃ f, ⌜∀ i : S48x384.Idx, bM.view.read (Elt F) f i = M (im (r + (i 0).val) (i 1).val)⌝ ∗ bM.view.loc (thr d L) ↦[bM.view.set]{fullShare} f)

def MA (q : PosShare TreeShare) : MSt → sProp 𝕄
  | .idle _ => iprop(((mV.view.loc (thr d L) ↦[Finset.univ]{q} M) ∗ ∃ f, bM.view.loc (thr d L) ↦[bM.view.set]{fullShare} f) ∗ mSems (F := F) d L)
  | .fly s => iprop(MFly d L M (sM s) q (rowM (wid L) s) ∗ mSemsBut (F := F) d L s)
  | .rdy s => iprop(((mV.view.loc (thr d L) ↦[Finset.univ]{q} M) ∗ MHas d L M (rowM (wid L) s)) ∗ mSems (F := F) d L)

def OA (ob : Memref sig .scVector .vmem S48x384 .f32) (sem : DmaSem sig) : OSt → sProp 𝕄
  | .idle _ => OIdle (F := F) d L sem ob
  | .held u => OHeld d L X M sem ob (rO L u)
  | .fly u => OFly d L X M O₀ sem ob (rO L u)

variable (qa qb qm : PosShare TreeShare)

/-- What a tile holds between two steps: `e` units are copied out or on their way, `v` units have arrived. -/
def Inv (a b : ISt) (m : MSt) (o p : OSt) (e v : ℕ) : sProp 𝕄 :=
  iprop(InA d L X bI0 sI0 qa a ∗ InA d L X bI1 sI1 qb b ∗ MA d L M qm m ∗ OA d L X M O₀ bO0 sO0 o ∗ OA d L X M O₀ bO1 sO1 p
    ∗ (oV.view.loc (thr d L) ↦[rowsUV (wid L) e 96]{fullShare} O₀) ∗ (oV.view.loc (thr d L) ↦[rowsUV (wid L) 0 v]{fullShare} OUT X M) ∗ Ow (F := F) d L O W)

/-! ### The rows of a unit -/

theorem unit_rows_nat (w e r : ℕ) (he : e < 96) : ((12 * w + e % 12) * 384 + 48 * (e / 12) ≤ r ∧ r < (12 * w + e % 12) * 384 + 48 * (e / 12) + 48)
    ↔ (r / 4608 = w ∧ e ≤ r % 384 / 48 * 12 + r / 384 % 12 ∧ r % 384 / 48 * 12 + r / 384 % 12 < e + 1) := by
  constructor
  · rintro ⟨h1, h2⟩
    have a1 : r / 384 = 12 * w + e % 12 := by omega
    have a2 : r % 384 / 48 = e / 12 := by omega
    have a3 : r / 4608 = w := by omega
    rw [a1, a2, a3]
    omega
  · rintro ⟨h1, h2, h3⟩
    have a : r % 384 / 48 * 12 + r / 384 % 12 = e := by omega
    have a1 : r / 384 % 12 = e % 12 := by omega
    have a2 : r % 384 / 48 = e / 12 := by omega
    omega
theorem unit_rows (w e : ℕ) (he : e < 96) : rowsAB (rowOut w (e / 12) (e % 12)) (rowOut w (e / 12) (e % 12) + 48) = rowsUV w e (e + 1) := by
  ext i
  simp only [rowsAB, rowsUV, Finset.mem_filter, Finset.mem_univ, _root_.true_and]
  exact unit_rows_nat w e (i 0).val he
theorem rowsUV_split (w a b c : ℕ) (h1 : a ≤ b) (h2 : b ≤ c) : rowsUV w a c = rowsUV w a b ∪ rowsUV w b c := by
  ext i; simp only [rowsUV, Finset.mem_filter, Finset.mem_univ, _root_.true_and, Finset.mem_union]; omega
theorem rowsUV_disj (w a b c : ℕ) : Disjoint (rowsUV w a b) (rowsUV w b c) := by
  rw [Finset.disjoint_left]; intro i; simp only [rowsUV, Finset.mem_filter, Finset.mem_univ, _root_.true_and]; omega

/-! ### An input buffer's steps -/

variable {d L X M O₀ O W qa qb qm}

theorem issue_u {ib : Memref sig .scVector .vmem S24576 .f32} {sem : DmaSem sig} {q : PosShare TreeShare} {u : ℕ} (hu : u < 96)
    {Lp : Scf.Loop 32} {hok : Lp.OK} (hn : Lp.trips = nstOf (u / 12))
    {o1 : Fin Lp.trips → Fin 1 → ℕ} {inb1 : ∀ k a, o1 k a + S384.size a ≤ S24576.size a}
    {o2 : Fin Lp.trips → Fin 2 → ℕ} {inb2 : ∀ k a, o2 k a + S1x384.size a ≤ S147456x384.size a}
    {body : Fin Lp.trips → Unit → TProg F L Unit}
    (hb : ∀ k u, body k u = (do
      Prog.lift (.enqueueDma ((xV.slice (Rect.unit (s := S147456x384) (o2 k) S1x384.size (inb2 k)) (fun _ => rfl)).squeeze S384 squeezes_S1x384_S384)
        (.here (ib.slice (Rect.unit (s := S24576) (o1 k) S384.size (inb1 k)) (fun _ => rfl))) (.dma sem)
        ((View.wordExact_bits rfl).reshape _ _) (View.wordExact_bits rfl) ⟨Or.inl rfl, trivial⟩)
      pure ⟨⟩))
    (h1 : ∀ k, o1 k = ![(Scalar.muli (Scf.iv 0#32 1#32 k.val) 384#32).toNat])
    (h2 : ∀ k, o2 k = ![(Scalar.addi (qRow L (BitVec.ofNat 32 (u % 12)) (BitVec.ofNat 32 (stOf (u / 12)))) (Scf.iv 0#32 1#32 k.val)).toNat, 0]) :
    InA d L X ib sem q (.idle u) ⊢ twp d L (Scf.Loop.for Lp hok ⟨⟩ body) (fun _ => InA d L X ib sem q (.fly u)) :=
  issue_loop d L X ib sem q Lp hok (nstOf (u / 12)) (rI L u) hn (nstOf_le _) (rowIn_le (wid_lt L) (by omega) (by omega)) o1 inb1 o2 inb2
    (fun k => (h1 k).trans (off1_val k.val (by have := k.isLt; have := nstOf_le (u / 12); omega)))
    (fun k => (h2 k).trans (off2_val L (u / 12) (u % 12) (by omega) (by omega) k.val (by have := k.isLt; have := nstOf_le (u / 12); omega))) body hb

theorem drain_u {ib : Memref sig .scVector .vmem S24576 .f32} {sem : DmaSem sig} {q : PosShare TreeShare} {u : ℕ} (hu : u < 96)
    {Lp : Scf.Loop 32} {hok : Lp.OK} (hn : Lp.trips = nstOf (u / 12))
    {o1 : Fin Lp.trips → Fin 1 → ℕ} {inb1 : ∀ k a, o1 k a + S384.size a ≤ S24576.size a}
    {body : Fin Lp.trips → Unit → TProg F L Unit}
    (hb : ∀ k u, body k u = (do
      Prog.lift (.waitDma2 sem ((xV.slice (Rect.unit (s := S147456x384) ![0, 0] S1x384.size inb_S147456x384_S1x384_0_0) (fun _ => rfl)).squeeze S384 squeezes_S1x384_S384)
        (ib.slice (Rect.unit (s := S24576) (o1 k) S384.size (inb1 k)) (fun _ => rfl))
        ((View.wordExact_bits rfl).reshape _ _) (View.wordExact_bits rfl))
      pure ⟨⟩)) :
    iprop(InA d L X ib sem q (.fly u) ∗ Ow (F := F) d L O W)
      ⊢ twp d L (Scf.Loop.for Lp hok ⟨⟩ body) (fun _ => iprop(InA d L X ib sem q (.rdy u) ∗ Ow (F := F) d L O W)) :=
  drain_loop d L X ib sem q Lp hok (nstOf (u / 12)) (rI L u) hn (nstOf_le _) (rowIn_le (wid_lt L) (by omega) (by omega)) o1 inb1 body O W hb

/-! ### The gather -/

theorem picked_eq (hM : MapOK M) (ib : Memref sig .scVector .vmem S24576 .f32) (w s j : ℕ) (hw : w < 32) (hs : s < 8) (hj : j < 12)
    (fi : ib.view.ty.Contents (Elt F)) (hfi : ∀ i : S24576.Idx, (i 0).val < 384 * nstOf s → ib.view.read (Elt F) fi i = X (ix (rowIn w s j + (i 0).val / 384) ((i 0).val % 384)))
    (mf : S48x384.Idx → Elt F .i32) (hmf : ∀ i : S48x384.Idx, mf i = M (im (rowM w s + (i 0).val) (i 1).val)) (i : S48x384.Idx) :
    picked ib fi mf i = gat X M (rowOut w s j + (i 0).val) (i 1).val := by
  have h0 : (i 0).val < 48 := (i 0).isLt
  have hb := hM (rowM w s + (i 0).val) (i 1).val
  have e1 : (rowM w s + (i 0).val) % 384 / 48 = s := by unfold rowM; omega
  rw [e1] at hb
  have e2 : (rowOut w s j + (i 0).val) / 36864 * 384 + (rowOut w s j + (i 0).val) % 384 = rowM w s + (i 0).val := by unfold rowOut rowM; omega
  have e3 : (rowOut w s j + (i 0).val) % 384 / 48 = s := by unfold rowOut; omega
  have e4 : (rowOut w s j + (i 0).val) / 384 * 384 + stOf s = rowIn w s j := by unfold rowOut rowIn; omega
  unfold picked gat
  rw [e2, e3, e4, hmf]
  generalize (M (im (rowM w s + (i 0).val) (i 1).val) : BitVec 32).toNat = v at hb ⊢
  have hn := nstOf_le s
  have ev : ((i1 v) 0).val = v := Nat.mod_eq_of_lt (by omega)
  rw [hfi (i1 v) (by rw [ev]; omega), ev]

theorem gather_u (hM : MapOK M) {ib : Memref sig .scVector .vmem S24576 .f32} {ob : Memref sig .scVector .vmem S48x384 .f32} {semi semo : DmaSem sig} {q : PosShare TreeShare} {u s : ℕ}
    (hu : u < 96) (hs : s = u / 12)
    {Lo Li : Scf.Loop 32} {oko : Lo.OK} {oki : Li.OK} (hLo : Lo.trips = 48)
    {o7 : Fin Lo.trips → Fin Li.trips → Fin 2 → ℕ} {inb7 : ∀ k l a, o7 k l a + S1x16.size a ≤ S48x384.size a}
    {o8 : Fin Lo.trips → Fin Li.trips → Fin 2 → ℕ} {inb8 : ∀ k l a, o8 k l a + S1x16.size a ≤ S48x384.size a}
    {chk : IVec S16 32 → Prop} {dec : ∀ v, Decidable (chk v)}
    {hidx : ∀ v, chk v → ∀ a x, ((![v] : Fin 1 → IVec S16 32) a x).toNat < S24576.size a}
    {bo : Fin Lo.trips → Unit → TProg F L Unit} {bi : Fin Lo.trips → Fin Li.trips → Unit → TProg F L Unit}
    (hbo : ∀ k u, bo k u = (do Scf.Loop.for Li oki ⟨⟩ (bi k); pure ⟨⟩))
    (hbi : ∀ k l u, bi k l u = (do
      let ld : Vec F S1x16 .i32 ← Prog.lift (.load bM (Rect.unit (s := S48x384) (o7 k l) S1x16.size (inb7 k l)).toLoadRect (View.loadsAt_vmem h_S1x16))
      have v : Vec F S16 .i32 := shapeCast S16 ld shapeCasts_S1x16_S16
      have hw : chk v := (← Prog.lift (TpuEff.assume (chk v) (dec v))).down
      let r : Vec F S16 .f32 ← SparseCore.vectorLoadIdx ib ![v] (hidx v hw) (View.loads_vmem h_S24576)
      let _ : Vec F S1x16 .f32 ← Prog.lift (.load ob (Rect.unit (s := S48x384) (o8 k l) S1x16.size (inb8 k l)).toLoadRect (View.loadsAt_vmem h_S1x16))
      Prog.lift (.store ob (Rect.unit (s := S48x384) (o8 k l) S1x16.size (inb8 k l)) (shapeCast S1x16 r shapeCasts_S16_S1x16) Finset.univ (View.stores_vmem_bits_univ h_S1x16 rfl) (.inl rfl))
      pure ⟨⟩))
    (hLi : Li.trips = 24)
    (h7 : ∀ k l, o7 k l = ![(Scalar.indexCast (Scf.iv 0#32 1#32 k.val)).toNat, (Scalar.indexCast (Scalar.addi 0#32 (Scalar.muli (Scf.iv 0#32 1#32 l.val) 16#32))).toNat])
    (h8 : ∀ k l, o8 k l = ![(Scalar.indexCast (Scf.iv 0#32 1#32 k.val)).toNat, (Scalar.indexCast (Scalar.addi 0#32 (Scalar.muli (Scf.iv 0#32 1#32 l.val) 16#32))).toNat])
    (hchk : ∀ v, chk v = ∀ a x, ((![v] : Fin 1 → IVec S16 32) a x).toNat < S24576.size a) :
    iprop(InA d L X ib semi q (.rdy u) ∗ MA d L M qm (.rdy s) ∗ OA d L X M O₀ ob semo (.idle u))
      ⊢ twp d L (Scf.Loop.for Lo oko ⟨⟩ bo) (fun _ => iprop(InA d L X ib semi q (.idle (u + 2)) ∗ MA d L M qm (.rdy s) ∗ OA d L X M O₀ ob semo (.held u))) := by
  subst hs
  have hw := wid_lt L
  unfold InA MA OA InRdy InIdle OIdle OHeld MHas
  iintro ⟨⟨Hx, ⟨%fi, %hfi, Hi⟩, Hsi⟩, ⟨⟨Hm, ⟨%mf, %hmf, Hb⟩⟩, Hms⟩, ⟨⟨%g, Ho⟩, Hso⟩⟩
  have hp := picked_eq hM ib (wid L) (u / 12) (u % 12) hw (by omega) (by omega) fi hfi (bM.view.read (Elt F) mf) hmf
  have hG := gather_loop d L ib ob fi mf Lo Li oko oki hLo hLi o7 inb7 o8 inb8
    (fun k l => (h7 k l).trans (off7_val k.val l.val (hLo ▸ k.isLt) (hLi ▸ l.isLt)))
    (fun k l => (h8 k l).trans (off7_val k.val l.val (hLo ▸ k.isLt) (hLi ▸ l.isLt))) chk dec hidx
    (fun v hv => (hchk v).mpr fun a x => by
      match a with
      | 0 => exact hv x) bo bi hbo hbi
    (fun i => by
      have hb := hM (rowM (wid L) (u / 12) + (i 0).val) (i 1).val
      have hn := nstOf_le ((rowM (wid L) (u / 12) + (i 0).val) % 384 / 48)
      rw [hmf i]
      omega)
  iapply (framed d L (R := iprop((xV.view.loc (thr d L) ↦[Finset.univ]{q} X) ∗ semVal (thr d L, SemLoc.dma semi) 0 ∗ (mV.view.loc (thr d L) ↦[Finset.univ]{qm} M)
      ∗ mSems (F := F) d L ∗ semVal (thr d L, SemLoc.dma semo) 0)) hG .rfl ?_) $$ [Hx Hi Hsi Hm Hb Hms Ho Hso]
  · unfold GInv
    iintro ⟨⟨Hi, Hb, ⟨%g, %hg, Ho⟩⟩, Hx, Hsi, Hm, Hms, Hso⟩
    isplitl [Hx Hi Hsi]
    · isplitl [Hx]; · iexact Hx
      isplitl [Hi]
      · iexists fi; iexact Hi
      iexact Hsi
    isplitl [Hm Hb Hms]
    · isplitl [Hm Hb]
      · isplitl [Hm]; · iexact Hm
        iexists mf
        isplitr; · ipureintro; exact hmf
        iexact Hb
      iexact Hms
    isplitl [Ho]
    · iexists g
      isplitr
      · ipureintro
        intro i
        rw [hg i (Or.inl (i 0).isLt)]
        exact hp i
      iexact Ho
    iexact Hso
  · unfold GInv
    isplitl [Hi Hb Ho]
    · isplitl [Hi]; · iexact Hi
      isplitl [Hb]; · iexact Hb
      iexists g
      isplitr
      · ipureintro
        intro i hi
        exact absurd hi (by unfold Done; omega)
      iexact Ho
    isplitl [Hx]; · iexact Hx
    isplitl [Hsi]; · iexact Hsi
    isplitl [Hm]; · iexact Hm
    isplitl [Hms]; · iexact Hms
    iexact Hso

/-! ### The map's steps -/

theorem menq_u {q : PosShare TreeShare} {s : ℕ} (hs : s < 8) {o : Fin 2 → ℕ} {inb : ∀ a, o a + S48x384.size a ≤ S1536x384.size a} {sm : DmaSem sig} (hsm : sm = sM s)
    {w1 : (mV.slice (Rect.unit (s := S1536x384) o S48x384.size inb) (fun _ => rfl)).view.WordExact} {w2 : bM.view.WordExact}
    (ho : o = ![(Scalar.addi (Scalar.muli (q18 (q1 L)) 384#32) (BitVec.ofNat 32 (48 * s))).toNat, 0]) :
    MA d L M q (.idle s) ⊢ twp d L (Prog.lift (.enqueueDma (mV.slice (Rect.unit (s := S1536x384) o S48x384.size inb) (fun _ => rfl)) (.here bM) (.dma sm) w1 w2 ⟨Or.inl rfl, trivial⟩) : TProg F L PUnit)
      (fun _ => MA d L M q (.fly s)) := by
  subst hsm
  refine framed d L (R := mSemsBut (F := F) d L s) (mcopy_issue d L M (sM s) q (rowM (wid L) s) (rowM_le (wid_lt L) hs) o inb (ho.trans (off3_val L s hs)) w1 w2) ?_ .rfl
  unfold MA MIdle
  rw [mSems_eq d L s]
  iintro ⟨⟨Hm, Hb⟩, Hs, Hss⟩
  isplitl [Hm Hb Hs]
  · isplitl [Hm]; · iexact Hm
    isplitl [Hb]; · iexact Hb
    iexact Hs
  iexact Hss
theorem mnext {q : PosShare TreeShare} {s : ℕ} : MA d L M q (.rdy s) ⊢ MA d L M q (.idle (s + 1)) := by
  unfold MA MHas
  iintro ⟨⟨Hm, ⟨%f, %hf, Hb⟩⟩, Hss⟩
  isplitl [Hm Hb]
  · isplitl [Hm]; · iexact Hm
    iexists f; iexact Hb
  iexact Hss
theorem mwait_u {q : PosShare TreeShare} {s : ℕ} (hs : s < 8) {src : Memref sig .scVector .hbm S48x384 .i32} {sm : DmaSem sig} (hsm : sm = sM s)
    {w1 : src.view.WordExact} {w2 : bM.view.WordExact} :
    iprop(MA d L M q (.fly s) ∗ Ow (F := F) d L O W) ⊢ twp d L (Prog.lift (.waitDma2 sm src bM w1 w2) : TProg F L PUnit)
      (fun _ => iprop(MA d L M q (.rdy s) ∗ Ow (F := F) d L O W)) := by
  subst hsm
  refine framed d L (R := mSemsBut (F := F) d L s) (mcopy_wait d L M (sM s) q (rowM (wid L) s) (rowM_le (wid_lt L) hs) O W src w1 w2) ?_ ?_
  · unfold MA
    iintro ⟨⟨Hf, Hss⟩, HO⟩
    isplitl [Hf HO]
    · isplitl [Hf]; · iexact Hf
      iexact HO
    iexact Hss
  · unfold MA MRdy MHas
    rw [mSems_eq d L s]
    iintro ⟨⟨⟨Hm, Hb, Hs⟩, HO⟩, Hss⟩
    isplitl [Hm Hb Hs Hss]
    · isplitl [Hm Hb]
      · isplitl [Hm]; · iexact Hm
        iexact Hb
      isplitl [Hs]; · iexact Hs
      iexact Hss
    iexact HO

/-! ### An output buffer's steps -/

theorem oenq_u {ob : Memref sig .scVector .vmem S48x384 .f32} {sem : DmaSem sig} {u : ℕ} (hu : u < 96)
    {o : Fin 2 → ℕ} {inb : ∀ a, o a + S48x384.size a ≤ S147456x384.size a}
    {w1 : ob.view.WordExact} {w2 : (oV.slice (Rect.unit (s := S147456x384) o S48x384.size inb) (fun _ => rfl)).view.WordExact}
    (ho : o = ![(qRow L (BitVec.ofNat 32 (u % 12)) (BitVec.ofNat 32 (48 * (u / 12)))).toNat, 0]) :
    iprop(OA d L X M O₀ ob sem (.held u) ∗ (oV.view.loc (thr d L) ↦[rowsUV (wid L) u 96]{fullShare} O₀))
      ⊢ twp d L (Prog.lift (.enqueueDma ob (.here (oV.slice (Rect.unit (s := S147456x384) o S48x384.size inb) (fun _ => rfl))) (.dma sem) w1 w2 ⟨Or.inl rfl, trivial⟩) : TProg F L PUnit)
      (fun _ => iprop(OA d L X M O₀ ob sem (.fly u) ∗ (oV.view.loc (thr d L) ↦[rowsUV (wid L) (u + 1) 96]{fullShare} O₀))) := by
  refine framed d L (R := iprop(oV.view.loc (thr d L) ↦[rowsUV (wid L) (u + 1) 96]{fullShare} O₀))
    (ocopy_issue d L X M O₀ sem ob (rO L u) (rowOut_le (wid_lt L) (by omega) (by omega)) o inb (ho.trans (off9_val L (u / 12) (u % 12) (by omega) (by omega))) w1 w2) ?_ .rfl
  unfold OA
  rw [unit_rows (wid L) u hu, rowsUV_split (wid L) u (u + 1) 96 (by omega) (by omega)]
  iintro ⟨Hh, Hr⟩
  ihave Hr' := (pointsTo_union (rowsUV_disj (wid L) u (u + 1) 96)).1 $$ Hr
  icases Hr' with ⟨H1, H2⟩
  isplitl [Hh H1]
  · isplitl [Hh]; · iexact Hh
    iexact H1
  iexact H2

theorem owait_u {ob : Memref sig .scVector .vmem S48x384 .f32} {sem : DmaSem sig} {u : ℕ} (hu : u < 96)
    {o : Fin 2 → ℕ} {inb : ∀ a, o a + S48x384.size a ≤ S147456x384.size a}
    {w1 : ob.view.WordExact} {w2 : (oV.slice (Rect.unit (s := S147456x384) o S48x384.size inb) (fun _ => rfl)).view.WordExact} :
    iprop(OA d L X M O₀ ob sem (.fly u) ∗ (oV.view.loc (thr d L) ↦[rowsUV (wid L) 0 u]{fullShare} OUT X M) ∗ Ow (F := F) d L O W)
      ⊢ twp d L (Prog.lift (.waitDma2 sem ob (oV.slice (Rect.unit (s := S147456x384) o S48x384.size inb) (fun _ => rfl)) w1 w2) : TProg F L PUnit)
      (fun _ => iprop(OA d L X M O₀ ob sem (.idle (u + 2)) ∗ (oV.view.loc (thr d L) ↦[rowsUV (wid L) 0 (u + 1)]{fullShare} OUT X M) ∗ Ow (F := F) d L O W)) := by
  refine framed d L (R := iprop(oV.view.loc (thr d L) ↦[rowsUV (wid L) 0 u]{fullShare} OUT X M))
    (ocopy_wait d L X M O₀ sem ob (rO L u) (rowOut_le (wid_lt L) (by omega) (by omega)) O W o inb w1 w2) ?_ ?_
  · unfold OA
    iintro ⟨Hh, Hr, HO⟩
    isplitl [Hh HO]
    · isplitl [Hh]; · iexact Hh
      iexact HO
    iexact Hr
  · unfold OA
    rw [unit_rows (wid L) u hu, rowsUV_split (wid L) 0 u (u + 1) (by omega) (by omega)]
    iintro ⟨⟨Hh, Hn, HO⟩, Hr⟩
    isplitl [Hh]; · iexact Hh
    isplitl [Hn Hr]
    · iapply (pointsTo_union (rowsUV_disj (wid L) 0 u (u + 1))).2
      isplitl [Hr]; · iexact Hr
      iexact Hn
    iexact HO

end Steps

end Cert.Proof.Pool

end
-- ==== Proof.Moves.lean ====
/-
  Steps on parts of what a tile holds, as steps on all of it.
-/
module

public import proofs.«01_k».proof.Proof.Steps

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

section Moves

variable {d : Dev nD} {L : grid0.Coords} {X : S147456x384.Idx → Elt F .f32} {M : S1536x384.Idx → Elt F .i32} {O₀ : S147456x384.Idx → Elt F .f32}
variable {O : CellTallies nD τ sig (HIx 1)} {W : Waits sig (HIx 1)} {qa qb qm : PosShare TreeShare}
variable {a a' b b' : ISt} {m m' : MSt} {o o' p p' : OSt} {e e' v v' : ℕ} {α : Type} {pr : TProg F L α}

local notation "ℐ" => Inv d L X M O₀ O W qa qb qm

abbrev Rest (e : ℕ) : sProp 𝕄 := oV.view.loc (thr d L) ↦[rowsUV (wid L) e 96]{fullShare} O₀
abbrev Come (v : ℕ) : sProp 𝕄 := oV.view.loc (thr d L) ↦[rowsUV (wid L) 0 v]{fullShare} OUT X M

/-! A step on a part of what is held is a step on the whole. -/

theorem on_a (h : iprop(InA d L X bI0 sI0 qa a) ⊢ twp d L pr (fun _ => iprop(InA d L X bI0 sI0 qa a'))) :
    ℐ a b m o p e v ⊢ twp d L pr (fun _ => ℐ a' b m o p e v) := by
  refine framed d L (R := iprop(InA d L X bI1 sI1 qb b ∗ MA d L M qm m ∗ OA d L X M O₀ bO0 sO0 o ∗ OA d L X M O₀ bO1 sO1 p ∗ Rest (d := d) (L := L) (O₀ := O₀) e ∗ Come (d := d) (L := L) (X := X) (M := M) v ∗ Ow (F := F) d L O W)) h ?_ ?_
  · unfold Inv
    iintro ⟨HA, HB, HM, HO, HP, HE, HV, HW⟩
    isplitl [HA]
    · iexact HA
    isplitl [HB]; · iexact HB
    isplitl [HM]; · iexact HM
    isplitl [HO]; · iexact HO
    isplitl [HP]; · iexact HP
    isplitl [HE]; · iexact HE
    isplitl [HV]; · iexact HV
    iexact HW
  · unfold Inv
    iintro ⟨HA, HB, HM, HO, HP, HE, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_aw (h : iprop(InA d L X bI0 sI0 qa a ∗ Ow (F := F) d L O W) ⊢ twp d L pr (fun _ => iprop(InA d L X bI0 sI0 qa a' ∗ Ow (F := F) d L O W))) :
    ℐ a b m o p e v ⊢ twp d L pr (fun _ => ℐ a' b m o p e v) := by
  refine framed d L (R := iprop(InA d L X bI1 sI1 qb b ∗ MA d L M qm m ∗ OA d L X M O₀ bO0 sO0 o ∗ OA d L X M O₀ bO1 sO1 p ∗ Rest (d := d) (L := L) (O₀ := O₀) e ∗ Come (d := d) (L := L) (X := X) (M := M) v)) h ?_ ?_
  · unfold Inv
    iintro ⟨HA, HB, HM, HO, HP, HE, HV, HW⟩
    isplitl [HA HW]
    · isplitl [HA]; · iexact HA
      iexact HW
    isplitl [HB]; · iexact HB
    isplitl [HM]; · iexact HM
    isplitl [HO]; · iexact HO
    isplitl [HP]; · iexact HP
    isplitl [HE]; · iexact HE
    iexact HV
  · unfold Inv
    iintro ⟨⟨HA, HW⟩, HB, HM, HO, HP, HE, HV⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_b (h : iprop(InA d L X bI1 sI1 qb b) ⊢ twp d L pr (fun _ => iprop(InA d L X bI1 sI1 qb b'))) :
    ℐ a b m o p e v ⊢ twp d L pr (fun _ => ℐ a b' m o p e v) := by
  refine framed d L (R := iprop(InA d L X bI0 sI0 qa a ∗ MA d L M qm m ∗ OA d L X M O₀ bO0 sO0 o ∗ OA d L X M O₀ bO1 sO1 p ∗ Rest (d := d) (L := L) (O₀ := O₀) e ∗ Come (d := d) (L := L) (X := X) (M := M) v ∗ Ow (F := F) d L O W)) h ?_ ?_
  · unfold Inv
    iintro ⟨HA, HB, HM, HO, HP, HE, HV, HW⟩
    isplitl [HB]
    · iexact HB
    isplitl [HA]; · iexact HA
    isplitl [HM]; · iexact HM
    isplitl [HO]; · iexact HO
    isplitl [HP]; · iexact HP
    isplitl [HE]; · iexact HE
    isplitl [HV]; · iexact HV
    iexact HW
  · unfold Inv
    iintro ⟨HB, HA, HM, HO, HP, HE, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_bw (h : iprop(InA d L X bI1 sI1 qb b ∗ Ow (F := F) d L O W) ⊢ twp d L pr (fun _ => iprop(InA d L X bI1 sI1 qb b' ∗ Ow (F := F) d L O W))) :
    ℐ a b m o p e v ⊢ twp d L pr (fun _ => ℐ a b' m o p e v) := by
  refine framed d L (R := iprop(InA d L X bI0 sI0 qa a ∗ MA d L M qm m ∗ OA d L X M O₀ bO0 sO0 o ∗ OA d L X M O₀ bO1 sO1 p ∗ Rest (d := d) (L := L) (O₀ := O₀) e ∗ Come (d := d) (L := L) (X := X) (M := M) v)) h ?_ ?_
  · unfold Inv
    iintro ⟨HA, HB, HM, HO, HP, HE, HV, HW⟩
    isplitl [HB HW]
    · isplitl [HB]; · iexact HB
      iexact HW
    isplitl [HA]; · iexact HA
    isplitl [HM]; · iexact HM
    isplitl [HO]; · iexact HO
    isplitl [HP]; · iexact HP
    isplitl [HE]; · iexact HE
    iexact HV
  · unfold Inv
    iintro ⟨⟨HB, HW⟩, HA, HM, HO, HP, HE, HV⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_m (h : iprop(MA d L M qm m) ⊢ twp d L pr (fun _ => iprop(MA d L M qm m'))) :
    ℐ a b m o p e v ⊢ twp d L pr (fun _ => ℐ a b m' o p e v) := by
  refine framed d L (R := iprop(InA d L X bI0 sI0 qa a ∗ InA d L X bI1 sI1 qb b ∗ OA d L X M O₀ bO0 sO0 o ∗ OA d L X M O₀ bO1 sO1 p ∗ Rest (d := d) (L := L) (O₀ := O₀) e ∗ Come (d := d) (L := L) (X := X) (M := M) v ∗ Ow (F := F) d L O W)) h ?_ ?_
  · unfold Inv
    iintro ⟨HA, HB, HM, HO, HP, HE, HV, HW⟩
    isplitl [HM]
    · iexact HM
    isplitl [HA]; · iexact HA
    isplitl [HB]; · iexact HB
    isplitl [HO]; · iexact HO
    isplitl [HP]; · iexact HP
    isplitl [HE]; · iexact HE
    isplitl [HV]; · iexact HV
    iexact HW
  · unfold Inv
    iintro ⟨HM, HA, HB, HO, HP, HE, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_mw (h : iprop(MA d L M qm m ∗ Ow (F := F) d L O W) ⊢ twp d L pr (fun _ => iprop(MA d L M qm m' ∗ Ow (F := F) d L O W))) :
    ℐ a b m o p e v ⊢ twp d L pr (fun _ => ℐ a b m' o p e v) := by
  refine framed d L (R := iprop(InA d L X bI0 sI0 qa a ∗ InA d L X bI1 sI1 qb b ∗ OA d L X M O₀ bO0 sO0 o ∗ OA d L X M O₀ bO1 sO1 p ∗ Rest (d := d) (L := L) (O₀ := O₀) e ∗ Come (d := d) (L := L) (X := X) (M := M) v)) h ?_ ?_
  · unfold Inv
    iintro ⟨HA, HB, HM, HO, HP, HE, HV, HW⟩
    isplitl [HM HW]
    · isplitl [HM]; · iexact HM
      iexact HW
    isplitl [HA]; · iexact HA
    isplitl [HB]; · iexact HB
    isplitl [HO]; · iexact HO
    isplitl [HP]; · iexact HP
    isplitl [HE]; · iexact HE
    iexact HV
  · unfold Inv
    iintro ⟨⟨HM, HW⟩, HA, HB, HO, HP, HE, HV⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_gat0 (h : iprop(InA d L X bI0 sI0 qa a ∗ MA d L M qm m ∗ OA d L X M O₀ bO0 sO0 o) ⊢ twp d L pr (fun _ => iprop(InA d L X bI0 sI0 qa a' ∗ MA d L M qm m ∗ OA d L X M O₀ bO0 sO0 o'))) :
    ℐ a b m o p e v ⊢ twp d L pr (fun _ => ℐ a' b m o' p e v) := by
  refine framed d L (R := iprop(InA d L X bI1 sI1 qb b ∗ OA d L X M O₀ bO1 sO1 p ∗ Rest (d := d) (L := L) (O₀ := O₀) e ∗ Come (d := d) (L := L) (X := X) (M := M) v ∗ Ow (F := F) d L O W)) h ?_ ?_
  · unfold Inv
    iintro ⟨HA, HB, HM, HO, HP, HE, HV, HW⟩
    isplitl [HA HM HO]
    · isplitl [HA]; · iexact HA
      isplitl [HM]; · iexact HM
      iexact HO
    isplitl [HB]; · iexact HB
    isplitl [HP]; · iexact HP
    isplitl [HE]; · iexact HE
    isplitl [HV]; · iexact HV
    iexact HW
  · unfold Inv
    iintro ⟨⟨HA, HM, HO⟩, HB, HP, HE, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_gat1 (h : iprop(InA d L X bI1 sI1 qb b ∗ MA d L M qm m ∗ OA d L X M O₀ bO1 sO1 p) ⊢ twp d L pr (fun _ => iprop(InA d L X bI1 sI1 qb b' ∗ MA d L M qm m ∗ OA d L X M O₀ bO1 sO1 p'))) :
    ℐ a b m o p e v ⊢ twp d L pr (fun _ => ℐ a b' m o p' e v) := by
  refine framed d L (R := iprop(InA d L X bI0 sI0 qa a ∗ OA d L X M O₀ bO0 sO0 o ∗ Rest (d := d) (L := L) (O₀ := O₀) e ∗ Come (d := d) (L := L) (X := X) (M := M) v ∗ Ow (F := F) d L O W)) h ?_ ?_
  · unfold Inv
    iintro ⟨HA, HB, HM, HO, HP, HE, HV, HW⟩
    isplitl [HB HM HP]
    · isplitl [HB]; · iexact HB
      isplitl [HM]; · iexact HM
      iexact HP
    isplitl [HA]; · iexact HA
    isplitl [HO]; · iexact HO
    isplitl [HE]; · iexact HE
    isplitl [HV]; · iexact HV
    iexact HW
  · unfold Inv
    iintro ⟨⟨HB, HM, HP⟩, HA, HO, HE, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_oe0 (h : iprop(OA d L X M O₀ bO0 sO0 o ∗ Rest (d := d) (L := L) (O₀ := O₀) e) ⊢ twp d L pr (fun _ => iprop(OA d L X M O₀ bO0 sO0 o' ∗ Rest (d := d) (L := L) (O₀ := O₀) e'))) :
    ℐ a b m o p e v ⊢ twp d L pr (fun _ => ℐ a b m o' p e' v) := by
  refine framed d L (R := iprop(InA d L X bI0 sI0 qa a ∗ InA d L X bI1 sI1 qb b ∗ MA d L M qm m ∗ OA d L X M O₀ bO1 sO1 p ∗ Come (d := d) (L := L) (X := X) (M := M) v ∗ Ow (F := F) d L O W)) h ?_ ?_
  · unfold Inv
    iintro ⟨HA, HB, HM, HO, HP, HE, HV, HW⟩
    isplitl [HO HE]
    · isplitl [HO]; · iexact HO
      iexact HE
    isplitl [HA]; · iexact HA
    isplitl [HB]; · iexact HB
    isplitl [HM]; · iexact HM
    isplitl [HP]; · iexact HP
    isplitl [HV]; · iexact HV
    iexact HW
  · unfold Inv
    iintro ⟨⟨HO, HE⟩, HA, HB, HM, HP, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_oe1 (h : iprop(OA d L X M O₀ bO1 sO1 p ∗ Rest (d := d) (L := L) (O₀ := O₀) e) ⊢ twp d L pr (fun _ => iprop(OA d L X M O₀ bO1 sO1 p' ∗ Rest (d := d) (L := L) (O₀ := O₀) e'))) :
    ℐ a b m o p e v ⊢ twp d L pr (fun _ => ℐ a b m o p' e' v) := by
  refine framed d L (R := iprop(InA d L X bI0 sI0 qa a ∗ InA d L X bI1 sI1 qb b ∗ MA d L M qm m ∗ OA d L X M O₀ bO0 sO0 o ∗ Come (d := d) (L := L) (X := X) (M := M) v ∗ Ow (F := F) d L O W)) h ?_ ?_
  · unfold Inv
    iintro ⟨HA, HB, HM, HO, HP, HE, HV, HW⟩
    isplitl [HP HE]
    · isplitl [HP]; · iexact HP
      iexact HE
    isplitl [HA]; · iexact HA
    isplitl [HB]; · iexact HB
    isplitl [HM]; · iexact HM
    isplitl [HO]; · iexact HO
    isplitl [HV]; · iexact HV
    iexact HW
  · unfold Inv
    iintro ⟨⟨HP, HE⟩, HA, HB, HM, HO, HV, HW⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_ow0 (h : iprop(OA d L X M O₀ bO0 sO0 o ∗ Come (d := d) (L := L) (X := X) (M := M) v ∗ Ow (F := F) d L O W) ⊢ twp d L pr (fun _ => iprop(OA d L X M O₀ bO0 sO0 o' ∗ Come (d := d) (L := L) (X := X) (M := M) v' ∗ Ow (F := F) d L O W))) :
    ℐ a b m o p e v ⊢ twp d L pr (fun _ => ℐ a b m o' p e v') := by
  refine framed d L (R := iprop(InA d L X bI0 sI0 qa a ∗ InA d L X bI1 sI1 qb b ∗ MA d L M qm m ∗ OA d L X M O₀ bO1 sO1 p ∗ Rest (d := d) (L := L) (O₀ := O₀) e)) h ?_ ?_
  · unfold Inv
    iintro ⟨HA, HB, HM, HO, HP, HE, HV, HW⟩
    isplitl [HO HV HW]
    · isplitl [HO]; · iexact HO
      isplitl [HV]; · iexact HV
      iexact HW
    isplitl [HA]; · iexact HA
    isplitl [HB]; · iexact HB
    isplitl [HM]; · iexact HM
    isplitl [HP]; · iexact HP
    iexact HE
  · unfold Inv
    iintro ⟨⟨HO, HV, HW⟩, HA, HB, HM, HP, HE⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW
theorem on_ow1 (h : iprop(OA d L X M O₀ bO1 sO1 p ∗ Come (d := d) (L := L) (X := X) (M := M) v ∗ Ow (F := F) d L O W) ⊢ twp d L pr (fun _ => iprop(OA d L X M O₀ bO1 sO1 p' ∗ Come (d := d) (L := L) (X := X) (M := M) v' ∗ Ow (F := F) d L O W))) :
    ℐ a b m o p e v ⊢ twp d L pr (fun _ => ℐ a b m o p' e v') := by
  refine framed d L (R := iprop(InA d L X bI0 sI0 qa a ∗ InA d L X bI1 sI1 qb b ∗ MA d L M qm m ∗ OA d L X M O₀ bO0 sO0 o ∗ Rest (d := d) (L := L) (O₀ := O₀) e)) h ?_ ?_
  · unfold Inv
    iintro ⟨HA, HB, HM, HO, HP, HE, HV, HW⟩
    isplitl [HP HV HW]
    · isplitl [HP]; · iexact HP
      isplitl [HV]; · iexact HV
      iexact HW
    isplitl [HA]; · iexact HA
    isplitl [HB]; · iexact HB
    isplitl [HM]; · iexact HM
    isplitl [HO]; · iexact HO
    iexact HE
  · unfold Inv
    iintro ⟨⟨HP, HV, HW⟩, HA, HB, HM, HO, HE⟩
    isplitl [HA]; · iexact HA
    isplitl [HB]; · iexact HB
    isplitl [HM]; · iexact HM
    isplitl [HO]; · iexact HO
    isplitl [HP]; · iexact HP
    isplitl [HE]; · iexact HE
    isplitl [HV]; · iexact HV
    iexact HW

theorem inv_next {s : ℕ} {Q : sProp 𝕄} (h : ℐ a b (.idle (s + 1)) o p e v ⊢ Q) : ℐ a b (.rdy s) o p e v ⊢ Q := by
  refine .trans ?_ h
  unfold Inv
  iintro ⟨HA, HB, HM, H⟩
  isplitl [HA]; · iexact HA
  isplitl [HB]; · iexact HB
  isplitl [HM]; · iapply mnext $$ HM
  iexact H

/-! The order of the steps: which step is next, by what is held. -/

theorem go_menq0 {u w s : ℕ} (_ : 12 * s = u) (h : MA d L M qm (.idle s) ⊢ twp d L pr (fun _ => MA d L M qm (.fly s))) :
    ℐ (.fly u) (.idle w) (.idle s) o p e v ⊢ twp d L pr (fun _ => ℐ (.fly u) (.idle w) (.fly s) o p e v) := on_m h
theorem go_menq {u w s : ℕ} (_ : 12 * (s + 1) = u) (h : MA d L M qm (.idle (s + 1)) ⊢ twp d L pr (fun _ => MA d L M qm (.fly (s + 1)))) :
    ℐ (.fly u) (.idle w) (.rdy s) o p e v ⊢ twp d L pr (fun _ => ℐ (.fly u) (.idle w) (.fly (s + 1)) o p e v) := inv_next (on_m h)
theorem go_issue0 {u w : ℕ} (_ : u < 96) (h : InA d L X bI0 sI0 qa (.idle u) ⊢ twp d L pr (fun _ => InA d L X bI0 sI0 qa (.fly u))) :
    ℐ (.idle u) (.idle w) m o p e v ⊢ twp d L pr (fun _ => ℐ (.fly u) (.idle w) m o p e v) := on_a h
theorem go_issue0' {u w : ℕ} (_ : u % 12 ≠ 0) (h : InA d L X bI0 sI0 qa (.idle u) ⊢ twp d L pr (fun _ => InA d L X bI0 sI0 qa (.fly u))) :
    ℐ (.idle u) (.fly w) m o p e v ⊢ twp d L pr (fun _ => ℐ (.fly u) (.fly w) m o p e v) := on_a h
theorem go_issue1 {u w : ℕ} (h : InA d L X bI1 sI1 qb (.idle w) ⊢ twp d L pr (fun _ => InA d L X bI1 sI1 qb (.fly w))) :
    ℐ (.fly u) (.idle w) m o p e v ⊢ twp d L pr (fun _ => ℐ (.fly u) (.fly w) m o p e v) := on_b h
theorem go_drain0 {u w : ℕ} (_ : w = u + 1) (h : iprop(InA d L X bI0 sI0 qa (.fly u) ∗ Ow (F := F) d L O W) ⊢ twp d L pr (fun _ => iprop(InA d L X bI0 sI0 qa (.rdy u) ∗ Ow (F := F) d L O W))) :
    ℐ (.fly u) (.fly w) m o p e v ⊢ twp d L pr (fun _ => ℐ (.rdy u) (.fly w) m o p e v) := on_aw h
theorem go_drain1 {u w : ℕ} (_ : u = w + 1) (h : iprop(InA d L X bI1 sI1 qb (.fly w) ∗ Ow (F := F) d L O W) ⊢ twp d L pr (fun _ => iprop(InA d L X bI1 sI1 qb (.rdy w) ∗ Ow (F := F) d L O W))) :
    ℐ (.fly u) (.fly w) m o p e v ⊢ twp d L pr (fun _ => ℐ (.fly u) (.rdy w) m o p e v) := on_bw h
theorem go_drain1' {u w : ℕ} (_ : u % 12 = 0) (h : iprop(InA d L X bI1 sI1 qb (.fly w) ∗ Ow (F := F) d L O W) ⊢ twp d L pr (fun _ => iprop(InA d L X bI1 sI1 qb (.rdy w) ∗ Ow (F := F) d L O W))) :
    ℐ (.idle u) (.fly w) m o p e v ⊢ twp d L pr (fun _ => ℐ (.idle u) (.rdy w) m o p e v) := on_bw h

theorem go_gat0 {u w s z : ℕ} (h : iprop(InA d L X bI0 sI0 qa (.rdy u) ∗ MA d L M qm (.rdy s) ∗ OA d L X M O₀ bO0 sO0 (.idle z))
      ⊢ twp d L pr (fun _ => iprop(InA d L X bI0 sI0 qa (.idle w) ∗ MA d L M qm (.rdy s) ∗ OA d L X M O₀ bO0 sO0 (.held z)))) :
    ℐ (.rdy u) b (.rdy s) (.idle z) p e v ⊢ twp d L pr (fun _ => ℐ (.idle w) b (.rdy s) (.held z) p e v) := on_gat0 h
theorem go_gat1 {u w s z : ℕ} (h : iprop(InA d L X bI1 sI1 qb (.rdy u) ∗ MA d L M qm (.rdy s) ∗ OA d L X M O₀ bO1 sO1 (.idle z))
      ⊢ twp d L pr (fun _ => iprop(InA d L X bI1 sI1 qb (.idle w) ∗ MA d L M qm (.rdy s) ∗ OA d L X M O₀ bO1 sO1 (.held z)))) :
    ℐ a (.rdy u) (.rdy s) o (.idle z) e v ⊢ twp d L pr (fun _ => ℐ a (.idle w) (.rdy s) o (.held z) e v) := on_gat1 h
theorem go_oenq0 {u : ℕ} (h : iprop(OA d L X M O₀ bO0 sO0 (.held u) ∗ Rest (d := d) (L := L) (O₀ := O₀) e) ⊢ twp d L pr (fun _ => iprop(OA d L X M O₀ bO0 sO0 (.fly u) ∗ Rest (d := d) (L := L) (O₀ := O₀) e'))) :
    ℐ a b m (.held u) p e v ⊢ twp d L pr (fun _ => ℐ a b m (.fly u) p e' v) := on_oe0 h
theorem go_oenq1 {u : ℕ} (h : iprop(OA d L X M O₀ bO1 sO1 (.held u) ∗ Rest (d := d) (L := L) (O₀ := O₀) e) ⊢ twp d L pr (fun _ => iprop(OA d L X M O₀ bO1 sO1 (.fly u) ∗ Rest (d := d) (L := L) (O₀ := O₀) e'))) :
    ℐ a b m o (.held u) e v ⊢ twp d L pr (fun _ => ℐ a b m o (.fly u) e' v) := on_oe1 h
theorem go_mwait {s : ℕ} (h : iprop(MA d L M qm (.fly s) ∗ Ow (F := F) d L O W) ⊢ twp d L pr (fun _ => iprop(MA d L M qm (.rdy s) ∗ Ow (F := F) d L O W))) :
    ℐ a b (.fly s) o p e v ⊢ twp d L pr (fun _ => ℐ a b (.rdy s) o p e v) := on_mw h
theorem go_owait0 {u z w : ℕ} (h : iprop(OA d L X M O₀ bO0 sO0 (.fly z) ∗ Come (d := d) (L := L) (X := X) (M := M) v ∗ Ow (F := F) d L O W)
      ⊢ twp d L pr (fun _ => iprop(OA d L X M O₀ bO0 sO0 (.idle w) ∗ Come (d := d) (L := L) (X := X) (M := M) v' ∗ Ow (F := F) d L O W))) :
    ℐ (.rdy u) b m (.fly z) p e v ⊢ twp d L pr (fun _ => ℐ (.rdy u) b m (.idle w) p e v') := on_ow0 h
theorem go_owait1 {u z w : ℕ} (h : iprop(OA d L X M O₀ bO1 sO1 (.fly z) ∗ Come (d := d) (L := L) (X := X) (M := M) v ∗ Ow (F := F) d L O W)
      ⊢ twp d L pr (fun _ => iprop(OA d L X M O₀ bO1 sO1 (.idle w) ∗ Come (d := d) (L := L) (X := X) (M := M) v' ∗ Ow (F := F) d L O W))) :
    ℐ a (.rdy u) m o (.fly z) e v ⊢ twp d L pr (fun _ => ℐ a (.rdy u) m o (.idle w) e v') := on_ow1 h
theorem go_last0 {u u' z w : ℕ} (h : iprop(OA d L X M O₀ bO0 sO0 (.fly z) ∗ Come (d := d) (L := L) (X := X) (M := M) v ∗ Ow (F := F) d L O W)
      ⊢ twp d L pr (fun _ => iprop(OA d L X M O₀ bO0 sO0 (.idle w) ∗ Come (d := d) (L := L) (X := X) (M := M) v' ∗ Ow (F := F) d L O W))) :
    ℐ (.idle u) (.idle u') m (.fly z) p e v ⊢ twp d L pr (fun _ => ℐ (.idle u) (.idle u') m (.idle w) p e v') := on_ow0 h
theorem go_last1 {u u' z w : ℕ} (h : iprop(OA d L X M O₀ bO1 sO1 (.fly z) ∗ Come (d := d) (L := L) (X := X) (M := M) v ∗ Ow (F := F) d L O W)
      ⊢ twp d L pr (fun _ => iprop(OA d L X M O₀ bO1 sO1 (.idle w) ∗ Come (d := d) (L := L) (X := X) (M := M) v' ∗ Ow (F := F) d L O W))) :
    ℐ (.idle u) (.idle u') m o (.fly z) e v ⊢ twp d L pr (fun _ => ℐ (.idle u) (.idle u') m o (.idle w) e v') := on_ow1 h

theorem seqI {β γ : Type} {x : TProg F L β} {k : β → TProg F L γ} {Q : γ → sProp 𝕄}
    (h : ℐ a b m o p e v ⊢ twp d L x (fun _ => ℐ a' b' m' o' p' e' v')) (hk : ∀ r, ℐ a' b' m' o' p' e' v' ⊢ twp d L (k r) Q) :
    ℐ a b m o p e v ⊢ twp d L (x >>= k) Q := seq d L h hk
theorem isFor {Lp : Scf.Loop 32} {hok : Lp.OK} {body : Fin Lp.trips → Unit → TProg F L Unit} {P : sProp 𝕄} {Q : Unit → sProp 𝕄}
    (h : P ⊢ twp d L (Scf.Loop.for Lp hok ⟨⟩ body) Q) : P ⊢ twp d L (Scf.Loop.for Lp hok ⟨⟩ body) Q := h
theorem isLift {ef : TpuEff nD τ sig (Elt F) Λ₀ (.scVector (cV L) (jV L)) PUnit} {P : sProp 𝕄} {Q : PUnit → sProp 𝕄}
    (h : P ⊢ twp d L (Prog.lift ef : TProg F L PUnit) Q) : P ⊢ twp d L (Prog.lift ef : TProg F L PUnit) Q := h

end Moves

end Cert.Proof.Pool

end
-- ==== Proof.Tile.lean ====
/-
  The tile's program, step by step: from empty buffers and an unwritten result to every unit arrived.
-/
module

public import proofs.«01_k».proof.Proof.Moves
public import proofs.«01_k».proof.Proof.Gen.KernelIdeal.Skeleton

@[expose] public section

noncomputable section

namespace Cert.Proof.Pool

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

section Tile
variable {d : Dev nD} {L : grid0.Coords} {X : S147456x384.Idx → Elt F .f32} {M : S1536x384.Idx → Elt F .i32} {O₀ : S147456x384.Idx → Elt F .f32}
variable {O : CellTallies nD τ sig (HIx 1)} {W : Waits sig (HIx 1)} {qa qb qm : PosShare TreeShare}
local notation "ℐ" => Inv d L X M O₀ O W qa qb qm

set_option maxRecDepth 100000
set_option maxHeartbeats 4000000
/-- The whole program of a tile. -/
theorem tile_prog (hM : MapOK M) : ℐ (.idle 0) (.idle 1) (.idle 0) (.idle 0) (.idle 1) 0 0 ⊢ twp d L (cc0__sc_gather_skel (F := F) L xV (Memref.isWhole_whole _) mV (Memref.isWhole_whole _) (Memref.whole main_v35_scv) (Memref.isWhole_whole _) oV (Memref.isWhole_whole _) bM (Memref.isWhole_whole _) bI0 (Memref.isWhole_whole _) bI1 (Memref.isWhole_whole _) bO0 (Memref.isWhole_whole _) bO1 (Memref.isWhole_whole _) cc0_scratch5 cc0_scoped0 cc0_scoped1 cc0_scoped2 cc0_scoped3 cc0_scoped4 cc0_scoped5 cc0_scoped6 cc0_scoped7) (fun _ => ℐ (.idle 96) (.idle 97) (.rdy 7) (.idle 96) (.idle 97) 96 96) := by
  unfold cc0__sc_gather_skel
  repeat first
    | (with_reducible apply (newGoals := .nonDependentOnly) seqI
       on_goal 2 => intro r)
    | with_reducible exact fin d L _
    | (with_reducible apply isFor
       first
       | (with_reducible apply (newGoals := .nonDependentOnly) go_gat0
          exact gather_u hM (by decide) (by rfl) (by rfl) (by intros; rfl) (by intros; rfl) (by rfl) (by intros; rfl) (by intros; rfl) (by intros; rfl))
       | (with_reducible apply (newGoals := .nonDependentOnly) go_gat1
          exact gather_u hM (by decide) (by rfl) (by rfl) (by intros; rfl) (by intros; rfl) (by rfl) (by intros; rfl) (by intros; rfl) (by intros; rfl))
       | (with_reducible refine go_issue0 (by decide) ?_
          exact issue_u (by decide) (by rfl) (by intros; rfl) (by intros; rfl) (by intros; rfl))
       | (with_reducible refine go_issue0' (by decide) ?_
          exact issue_u (by decide) (by rfl) (by intros; rfl) (by intros; rfl) (by intros; rfl))
       | (with_reducible apply (newGoals := .nonDependentOnly) go_issue1
          exact issue_u (by decide) (by rfl) (by intros; rfl) (by intros; rfl) (by intros; rfl))
       | (with_reducible refine go_drain0 (by decide) ?_
          exact drain_u (by decide) (by rfl) (by intros; rfl))
       | (with_reducible refine go_drain1 (by decide) ?_
          exact drain_u (by decide) (by rfl) (by intros; rfl))
       | (with_reducible refine go_drain1' (by decide) ?_
          exact drain_u (by decide) (by rfl) (by intros; rfl))
       )
    | (with_reducible apply isLift
       first
       | (with_reducible apply (newGoals := .nonDependentOnly) go_oenq0
          exact oenq_u (by decide) (by rfl))
       | (with_reducible apply (newGoals := .nonDependentOnly) go_oenq1
          exact oenq_u (by decide) (by rfl))
       | (with_reducible apply (newGoals := .nonDependentOnly) go_mwait
          exact mwait_u (by decide) (by rfl))
       | (with_reducible apply (newGoals := .nonDependentOnly) go_owait0
          exact owait_u (by decide))
       | (with_reducible apply (newGoals := .nonDependentOnly) go_owait1
          exact owait_u (by decide))
       | (with_reducible refine go_menq0 (by decide) ?_
          exact menq_u (by decide) (by rfl) (by rfl))
       | (with_reducible refine go_menq (by decide) ?_
          exact menq_u (by decide) (by rfl) (by rfl))
       | (with_reducible apply (newGoals := .nonDependentOnly) go_last0
          exact owait_u (by decide))
       | (with_reducible apply (newGoals := .nonDependentOnly) go_last1
          exact owait_u (by decide))
       )
    | (apply (newGoals := .nonDependentOnly) seqI
       on_goal 2 => intro r)
    | exact fin d L _

end Tile

end Cert.Proof.Pool

end
-- ==== Proof.Body.lean ====
/-
  A tile's part of the call: what it is handed, its own buffers and counters taken out of the launch's, the program run,
  and everything given back with its rows of the result written.
-/
module

public import proofs.«01_k».proof.Proof.Tile

@[expose] public section

noncomputable section

namespace Cert.Proof.Pool

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (d : Dev nD) (L : grid0.Coords)

/-- A family of pieces taken out of a whole: the pieces at `e i`, and what is left. -/
theorem take_pieces {I J : Type} [Fintype I] [DecidableEq J] (s : Finset J) (e : I → J) (he : Function.Injective e) (h : ∀ i, e i ∈ s) (Φ : J → sProp 𝕄) :
    (bigSep s Φ : sProp 𝕄) = iprop((bigSep (Finset.univ : Finset I) fun i => Φ (e i)) ∗ bigSep (s \ Finset.univ.map ⟨e, he⟩) Φ) := by
  have hs : Finset.univ.map ⟨e, he⟩ ⊆ s := by
    intro j hj
    obtain ⟨i, -, rfl⟩ := Finset.mem_map.mp hj
    exact h i
  conv_lhs => rw [← Finset.union_sdiff_of_subset hs]
  rw [bigSep_union Finset.disjoint_sdiff, bigSep_map]; rfl

/-! ### The tile's own counters and buffers -/

/-- The four counters of the window and result buffers, and the eight of the map's copies. -/
def tileSem : Fin 4 ⊕ Fin 8 → DmaSem sig := Sum.elim ![sI0, sI1, sO0, sO1] scSem
theorem slot_val (o : Fin 1 → ℕ) (h : ∀ a, o a + S1.size a ≤ S4.size a) (j : S1.Idx) :
    ((cc0_scratch5.slice (Rect.unit (s := S4) o S1.size h)).ix j).val = o 0 := by
  have hj : (j 0).val = 0 := Nat.lt_one_iff.mp (j 0).isLt
  show 0 + (S4.rowMajor ((Rect.unit (s := S4) o S1.size h).emb j)).val = o 0
  refine (Nat.zero_add _).trans ((Shape.rowMajor_val_one _).trans ?_)
  show o 0 + 1 * (j 0).val = o 0
  rw [hj]; rfl
theorem tileSem_val (k : Fin 4 ⊕ Fin 8) : (tileSem k).val = Sum.elim (fun i => i.val) (fun i => 4 + i.val) k := by
  match k with
  | .inl i =>
    fin_cases i
    · exact slot_val ![0] _ _
    · exact slot_val ![1] _ _
    · exact slot_val ![2] _ _
    · exact slot_val ![3] _ _
  | .inr i => fin_cases i <;> rfl
theorem tileSem_inj : Function.Injective tileSem := fun a b e => by
  have h : (tileSem a).val = (tileSem b).val := congrArg Fin.val e
  rw [tileSem_val, tileSem_val] at h
  match a, b with
  | .inl i, .inl j => exact congrArg Sum.inl (Fin.ext h)
  | .inl i, .inr j => have := i.isLt; simp only [Sum.elim_inl, Sum.elim_inr] at h; omega
  | .inr i, .inl j => have := j.isLt; simp only [Sum.elim_inl, Sum.elim_inr] at h; omega
  | .inr i, .inr j => exact congrArg Sum.inr (Fin.ext (by simp only [Sum.elim_inr] at h; omega))
omit [Facts] [FloatOps F] in
theorem dma_scoped : ∀ s : DmaSem sig, (SemLoc.dma s : SemLoc sig).isScoped .scVector = true := by decide
def tileCell (k : Fin 4 ⊕ Fin 8) : GSem nD τ sig := (thr d L, SemLoc.dma (tileSem k))
theorem tileCell_inj : Function.Injective (tileCell d L) := fun a b e => tileSem_inj (by
  have e' := congrArg Prod.snd e
  injection e')
theorem tileCell_mem (k : Fin 4 ⊕ Fin 8) : tileCell d L k ∈ ownCells (thr d L) :=
  mem_ownCells.mpr ⟨rfl, by
    show (SemLoc.dma (tileSem k) : SemLoc sig).isScoped .scVector = true
    exact dma_scoped _⟩
def otherCells : Finset (GSem nD τ sig) := ownCells (thr d L) \ Finset.univ.map ⟨tileCell d L, tileCell_inj d L⟩

theorem sems_eq :
    (ownSems0 (thr d L) : sProp 𝕄)
      = iprop(((semVal (thr d L, SemLoc.dma sI0) 0 ∗ semVal (thr d L, SemLoc.dma sI1) 0 ∗ semVal (thr d L, SemLoc.dma sO0) 0 ∗ semVal (thr d L, SemLoc.dma sO1) 0)
          ∗ mSems (F := F) d L) ∗ bigSep (otherCells d L) fun g => semVal g 0) := by
  unfold SparseCore.Cfg.ownSems0
  refine (take_pieces _ (tileCell d L) (tileCell_inj d L) (tileCell_mem d L) _).trans ?_
  rw [bigSep_univ_sum, show (Finset.univ : Finset (Fin 4)) = {0, 1, 2, 3} by decide, SparseCore.bigSep_insert' (by decide),
    SparseCore.bigSep_insert' (by decide), SparseCore.bigSep_insert' (by decide), bigSep_singleton]
  rfl

def tileRef : Fin 5 → Ref sig .scVector := ![cc0_scratch0, cc0_scratch1, cc0_scratch2, cc0_scratch3, cc0_scratch4]
theorem tileRef_inj : Function.Injective tileRef := by decide
def tileBuf (k : Fin 5) : DevRef τ sig := (Proc.scVector (cV L) (jV L)).devRef (tileRef k)
theorem tileBuf_inj : Function.Injective (tileBuf L) := fun _ _ e => tileRef_inj (Proc.devRef_injective _ e)
theorem tileBuf_mem (k : Fin 5) : tileBuf L k ∈ ownRefs (τ := τ) (.scVector (cV L) (jV L)) :=
  SparseCore.Cfg.mem_ownRefs_of_owner (p := Proc.scVector (cV L) (jV L)) (b := tileBuf L k) (by revert k; intro k; fin_cases k <;> rfl)
def otherBufs : Finset (DevRef τ sig) := ownRefs (τ := τ) (.scVector (cV L) (jV L)) \ Finset.univ.map ⟨tileBuf L, tileBuf_inj L⟩

/-- A buffer of the tile's, at some contents. -/
def someAt {sh : Shape} {e : EltTy} (b : Memref sig .scVector .vmem sh e) : sProp 𝕄 :=
  iprop(∃ f, b.view.loc (thr d L) ↦[b.view.set]{fullShare} f)

theorem bufs_eq :
    (ownBufs (thr d L) : sProp 𝕄)
      = iprop((someAt (F := F) d L bM ∗ someAt (F := F) d L bI0 ∗ someAt (F := F) d L bI1 ∗ someAt (F := F) d L bO0 ∗ someAt (F := F) d L bO1)
          ∗ bigSep (otherBufs L) fun b => iprop(∃ f, ((d, b) : Loc nD τ sig) ↦{fullShare} f)) := by
  unfold SparseCore.Cfg.ownBufs
  refine (take_pieces _ (tileBuf L) (tileBuf_inj L) (tileBuf_mem L) _).trans ?_
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]
  unfold someAt
  simp only [Memref.view_whole, View.set_whole]
  rfl

/-! ### What a tile is handed and hands back -/

variable (X : S147456x384.Idx → Elt F .f32) (M : S1536x384.Idx → Elt F .i32) (O₀ : Buf (Elt F) (oLoc d))

/-- Tile `w`'s share of reading the images and the map. -/
def reads (w : ℕ) : sProp 𝕄 :=
  iprop((xLoc d ↦[Finset.univ]{shareTokN fullShare w} X) ∗ (mLoc d ↦[Finset.univ]{shareTokN fullShare w} M))
def tileIn (w : ℕ) : sProp 𝕄 := iprop(reads d X M w ∗ (oLoc d ↦[rowsUV w 0 96]{fullShare} O₀))
def tileOut (w : ℕ) : sProp 𝕄 := iprop(reads d X M w ∗ (oLoc d ↦[rowsUV w 0 96]{fullShare} OUT X M))

abbrev qA (w : ℕ) : PosShare TreeShare := shareDrop (shareTokN fullShare w) 1
abbrev qB (w : ℕ) : PosShare TreeShare := shareTok (shareTokN fullShare w) 1 0

theorem x_two (w : ℕ) :
    (xLoc d ↦[Finset.univ]{shareTokN fullShare w} X : sProp 𝕄) ⊣⊢ iprop((xLoc d ↦[Finset.univ]{qA w} X) ∗ (xLoc d ↦[Finset.univ]{qB w} X)) := by
  have h := pointsTo_toks (nD := nD) (τ := τ) (sig := sig) (Ix := HIx 1) (Val := Elt F) (Name := ℕ) (U := UU) (Lvl := ℕ) (ℓ := xLoc d) (S := Finset.univ) (f := X) (shareTokN fullShare w) 1
  rw [show (Finset.univ : Finset (Fin 1)) = {0} by decide, bigSep_singleton] at h
  exact h

theorem rows_none (w v : ℕ) : rowsUV w v v = ∅ := by
  unfold rowsUV
  exact Finset.filter_eq_empty_iff.mpr fun i _ h => absurd h.2.2 (Nat.not_lt.mpr h.2.1)

/-- The launch's pieces that the tile does not touch. -/
def rest : sProp 𝕄 :=
  iprop((bigSep (otherBufs L) fun b => iprop(∃ f, ((d, b) : Loc nD τ sig) ↦{fullShare} f)) ∗ bigSep (otherCells d L) fun g => semVal g 0)

variable (O : CellTallies nD τ sig (HIx 1)) (W : Waits sig (HIx 1))

theorem enter (hO : ∀ g, O g none = 0) :
    iprop(levAts (K (F := F)).L (K (F := F)).lev ∗ tileIn d X M O₀ (wid L) ∗ ownBufs (thr d L) ∗ ownSems0 (thr d L) ∗ owes (thr d L) O W)
      ⊢ iprop(Inv d L X M O₀ O W (qA (wid L)) (qB (wid L)) (shareTokN fullShare (wid L)) (.idle 0) (.idle 1) (.idle 0) (.idle 0) (.idle 1) 0 0 ∗ rest (F := F) d L) := by
  rw [sems_eq, bufs_eq]
  unfold tileIn reads Inv InA MA OA InIdle OIdle rest Ow someAt
  dsimp only
  iintro ⟨#Hlv, ⟨⟨Hx, Hm⟩, Ho⟩, ⟨⟨HbM, HbI0, HbI1, HbO0, HbO1⟩, Hbufs⟩, ⟨⟨⟨HI0, HI1, HO0, HO1⟩, HM⟩, Hsems⟩, HO⟩
  ihave Hx2 := (x_two d X (wid L)).1 $$ Hx
  icases Hx2 with ⟨Hxa, Hxb⟩
  isplitr [Hbufs Hsems]
  · isplitl [Hxa HbI0 HI0]
    · isplitl [Hxa]; · iexact Hxa
      isplitl [HbI0]; · iexact HbI0
      iexact HI0
    isplitl [Hxb HbI1 HI1]
    · isplitl [Hxb]; · iexact Hxb
      isplitl [HbI1]; · iexact HbI1
      iexact HI1
    isplitl [Hm HbM HM]
    · isplitr [HM]
      · isplitl [Hm]; · iexact Hm
        iexact HbM
      · iexact HM
    isplitl [HbO0 HO0]
    · isplitl [HbO0]; · iexact HbO0
      iexact HO0
    isplitl [HbO1 HO1]
    · isplitl [HbO1]; · iexact HbO1
      iexact HO1
    isplitl [Ho]; · iexact Ho
    isplitr [HO]
    · iapply (Entails.of_eq (show (iprop(emp) : sProp 𝕄) = (oV.view.loc (thr d L) ↦[rowsUV (wid L) 0 0]{fullShare} OUT X M) from by
        rw [rows_none]; exact pointsTo_empty.symm))
      iempintro
    isplitr [HO]
    · iapply ((K (F := F)).mayWaits_none (thr := thr d L) hO); iexact Hlv
    iexists W; isplitr
    · ipureintro; exact fun p hp => .inl hp
    · iexact HO
  · isplitl [Hbufs]; · iexact Hbufs
    iexact Hsems

theorem leave :
    iprop(Inv d L X M O₀ O W (qA (wid L)) (qB (wid L)) (shareTokN fullShare (wid L)) (.idle 96) (.idle 97) (.rdy 7) (.idle 96) (.idle 97) 96 96 ∗ rest (F := F) d L)
      ⊢ iprop(tileOut d X M (wid L) ∗ ownBufs (thr d L) ∗ ownSems0 (thr d L) ∗ ∃ W', ⌜∀ p ∈ W', p ∈ W ∨ p.2 = none⌝ ∗ owes (thr d L) O W') := by
  rw [sems_eq, bufs_eq]
  unfold tileOut reads Inv InA MA MHas OA InIdle OIdle rest Ow someAt
  dsimp only
  iintro ⟨⟨⟨Hxa, HbI0, HI0⟩, ⟨Hxb, HbI1, HI1⟩, ⟨⟨Hm, %f, -, HbM⟩, HM⟩, ⟨HbO0, HO0⟩, ⟨HbO1, HO1⟩, -, Ho, -, HO⟩, Hbufs, Hsems⟩
  isplitl [Hxa Hxb Hm Ho]
  · isplitl [Hxa Hxb Hm]
    · isplitl [Hxa Hxb]
      · iapply (x_two d X (wid L)).2
        isplitl [Hxa]; · iexact Hxa
        iexact Hxb
      · iexact Hm
    · iexact Ho
  isplitl [HbI0 HbI1 HbM HbO0 HbO1 Hbufs]
  · isplitr [Hbufs]
    · isplitl [HbM]; · iexists f; iexact HbM
      isplitl [HbI0]; · iexact HbI0
      isplitl [HbI1]; · iexact HbI1
      isplitl [HbO0]; · iexact HbO0
      iexact HbO1
    · iexact Hbufs
  isplitr [HO]
  · isplitr [Hsems]
    · isplitr [HM]
      · isplitl [HI0]; · iexact HI0
        isplitl [HI1]; · iexact HI1
        isplitl [HO0]; · iexact HO0
        iexact HO1
      · iexact HM
    · iexact Hsems
  · iexact HO

/-- The tile's part of the call. -/
theorem tile_body (hF : (K (F := F)).Facts) (hM : MapOK M) (hO : ∀ g, O g none = 0) :
    iprop(levAts (K (F := F)).L (K (F := F)).lev ∗ tileIn d X M O₀ (wid L) ∗ scopedBufs (thr d L) ∗ scopedSems0 (thr d L) ∗ owes (thr d L) O W)
      ⊢ wp frame (wpE (defs₀ (F := F)) 𝒱₀ (thr d L) none) Set.univ
          (cc0__sc_gather (F := F) L xV (Memref.isWhole_whole _) mV (Memref.isWhole_whole _) (Memref.whole main_v35_scv) (Memref.isWhole_whole _) oV (Memref.isWhole_whole _) bM (Memref.isWhole_whole _) bI0 (Memref.isWhole_whole _) bI1 (Memref.isWhole_whole _) bO0 (Memref.isWhole_whole _) bO1 (Memref.isWhole_whole _) cc0_scratch5 cc0_scoped0 cc0_scoped1 cc0_scoped2 cc0_scoped3 cc0_scoped4 cc0_scoped5 cc0_scoped6 cc0_scoped7)
          fun _ => iprop(tileOut d X M (wid L) ∗ scopedBufs (thr d L) ∗ scopedSems0 (thr d L)
            ∗ ∃ W', ⌜∀ p ∈ W', p ∈ W ∨ p.2 = none⌝ ∗ owes (thr d L) O W') := by
  rw [cc0__sc_gather_eq_skeleton, (K (F := F)).scopedBufs_V hF d (cV L) (jV L), SparseCore.Cfg.scopedSems0_V (Val := Elt F) d (cV L) (jV L)]
  refine (enter d L X M O₀ O W hO).trans ?_
  refine BI.Entails.trans ?_ (wp_mono frame _ Set.univ fun _ => leave d L X M O₀ O W)
  refine BI.Entails.trans ?_ (wp_frame_r frame _ Set.univ)
  exact sep_mono_left (tile_prog (d := d) (L := L) hM)

end Cert.Proof.Pool

end
-- ==== Proof.Launch.lean ====
/-
  The call, as the launch sees it: what the two cores and their tiles are handed and hand back, and how the whole arrays
  are dealt to the tiles and put together again.
-/
module

public import proofs.«01_k».proof.Proof.Body

@[expose] public section

noncomputable section

namespace Cert.Proof.Pool

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

/- The images, the map and the result's first contents, on each device. -/
variable (X : Dev nD → S147456x384.Idx → Elt F .f32) (M : Dev nD → S1536x384.Idx → Elt F .i32) (O₀ : (d : Dev nD) → Buf (Elt F) (oLoc d))

/-- Each core is handed its sixteen tiles' pieces, and hands back what the tiles hand back. -/
def P : (K (F := F)).Pay (nD := nD) (Val := Elt F) (Name := ℕ) (U := UU) where
  st := fun q d c => bigSep Finset.univ fun i : Fin ((K (F := F)).nSub q) => tileIn d (X d) (M d) (O₀ d) (i.val * 2 + c.val)
  dn := fun q d c => bigSep Finset.univ fun i : Fin ((K (F := F)).nSub q) => tileOut d (X d) (M d) (i.val * 2 + c.val)
  go := fun _ d c i => tileIn d (X d) (M d) (O₀ d) (i.val * 2 + c.val)
  td := fun _ d c i => tileOut d (X d) (M d) (i.val * 2 + c.val)
  x := fun _ _ => iprop(emp)

instance tileIn_storable (d : Dev nD) (w : ℕ) : BI.Storable (upEmb : UEmb _ 𝕄) (tileIn d (X d) (M d) (O₀ d) w) := by
  unfold tileIn reads; infer_instance
instance tileOut_storable (d : Dev nD) (w : ℕ) : BI.Storable (upEmb : UEmb _ 𝕄) (tileOut d (X d) (M d) w) := by
  unfold tileOut reads; infer_instance
instance P_storable : (P (F := F) X M O₀).IsStorable where
  st q d c := (inferInstance : BI.Storable (upEmb : UEmb _ 𝕄) (bigSep Finset.univ fun i : Fin ((K (F := F)).nSub q) => tileIn d (X d) (M d) (O₀ d) (i.val * 2 + c.val)))
  dn q d c := (inferInstance : BI.Storable (upEmb : UEmb _ 𝕄) (bigSep Finset.univ fun i : Fin ((K (F := F)).nSub q) => tileOut d (X d) (M d) (i.val * 2 + c.val)))
  go _ d c i := tileIn_storable X M O₀ d (i.val * 2 + c.val)
  td _ d c i := tileOut_storable X M d (i.val * 2 + c.val)

/-! ### The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_gather (F := F) (coordsV c s) xV (Memref.isWhole_whole _) mV (Memref.isWhole_whole _) (Memref.whole main_v35_scv) (Memref.isWhole_whole _) oV (Memref.isWhole_whole _) bM (Memref.isWhole_whole _) bI0 (Memref.isWhole_whole _) bI1 (Memref.isWhole_whole _) bO0 (Memref.isWhole_whole _) bO1 (Memref.isWhole_whole _) cc0_scratch5 cc0_scoped0 cc0_scoped1 cc0_scoped2 cc0_scoped3 cc0_scoped4 cc0_scoped5 cc0_scoped6 cc0_scoped7) ⟨⟩ c s := rfl

omit [FloatOps F] [Facts] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [Facts] in
theorem drop_emp {A B : sProp 𝕄} : iprop(A ∗ emp ∗ B) ⊢ iprop(A ∗ B) := by
  iintro ⟨HA, -, HB⟩
  isplitl [HA] <;> iassumption

theorem tileObl (hF : (K (F := F)).Facts) (hM : ∀ d, MapOK (M d)) : (K (F := F)).TileObl (D (F := F)) 𝒱 (P X M O₀) v₀ 0 := by
  intro d c i O W hO _ _
  simp only [show (P X M O₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact BI.Entails.trans drop_emp ((tile_body d (coordsV ⟨_, hc.1⟩ ⟨_, hc.2⟩) (X d) (M d) (O₀ d) O W hF (hM d) hO).trans (wp_mono frame _ _ fun _ => obl_post))

theorem vecSplit : (K (F := F)).VecSplit' (P X M O₀) 0 := by
  intro d c
  unfold P
  dsimp only
  iintro H; imodintro
  isplitl [H]; · iexact H
  iintro H; iexact H

/-! ### The arrays, dealt and collected -/

/-- Tile `(i, c)` is tile number `2 i + c`. -/
theorem both_cores (Φ : ℕ → sProp 𝕄) :
    (bigSep (Finset.univ : Finset (Fin 2)) fun c => bigSep (Finset.univ : Finset (Fin 16)) fun i => Φ (i.val * 2 + c.val))
      = bigSep (Finset.univ : Finset (Fin 32)) fun w => Φ w.val := by
  rw [bigSep_univ_comm]
  refine (bigSep_univ_prod (fun p : Fin 16 × Fin 2 => Φ (p.1.val * 2 + p.2.val))).symm.trans ?_
  refine ((bigSep_univ_equiv (finProdFinEquiv (m := 16) (n := 2)) (fun w => Φ w.val)).trans (bigSep_congr fun p _ => ?_)).symm
  exact congrArg Φ (by show p.2.val + 2 * p.1.val = _; omega)

theorem rowsUV_tile (w : ℕ) : rowsUV w 0 96 = Finset.univ.filter fun i => (i 0).val / 4608 = w := by
  unfold rowsUV
  refine Finset.filter_congr fun i _ => ⟨fun h => h.1, fun h => ⟨h, Nat.zero_le _, ?_⟩⟩
  unfold unitOf; omega

theorem o_tiles (d : Dev nD) (f : Buf (Elt F) (oLoc d)) :
    (oLoc d ↦{fullShare} f : sProp 𝕄) = bigSep (Finset.univ : Finset (Fin 32)) fun w => oLoc d ↦[rowsUV w.val 0 96]{fullShare} f := by
  rw [← pointsTo_biUnion Finset.univ (ℓ := oLoc d) (fun w : Fin 32 => rowsUV w.val 0 96)]
  · rw [show (Finset.univ : Finset (Fin 32)).biUnion (fun w => rowsUV w.val 0 96) = Finset.univ from Finset.eq_univ_iff_forall.mpr fun i => by
      have hi : (i 0).val < 147456 := (i 0).isLt
      refine Finset.mem_biUnion.mpr ⟨⟨(i 0).val / 4608, by omega⟩, Finset.mem_univ _, ?_⟩
      rw [rowsUV_tile]
      exact Finset.mem_filter.mpr ⟨Finset.mem_univ _, rfl⟩]
  · intro a _ b _ h
    rw [rowsUV_tile, rowsUV_tile]
    exact Finset.disjoint_filter.mpr fun i _ h1 h2 => h (Fin.ext (h1.symm.trans h2))

/-- What is left of the images and the map when every tile has its share. -/
def kept (d : Dev nD) : sProp 𝕄 := iprop((xLoc d ↦[Finset.univ]{shareDrop fullShare 32} X d) ∗ (mLoc d ↦[Finset.univ]{shareDrop fullShare 32} M d))

theorem deal (d : Dev nD) :
    iprop((xLoc d ↦{fullShare} X d) ∗ (mLoc d ↦{fullShare} M d) ∗ (oLoc d ↦{fullShare} O₀ d))
      ⊢ iprop(kept X M d ∗ bigSep (Finset.univ : Finset (Fin 32)) fun w => tileIn d (X d) (M d) (O₀ d) w.val) := by
  unfold kept tileIn reads
  rw [o_tiles, bigSep_sep', bigSep_sep']
  iintro ⟨Hx, Hm, Ho⟩
  ihave Hx' := (pointsTo_toks_split (ℓ := xLoc d) (S := Finset.univ) (f := X d) fullShare 32) $$ Hx
  ihave Hm' := (pointsTo_toks_split (ℓ := mLoc d) (S := Finset.univ) (f := M d) fullShare 32) $$ Hm
  icases Hx' with ⟨Hx0, Hx1⟩
  icases Hm' with ⟨Hm0, Hm1⟩
  isplitl [Hx0 Hm0]
  · isplitl [Hx0]; · iexact Hx0
    iexact Hm0
  isplitr [Ho]
  · isplitl [Hx1]; · iexact Hx1
    iexact Hm1
  · iexact Ho

theorem collect (d : Dev nD) :
    iprop(kept X M d ∗ bigSep (Finset.univ : Finset (Fin 32)) fun w => tileOut d (X d) (M d) w.val)
      ⊢ iprop((xLoc d ↦{fullShare} X d) ∗ (mLoc d ↦{fullShare} M d) ∗ (oLoc d ↦{fullShare} (OUT (X d) (M d) : Buf (Elt F) (oLoc d)))) := by
  unfold kept tileOut reads
  rw [o_tiles, bigSep_sep', bigSep_sep']
  iintro ⟨⟨Hx0, Hm0⟩, ⟨Hx1, Hm1⟩, Ho⟩
  isplitl [Hx0 Hx1]
  · iapply (pointsTo_toks_join (ℓ := xLoc d) (S := Finset.univ) (f := X d) fullShare 32)
    isplitl [Hx0]; · iexact Hx0
    iexact Hx1
  isplitl [Hm0 Hm1]
  · iapply (pointsTo_toks_join (ℓ := mLoc d) (S := Finset.univ) (f := M d) fullShare 32)
    isplitl [Hm0]; · iexact Hm0
    iexact Hm1
  · iexact Ho

theorem st0_eq (d : Dev nD) : (bigSep Finset.univ fun c : Fin ((K (F := F)).nCore 0) => (P X M O₀).st 0 d c)
    = bigSep (Finset.univ : Finset (Fin 32)) fun w => tileIn d (X d) (M d) (O₀ d) w.val := both_cores _
theorem dn0_eq (d : Dev nD) : (bigSep Finset.univ fun c : Fin ((K (F := F)).nCore 0) => (P X M O₀).dn 0 d c)
    = bigSep (Finset.univ : Finset (Fin 32)) fun w => tileOut d (X d) (M d) w.val := both_cores _

/-! ### The launch's own state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X M O₀).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Pool

end
-- ==== Proof.Host.lean ====
/-
  What the host computes before the call: the images as rows, the map of each output entry's place in its strip's window,
  and the array the call does not read.
-/
module

public import proofs.«01_k».proof.Proof.Setup
public import Idealize.ShloMosaic.Lib.StableHlo.Run

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F] [Facts]

local notation "𝕄" => MT nD τ sig (HIx 1) (Elt F) ℕ UU ℕ

/-- The host's operations before the call, in order. -/
abbrev hostOps : List (HloOp τ sig (Elt F)) :=
  [ nullary main_v0 (iotaInDim S384 32 0),
    unary main_v0 main_v1 (broadcastInDim S1x1x384x1 ![2] bcast_S384_S1x1x384x1_2 : (⟨S384, .i32⟩ : BufTy).Contents (Elt F) → (⟨S1x1x384x1, .i32⟩ : BufTy).Contents (Elt F)),
    unary main_v1 main_v2 (broadcastInDim S4x1x384x384 ![0, 1, 2, 3] bcast_S1x1x384x1_S4x1x384x384_0_1_2_3 : (⟨S1x1x384x1, .i32⟩ : BufTy).Contents (Elt F) → (⟨S4x1x384x384, .i32⟩ : BufTy).Contents (Elt F)),
    binary main_v2 main_arg1 main_v3 (addi : (⟨S4x1x384x384, .i32⟩ : BufTy).Contents (Elt F) → (⟨S4x1x384x384, .i32⟩ : BufTy).Contents (Elt F) → (⟨S4x1x384x384, .i32⟩ : BufTy).Contents (Elt F)),
    nullary main_v4 (iotaInDim S384 32 0),
    unary main_v4 main_v5 (broadcastInDim S1x1x1x384 ![3] bcast_S384_S1x1x1x384_3 : (⟨S384, .i32⟩ : BufTy).Contents (Elt F) → (⟨S1x1x1x384, .i32⟩ : BufTy).Contents (Elt F)),
    unary main_v5 main_v6 (broadcastInDim S4x1x384x384 ![0, 1, 2, 3] bcast_S1x1x1x384_S4x1x384x384_0_1_2_3 : (⟨S1x1x1x384, .i32⟩ : BufTy).Contents (Elt F) → (⟨S4x1x384x384, .i32⟩ : BufTy).Contents (Elt F)),
    binary main_v6 main_arg2 main_v7 (addi : (⟨S4x1x384x384, .i32⟩ : BufTy).Contents (Elt F) → (⟨S4x1x384x384, .i32⟩ : BufTy).Contents (Elt F) → (⟨S4x1x384x384, .i32⟩ : BufTy).Contents (Elt F)),
    unary main_v3 main_v8 (absi : (⟨S4x1x384x384, .i32⟩ : BufTy).Contents (Elt F) → (⟨S4x1x384x384, .i32⟩ : BufTy).Contents (Elt F)),
    nullary main_c (constantI S_ 32 383#32),
    unary main_c main_v9 (broadcastInDim S4x1x384x384 ![] bcast_S_S4x1x384x384 : (⟨S_, .i32⟩ : BufTy).Contents (Elt F) → (⟨S4x1x384x384, .i32⟩ : BufTy).Contents (Elt F)),
    binary main_v9 main_v8 main_v10 (subi : (⟨S4x1x384x384, .i32⟩ : BufTy).Contents (Elt F) → (⟨S4x1x384x384, .i32⟩ : BufTy).Contents (Elt F) → (⟨S4x1x384x384, .i32⟩ : BufTy).Contents (Elt F)),
    unary main_v10 main_v11 (absi : (⟨S4x1x384x384, .i32⟩ : BufTy).Contents (Elt F) → (⟨S4x1x384x384, .i32⟩ : BufTy).Contents (Elt F)),
    nullary main_c_0 (constantI S_ 32 383#32),
    unary main_c_0 main_v12 (broadcastInDim S4x1x384x384 ![] bcast_S_S4x1x384x384 : (⟨S_, .i32⟩ : BufTy).Contents (Elt F) → (⟨S4x1x384x384, .i32⟩ : BufTy).Contents (Elt F)),
    binary main_v12 main_v11 main_v13 (subi : (⟨S4x1x384x384, .i32⟩ : BufTy).Contents (Elt F) → (⟨S4x1x384x384, .i32⟩ : BufTy).Contents (Elt F) → (⟨S4x1x384x384, .i32⟩ : BufTy).Contents (Elt F)),
    unary main_v7 main_v14 (absi : (⟨S4x1x384x384, .i32⟩ : BufTy).Contents (Elt F) → (⟨S4x1x384x384, .i32⟩ : BufTy).Contents (Elt F)),
    nullary main_c_1 (constantI S_ 32 383#32),
    unary main_c_1 main_v15 (broadcastInDim S4x1x384x384 ![] bcast_S_S4x1x384x384 : (⟨S_, .i32⟩ : BufTy).Contents (Elt F) → (⟨S4x1x384x384, .i32⟩ : BufTy).Contents (Elt F)),
    binary main_v15 main_v14 main_v16 (subi : (⟨S4x1x384x384, .i32⟩ : BufTy).Contents (Elt F) → (⟨S4x1x384x384, .i32⟩ : BufTy).Contents (Elt F) → (⟨S4x1x384x384, .i32⟩ : BufTy).Contents (Elt F)),
    unary main_v16 main_v17 (absi : (⟨S4x1x384x384, .i32⟩ : BufTy).Contents (Elt F) → (⟨S4x1x384x384, .i32⟩ : BufTy).Contents (Elt F)),
    nullary main_c_2 (constantI S_ 32 383#32),
    unary main_c_2 main_v18 (broadcastInDim S4x1x384x384 ![] bcast_S_S4x1x384x384 : (⟨S_, .i32⟩ : BufTy).Contents (Elt F) → (⟨S4x1x384x384, .i32⟩ : BufTy).Contents (Elt F)),
    binary main_v18 main_v17 main_v19 (subi : (⟨S4x1x384x384, .i32⟩ : BufTy).Contents (Elt F) → (⟨S4x1x384x384, .i32⟩ : BufTy).Contents (Elt F) → (⟨S4x1x384x384, .i32⟩ : BufTy).Contents (Elt F)),
    nullary main_v20 (iotaInDim S384 32 0),
    nullary main_c_3 (constantI S_ 32 48#32),
    TRef.unary (.of main_c_3) main_call0.v0 id,
    TRef.unary main_call0.v0 main_call0.v1 (broadcastInDim S384 ![] bcast_S_S384),
    TRef.binary (.of main_v20) main_call0.v1 main_call0.v2 Host.divsi,
    TRef.unary (.of main_v20) main_call0.v3 signi,
    TRef.unary main_call0.v0 main_call0.v4 signi,
    TRef.unary main_call0.v4 main_call0.v5 (broadcastInDim S384 ![] bcast_S_S384),
    TRef.binary main_call0.v3 main_call0.v5 main_call0.v6 (cmpi .ne),
    TRef.unary main_call0.v0 main_call0.v7 (broadcastInDim S384 ![] bcast_S_S384),
    TRef.binary (.of main_v20) main_call0.v7 main_call0.v8 Host.remsi,
    TRef.nullary main_call0.c (constantI S_ 32 0#32),
    TRef.unary main_call0.c main_call0.v9 (broadcastInDim S384 ![] bcast_S_S384),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S384 ![] bcast_S_S384),
    TRef.binary main_call0.v2 main_call0.v12 main_call0.v13 subi,
    TRef.ternary main_call0.v11 main_call0.v13 main_call0.v2 main_call0_call0.v0 select,
    nullary main_c_4 (constantI S_ 32 48#32),
    unary main_c_4 main_v22 (broadcastInDim S384 ![] bcast_S_S384 : (⟨S_, .i32⟩ : BufTy).Contents (Elt F) → (⟨S384, .i32⟩ : BufTy).Contents (Elt F)),
    binary main_v21 main_v22 main_v23 (muli : (⟨S384, .i32⟩ : BufTy).Contents (Elt F) → (⟨S384, .i32⟩ : BufTy).Contents (Elt F) → (⟨S384, .i32⟩ : BufTy).Contents (Elt F)),
    nullary main_c_5 (constantI S_ 32 8#32),
    unary main_c_5 main_v24 (broadcastInDim S384 ![] bcast_S_S384 : (⟨S_, .i32⟩ : BufTy).Contents (Elt F) → (⟨S384, .i32⟩ : BufTy).Contents (Elt F)),
    binary main_v23 main_v24 main_v25 (subi : (⟨S384, .i32⟩ : BufTy).Contents (Elt F) → (⟨S384, .i32⟩ : BufTy).Contents (Elt F) → (⟨S384, .i32⟩ : BufTy).Contents (Elt F)),
    nullary main_c_6 (constantI S_ 32 0#32),
    unary main_c_6 main_v26 (broadcastInDim S384 ![] bcast_S_S384 : (⟨S_, .i32⟩ : BufTy).Contents (Elt F) → (⟨S384, .i32⟩ : BufTy).Contents (Elt F)),
    binary main_v26 main_v25 main_v27 (maxsi : (⟨S384, .i32⟩ : BufTy).Contents (Elt F) → (⟨S384, .i32⟩ : BufTy).Contents (Elt F) → (⟨S384, .i32⟩ : BufTy).Contents (Elt F)),
    unary main_v27 main_v28 (broadcastInDim S1x1x384x1 ![2] bcast_S384_S1x1x384x1_2 : (⟨S384, .i32⟩ : BufTy).Contents (Elt F) → (⟨S1x1x384x1, .i32⟩ : BufTy).Contents (Elt F)),
    unary main_v28 main_v29 (broadcastInDim S4x1x384x384 ![0, 1, 2, 3] bcast_S1x1x384x1_S4x1x384x384_0_1_2_3 : (⟨S1x1x384x1, .i32⟩ : BufTy).Contents (Elt F) → (⟨S4x1x384x384, .i32⟩ : BufTy).Contents (Elt F)),
    binary main_v13 main_v29 main_v30 (subi : (⟨S4x1x384x384, .i32⟩ : BufTy).Contents (Elt F) → (⟨S4x1x384x384, .i32⟩ : BufTy).Contents (Elt F) → (⟨S4x1x384x384, .i32⟩ : BufTy).Contents (Elt F)),
    nullary main_c_7 (constantI S_ 32 384#32),
    unary main_c_7 main_v31 (broadcastInDim S4x1x384x384 ![] bcast_S_S4x1x384x384 : (⟨S_, .i32⟩ : BufTy).Contents (Elt F) → (⟨S4x1x384x384, .i32⟩ : BufTy).Contents (Elt F)),
    binary main_v30 main_v31 main_v32 (muli : (⟨S4x1x384x384, .i32⟩ : BufTy).Contents (Elt F) → (⟨S4x1x384x384, .i32⟩ : BufTy).Contents (Elt F) → (⟨S4x1x384x384, .i32⟩ : BufTy).Contents (Elt F)),
    binary main_v32 main_v19 main_v33 (addi : (⟨S4x1x384x384, .i32⟩ : BufTy).Contents (Elt F) → (⟨S4x1x384x384, .i32⟩ : BufTy).Contents (Elt F) → (⟨S4x1x384x384, .i32⟩ : BufTy).Contents (Elt F)),
    reshape main_v33 main_v34 (rfl : (.i32 : EltTy) = .i32) shapeCasts_S4x1x384x384_S1536x384,
    nullary main_cst (constant S_ .f32 0x00000000#32),
    unary main_cst main_v35 (broadcastInDim S24576 ![] bcast_S_S24576 : (⟨S_, .f32⟩ : BufTy).Contents (Elt F) → (⟨S24576, .f32⟩ : BufTy).Contents (Elt F)),
    reshape main_arg0 main_v36 (rfl : (.f32 : EltTy) = .f32) shapeCasts_S4x96x384x384_S147456x384 ]

/-- The host's operation after the call. -/
abbrev lastOp : HloOp τ sig (Elt F) := reshape main_v37 main_v38 (rfl : (.f32 : EltTy) = .f32) shapeCasts_S147456x384_S4x96x384x384

set_option maxRecDepth 8192 in
set_option maxHeartbeats 4000000 in
theorem main_eq (d : Dev nD) :
    main (F := F) d = (do
      StableHlo.seq hostOps
      (sc (F := F)).run d 0
      hlo rfl lastOp (fun _ => .ret ⟨⟩)
      pure ⟨⟩) := rfl

theorem hostOps_sub : (hostOps : List (HloOp τ sig (Elt F))).Forall fun op => op.bufs ⊆ tcRefs τ sig :=
  ⟨nullary_bufs_sub .., unary_bufs_sub .., unary_bufs_sub .., binary_bufs_sub .., nullary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., reshape_bufs_sub .., nullary_bufs_sub .., unary_bufs_sub .., reshape_bufs_sub ..⟩
theorem hostOps_fresh : (hostOps : List (HloOp τ sig (Elt F))).Forall fun op => op.fresh = ∅ :=
  forall_fresh_of_map rfl

/-! ### What the operations leave -/

/-- The image row an output entry reads, reflected at the edges. -/
def hostRows (dh : (⟨S4x1x384x384, .i32⟩ : BufTy).Contents (Elt F)) : (⟨S4x1x384x384, .i32⟩ : BufTy).Contents (Elt F) :=
  subi ((broadcastInDim S4x1x384x384 ![] bcast_S_S4x1x384x384) (constantI S_ 32 383#32)) (absi (subi ((broadcastInDim S4x1x384x384 ![] bcast_S_S4x1x384x384) (constantI S_ 32 383#32)) (absi (addi ((broadcastInDim S4x1x384x384 ![0, 1, 2, 3] bcast_S1x1x384x1_S4x1x384x384_0_1_2_3) ((broadcastInDim S1x1x384x1 ![2] bcast_S384_S1x1x384x1_2) (iotaInDim S384 32 0))) dh))))
/-- The image column an output entry reads, reflected at the edges. -/
def hostCols (dw : (⟨S4x1x384x384, .i32⟩ : BufTy).Contents (Elt F)) : (⟨S4x1x384x384, .i32⟩ : BufTy).Contents (Elt F) :=
  subi ((broadcastInDim S4x1x384x384 ![] bcast_S_S4x1x384x384) (constantI S_ 32 383#32)) (absi (subi ((broadcastInDim S4x1x384x384 ![] bcast_S_S4x1x384x384) (constantI S_ 32 383#32)) (absi (addi ((broadcastInDim S4x1x384x384 ![0, 1, 2, 3] bcast_S1x1x1x384_S4x1x384x384_0_1_2_3) ((broadcastInDim S1x1x1x384 ![3] bcast_S384_S1x1x1x384_3) (iotaInDim S384 32 0))) dw))))
/-- The strip an output row lies in. -/
def hostStrip : (⟨S384, .i32⟩ : BufTy).Contents (Elt F) :=
  select (andi ((cmpi .ne) (signi (iotaInDim S384 32 0)) ((broadcastInDim S384 ![] bcast_S_S384) (signi (constantI S_ 32 48#32)))) ((cmpi .ne) (Host.remsi (iotaInDim S384 32 0) ((broadcastInDim S384 ![] bcast_S_S384) (constantI S_ 32 48#32))) ((broadcastInDim S384 ![] bcast_S_S384) (constantI S_ 32 0#32)))) (subi (Host.divsi (iotaInDim S384 32 0) ((broadcastInDim S384 ![] bcast_S_S384) (constantI S_ 32 48#32))) ((broadcastInDim S384 ![] bcast_S_S384) (constantI S_ 32 1#32))) (Host.divsi (iotaInDim S384 32 0) ((broadcastInDim S384 ![] bcast_S_S384) (constantI S_ 32 48#32)))
/-- The first row of the window of the strip an output row lies in. -/
def hostStart : (⟨S384, .i32⟩ : BufTy).Contents (Elt F) :=
  maxsi ((broadcastInDim S384 ![] bcast_S_S384) (constantI S_ 32 0#32)) (subi (muli (hostStrip (F := F)) ((broadcastInDim S384 ![] bcast_S_S384) (constantI S_ 32 48#32))) ((broadcastInDim S384 ![] bcast_S_S384) (constantI S_ 32 8#32)))
/-- The map: each output entry's place in its strip's window. -/
def hostMap (dh dw : (⟨S4x1x384x384, .i32⟩ : BufTy).Contents (Elt F)) : (⟨S1536x384, .i32⟩ : BufTy).Contents (Elt F) :=
  shapeCast S1536x384 (addi (muli (subi (hostRows dh) ((broadcastInDim S4x1x384x384 ![0, 1, 2, 3] bcast_S1x1x384x1_S4x1x384x384_0_1_2_3) ((broadcastInDim S1x1x384x1 ![2] bcast_S384_S1x1x384x1_2) (hostStart (F := F))))) ((broadcastInDim S4x1x384x384 ![] bcast_S_S4x1x384x384) (constantI S_ 32 384#32))) (hostCols dw)) shapeCasts_S4x1x384x384_S1536x384

section Left
variable (V₀ : Valuation τ sig (Elt F))

set_option maxRecDepth 8192 in
set_option maxHeartbeats 4000000 in
theorem host_x : after hostOps V₀ (Proc.devRef .tc main_v36) = shapeCast S147456x384 (V₀ (Proc.devRef .tc main_arg0)) shapeCasts_S4x96x384x384_S147456x384 := by
  simp only [hostOps, TRef.binary, TRef.unary, TRef.ternary, TRef.nullary, TRef.toBuf, TRef.ofBuf, cast_eq]; after_results_simp
  rfl
set_option maxRecDepth 8192 in
set_option maxHeartbeats 4000000 in
theorem host_m : after hostOps V₀ (Proc.devRef .tc main_v34) = hostMap (F := F) (V₀ (Proc.devRef .tc main_arg1)) (V₀ (Proc.devRef .tc main_arg2)) := by
  simp only [hostOps, TRef.binary, TRef.unary, TRef.ternary, TRef.nullary, TRef.toBuf, TRef.ofBuf, cast_eq]; after_results_simp
  unfold hostMap hostStart hostStrip hostRows hostCols
  rfl
set_option maxRecDepth 8192 in
set_option maxHeartbeats 4000000 in
theorem host_args : after hostOps V₀ (Proc.devRef .tc main_arg0) = V₀ (Proc.devRef .tc main_arg0)
    ∧ after hostOps V₀ (Proc.devRef .tc main_arg1) = V₀ (Proc.devRef .tc main_arg1)
    ∧ after hostOps V₀ (Proc.devRef .tc main_arg2) = V₀ (Proc.devRef .tc main_arg2) := by
  refine ⟨?_, ?_, ?_⟩ <;>
    (simp only [hostOps, TRef.binary, TRef.unary, TRef.ternary, TRef.nullary, TRef.toBuf, TRef.ofBuf, cast_eq]; after_results_simp)

end Left

end Cert.Proof.Pool

end
-- ==== Proof.Run.lean ====
/-
  The whole run: the host's operations, the call, the last reshape; the arguments unchanged and the result named.
-/
module

public import proofs.«01_k».proof.Proof.Launch
public import proofs.«01_k».proof.Proof.Host
public import Idealize.ShloMosaic.Lib.Pipeline.Frame

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.ShloMosaic.Rounds Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

local notation "𝕄" => MT nD τ sig (HIx 1) (Elt F) ℕ UU ℕ

variable (m : (ℓ : Loc nD τ sig) → Buf (Elt F) ℓ) (ρ : Dev nD → PrngReg)

abbrev xB : DevRef τ sig := Proc.devRef .tc (main_v36 : Ref sig .tc)
abbrev mB : DevRef τ sig := Proc.devRef .tc (main_v34 : Ref sig .tc)
abbrev oB : DevRef τ sig := Proc.devRef .tc (main_v37 : Ref sig .tc)
abbrev rB : DevRef τ sig := Proc.devRef .tc (main_v38 : Ref sig .tc)
abbrev aB : DevRef τ sig := Proc.devRef .tc (main_arg0 : Ref sig .tc)
abbrev hB : DevRef τ sig := Proc.devRef .tc (main_arg1 : Ref sig .tc)
abbrev wB : DevRef τ sig := Proc.devRef .tc (main_arg2 : Ref sig .tc)

/-- The buffers at launch, at the call, after it, and at the end. -/
def V0 (d : Dev nD) : Valuation τ sig (Elt F) := fun b => m (d, b)
def V1 (d : Dev nD) : Valuation τ sig (Elt F) := after hostOps (V0 m d)
/-- The images as rows, and the map, that the host leaves. -/
def XH (d : Dev nD) : S147456x384.Idx → Elt F .f32 := V1 m d xB
def MH (d : Dev nD) : S1536x384.Idx → Elt F .i32 := V1 m d mB
def OH (d : Dev nD) : Buf (Elt F) (oLoc d) := V1 m d oB
def V2 (d : Dev nD) : Valuation τ sig (Elt F) := Function.update (V1 m d) oB (OUT (XH m d) (MH m d))
def V3 (d : Dev nD) : Valuation τ sig (Elt F) := (lastOp (F := F)).result (V2 m d)

abbrev three : Finset (DevRef τ sig) := {xB, mB, oB}
abbrev four : Finset (DevRef τ sig) := {aB, hB, wB, rB}

theorem mem_uc (r : Ref sig .tc) (h : r.isScoped = false := by decide) : (Proc.devRef .tc r : DevRef τ sig) ∈ Pipeline.ucRefs τ sig :=
  Finset.mem_filter.mpr ⟨devRef_mem_tcRefs r, fun h' => Bool.false_ne_true (h.symm.trans h')⟩
theorem three_sub : three ⊆ Pipeline.ucRefs τ sig := by
  intro b hb
  simp only [Finset.mem_insert, Finset.mem_singleton] at hb
  rcases hb with rfl | rfl | rfl <;> exact mem_uc _
theorem four_sub : four ⊆ Pipeline.ucRefs τ sig := by
  intro b hb
  simp only [Finset.mem_insert, Finset.mem_singleton] at hb
  rcases hb with rfl | rfl | rfl | rfl <;> exact mem_uc _

theorem held_three (d : Dev nD) (W : Valuation τ sig (Elt F)) :
    (held (T d) three W : sProp 𝕄) = iprop((xLoc d ↦{fullShare} W xB) ∗ (mLoc d ↦{fullShare} W mB) ∗ (oLoc d ↦{fullShare} W oB)) := by
  unfold held three
  rw [SparseCore.bigSep_insert' (by decide), SparseCore.bigSep_insert' (by decide), bigSep_singleton]

theorem held_rest (d : Dev nD) :
    (held (T d) (Pipeline.ucRefs τ sig \ three) (V1 m d) : sProp 𝕄) = held (T d) (Pipeline.ucRefs τ sig \ three) (V2 m d) :=
  held_congr _ fun b hb => (Function.update_of_ne (fun e => (Finset.mem_sdiff.mp hb).2 (by rw [e]; simp)) _ _).symm

theorem before_call (d : Dev nD) :
    (held (T d) (Pipeline.ucRefs τ sig) (V1 m d) : sProp 𝕄)
      ⊢ iprop((kept (XH m) (MH m) d ∗ held (T d) (Pipeline.ucRefs τ sig \ three) (V2 m d))
          ∗ bigSep Finset.univ fun c : Fin ((K (F := F)).nCore 0) => (P (XH m) (MH m) (OH m)).st 0 d c) := by
  rw [st0_eq, held_sub_split (T d) three_sub (V1 m d), held_three, held_rest,
    show V1 m d xB = XH m d from rfl, show V1 m d mB = MH m d from rfl, show V1 m d oB = OH m d from rfl]
  iintro ⟨H3, Hr⟩
  ihave H := (deal (XH m) (MH m) (OH m) d) $$ H3
  icases H with ⟨Hk, Ht⟩
  isplitl [Hk Hr]
  · isplitl [Hk]; · iexact Hk
    iexact Hr
  · iexact Ht

theorem after_call (d : Dev nD) :
    iprop((kept (XH m) (MH m) d ∗ held (T d) (Pipeline.ucRefs τ sig \ three) (V2 m d))
        ∗ bigSep Finset.univ fun c : Fin ((K (F := F)).nCore 0) => (P (XH m) (MH m) (OH m)).dn 0 d c)
      ⊢ (held (T d) (Pipeline.ucRefs τ sig) (V2 m d) : sProp 𝕄) := by
  have hx : V2 m d xB = XH m d := Function.update_of_ne (show xB ≠ oB by decide) _ _
  have hm : V2 m d mB = MH m d := Function.update_of_ne (show mB ≠ oB by decide) _ _
  have ho : V2 m d oB = OUT (XH m d) (MH m d) := Function.update_self _ _ _
  rw [dn0_eq, held_sub_split (T d) three_sub (V2 m d), held_three, hx, hm, ho]
  iintro ⟨⟨Hk, Hr⟩, Ht⟩
  isplitr [Hr]
  · iapply (collect (XH m) (MH m) d)
    isplitl [Hk]; · iexact Hk
    iexact Ht
  · iexact Hr

/-- What @main leaves the claim: the arguments and the result at their last contents. -/
abbrev FIN (d : Dev nD) : sProp 𝕄 := held (T d) four (V3 m d)

theorem hmain (κ : GSem nD τ sig → ℕ) (d : Dev nD) :
    iprop((K (F := F)).ctx EH (P (XH m) (MH m) (OH m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hu : (unscopedBufs d (fun b => m ((SparseCore.T d).loc b)) : sProp 𝕄) = held (T d) (Pipeline.ucRefs τ sig) (V0 m d) :=
    Pipeline.unscopedBufs_held d (V0 m d)
  rw [hu, main_eq]
  iintro ⟨#Hctx, Hst, ⟨Hb, Hheld, Hts, -⟩, -⟩
  iapply (wp_seq 𝒱 none Set.univ d (Pipeline.ucRefs τ sig) _ hostOps
    (fun op h => Pipeline.sub_ucRefs op (List.forall_iff_forall_mem.mp hostOps_sub op h))
    (fun op h => List.forall_iff_forall_mem.mp hostOps_fresh op h) (V0 m d)) $$ [Hb Hheld]
  · isplitl [Hb]; · iexact Hb
    iexact Hheld
  iintro ⟨Hb, Hheld⟩
  ihave H := (show (held (d.tc) (Pipeline.ucRefs τ sig) (after hostOps (V0 m d)) : sProp 𝕄) ⊢ _ from before_call m d) $$ Hheld
  icases H with ⟨Hkr, Hst0⟩
  simp only [wp_bind, wp_pure]
  iapply ((K (F := F)).wp_run (D (F := F)) 𝒱 (EH := EH) (P := P (XH m) (MH m) (OH m)) κ d 0) $$ [Hst Hst0 Hb Hts Hkr]
  isplitr; · iexact Hctx
  isplitl [Hst]; · iexact Hst
  isplitl [Hst0]; · iexact Hst0
  iintro ⟨Hst, Hdn⟩
  ihave Hheld := (after_call m d) $$ [Hkr Hdn]
  · isplitl [Hkr]; · iexact Hkr
    iexact Hdn
  iapply (wp_hlo_within 𝒱 (SparseCore.T d) none Set.univ (op := lastOp) (S := Pipeline.ucRefs τ sig)
    (Pipeline.sub_ucRefs _ (reshape_bufs_sub ..)) (V := V2 m d)) $$ [Hb Hheld]
  · isplitl [Hb]; · iexact Hb
    iexact Hheld
  iintro ⟨Hb, Hheld⟩
  ihave Hh := (Entails.of_eq (held_sub_split (Ix := HIx 1) (Name := ℕ) (U := UU) (Lvl := ℕ) (T d) four_sub (lastOp.result (V2 m d)))) $$ Hheld
  icases Hh with ⟨Hf, -⟩
  rw [wp_ret]; imodintro; imodintro
  isplitl [Hst]; · iexact Hst
  isplitl [Hf]; · iexact Hf
  isplitl [Hb] <;> iassumption

theorem pure_all {I : Type} [DecidableEq I] {A : sProp 𝕄} {φ : I → Prop} (s : Finset I) (h : ∀ b ∈ s, A ⊢ (⌜φ b⌝ : sProp 𝕄)) : A ⊢ (⌜∀ b ∈ s, φ b⌝ : sProp 𝕄) := by
  induction s using Finset.induction_on with
  | empty =>
    iintro -
    ipureintro; exact fun b hb => absurd hb (Finset.notMem_empty b)
  | insert a s _ ih =>
    have h1 := h a (Finset.mem_insert_self a s)
    have h2 := ih fun b hb => h b (Finset.mem_insert_of_mem hb)
    refine (persistent_entails_right h1).trans ?_
    iintro ⟨%ha, HA⟩
    ihave H := h2 $$ HA
    icases H with %hs
    ipureintro
    intro b hb
    rcases Finset.mem_insert.mp hb with rfl | hb
    · exact ha
    · exact hs b hb

def fq (d : Dev nD) (s' : Phys nD τ sig (Elt F)) : Prop := ∀ b ∈ four, s'.mem.mem (d, b) = V3 m d b

theorem hfin (d : Dev nD) (s' : Phys nD τ sig (Elt F)) : iprop(FIN m d ∗ SI s') ⊢ (⌜fq m d s'⌝ : sProp 𝕄) := by
  have h1 : ∀ b ∈ four, iprop(FIN m d ∗ SI s') ⊢ (⌜s'.mem.mem (d, b) = V3 m d b⌝ : sProp 𝕄) := by
    intro b hb
    unfold FIN held
    rw [SparseCore.bigSep_erase' hb]
    iintro ⟨⟨Hb, -⟩, HSI⟩
    ihave H := (SI_pointsTo_agree (st := s') (ℓ := (d, b)) (I := Finset.univ) (q := fullShare) (f := V3 m d b)) $$ [HSI Hb]
    · isplitl [HSI] <;> iassumption
    icases H with %hx
    ipureintro; exact funext fun i => hx i (Finset.mem_univ i)
  exact pure_all four h1

def QC : PUnit × MemSt nD τ sig (Elt F) → Prop := fun r => (∀ c : Dev nD, ∀ b ∈ four, r.2.mem (c, b) = V3 m c b) ∧ r.2.sem = fun _ => 0

theorem run_main [∀ e, Nonempty (Elt F e)] (hM : ∀ d, MapOK (MH m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (XH m) (MH m) (OH m)) (A := ∅) facts v₀
    (fun q hq => match q with | 0 => nomatch hq)
    (fun q _ => match q with | 0 => tileObl (XH m) (MH m) (OH m) facts hM)
    (fun q _ => match q with | 0 => SparseCore.Cfg.VecSplit.of_plain (vecSplit (XH m) (MH m) (OH m)))
    m ρ main (fun _ => iprop(emp)) (FIN m) (u₀ (F := F)) (sep_elim_left.trans (hu₀ (XH m) (MH m) (OH m))) (hmain m ρ) (fq m) (hfin m) (QC m) (fun _ h hz => ⟨h, hz⟩)

/-! ### The last contents, read -/

theorem end_arg (d : Dev nD) (r : Ref sig .tc) (h1 : r ≠ main_v38) (h2 : r ≠ main_v37) (h : V1 m d (Proc.devRef .tc r) = m ((SparseCore.T d).loc r)) :
    V3 m d (Proc.devRef .tc r) = m ((SparseCore.T d).loc r) := by
  unfold V3 V2
  rw [reshape_result_ne (h := h1), Function.update_of_ne (devRef_ne_of_ne h2), h]

theorem end_result (d : Dev nD) : V3 m d rB = shapeCast S4x96x384x384 (OUT (XH m d) (MH m d)) shapeCasts_S147456x384_S4x96x384x384 := by
  unfold V3 V2
  rw [reshape_result', Function.update_self]; rfl

theorem XH_eq (d : Dev nD) : XH m d = shapeCast S147456x384 (m ((SparseCore.T d).loc main_arg0)) shapeCasts_S4x96x384x384_S147456x384 := host_x _
theorem MH_eq (d : Dev nD) : MH m d = hostMap (F := F) (m ((SparseCore.T d).loc main_arg1)) (m ((SparseCore.T d).loc main_arg2)) := host_m _

/-- The run, read: the arguments as they were, the result at the gathered images, the counters at zero. -/
theorem run_value [∀ e, Nonempty (Elt F e)] (hM : ∀ d, MapOK (MH m d)) :
    θ_run (defs (F := F)) (threads (F := F)) ⟨m, fun _ => 0, ρ⟩ fun r => (∀ d : Dev nD,
      r.2.mem ((SparseCore.T d).loc main_v38) = shapeCast S4x96x384x384 (OUT (XH m d) (MH m d)) shapeCasts_S147456x384_S4x96x384x384
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)) ∧ r.2.sem = fun _ => 0 :=
  (θ_run (defs (F := F)) _ _).mono (fun r h => ⟨fun d =>
      ⟨(h.1 d rB (by simp)).trans (end_result m d),
        (h.1 d aB (by simp)).trans (end_arg m d main_arg0 (by decide) (by decide) (host_args (V0 m d)).1),
        (h.1 d hB (by simp)).trans (end_arg m d main_arg1 (by decide) (by decide) (host_args (V0 m d)).2.1),
        (h.1 d wB (by simp)).trans (end_arg m d main_arg2 (by decide) (by decide) (host_args (V0 m d)).2.2)⟩, h.2⟩)
    (run_main m ρ hM)

end Cert.Proof.Pool

end
-- ==== Proof.Reflect.lean ====
/-
  Reflecting a position at the picture's edges, in numbers and in words.
-/
module

public import Idealize.ShloMosaic.Lib.Pointwise

@[expose] public section

noncomputable section

namespace Cert.Proof.Pool

open Idealize.ShloMosaic

/-- The offset is one of -1, 0 and 1. -/
def Drawn (v : BitVec 32) : Prop := v = -1#32 ∨ v = 0#32 ∨ v = 1#32

/-- The position in the padded picture that entry `i` reads under the offset `v`. -/
def pos (i : ℕ) (v : BitVec 32) : ℕ := if v = -1#32 then i else if v = 0#32 then i + 1 else i + 2
/-- The picture's entry that the padded picture repeats at position `p`. -/
def refl (p : ℕ) : ℕ := if p = 0 then 1 else if 385 ≤ p then 382 else p - 1

theorem pos_lt {i : ℕ} (hi : i < 384) (v : BitVec 32) : pos i v < 386 := by
  unfold pos; split <;> [skip; split] <;> omega
theorem refl_lt (p : ℕ) : refl p < 384 := by
  unfold refl; split <;> [skip; split] <;> omega

/-- Reflecting at both ends in words is reading the padded picture. -/
theorem refl_word (i : Fin 384) (v : BitVec 32) (hv : Drawn v) :
    IntOp.subi (383#32) (IntOp.absi (IntOp.subi (383#32) (IntOp.absi (IntOp.addi (BitVec.ofNat 32 ↑i) v)))) = BitVec.ofNat 32 (refl (pos i.val v)) := by
  have h : ∀ i : Fin 384,
      (IntOp.subi (383#32) (IntOp.absi (IntOp.subi (383#32) (IntOp.absi (IntOp.addi (BitVec.ofNat 32 ↑i) (-1#32))))) = BitVec.ofNat 32 (refl (pos i.val (-1#32))))
      ∧ (IntOp.subi (383#32) (IntOp.absi (IntOp.subi (383#32) (IntOp.absi (IntOp.addi (BitVec.ofNat 32 ↑i) 0#32)))) = BitVec.ofNat 32 (refl (pos i.val 0#32)))
      ∧ (IntOp.subi (383#32) (IntOp.absi (IntOp.subi (383#32) (IntOp.absi (IntOp.addi (BitVec.ofNat 32 ↑i) 1#32)))) = BitVec.ofNat 32 (refl (pos i.val 1#32))) := by
    decide +kernel
  rcases hv with rfl | rfl | rfl
  · exact (h i).1
  · exact (h i).2.1
  · exact (h i).2.2

/-- The reference's word for the padded position: one more than the entry plus its offset, never negative. -/
theorem pos_word (i : Fin 384) (v : BitVec 32) (hv : Drawn v) :
    Scalar.select (IntOp.cmpi CmpIPredicate.slt (IntOp.addi (IntOp.addi (BitVec.ofNat 32 ↑i) 1#32) v) 0#32)
      (IntOp.addi (IntOp.addi (IntOp.addi (BitVec.ofNat 32 ↑i) 1#32) v) 386#32)
      (IntOp.addi (IntOp.addi (BitVec.ofNat 32 ↑i) 1#32) v) = BitVec.ofNat 32 (pos i.val v) := by
  have h : ∀ i : Fin 384,
      (Scalar.select (IntOp.cmpi CmpIPredicate.slt (IntOp.addi (IntOp.addi (BitVec.ofNat 32 ↑i) 1#32) (-1#32)) 0#32)
      (IntOp.addi (IntOp.addi (IntOp.addi (BitVec.ofNat 32 ↑i) 1#32) (-1#32)) 386#32)
      (IntOp.addi (IntOp.addi (BitVec.ofNat 32 ↑i) 1#32) (-1#32)) = BitVec.ofNat 32 (pos i.val (-1#32)))
      ∧ (Scalar.select (IntOp.cmpi CmpIPredicate.slt (IntOp.addi (IntOp.addi (BitVec.ofNat 32 ↑i) 1#32) 0#32) 0#32)
      (IntOp.addi (IntOp.addi (IntOp.addi (BitVec.ofNat 32 ↑i) 1#32) 0#32) 386#32)
      (IntOp.addi (IntOp.addi (BitVec.ofNat 32 ↑i) 1#32) 0#32) = BitVec.ofNat 32 (pos i.val 0#32))
      ∧ (Scalar.select (IntOp.cmpi CmpIPredicate.slt (IntOp.addi (IntOp.addi (BitVec.ofNat 32 ↑i) 1#32) 1#32) 0#32)
      (IntOp.addi (IntOp.addi (IntOp.addi (BitVec.ofNat 32 ↑i) 1#32) 1#32) 386#32)
      (IntOp.addi (IntOp.addi (BitVec.ofNat 32 ↑i) 1#32) 1#32) = BitVec.ofNat 32 (pos i.val 1#32)) := by
    decide +kernel
  rcases hv with rfl | rfl | rfl
  · exact (h i).1
  · exact (h i).2.1
  · exact (h i).2.2

/-- A word that counts an axis of at most 96 entries is not negative: the wrapped coordinate is itself. -/
theorem plain_word (i : Fin 96) (n : BitVec 32) :
    Scalar.select (IntOp.cmpi CmpIPredicate.slt (BitVec.ofNat 32 ↑i) 0#32) (IntOp.addi (BitVec.ofNat 32 ↑i) n) (BitVec.ofNat 32 ↑i) = BitVec.ofNat 32 i.val := by
  have h : ∀ i : Fin 96, IntOp.cmpi CmpIPredicate.slt (BitVec.ofNat 32 i.val) 0#32 = 0#1 := by decide +kernel
  rw [h i]
  exact if_neg (by decide)

/-- Padding at the far end, then at the near end, reads the reflected position. -/
theorem refl_two (p : Fin 386) :
    refl p.val = if (if p.val < 385 then p.val else 383) = 0 then 1 else (if p.val < 385 then p.val else 383) - 1 := by
  have h : ∀ p : Fin 386, refl p.val = if (if p.val < 385 then p.val else 383) = 0 then 1 else (if p.val < 385 then p.val else 383) - 1 := by
    decide +kernel
  exact h p

theorem bit_true (p : Bool) (h : BitVec.ofBool p = 1#1) : p = true := by
  cases p
  · exact absurd h (by decide)
  · rfl
theorem and_bits (a b : BitVec 1) (h : IntOp.andi a b = 1#1) : a = 1#1 ∧ b = 1#1 := by
  revert a b; decide

/-- A word at least -1 and at most 1 is one of -1, 0 and 1. -/
theorem drawn_of_range (v : BitVec 32) (h1 : IntOp.cmpi CmpIPredicate.sge v 4294967295#32 = 1#1) (h2 : IntOp.cmpi CmpIPredicate.sle v 1#32 = 1#1) : Drawn v := by
  have ha := bit_true _ h1
  have hb := bit_true _ h2
  simp only [BitVec.sle_eq_decide, decide_eq_true_eq] at ha hb
  rw [show (4294967295#32).toInt = -1 by decide] at ha
  rw [show (1#32).toInt = 1 by decide] at hb
  have hc : v.toInt = -1 ∨ v.toInt = 0 ∨ v.toInt = 1 := by omega
  rcases hc with h | h | h
  · exact Or.inl (BitVec.eq_of_toInt_eq (by rw [h]; decide))
  · exact Or.inr (Or.inl (BitVec.eq_of_toInt_eq (by rw [h]; decide)))
  · exact Or.inr (Or.inr (BitVec.eq_of_toInt_eq (by rw [h]; decide)))

end Cert.Proof.Pool

end
-- ==== Proof.HostValue.lean ====
/-
  The map the host makes, read at an entry: with the offsets drawn from -1, 0 and 1, each word is the place, in the strip's
  window, of the image entry that the reflected picture holds at the moved position.
-/
module

public import proofs.«01_k».proof.Proof.Host
public import proofs.«01_k».proof.Proof.Reflect
public import Idealize.ShloMosaic.Lib.Pointwise

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

/-- An array of drawn offsets. -/
abbrev Off (F : FTy → Type) : Type := (⟨S4x1x384x384, .i32⟩ : BufTy).Contents (Elt F)

theorem hostRows_at (dh : Off F) (b : Fin 4) (r w : Fin 384) (hv : Drawn (dh (ix4 b (0 : Fin 1) r w))) :
    hostRows dh (ix4 b (0 : Fin 1) r w) = BitVec.ofNat 32 (refl (pos r.val (dh (ix4 b (0 : Fin 1) r w)))) := by
  rw [← refl_word r _ hv]
  pointwise [hostRows]
theorem hostCols_at (dw : Off F) (b : Fin 4) (r w : Fin 384) (hv : Drawn (dw (ix4 b (0 : Fin 1) r w))) :
    hostCols dw (ix4 b (0 : Fin 1) r w) = BitVec.ofNat 32 (refl (pos w.val (dw (ix4 b (0 : Fin 1) r w)))) := by
  rw [← refl_word w _ hv]
  pointwise [hostCols]

theorem start_word : ∀ r : Fin 384, IntOp.maxsi (0#32)
      (IntOp.subi (IntOp.muli
          (Scalar.select
            (IntOp.andi
              (IntOp.cmpi CmpIPredicate.ne
                (if BitVec.ofNat 32 r.val = 0 then (0 : BitVec 32) else if (BitVec.ofNat 32 r.val).msb = true then -1 else 1)
                (if 48#32 = 0 then (0 : BitVec 32) else if (48#32).msb = true then -1 else 1))
              (IntOp.cmpi CmpIPredicate.ne (IntOp.remsi ArithUnit.host (BitVec.ofNat 32 r.val) 48#32) 0#32))
            (IntOp.subi (IntOp.divsi ArithUnit.host (BitVec.ofNat 32 r.val) 48#32) 1#32)
            (IntOp.divsi ArithUnit.host (BitVec.ofNat 32 r.val) 48#32))
          48#32) 8#32) = BitVec.ofNat 32 (stOf (r.val / 48)) := by
  decide +kernel

theorem hostStart_at (r : Fin 384) : hostStart (F := F) (ix1 r) = BitVec.ofNat 32 (stOf (r.val / 48)) := by
  pointwise [hostStart, hostStrip]
  exact start_word r

/-- The row read lies in the strip's window. -/
theorem row_window (r : Fin 384) (v : BitVec 32) (hv : Drawn v) :
    stOf (r.val / 48) ≤ refl (pos r.val v) ∧ refl (pos r.val v) < stOf (r.val / 48) + nstOf (r.val / 48) := by
  have h : ∀ r : Fin 384, (stOf (r.val / 48) ≤ refl (pos r.val (-1#32)) ∧ refl (pos r.val (-1#32)) < stOf (r.val / 48) + nstOf (r.val / 48))
      ∧ (stOf (r.val / 48) ≤ refl (pos r.val 0#32) ∧ refl (pos r.val 0#32) < stOf (r.val / 48) + nstOf (r.val / 48))
      ∧ (stOf (r.val / 48) ≤ refl (pos r.val 1#32) ∧ refl (pos r.val 1#32) < stOf (r.val / 48) + nstOf (r.val / 48)) := by
    decide +kernel
  rcases hv with rfl | rfl | rfl
  · exact (h r).1
  · exact (h r).2.1
  · exact (h r).2.2

theorem place_word (a c s : ℕ) (ha : a < 384) (hs : s ≤ a) (hc : c < 384) :
    (IntOp.addi (IntOp.muli (IntOp.subi (BitVec.ofNat 32 a) (BitVec.ofNat 32 s)) 384#32) (BitVec.ofNat 32 c)).toNat = (a - s) * 384 + c := by
  simp only [IntOp.addi, IntOp.muli, IntOp.subi]
  have h : BitVec.ofNat 32 a - BitVec.ofNat 32 s = BitVec.ofNat 32 (a - s) := by
    apply BitVec.eq_of_toNat_eq
    simp only [BitVec.toNat_sub, BitVec.toNat_ofNat]; omega
  rw [h]
  simp only [BitVec.toNat_add, BitVec.toNat_mul, BitVec.toNat_ofNat]; omega

/-- An entry of the map, as a number: the place in the strip's window of the entry read. -/
theorem hostMap_at (dh dw : Off F) (b : Fin 4) (r w : Fin 384) (n : Fin 1536) (hn : n.val = b.val * 384 + r.val)
    (hh : Drawn (dh (ix4 b (0 : Fin 1) r w))) (hw : Drawn (dw (ix4 b (0 : Fin 1) r w))) :
    (hostMap dh dw (ix2 n w)).toNat = (refl (pos r.val (dh (ix4 b (0 : Fin 1) r w))) - stOf (r.val / 48)) * 384 + refl (pos w.val (dw (ix4 b (0 : Fin 1) r w))) := by
  have hb : (⟨n.val / 384, by omega⟩ : Fin 4) = b := Fin.ext (by show n.val / 384 = b.val; omega)
  have hr : (⟨n.val % 384, by omega⟩ : Fin 384) = r := Fin.ext (by show n.val % 384 = r.val; omega)
  pointwise [hostMap]
  rw [hb, hr, hostRows_at dh b r w hh, hostCols_at dw b r w hw, hostStart_at]
  exact place_word _ _ _ (refl_lt _) (row_window r _ hh).1 (refl_lt _)

end Cert.Proof.Pool

end
-- ==== Proof.KernelValue.lean ====
/-
  What the kernel leaves, read at an entry: the image's entry at the reflected, moved position of the same image and channel.
-/
module

public import proofs.«01_k».proof.Proof.HostValue

@[expose] public section

noncomputable section

namespace Cert.Proof.Pool

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]

variable (x : S4x96x384x384.Idx → Elt F .f32) (dh dw : Off F)

/-- Every offset of both arrays is one of -1, 0 and 1. -/
def AllDrawn (dh dw : Off F) : Prop :=
  ∀ (b : Fin 4) (r w : Fin 384), Drawn (dh (ix4 b (0 : Fin 1) r w)) ∧ Drawn (dw (ix4 b (0 : Fin 1) r w))

/-- The row and the column an output entry reads. -/
def srcRow (b : Fin 4) (r w : Fin 384) : Fin 384 := ⟨refl (pos r.val (dh (ix4 b (0 : Fin 1) r w))), refl_lt _⟩
def srcCol (b : Fin 4) (r w : Fin 384) : Fin 384 := ⟨refl (pos w.val (dw (ix4 b (0 : Fin 1) r w))), refl_lt _⟩

theorem im_eq' (r w : ℕ) : im r w = ix2 (⟨r % 1536, Nat.mod_lt _ (by decide)⟩ : Fin 1536) (⟨w % 384, Nat.mod_lt _ (by decide)⟩ : Fin 384) := by
  funext a
  match a with
  | 0 => rfl
  | 1 => rfl

theorem map_ok (H : AllDrawn dh dw) : MapOK (hostMap dh dw) := by
  intro r w
  have e : im r w = ix2 (⟨r % 1536, Nat.mod_lt _ (by decide)⟩ : Fin 1536) (⟨w % 384, Nat.mod_lt _ (by decide)⟩ : Fin 384) :=
    im_eq' r w
  rw [e, hostMap_at dh dw ⟨r % 1536 / 384, by omega⟩ ⟨r % 384, by omega⟩ ⟨w % 384, by omega⟩ _ (by show r % 1536 = r % 1536 / 384 * 384 + r % 384; omega)
    (H _ _ _).1 (H _ _ _).2]
  have h1 := row_window ⟨r % 384, by omega⟩ _ (H ⟨r % 1536 / 384, by omega⟩ ⟨r % 384, by omega⟩ ⟨w % 384, by omega⟩).1
  have h2 := refl_lt (pos (w % 384) (dw (ix4 (⟨r % 1536 / 384, by omega⟩ : Fin 4) (0 : Fin 1) (⟨r % 384, by omega⟩ : Fin 384) (⟨w % 384, by omega⟩ : Fin 384))))
  simp only at h1 ⊢
  omega

theorem cast_row (b : Fin 4) (c : Fin 96) (R C : Fin 384) (h : b.val * 36864 + c.val * 384 + R.val < 147456) :
    shapeCast S147456x384 x shapeCasts_S4x96x384x384_S147456x384 (ix2 (⟨b.val * 36864 + c.val * 384 + R.val, h⟩ : Fin 147456) C) = x (ix4 b c R C) := by
  pointwise []

theorem kernel_at (H : AllDrawn dh dw) (b : Fin 4) (c : Fin 96) (r w : Fin 384) :
    shapeCast S4x96x384x384 (OUT (shapeCast S147456x384 x shapeCasts_S4x96x384x384_S147456x384) (hostMap dh dw)) shapeCasts_S147456x384_S4x96x384x384 (ix4 b c r w)
      = x (ix4 b c (srcRow dh b r w) (srcCol dw b r w)) := by
  have hrow : (b.val * 36864 + c.val * 384 + r.val) < 147456 := by omega
  have e0 : shapeCast S4x96x384x384 (OUT (shapeCast S147456x384 x shapeCasts_S4x96x384x384_S147456x384) (hostMap dh dw)) shapeCasts_S147456x384_S4x96x384x384 (ix4 b c r w)
      = OUT (shapeCast S147456x384 x shapeCasts_S4x96x384x384_S147456x384) (hostMap dh dw) (ix2 (⟨b.val * 36864 + c.val * 384 + r.val, hrow⟩ : Fin 147456) w) := by
    pointwise []
  have em : im ((b.val * 36864 + c.val * 384 + r.val) / 36864 * 384 + (b.val * 36864 + c.val * 384 + r.val) % 384) w.val
      = ix2 (⟨b.val * 384 + r.val, by omega⟩ : Fin 1536) w :=
    im_eq _ _ _ (by show b.val * 384 + r.val = _; omega) rfl
  have hm := hostMap_at dh dw b r w ⟨b.val * 384 + r.val, by omega⟩ rfl (H b r w).1 (H b r w).2
  have hs := row_window r _ (H b r w).1
  have h1 := refl_lt (pos r.val (dh (ix4 b (0 : Fin 1) r w)))
  have h2 := refl_lt (pos w.val (dw (ix4 b (0 : Fin 1) r w)))
  rw [e0]
  show gat _ _ (b.val * 36864 + c.val * 384 + r.val) w.val = _
  unfold gat
  rw [em, hm]
  have hr : (b.val * 36864 + c.val * 384 + r.val) % 384 = r.val := by omega
  have eX : ix ((b.val * 36864 + c.val * 384 + r.val) / 384 * 384 + stOf ((b.val * 36864 + c.val * 384 + r.val) % 384 / 48)
        + ((refl (pos r.val (dh (ix4 b (0 : Fin 1) r w))) - stOf (r.val / 48)) * 384 + refl (pos w.val (dw (ix4 b (0 : Fin 1) r w)))) / 384)
      (((refl (pos r.val (dh (ix4 b (0 : Fin 1) r w))) - stOf (r.val / 48)) * 384 + refl (pos w.val (dw (ix4 b (0 : Fin 1) r w)))) % 384)
      = ix2 (⟨b.val * 36864 + c.val * 384 + (srcRow dh b r w).val, by have := (srcRow dh b r w).isLt; omega⟩ : Fin 147456) (srcCol dw b r w) := by
    rw [hr]
    apply ix_eq
    · show b.val * 36864 + c.val * 384 + refl (pos r.val (dh (ix4 b (0 : Fin 1) r w))) = _
      omega
    · show refl (pos w.val (dw (ix4 b (0 : Fin 1) r w))) = _
      omega
  rw [eX]
  exact cast_row x b c _ _ _

end Cert.Proof.Pool

end
-- ==== Proof.RefValue.lean ====
/-
  What the reference computes, read at an entry: the padded picture at the moved position is the picture at the
  reflected one.
-/
module

public import proofs.«01_k».proof.Proof.Gen.ReferenceIdeal.Run
public import Idealize.ShloMosaic.Lib.Pointwise
public import proofs.«01_k».proof.Proof.Reflect

@[expose] public section

noncomputable section

namespace Cert.Proof.Pool.Ref

open Cert.ReferenceIdeal Cert.ReferenceIdeal.Gen Cert.ReferenceIdeal.Value
open Idealize.ShloMosaic Idealize.ShloMosaic.TcCoe

variable {F : FTy → Type} [FloatOps F]

/-- The picture padded above, then below, then on the left, then on the right. -/
def padT (x : S4x96x384x384.Idx → Elt F .f32) : S4x96x385x384.Idx → Elt F .f32 :=
  concatenate S4x96x385x384 2 [⟨S4x96x1x384, (Host.reverse [2] (extractStridedSlice S4x96x1x384 ![0, 0, 1, 0] x slices_S4x96x384x384_S4x96x1x384_0_0_1_0))⟩, ⟨S4x96x384x384, x⟩] concatenates_S4x96x1x384_S4x96x384x384_S4x96x385x384_d2
def padB (y : S4x96x385x384.Idx → Elt F .f32) : S4x96x386x384.Idx → Elt F .f32 :=
  concatenate S4x96x386x384 2 [⟨S4x96x385x384, y⟩, ⟨S4x96x1x384, (Host.reverse [2] (extractStridedSlice S4x96x1x384 ![0, 0, 383, 0] y slices_S4x96x385x384_S4x96x1x384_0_0_383_0))⟩] concatenates_S4x96x385x384_S4x96x1x384_S4x96x386x384_d2
def padL (y : S4x96x386x384.Idx → Elt F .f32) : S4x96x386x385.Idx → Elt F .f32 :=
  concatenate S4x96x386x385 3 [⟨S4x96x386x1, (Host.reverse [3] (extractStridedSlice S4x96x386x1 ![0, 0, 0, 1] y slices_S4x96x386x384_S4x96x386x1_0_0_0_1))⟩, ⟨S4x96x386x384, y⟩] concatenates_S4x96x386x1_S4x96x386x384_S4x96x386x385_d3
def padR (y : S4x96x386x385.Idx → Elt F .f32) : S4x96x386x386.Idx → Elt F .f32 :=
  concatenate S4x96x386x386 3 [⟨S4x96x386x385, y⟩, ⟨S4x96x386x1, (Host.reverse [3] (extractStridedSlice S4x96x386x1 ![0, 0, 0, 383] y slices_S4x96x386x385_S4x96x386x1_0_0_0_383))⟩] concatenates_S4x96x386x385_S4x96x386x1_S4x96x386x386_d3

theorem padT_at (x : S4x96x384x384.Idx → Elt F .f32) (b : Fin 4) (c : Fin 96) (p : Fin 385) (q p' : Fin 384)
    (h : p'.val = if p.val = 0 then 1 else p.val - 1) : padT x (ix4 b c p q) = x (ix4 b c p' q) := by
  pointwise [padT]
  split
  · have e : p' = 1 := Fin.ext (by rw [h, if_pos (by omega)]; rfl)
    rw [e]; rfl
  · have e : p' = ⟨p.val - 1, by omega⟩ := Fin.ext (by rw [h, if_neg (by omega)])
    rw [e]
theorem padB_at (x : S4x96x385x384.Idx → Elt F .f32) (b : Fin 4) (c : Fin 96) (p : Fin 386) (q : Fin 384) (p' : Fin 385)
    (h : p'.val = if p.val < 385 then p.val else 383) : padB x (ix4 b c p q) = x (ix4 b c p' q) := by
  pointwise [padB]
  split
  · have e : p' = ⟨p.val, by omega⟩ := Fin.ext (by rw [h, if_pos (by omega)])
    rw [e]
  · have e : p' = 383 := Fin.ext (by rw [h, if_neg (by omega)]; rfl)
    rw [e]; rfl
theorem padL_at (x : S4x96x386x384.Idx → Elt F .f32) (b : Fin 4) (c : Fin 96) (p : Fin 386) (q : Fin 385) (q' : Fin 384)
    (h : q'.val = if q.val = 0 then 1 else q.val - 1) : padL x (ix4 b c p q) = x (ix4 b c p q') := by
  pointwise [padL]
  split
  · have e : q' = 1 := Fin.ext (by rw [h, if_pos (by omega)]; rfl)
    rw [e]; rfl
  · have e : q' = ⟨q.val - 1, by omega⟩ := Fin.ext (by rw [h, if_neg (by omega)])
    rw [e]
theorem padR_at (x : S4x96x386x385.Idx → Elt F .f32) (b : Fin 4) (c : Fin 96) (p q : Fin 386) (q' : Fin 385)
    (h : q'.val = if q.val < 385 then q.val else 383) : padR x (ix4 b c p q) = x (ix4 b c p q') := by
  pointwise [padR]
  split
  · have e : q' = ⟨q.val, by omega⟩ := Fin.ext (by rw [h, if_pos (by omega)])
    rw [e]
  · have e : q' = 383 := Fin.ext (by rw [h, if_neg (by omega)]; rfl)
    rw [e]; rfl

/-- The padded picture holds, at every position, the picture's entry at the reflected one. -/
theorem pad_at (x : S4x96x384x384.Idx → Elt F .f32) (b : Fin 4) (c : Fin 96) (p q : Fin 386) :
    padR (padL (padB (padT x))) (ix4 b c p q) = x (ix4 b c (⟨refl p.val, refl_lt _⟩ : Fin 384) (⟨refl q.val, refl_lt _⟩ : Fin 384)) := by
  have h1 := p.isLt
  have h2 := q.isLt
  rw [padR_at _ b c p q ⟨if q.val < 385 then q.val else 383, by split <;> omega⟩ rfl,
    padL_at _ b c p _ ⟨refl q.val, refl_lt _⟩ (refl_two q),
    padB_at _ b c p _ ⟨if p.val < 385 then p.val else 383, by split <;> omega⟩ rfl,
    padT_at _ b c _ _ ⟨refl p.val, refl_lt _⟩ (refl_two p)]

/-- The four coordinates each result entry reads the padded picture at. -/
def coords (dh dw : (⟨S4x1x384x384, .i32⟩ : BufTy).Contents (Elt F)) : (⟨S4x96x384x384x4, .i32⟩ : BufTy).Contents (Elt F) :=
  (concatenate S4x96x384x384x4 4 [⟨S4x96x384x384x1, ((broadcastInDim S4x96x384x384x1 ![0, 1, 2, 3] bcast_S4x96x384x384_S4x96x384x384x1_0_1_2_3 (broadcastInDim S4x96x384x384 ![0, 1, 2, 3] bcast_S4x1x1x1_S4x96x384x384_0_1_2_3 (select (cmpi .slt (broadcastInDim S4x1x1x1 ![0] bcast_S4_S4x1x1x1_0 (iotaInDim S4 32 0)) (broadcastInDim S4x1x1x1 ![] bcast_S_S4x1x1x1 (constantI S_ 32 0#32))) (addi (broadcastInDim S4x1x1x1 ![0] bcast_S4_S4x1x1x1_0 (iotaInDim S4 32 0)) (broadcastInDim S4x1x1x1 ![] bcast_S_S4x1x1x1 (constantI S_ 32 4#32))) (broadcastInDim S4x1x1x1 ![0] bcast_S4_S4x1x1x1_0 (iotaInDim S4 32 0))))) : (⟨S4x96x384x384x1, .i32⟩ : BufTy).Contents (Elt F))⟩, ⟨S4x96x384x384x1, ((broadcastInDim S4x96x384x384x1 ![0, 1, 2, 3] bcast_S4x96x384x384_S4x96x384x384x1_0_1_2_3 (broadcastInDim S4x96x384x384 ![0, 1, 2, 3] bcast_S1x96x1x1_S4x96x384x384_0_1_2_3 (select (cmpi .slt (broadcastInDim S1x96x1x1 ![1] bcast_S96_S1x96x1x1_1 (iotaInDim S96 32 0)) (broadcastInDim S1x96x1x1 ![] bcast_S_S1x96x1x1 (constantI S_ 32 0#32))) (addi (broadcastInDim S1x96x1x1 ![1] bcast_S96_S1x96x1x1_1 (iotaInDim S96 32 0)) (broadcastInDim S1x96x1x1 ![] bcast_S_S1x96x1x1 (constantI S_ 32 96#32))) (broadcastInDim S1x96x1x1 ![1] bcast_S96_S1x96x1x1_1 (iotaInDim S96 32 0))))) : (⟨S4x96x384x384x1, .i32⟩ : BufTy).Contents (Elt F))⟩, ⟨S4x96x384x384x1, ((broadcastInDim S4x96x384x384x1 ![0, 1, 2, 3] bcast_S4x96x384x384_S4x96x384x384x1_0_1_2_3 (broadcastInDim S4x96x384x384 ![0, 1, 2, 3] bcast_S4x1x384x384_S4x96x384x384_0_1_2_3 (select (cmpi .slt (addi (broadcastInDim S4x1x384x384 ![0, 1, 2, 3] bcast_S1x1x384x1_S4x1x384x384_0_1_2_3 (addi (broadcastInDim S1x1x384x1 ![2] bcast_S384_S1x1x384x1_2 (iotaInDim S384 32 0)) (broadcastInDim S1x1x384x1 ![] bcast_S_S1x1x384x1 (constantI S_ 32 1#32)))) dh) (broadcastInDim S4x1x384x384 ![] bcast_S_S4x1x384x384 (constantI S_ 32 0#32))) (addi (addi (broadcastInDim S4x1x384x384 ![0, 1, 2, 3] bcast_S1x1x384x1_S4x1x384x384_0_1_2_3 (addi (broadcastInDim S1x1x384x1 ![2] bcast_S384_S1x1x384x1_2 (iotaInDim S384 32 0)) (broadcastInDim S1x1x384x1 ![] bcast_S_S1x1x384x1 (constantI S_ 32 1#32)))) dh) (broadcastInDim S4x1x384x384 ![] bcast_S_S4x1x384x384 (constantI S_ 32 386#32))) (addi (broadcastInDim S4x1x384x384 ![0, 1, 2, 3] bcast_S1x1x384x1_S4x1x384x384_0_1_2_3 (addi (broadcastInDim S1x1x384x1 ![2] bcast_S384_S1x1x384x1_2 (iotaInDim S384 32 0)) (broadcastInDim S1x1x384x1 ![] bcast_S_S1x1x384x1 (constantI S_ 32 1#32)))) dh)))) : (⟨S4x96x384x384x1, .i32⟩ : BufTy).Contents (Elt F))⟩, ⟨S4x96x384x384x1, ((broadcastInDim S4x96x384x384x1 ![0, 1, 2, 3] bcast_S4x96x384x384_S4x96x384x384x1_0_1_2_3 (broadcastInDim S4x96x384x384 ![0, 1, 2, 3] bcast_S4x1x384x384_S4x96x384x384_0_1_2_3 (select (cmpi .slt (addi (broadcastInDim S4x1x384x384 ![0, 1, 2, 3] bcast_S1x1x1x384_S4x1x384x384_0_1_2_3 (addi (broadcastInDim S1x1x1x384 ![3] bcast_S384_S1x1x1x384_3 (iotaInDim S384 32 0)) (broadcastInDim S1x1x1x384 ![] bcast_S_S1x1x1x384 (constantI S_ 32 1#32)))) dw) (broadcastInDim S4x1x384x384 ![] bcast_S_S4x1x384x384 (constantI S_ 32 0#32))) (addi (addi (broadcastInDim S4x1x384x384 ![0, 1, 2, 3] bcast_S1x1x1x384_S4x1x384x384_0_1_2_3 (addi (broadcastInDim S1x1x1x384 ![3] bcast_S384_S1x1x1x384_3 (iotaInDim S384 32 0)) (broadcastInDim S1x1x1x384 ![] bcast_S_S1x1x1x384 (constantI S_ 32 1#32)))) dw) (broadcastInDim S4x1x384x384 ![] bcast_S_S4x1x384x384 (constantI S_ 32 386#32))) (addi (broadcastInDim S4x1x384x384 ![0, 1, 2, 3] bcast_S1x1x1x384_S4x1x384x384_0_1_2_3 (addi (broadcastInDim S1x1x1x384 ![3] bcast_S384_S1x1x1x384_3 (iotaInDim S384 32 0)) (broadcastInDim S1x1x1x384 ![] bcast_S_S1x1x1x384 (constantI S_ 32 1#32)))) dw)))) : (⟨S4x96x384x384x1, .i32⟩ : BufTy).Contents (Elt F))⟩] concatenates_S4x96x384x384x1_S4x96x384x384x1_S4x96x384x384x1_S4x96x384x384x1_S4x96x384x384x4_d4 : (⟨S4x96x384x384x4, .i32⟩ : BufTy).Contents (Elt F))

theorem coords_at (dh dw : (⟨S4x1x384x384, .i32⟩ : BufTy).Contents (Elt F)) (b : Fin 4) (c : Fin 96) (r w : Fin 384)
    (hh : Drawn (dh (ix4 b (0 : Fin 1) r w))) (hw : Drawn (dw (ix4 b (0 : Fin 1) r w))) :
    coords dh dw (ix5 b c r w (0 : Fin 4)) = BitVec.ofNat 32 b.val ∧ coords dh dw (ix5 b c r w (1 : Fin 4)) = BitVec.ofNat 32 c.val
      ∧ coords dh dw (ix5 b c r w (2 : Fin 4)) = BitVec.ofNat 32 (pos r.val (dh (ix4 b (0 : Fin 1) r w)))
      ∧ coords dh dw (ix5 b c r w (3 : Fin 4)) = BitVec.ofNat 32 (pos w.val (dw (ix4 b (0 : Fin 1) r w))) := by
  refine ⟨?_, ?_, ?_, ?_⟩
  · refine Eq.trans ?_ (plain_word ⟨b.val, by omega⟩ 4#32)
    pointwise [coords]
  · refine Eq.trans ?_ (plain_word c 96#32)
    pointwise [coords]
  · refine Eq.trans ?_ (pos_word r _ hh)
    pointwise [coords]
  · refine Eq.trans ?_ (pos_word w _ hw)
    pointwise [coords]

set_option maxRecDepth 8192 in
theorem res_eq (m : (ℓ : Loc nD τ sig) → Buf (Elt F) ℓ) (c : Dev nD) :
    res_out0 m c = Host.gather gather_S4x96x386x386_S4x96x384x384x4_S4x96x384x384_n_0123_n_n_0123_4_1111
      (padR (padL (padB (padT (m ((c.tc : Thread nD τ).loc main_arg0))))))
      (coords (m ((c.tc : Thread nD τ).loc main_arg1)) (m ((c.tc : Thread nD τ).loc main_arg2))) := rfl

/-- A coordinate's word, read signed and kept within its axis, is the coordinate. -/
theorem clamp (n k : ℕ) (hk : k < n) (hn : n ≤ 386) : min (BitVec.ofNat 32 k).toInt.toNat (n - 1) = k := by
  have h : (BitVec.ofNat 32 k).toInt = k := by
    rw [BitVec.toInt_eq_toNat_of_lt (by rw [BitVec.toNat_ofNat]; omega), BitVec.toNat_ofNat, Nat.mod_eq_of_lt (by omega)]
  rw [h, Int.toNat_natCast]; omega

abbrev dims : GatherDims S4x96x386x386 S4x96x384x384x4 S4x96x384x384 := gather_S4x96x386x386_S4x96x384x384x4_S4x96x384x384_n_0123_n_n_0123_4_1111

theorem gather_at {α : Type} (x : S4x96x386x386.Idx → α) (idx : IVec S4x96x384x384x4 32) (b : Fin 4) (c : Fin 96) (r w : Fin 384) (p q : Fin 386)
    (h0 : idx (ix5 b c r w (0 : Fin 4)) = BitVec.ofNat 32 b.val) (h1 : idx (ix5 b c r w (1 : Fin 4)) = BitVec.ofNat 32 c.val)
    (h2 : idx (ix5 b c r w (2 : Fin 4)) = BitVec.ofNat 32 p.val) (h3 : idx (ix5 b c r w (3 : Fin 4)) = BitVec.ofNat 32 q.val) :
    Host.gather dims x idx (ix4 b c r w) = x (ix4 b c p q) := by
  unfold Host.gather
  congr 1
  have key : ∀ (a : Fin 4) (ha : a ∈ dims.startIndexMap) (k : Fin 4) (v : ℕ) (hk : ∀ h, dims.siIdx (ix4 b c r w) ⟨List.idxOf a dims.startIndexMap, h⟩ = ix5 b c r w k)
      (hi : idx (ix5 b c r w k) = BitVec.ofNat 32 v) (hv : v < S4x96x386x386.size a) (hl : S4x96x386x386.size a ≤ 386) (hs : dims.sliceSizes a = 1),
      (dims.operandIdx (ix4 b c r w) idx a).val = v := by
    intro a ha k v hk hi hv hl hs
    show dims.start (ix4 b c r w) idx a + dims.batchCoord (ix4 b c r w) a + dims.offCoord (ix4 b c r w) a = _
    rw [GatherDims.batchCoord_eq_zero _ _ _ List.not_mem_nil,
      GatherDims.offCoord_eq_zero _ _ _ (fun h => ((GatherDims.mem_sKept _ _).mp h).1 ha)]
    simp only [Nat.add_zero]
    unfold GatherDims.start
    rw [dif_pos ha, hk, hi, hs]
    exact clamp _ _ hv hl
  funext a
  refine Fin.ext ?_
  match a with
  | ⟨0, _⟩ => exact key 0 (by decide) 0 b.val (fun _ => by funext y; match y with | ⟨0, _⟩ => rfl | ⟨1, _⟩ => rfl | ⟨2, _⟩ => rfl | ⟨3, _⟩ => rfl | ⟨4, _⟩ => rfl) h0 b.isLt (by decide) rfl
  | ⟨1, _⟩ => exact key 1 (by decide) 1 c.val (fun _ => by funext y; match y with | ⟨0, _⟩ => rfl | ⟨1, _⟩ => rfl | ⟨2, _⟩ => rfl | ⟨3, _⟩ => rfl | ⟨4, _⟩ => rfl) h1 c.isLt (by decide) rfl
  | ⟨2, _⟩ => exact key 2 (by decide) 2 p.val (fun _ => by funext y; match y with | ⟨0, _⟩ => rfl | ⟨1, _⟩ => rfl | ⟨2, _⟩ => rfl | ⟨3, _⟩ => rfl | ⟨4, _⟩ => rfl) h2 p.isLt (by decide) rfl
  | ⟨3, _⟩ => exact key 3 (by decide) 3 q.val (fun _ => by funext y; match y with | ⟨0, _⟩ => rfl | ⟨1, _⟩ => rfl | ⟨2, _⟩ => rfl | ⟨3, _⟩ => rfl | ⟨4, _⟩ => rfl) h3 q.isLt (by decide) rfl

/-- The reference's result at an entry. -/
theorem ref_at (x : S4x96x384x384.Idx → Elt F .f32) (dh dw : (⟨S4x1x384x384, .i32⟩ : BufTy).Contents (Elt F)) (b : Fin 4) (c : Fin 96) (r w : Fin 384)
    (hh : Drawn (dh (ix4 b (0 : Fin 1) r w))) (hw : Drawn (dw (ix4 b (0 : Fin 1) r w))) :
    Host.gather dims (padR (padL (padB (padT x)))) (coords dh dw) (ix4 b c r w)
      = x (ix4 b c (⟨refl (pos r.val (dh (ix4 b (0 : Fin 1) r w))), refl_lt _⟩ : Fin 384) (⟨refl (pos w.val (dw (ix4 b (0 : Fin 1) r w))), refl_lt _⟩ : Fin 384)) := by
  have H := coords_at dh dw b c r w hh hw
  rw [gather_at _ _ b c r w ⟨pos r.val (dh (ix4 b (0 : Fin 1) r w)), pos_lt r.isLt _⟩ ⟨pos w.val (dw (ix4 b (0 : Fin 1) r w)), pos_lt w.isLt _⟩ H.1 H.2.1 H.2.2.1 H.2.2.2,
    pad_at]

end Cert.Proof.Pool.Ref

end
-- ==== Proof.lean ====
/-
  The claim, assembled: the run of the kernel, of the reference, and the equation between what they leave.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.KernelValue
public import proofs.«01_k».proof.Proof.RefValue
public import Idealize.ShloMosaic.Lib.Quiescent

@[expose] public section

noncomputable section

namespace Cert.Proof

open Idealize.ShloMosaic Idealize.SL.Sem Cert.Proof.Pool

instance preFacts : Cert.Pre_offsets_drawn.Facts where
  bcast_S_S4x1x384x384 := by decide

variable {F : FTy → Type} [FloatOps F]

/-- The precondition, read at an entry. -/
theorem drawn_of_pre (x : FVec F Cert.Pre_offsets_drawn.S4x96x384x384 .f32) (dh dw : IVec Cert.Pre_offsets_drawn.S4x1x384x384 32)
    (h : Cert.Pre_offsets_drawn.fn (F := F) x dh dw = fun _ => 1#1) (b : Fin 4) (r w : Fin 384) :
    Drawn (dh (ix4 b (0 : Fin 1) r w)) ∧ Drawn (dw (ix4 b (0 : Fin 1) r w)) := by
  have h0 := congrFun h (ix4 b (0 : Fin 1) r w)
  pointwise [Cert.Pre_offsets_drawn.fn] at h0
  obtain ⟨h1, h2⟩ := and_bits _ _ h0
  obtain ⟨h1, h3⟩ := and_bits _ _ h1
  obtain ⟨h1, h4⟩ := and_bits _ _ h1
  exact ⟨drawn_of_range _ h1 h4, drawn_of_range _ h3 h2⟩

/-- Under the precondition every word of the map names an entry of its window. -/
theorem mapOK_of_pre (m : (ℓ : Loc Cert.KernelIdeal.nD Cert.KernelIdeal.τ Cert.KernelIdeal.sig) → Buf (Elt F) ℓ) (d : Dev Cert.KernelIdeal.nD)
    (H : AllDrawn (F := F) (m ((SparseCore.T d).loc Cert.KernelIdeal.main_arg1)) (m ((SparseCore.T d).loc Cert.KernelIdeal.main_arg2))) : MapOK (MH m d) := by
  rw [MH_eq]
  exact map_ok _ _ H

theorem frame_kernel : Cert.quiescent_Kernel := fun m ρ hp =>
  (θ_run Cert.KernelIdeal.defs _ _).mono (fun _ h => ⟨fun c => (h.1 c).2, h.2⟩)
    (run_value (F := Bits) m ρ fun d => mapOK_of_pre m d fun b r w => drawn_of_pre _ _ _ (hp d) b r w)

theorem frame_ideal : Cert.quiescent_KernelIdeal := fun m ρ hp =>
  (θ_run Cert.KernelIdeal.defs _ _).mono (fun _ h => ⟨fun c => (h.1 c).2, h.2⟩)
    (run_value (F := Ideal) m ρ fun d => mapOK_of_pre m d fun b r w => drawn_of_pre _ _ _ (hp d) b r w)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two results are equal, entry by entry. -/
theorem values_eq (x : Cert.KernelIdeal.S4x96x384x384.Idx → Elt F .f32) (dh dw : Off F) (H : AllDrawn dh dw) :
    Host.gather Ref.dims (Ref.padR (Ref.padL (Ref.padB (Ref.padT x)))) (Ref.coords dh dw)
      = shapeCast Cert.KernelIdeal.S4x96x384x384 (OUT (shapeCast Cert.KernelIdeal.S147456x384 x Cert.KernelIdeal.Facts₀.shapeCasts_S4x96x384x384_S147456x384) (hostMap dh dw))
          Cert.KernelIdeal.Facts₀.shapeCasts_S147456x384_S4x96x384x384 := by
  funext i
  obtain ⟨b, c, r, w, rfl⟩ : ∃ (b : Fin 4) (c : Fin 96) (r w : Fin 384), i = ix4 b c r w := ⟨i 0, i 1, i 2, i 3, by
    funext a
    match a with
    | ⟨0, _⟩ => rfl
    | ⟨1, _⟩ => rfl
    | ⟨2, _⟩ => rfl
    | ⟨3, _⟩ => rfl⟩
  exact (Ref.ref_at x dh dw b c r w (H b r w).1 (H b r w).2).trans (kernel_at x dh dw H b c r w).symm

theorem algebraic : Cert.algebraic_KernelIdeal_ReferenceIdeal := by
  intro m ρ m' ρ' hp hagree
  have hd : ∀ d : Dev Cert.KernelIdeal.nD, AllDrawn (F := Ideal) (m ((SparseCore.T d).loc Cert.KernelIdeal.main_arg1)) (m ((SparseCore.T d).loc Cert.KernelIdeal.main_arg2)) :=
    fun d b r w => drawn_of_pre _ _ _ (hp d) b r w
  refine ⟨fun d => shapeCast Cert.KernelIdeal.S4x96x384x384 (OUT (XH m d) (MH m d)) Cert.KernelIdeal.Facts₀.shapeCasts_S147456x384_S4x96x384x384,
    (θ_run Cert.KernelIdeal.defs _ _).mono (fun _ h c => h.1 c) (run_value (F := Ideal) m ρ fun d => mapOK_of_pre m d (hd d)), ?_⟩
  refine (θ_run Cert.ReferenceIdeal.defs _ _).mono (fun _ h c => ⟨(h c).1.trans ?_, (h c).2⟩) (Cert.ReferenceIdeal.Value.run (F := Ideal) m' ρ')
  refine (Ref.res_eq m' c).trans ?_
  show _ = shapeCast Cert.KernelIdeal.S4x96x384x384 (OUT (XH m c) (MH m c)) Cert.KernelIdeal.Facts₀.shapeCasts_S147456x384_S4x96x384x384
  rw [(hagree c).1, (hagree c).2.1, (hagree c).2.2, XH_eq, MH_eq]
  exact values_eq _ _ _ (hd c)

/-- Everything the certificate claims. -/
theorem claim : Cert.Claim :=
  ⟨Cert.Kernel.Gen.facts, Cert.KernelIdeal.Gen.facts, Cert.ReferenceIdeal.Gen.facts, preFacts,
    frame_kernel, frame_ideal, frame_reference, fun m ρ _ => frame_reference m ρ trivial, trivial, algebraic⟩

end Cert.Proof

end
